-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelSwiglu (m : (ℓ : Loc Cert.KernelSwiglu.nD Cert.KernelSwiglu.τ Cert.KernelSwiglu.sig) → Buf (Elt Bits) ℓ) : Prop :=
  True

def Pre_KernelSwigluIdeal (m : (ℓ : Loc Cert.KernelSwigluIdeal.nD Cert.KernelSwigluIdeal.τ Cert.KernelSwigluIdeal.sig) → Buf (Elt Ideal) ℓ) : Prop :=
  True

def Pre_ReferenceSwigluIdeal (m : (ℓ : Loc Cert.ReferenceSwigluIdeal.nD Cert.ReferenceSwigluIdeal.τ Cert.ReferenceSwigluIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelPrep (m : (ℓ : Loc Cert.KernelPrep.nD Cert.KernelPrep.τ Cert.KernelPrep.sig) → Buf (Elt Bits) ℓ) : Prop :=
  True

def Pre_KernelPrepIdeal (m : (ℓ : Loc Cert.KernelPrepIdeal.nD Cert.KernelPrepIdeal.τ Cert.KernelPrepIdeal.sig) → Buf (Elt Ideal) ℓ) : Prop :=
  True

def Pre_ReferencePrepIdeal (m : (ℓ : Loc Cert.ReferencePrepIdeal.nD Cert.ReferencePrepIdeal.τ Cert.ReferencePrepIdeal.sig) → Buf (Elt Ideal) ℓ) : Prop :=
  True

def Pre_KernelRope (m : (ℓ : Loc Cert.KernelRope.nD Cert.KernelRope.τ Cert.KernelRope.sig) → Buf (Elt Bits) ℓ) : Prop :=
  True

def Pre_KernelRopeIdeal (m : (ℓ : Loc Cert.KernelRopeIdeal.nD Cert.KernelRopeIdeal.τ Cert.KernelRopeIdeal.sig) → Buf (Elt Ideal) ℓ) : Prop :=
  True

def Pre_ReferenceRopeIdeal (m : (ℓ : Loc Cert.ReferenceRopeIdeal.nD Cert.ReferenceRopeIdeal.τ Cert.ReferenceRopeIdeal.sig) → Buf (Elt Ideal) ℓ) : Prop :=
  True

def Pre_KernelMlaIn (m : (ℓ : Loc Cert.KernelMlaIn.nD Cert.KernelMlaIn.τ Cert.KernelMlaIn.sig) → Buf (Elt Bits) ℓ) : Prop :=
  True

def Pre_KernelMlaInIdeal (m : (ℓ : Loc Cert.KernelMlaInIdeal.nD Cert.KernelMlaInIdeal.τ Cert.KernelMlaInIdeal.sig) → Buf (Elt Ideal) ℓ) : Prop :=
  True

def Pre_ReferenceMlaInIdeal (m : (ℓ : Loc Cert.ReferenceMlaInIdeal.nD Cert.ReferenceMlaInIdeal.τ Cert.ReferenceMlaInIdeal.sig) → Buf (Elt Ideal) ℓ) : Prop :=
  True

def Pre_KernelQuery (m : (ℓ : Loc Cert.KernelQuery.nD Cert.KernelQuery.τ Cert.KernelQuery.sig) → Buf (Elt Bits) ℓ) : Prop :=
  True

def Pre_KernelQueryIdeal (m : (ℓ : Loc Cert.KernelQueryIdeal.nD Cert.KernelQueryIdeal.τ Cert.KernelQueryIdeal.sig) → Buf (Elt Ideal) ℓ) : Prop :=
  True

def Pre_ReferenceQueryIdeal (m : (ℓ : Loc Cert.ReferenceQueryIdeal.nD Cert.ReferenceQueryIdeal.τ Cert.ReferenceQueryIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelInS (m : (ℓ : Loc Cert.KernelInS.nD Cert.KernelInS.τ Cert.KernelInS.sig) → Buf (Elt Bits) ℓ) : Prop :=
  True

def Pre_KernelInSIdeal (m : (ℓ : Loc Cert.KernelInSIdeal.nD Cert.KernelInSIdeal.τ Cert.KernelInSIdeal.sig) → Buf (Elt Ideal) ℓ) : Prop :=
  True

def Pre_ReferenceInSIdeal (m : (ℓ : Loc Cert.ReferenceInSIdeal.nD Cert.ReferenceInSIdeal.τ Cert.ReferenceInSIdeal.sig) → Buf (Elt Ideal) ℓ) : Prop :=
  True

def Pre_KernelPleS (m : (ℓ : Loc Cert.KernelPleS.nD Cert.KernelPleS.τ Cert.KernelPleS.sig) → Buf (Elt Bits) ℓ) : Prop :=
  True

def Pre_KernelPleSIdeal (m : (ℓ : Loc Cert.KernelPleSIdeal.nD Cert.KernelPleSIdeal.τ Cert.KernelPleSIdeal.sig) → Buf (Elt Ideal) ℓ) : Prop :=
  True

def Pre_ReferencePleSIdeal (m : (ℓ : Loc Cert.ReferencePleSIdeal.nD Cert.ReferencePleSIdeal.τ Cert.ReferencePleSIdeal.sig) → Buf (Elt Ideal) ℓ) : Prop :=
  True

def Pre_KernelPrepS (m : (ℓ : Loc Cert.KernelPrepS.nD Cert.KernelPrepS.τ Cert.KernelPrepS.sig) → Buf (Elt Bits) ℓ) : Prop :=
  True

def Pre_KernelPrepSIdeal (m : (ℓ : Loc Cert.KernelPrepSIdeal.nD Cert.KernelPrepSIdeal.τ Cert.KernelPrepSIdeal.sig) → Buf (Elt Ideal) ℓ) : Prop :=
  True

def Pre_ReferencePrepSIdeal (m : (ℓ : Loc Cert.ReferencePrepSIdeal.nD Cert.ReferencePrepSIdeal.τ Cert.ReferencePrepSIdeal.sig) → Buf (Elt Ideal) ℓ) : Prop :=
  True

def Pre_KernelCombine (m : (ℓ : Loc Cert.KernelCombine.nD Cert.KernelCombine.τ Cert.KernelCombine.sig) → Buf (Elt Bits) ℓ) : Prop :=
  True

def Pre_KernelCombineIdeal (m : (ℓ : Loc Cert.KernelCombineIdeal.nD Cert.KernelCombineIdeal.τ Cert.KernelCombineIdeal.sig) → Buf (Elt Ideal) ℓ) : Prop :=
  True

def Pre_ReferenceCombineIdeal (m : (ℓ : Loc Cert.ReferenceCombineIdeal.nD Cert.ReferenceCombineIdeal.τ Cert.ReferenceCombineIdeal.sig) → Buf (Elt Ideal) ℓ) : Prop :=
  True

def Pre_KernelAbsorbQ (m : (ℓ : Loc Cert.KernelAbsorbQ.nD Cert.KernelAbsorbQ.τ Cert.KernelAbsorbQ.sig) → Buf (Elt Bits) ℓ) : Prop :=
  True

def Pre_KernelAbsorbQIdeal (m : (ℓ : Loc Cert.KernelAbsorbQIdeal.nD Cert.KernelAbsorbQIdeal.τ Cert.KernelAbsorbQIdeal.sig) → Buf (Elt Ideal) ℓ) : Prop :=
  True

def Pre_ReferenceAbsorbQIdeal (m : (ℓ : Loc Cert.ReferenceAbsorbQIdeal.nD Cert.ReferenceAbsorbQIdeal.τ Cert.ReferenceAbsorbQIdeal.sig) → Buf (Elt Ideal) ℓ) : Prop :=
  True

def Pre_KernelAbsorbO (m : (ℓ : Loc Cert.KernelAbsorbO.nD Cert.KernelAbsorbO.τ Cert.KernelAbsorbO.sig) → Buf (Elt Bits) ℓ) : Prop :=
  True

def Pre_KernelAbsorbOIdeal (m : (ℓ : Loc Cert.KernelAbsorbOIdeal.nD Cert.KernelAbsorbOIdeal.τ Cert.KernelAbsorbOIdeal.sig) → Buf (Elt Ideal) ℓ) : Prop :=
  True

def Pre_ReferenceAbsorbOIdeal (m : (ℓ : Loc Cert.ReferenceAbsorbOIdeal.nD Cert.ReferenceAbsorbOIdeal.τ Cert.ReferenceAbsorbOIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelSwiglu [hKernelSwiglu : Cert.KernelSwiglu.Facts] : Prop :=
  ∀ (m : (ℓ : Loc Cert.KernelSwiglu.nD Cert.KernelSwiglu.τ Cert.KernelSwiglu.sig) → Buf (Elt Bits) ℓ) (g : Dev Cert.KernelSwiglu.nD → PrngReg), Pre_KernelSwiglu m →
    θ_run (Cert.KernelSwiglu.defs (F := Bits)) (onTc (τ := Cert.KernelSwiglu.τ) (Cert.KernelSwiglu.main (F := Bits))) ⟨m, fun _ => 0, g⟩ (fun r => (∀ c : Dev Cert.KernelSwiglu.nD,
      r.2.mem ((c.tc : Thread Cert.KernelSwiglu.nD Cert.KernelSwiglu.τ).loc Cert.KernelSwiglu.main_arg0) = m ((c.tc : Thread Cert.KernelSwiglu.nD Cert.KernelSwiglu.τ).loc Cert.KernelSwiglu.main_arg0)
      ∧ r.2.mem ((c.tc : Thread Cert.KernelSwiglu.nD Cert.KernelSwiglu.τ).loc Cert.KernelSwiglu.main_arg1) = m ((c.tc : Thread Cert.KernelSwiglu.nD Cert.KernelSwiglu.τ).loc Cert.KernelSwiglu.main_arg1)
      ∧ r.2.mem ((c.tc : Thread Cert.KernelSwiglu.nD Cert.KernelSwiglu.τ).loc Cert.KernelSwiglu.main_arg2) = m ((c.tc : Thread Cert.KernelSwiglu.nD Cert.KernelSwiglu.τ).loc Cert.KernelSwiglu.main_arg2)
      ∧ r.2.mem ((c.tc : Thread Cert.KernelSwiglu.nD Cert.KernelSwiglu.τ).loc Cert.KernelSwiglu.main_arg3) = m ((c.tc : Thread Cert.KernelSwiglu.nD Cert.KernelSwiglu.τ).loc Cert.KernelSwiglu.main_arg3))
      ∧ r.2.sem = fun _ => 0)

def quiescent_KernelSwigluIdeal [hKernelSwigluIdeal : Cert.KernelSwigluIdeal.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg), Pre_KernelSwigluIdeal m →
    θ_run (Cert.KernelSwigluIdeal.defs (F := Ideal)) (onTc (τ := Cert.KernelSwigluIdeal.τ) (Cert.KernelSwigluIdeal.main (F := Ideal))) ⟨m, fun _ => 0, g⟩ (fun r => (∀ c : Dev Cert.KernelSwigluIdeal.nD,
      r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
      ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1)
      ∧ r.2.mem ((c.tc : Thread Cert.KernelSwigluIdeal.nD Cert.KernelSwigluIdeal.τ).loc Cert.KernelSwigluIdeal.main_arg2) = m ((c.tc : Thread Cert.KernelSwigluIdeal.nD Cert.KernelSwigluIdeal.τ).loc Cert.KernelSwigluIdeal.main_arg2)
      ∧ r.2.mem ((c.tc : Thread Cert.KernelSwigluIdeal.nD Cert.KernelSwigluIdeal.τ).loc Cert.KernelSwigluIdeal.main_arg3) = m ((c.tc : Thread Cert.KernelSwigluIdeal.nD Cert.KernelSwigluIdeal.τ).loc Cert.KernelSwigluIdeal.main_arg3))
      ∧ r.2.sem = fun _ => 0)

def quiescent_ReferenceSwigluIdeal [hReferenceSwigluIdeal : Cert.ReferenceSwigluIdeal.Facts] : Prop :=
  ∀ (m : (ℓ : Loc Cert.ReferenceSwigluIdeal.nD Cert.ReferenceSwigluIdeal.τ Cert.ReferenceSwigluIdeal.sig) → Buf (Elt Ideal) ℓ) (g : Dev Cert.ReferenceSwigluIdeal.nD → PrngReg), Pre_ReferenceSwigluIdeal m →
    θ_run (Cert.ReferenceSwigluIdeal.defs (F := Ideal)) (onTc (τ := Cert.ReferenceSwigluIdeal.τ) (Cert.ReferenceSwigluIdeal.main (F := Ideal))) ⟨m, fun _ => 0, g⟩ (fun r => (∀ c : Dev Cert.ReferenceSwigluIdeal.nD,
      r.2.mem ((c.tc : Thread Cert.ReferenceSwigluIdeal.nD Cert.ReferenceSwigluIdeal.τ).loc Cert.ReferenceSwigluIdeal.main_arg0) = m ((c.tc : Thread Cert.ReferenceSwigluIdeal.nD Cert.ReferenceSwigluIdeal.τ).loc Cert.ReferenceSwigluIdeal.main_arg0)
      ∧ r.2.mem ((c.tc : Thread Cert.ReferenceSwigluIdeal.nD Cert.ReferenceSwigluIdeal.τ).loc Cert.ReferenceSwigluIdeal.main_arg1) = m ((c.tc : Thread Cert.ReferenceSwigluIdeal.nD Cert.ReferenceSwigluIdeal.τ).loc Cert.ReferenceSwigluIdeal.main_arg1)
      ∧ r.2.mem ((c.tc : Thread Cert.ReferenceSwigluIdeal.nD Cert.ReferenceSwigluIdeal.τ).loc Cert.ReferenceSwigluIdeal.main_arg2) = m ((c.tc : Thread Cert.ReferenceSwigluIdeal.nD Cert.ReferenceSwigluIdeal.τ).loc Cert.ReferenceSwigluIdeal.main_arg2)
      ∧ r.2.mem ((c.tc : Thread Cert.ReferenceSwigluIdeal.nD Cert.ReferenceSwigluIdeal.τ).loc Cert.ReferenceSwigluIdeal.main_arg3) = m ((c.tc : Thread Cert.ReferenceSwigluIdeal.nD Cert.ReferenceSwigluIdeal.τ).loc Cert.ReferenceSwigluIdeal.main_arg3))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4)
      ∧ r.2.mem ((c.tc : Thread Cert.KernelDown.nD Cert.KernelDown.τ).loc Cert.KernelDown.main_arg5) = m ((c.tc : Thread Cert.KernelDown.nD Cert.KernelDown.τ).loc Cert.KernelDown.main_arg5)
      ∧ r.2.mem ((c.tc : Thread Cert.KernelDown.nD Cert.KernelDown.τ).loc Cert.KernelDown.main_arg6) = m ((c.tc : Thread Cert.KernelDown.nD Cert.KernelDown.τ).loc Cert.KernelDown.main_arg6))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
      ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5)
      ∧ r.2.mem ((c.tc : Thread Cert.KernelDownIdeal.nD Cert.KernelDownIdeal.τ).loc Cert.KernelDownIdeal.main_arg6) = m ((c.tc : Thread Cert.KernelDownIdeal.nD Cert.KernelDownIdeal.τ).loc Cert.KernelDownIdeal.main_arg6))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4)
      ∧ r.2.mem ((c.tc : Thread Cert.ReferenceDownIdeal.nD Cert.ReferenceDownIdeal.τ).loc Cert.ReferenceDownIdeal.main_arg5) = m ((c.tc : Thread Cert.ReferenceDownIdeal.nD Cert.ReferenceDownIdeal.τ).loc Cert.ReferenceDownIdeal.main_arg5)
      ∧ r.2.mem ((c.tc : Thread Cert.ReferenceDownIdeal.nD Cert.ReferenceDownIdeal.τ).loc Cert.ReferenceDownIdeal.main_arg6) = m ((c.tc : Thread Cert.ReferenceDownIdeal.nD Cert.ReferenceDownIdeal.τ).loc Cert.ReferenceDownIdeal.main_arg6))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3)
      ∧ r.2.mem ((c.tc : Thread Cert.KernelPle.nD Cert.KernelPle.τ).loc Cert.KernelPle.main_arg4) = m ((c.tc : Thread Cert.KernelPle.nD Cert.KernelPle.τ).loc Cert.KernelPle.main_arg4)
      ∧ r.2.mem ((c.tc : Thread Cert.KernelPle.nD Cert.KernelPle.τ).loc Cert.KernelPle.main_arg5) = m ((c.tc : Thread Cert.KernelPle.nD Cert.KernelPle.τ).loc Cert.KernelPle.main_arg5))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
      ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4)
      ∧ r.2.mem ((c.tc : Thread Cert.ReferencePleIdeal.nD Cert.ReferencePleIdeal.τ).loc Cert.ReferencePleIdeal.main_arg5) = m ((c.tc : Thread Cert.ReferencePleIdeal.nD Cert.ReferencePleIdeal.τ).loc Cert.ReferencePleIdeal.main_arg5))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelPrep [hKernelPrep : Cert.KernelPrep.Facts] : Prop :=
  ∀ (m : (ℓ : Loc Cert.KernelPrep.nD Cert.KernelPrep.τ Cert.KernelPrep.sig) → Buf (Elt Bits) ℓ) (g : Dev Cert.KernelPrep.nD → PrngReg), Pre_KernelPrep m →
    θ_run (Cert.KernelPrep.defs (F := Bits)) (onTc (τ := Cert.KernelPrep.τ) (Cert.KernelPrep.main (F := Bits))) ⟨m, fun _ => 0, g⟩ (fun r => (∀ c : Dev Cert.KernelPrep.nD,
      r.2.mem ((c.tc : Thread Cert.KernelPrep.nD Cert.KernelPrep.τ).loc Cert.KernelPrep.main_arg0) = m ((c.tc : Thread Cert.KernelPrep.nD Cert.KernelPrep.τ).loc Cert.KernelPrep.main_arg0)
      ∧ r.2.mem ((c.tc : Thread Cert.KernelPrep.nD Cert.KernelPrep.τ).loc Cert.KernelPrep.main_arg1) = m ((c.tc : Thread Cert.KernelPrep.nD Cert.KernelPrep.τ).loc Cert.KernelPrep.main_arg1)
      ∧ r.2.mem ((c.tc : Thread Cert.KernelPrep.nD Cert.KernelPrep.τ).loc Cert.KernelPrep.main_arg2) = m ((c.tc : Thread Cert.KernelPrep.nD Cert.KernelPrep.τ).loc Cert.KernelPrep.main_arg2))
      ∧ r.2.sem = fun _ => 0)

def quiescent_KernelPrepIdeal [hKernelPrepIdeal : Cert.KernelPrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2))
      ∧ r.2.sem = fun _ => 0)

def quiescent_ReferencePrepIdeal [hReferencePrepIdeal : Cert.ReferencePrepIdeal.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2))
      ∧ r.2.sem = fun _ => 0)

def quiescent_KernelRope [hKernelRope : Cert.KernelRope.Facts] : Prop :=
  ∀ (m : (ℓ : Loc Cert.KernelRope.nD Cert.KernelRope.τ Cert.KernelRope.sig) → Buf (Elt Bits) ℓ) (g : Dev Cert.KernelRope.nD → PrngReg), Pre_KernelRope m →
    θ_run (Cert.KernelRope.defs (F := Bits)) (onTc (τ := Cert.KernelRope.τ) (Cert.KernelRope.main (F := Bits))) ⟨m, fun _ => 0, g⟩ (fun r => (∀ c : Dev Cert.KernelRope.nD,
      r.2.mem ((c.tc : Thread Cert.KernelRope.nD Cert.KernelRope.τ).loc Cert.KernelRope.main_arg0) = m ((c.tc : Thread Cert.KernelRope.nD Cert.KernelRope.τ).loc Cert.KernelRope.main_arg0))
      ∧ r.2.sem = fun _ => 0)

def quiescent_KernelRopeIdeal [hKernelRopeIdeal : Cert.KernelRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg), Pre_KernelRopeIdeal m →
    θ_run (Cert.KernelRopeIdeal.defs (F := Ideal)) (onTc (τ := Cert.KernelRopeIdeal.τ) (Cert.KernelRopeIdeal.main (F := Ideal))) ⟨m, fun _ => 0, g⟩ (fun r => (∀ c : Dev Cert.KernelRopeIdeal.nD,
      r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0))
      ∧ r.2.sem = fun _ => 0)

def quiescent_ReferenceRopeIdeal [hReferenceRopeIdeal : Cert.ReferenceRopeIdeal.Facts] : Prop :=
  ∀ (m : (ℓ : Loc Cert.ReferenceRopeIdeal.nD Cert.ReferenceRopeIdeal.τ Cert.ReferenceRopeIdeal.sig) → Buf (Elt Ideal) ℓ) (g : Dev Cert.ReferenceRopeIdeal.nD → PrngReg), Pre_ReferenceRopeIdeal m →
    θ_run (Cert.ReferenceRopeIdeal.defs (F := Ideal)) (onTc (τ := Cert.ReferenceRopeIdeal.τ) (Cert.ReferenceRopeIdeal.main (F := Ideal))) ⟨m, fun _ => 0, g⟩ (fun r => (∀ c : Dev Cert.ReferenceRopeIdeal.nD,
      r.2.mem ((c.tc : Thread Cert.ReferenceRopeIdeal.nD Cert.ReferenceRopeIdeal.τ).loc Cert.ReferenceRopeIdeal.main_arg0) = m ((c.tc : Thread Cert.ReferenceRopeIdeal.nD Cert.ReferenceRopeIdeal.τ).loc Cert.ReferenceRopeIdeal.main_arg0))
      ∧ r.2.sem = fun _ => 0)

def quiescent_KernelMlaIn [hKernelMlaIn : Cert.KernelMlaIn.Facts] : Prop :=
  ∀ (m : (ℓ : Loc Cert.KernelMlaIn.nD Cert.KernelMlaIn.τ Cert.KernelMlaIn.sig) → Buf (Elt Bits) ℓ) (g : Dev Cert.KernelMlaIn.nD → PrngReg), Pre_KernelMlaIn m →
    θ_run (Cert.KernelMlaIn.defs (F := Bits)) (onTc (τ := Cert.KernelMlaIn.τ) (Cert.KernelMlaIn.main (F := Bits))) ⟨m, fun _ => 0, g⟩ (fun r => (∀ c : Dev Cert.KernelMlaIn.nD,
      r.2.mem ((c.tc : Thread Cert.KernelMlaIn.nD Cert.KernelMlaIn.τ).loc Cert.KernelMlaIn.main_arg0) = m ((c.tc : Thread Cert.KernelMlaIn.nD Cert.KernelMlaIn.τ).loc Cert.KernelMlaIn.main_arg0)
      ∧ r.2.mem ((c.tc : Thread Cert.KernelMlaIn.nD Cert.KernelMlaIn.τ).loc Cert.KernelMlaIn.main_arg1) = m ((c.tc : Thread Cert.KernelMlaIn.nD Cert.KernelMlaIn.τ).loc Cert.KernelMlaIn.main_arg1))
      ∧ r.2.sem = fun _ => 0)

def quiescent_KernelMlaInIdeal [hKernelMlaInIdeal : Cert.KernelMlaInIdeal.Facts] : Prop :=
  ∀ (m : (ℓ : Loc Cert.KernelMlaInIdeal.nD Cert.KernelMlaInIdeal.τ Cert.KernelMlaInIdeal.sig) → Buf (Elt Ideal) ℓ) (g : Dev Cert.KernelMlaInIdeal.nD → PrngReg), Pre_KernelMlaInIdeal m →
    θ_run (Cert.KernelMlaInIdeal.defs (F := Ideal)) (onTc (τ := Cert.KernelMlaInIdeal.τ) (Cert.KernelMlaInIdeal.main (F := Ideal))) ⟨m, fun _ => 0, g⟩ (fun r => (∀ c : Dev Cert.KernelMlaInIdeal.nD,
      r.2.mem ((c.tc : Thread Cert.KernelMlaInIdeal.nD Cert.KernelMlaInIdeal.τ).loc Cert.KernelMlaInIdeal.main_arg0) = m ((c.tc : Thread Cert.KernelMlaInIdeal.nD Cert.KernelMlaInIdeal.τ).loc Cert.KernelMlaInIdeal.main_arg0)
      ∧ r.2.mem ((c.tc : Thread Cert.KernelMlaInIdeal.nD Cert.KernelMlaInIdeal.τ).loc Cert.KernelMlaInIdeal.main_arg1) = m ((c.tc : Thread Cert.KernelMlaInIdeal.nD Cert.KernelMlaInIdeal.τ).loc Cert.KernelMlaInIdeal.main_arg1))
      ∧ r.2.sem = fun _ => 0)

def quiescent_ReferenceMlaInIdeal [hReferenceMlaInIdeal : Cert.ReferenceMlaInIdeal.Facts] : Prop :=
  ∀ (m : (ℓ : Loc Cert.ReferenceMlaInIdeal.nD Cert.ReferenceMlaInIdeal.τ Cert.ReferenceMlaInIdeal.sig) → Buf (Elt Ideal) ℓ) (g : Dev Cert.ReferenceMlaInIdeal.nD → PrngReg), Pre_ReferenceMlaInIdeal m →
    θ_run (Cert.ReferenceMlaInIdeal.defs (F := Ideal)) (onTc (τ := Cert.ReferenceMlaInIdeal.τ) (Cert.ReferenceMlaInIdeal.main (F := Ideal))) ⟨m, fun _ => 0, g⟩ (fun r => (∀ c : Dev Cert.ReferenceMlaInIdeal.nD,
      r.2.mem ((c.tc : Thread Cert.ReferenceMlaInIdeal.nD Cert.ReferenceMlaInIdeal.τ).loc Cert.ReferenceMlaInIdeal.main_arg0) = m ((c.tc : Thread Cert.ReferenceMlaInIdeal.nD Cert.ReferenceMlaInIdeal.τ).loc Cert.ReferenceMlaInIdeal.main_arg0)
      ∧ r.2.mem ((c.tc : Thread Cert.ReferenceMlaInIdeal.nD Cert.ReferenceMlaInIdeal.τ).loc Cert.ReferenceMlaInIdeal.main_arg1) = m ((c.tc : Thread Cert.ReferenceMlaInIdeal.nD Cert.ReferenceMlaInIdeal.τ).loc Cert.ReferenceMlaInIdeal.main_arg1))
      ∧ r.2.sem = fun _ => 0)

def quiescent_KernelQuery [hKernelQuery : Cert.KernelQuery.Facts] : Prop :=
  ∀ (m : (ℓ : Loc Cert.KernelQuery.nD Cert.KernelQuery.τ Cert.KernelQuery.sig) → Buf (Elt Bits) ℓ) (g : Dev Cert.KernelQuery.nD → PrngReg), Pre_KernelQuery m →
    θ_run (Cert.KernelQuery.defs (F := Bits)) (onTc (τ := Cert.KernelQuery.τ) (Cert.KernelQuery.main (F := Bits))) ⟨m, fun _ => 0, g⟩ (fun r => (∀ c : Dev Cert.KernelQuery.nD,
      r.2.mem ((c.tc : Thread Cert.KernelQuery.nD Cert.KernelQuery.τ).loc Cert.KernelQuery.main_arg0) = m ((c.tc : Thread Cert.KernelQuery.nD Cert.KernelQuery.τ).loc Cert.KernelQuery.main_arg0)
      ∧ r.2.mem ((c.tc : Thread Cert.KernelQuery.nD Cert.KernelQuery.τ).loc Cert.KernelQuery.main_arg1) = m ((c.tc : Thread Cert.KernelQuery.nD Cert.KernelQuery.τ).loc Cert.KernelQuery.main_arg1))
      ∧ r.2.sem = fun _ => 0)

def quiescent_KernelQueryIdeal [hKernelQueryIdeal : Cert.KernelQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg), Pre_KernelQueryIdeal m →
    θ_run (Cert.KernelQueryIdeal.defs (F := Ideal)) (onTc (τ := Cert.KernelQueryIdeal.τ) (Cert.KernelQueryIdeal.main (F := Ideal))) ⟨m, fun _ => 0, g⟩ (fun r => (∀ c : Dev Cert.KernelQueryIdeal.nD,
      r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
      ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1))
      ∧ r.2.sem = fun _ => 0)

def quiescent_ReferenceQueryIdeal [hReferenceQueryIdeal : Cert.ReferenceQueryIdeal.Facts] : Prop :=
  ∀ (m : (ℓ : Loc Cert.ReferenceQueryIdeal.nD Cert.ReferenceQueryIdeal.τ Cert.ReferenceQueryIdeal.sig) → Buf (Elt Ideal) ℓ) (g : Dev Cert.ReferenceQueryIdeal.nD → PrngReg), Pre_ReferenceQueryIdeal m →
    θ_run (Cert.ReferenceQueryIdeal.defs (F := Ideal)) (onTc (τ := Cert.ReferenceQueryIdeal.τ) (Cert.ReferenceQueryIdeal.main (F := Ideal))) ⟨m, fun _ => 0, g⟩ (fun r => (∀ c : Dev Cert.ReferenceQueryIdeal.nD,
      r.2.mem ((c.tc : Thread Cert.ReferenceQueryIdeal.nD Cert.ReferenceQueryIdeal.τ).loc Cert.ReferenceQueryIdeal.main_arg0) = m ((c.tc : Thread Cert.ReferenceQueryIdeal.nD Cert.ReferenceQueryIdeal.τ).loc Cert.ReferenceQueryIdeal.main_arg0)
      ∧ r.2.mem ((c.tc : Thread Cert.ReferenceQueryIdeal.nD Cert.ReferenceQueryIdeal.τ).loc Cert.ReferenceQueryIdeal.main_arg1) = m ((c.tc : Thread Cert.ReferenceQueryIdeal.nD Cert.ReferenceQueryIdeal.τ).loc Cert.ReferenceQueryIdeal.main_arg1))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1))
      ∧ r.2.sem = fun _ => 0)

def quiescent_KernelInS [hKernelInS : Cert.KernelInS.Facts] : Prop :=
  ∀ (m : (ℓ : Loc Cert.KernelInS.nD Cert.KernelInS.τ Cert.KernelInS.sig) → Buf (Elt Bits) ℓ) (g : Dev Cert.KernelInS.nD → PrngReg), Pre_KernelInS m →
    θ_run (Cert.KernelInS.defs (F := Bits)) (onTc (τ := Cert.KernelInS.τ) (Cert.KernelInS.main (F := Bits))) ⟨m, fun _ => 0, g⟩ (fun r => (∀ c : Dev Cert.KernelInS.nD,
      r.2.mem ((c.tc : Thread Cert.KernelInS.nD Cert.KernelInS.τ).loc Cert.KernelInS.main_arg0) = m ((c.tc : Thread Cert.KernelInS.nD Cert.KernelInS.τ).loc Cert.KernelInS.main_arg0)
      ∧ r.2.mem ((c.tc : Thread Cert.KernelInS.nD Cert.KernelInS.τ).loc Cert.KernelInS.main_arg1) = m ((c.tc : Thread Cert.KernelInS.nD Cert.KernelInS.τ).loc Cert.KernelInS.main_arg1))
      ∧ r.2.sem = fun _ => 0)

def quiescent_KernelInSIdeal [hKernelInSIdeal : Cert.KernelInSIdeal.Facts] : Prop :=
  ∀ (m : (ℓ : Loc Cert.KernelInSIdeal.nD Cert.KernelInSIdeal.τ Cert.KernelInSIdeal.sig) → Buf (Elt Ideal) ℓ) (g : Dev Cert.KernelInSIdeal.nD → PrngReg), Pre_KernelInSIdeal m →
    θ_run (Cert.KernelInSIdeal.defs (F := Ideal)) (onTc (τ := Cert.KernelInSIdeal.τ) (Cert.KernelInSIdeal.main (F := Ideal))) ⟨m, fun _ => 0, g⟩ (fun r => (∀ c : Dev Cert.KernelInSIdeal.nD,
      r.2.mem ((c.tc : Thread Cert.KernelInSIdeal.nD Cert.KernelInSIdeal.τ).loc Cert.KernelInSIdeal.main_arg0) = m ((c.tc : Thread Cert.KernelInSIdeal.nD Cert.KernelInSIdeal.τ).loc Cert.KernelInSIdeal.main_arg0)
      ∧ r.2.mem ((c.tc : Thread Cert.KernelInSIdeal.nD Cert.KernelInSIdeal.τ).loc Cert.KernelInSIdeal.main_arg1) = m ((c.tc : Thread Cert.KernelInSIdeal.nD Cert.KernelInSIdeal.τ).loc Cert.KernelInSIdeal.main_arg1))
      ∧ r.2.sem = fun _ => 0)

def quiescent_ReferenceInSIdeal [hReferenceInSIdeal : Cert.ReferenceInSIdeal.Facts] : Prop :=
  ∀ (m : (ℓ : Loc Cert.ReferenceInSIdeal.nD Cert.ReferenceInSIdeal.τ Cert.ReferenceInSIdeal.sig) → Buf (Elt Ideal) ℓ) (g : Dev Cert.ReferenceInSIdeal.nD → PrngReg), Pre_ReferenceInSIdeal m →
    θ_run (Cert.ReferenceInSIdeal.defs (F := Ideal)) (onTc (τ := Cert.ReferenceInSIdeal.τ) (Cert.ReferenceInSIdeal.main (F := Ideal))) ⟨m, fun _ => 0, g⟩ (fun r => (∀ c : Dev Cert.ReferenceInSIdeal.nD,
      r.2.mem ((c.tc : Thread Cert.ReferenceInSIdeal.nD Cert.ReferenceInSIdeal.τ).loc Cert.ReferenceInSIdeal.main_arg0) = m ((c.tc : Thread Cert.ReferenceInSIdeal.nD Cert.ReferenceInSIdeal.τ).loc Cert.ReferenceInSIdeal.main_arg0)
      ∧ r.2.mem ((c.tc : Thread Cert.ReferenceInSIdeal.nD Cert.ReferenceInSIdeal.τ).loc Cert.ReferenceInSIdeal.main_arg1) = m ((c.tc : Thread Cert.ReferenceInSIdeal.nD Cert.ReferenceInSIdeal.τ).loc Cert.ReferenceInSIdeal.main_arg1))
      ∧ r.2.sem = fun _ => 0)

def quiescent_KernelPleS [hKernelPleS : Cert.KernelPleS.Facts] : Prop :=
  ∀ (m : (ℓ : Loc Cert.KernelPleS.nD Cert.KernelPleS.τ Cert.KernelPleS.sig) → Buf (Elt Bits) ℓ) (g : Dev Cert.KernelPleS.nD → PrngReg), Pre_KernelPleS m →
    θ_run (Cert.KernelPleS.defs (F := Bits)) (onTc (τ := Cert.KernelPleS.τ) (Cert.KernelPleS.main (F := Bits))) ⟨m, fun _ => 0, g⟩ (fun r => (∀ c : Dev Cert.KernelPleS.nD,
      r.2.mem ((c.tc : Thread Cert.KernelPleS.nD Cert.KernelPleS.τ).loc Cert.KernelPleS.main_arg0) = m ((c.tc : Thread Cert.KernelPleS.nD Cert.KernelPleS.τ).loc Cert.KernelPleS.main_arg0)
      ∧ r.2.mem ((c.tc : Thread Cert.KernelPleS.nD Cert.KernelPleS.τ).loc Cert.KernelPleS.main_arg1) = m ((c.tc : Thread Cert.KernelPleS.nD Cert.KernelPleS.τ).loc Cert.KernelPleS.main_arg1)
      ∧ r.2.mem ((c.tc : Thread Cert.KernelPleS.nD Cert.KernelPleS.τ).loc Cert.KernelPleS.main_arg2) = m ((c.tc : Thread Cert.KernelPleS.nD Cert.KernelPleS.τ).loc Cert.KernelPleS.main_arg2)
      ∧ r.2.mem ((c.tc : Thread Cert.KernelPleS.nD Cert.KernelPleS.τ).loc Cert.KernelPleS.main_arg3) = m ((c.tc : Thread Cert.KernelPleS.nD Cert.KernelPleS.τ).loc Cert.KernelPleS.main_arg3)
      ∧ r.2.mem ((c.tc : Thread Cert.KernelPleS.nD Cert.KernelPleS.τ).loc Cert.KernelPleS.main_arg4) = m ((c.tc : Thread Cert.KernelPleS.nD Cert.KernelPleS.τ).loc Cert.KernelPleS.main_arg4)
      ∧ r.2.mem ((c.tc : Thread Cert.KernelPleS.nD Cert.KernelPleS.τ).loc Cert.KernelPleS.main_arg5) = m ((c.tc : Thread Cert.KernelPleS.nD Cert.KernelPleS.τ).loc Cert.KernelPleS.main_arg5))
      ∧ r.2.sem = fun _ => 0)

def quiescent_KernelPleSIdeal [hKernelPleSIdeal : Cert.KernelPleSIdeal.Facts] : Prop :=
  ∀ (m : (ℓ : Loc Cert.KernelPleSIdeal.nD Cert.KernelPleSIdeal.τ Cert.KernelPleSIdeal.sig) → Buf (Elt Ideal) ℓ) (g : Dev Cert.KernelPleSIdeal.nD → PrngReg), Pre_KernelPleSIdeal m →
    θ_run (Cert.KernelPleSIdeal.defs (F := Ideal)) (onTc (τ := Cert.KernelPleSIdeal.τ) (Cert.KernelPleSIdeal.main (F := Ideal))) ⟨m, fun _ => 0, g⟩ (fun r => (∀ c : Dev Cert.KernelPleSIdeal.nD,
      r.2.mem ((c.tc : Thread Cert.KernelPleSIdeal.nD Cert.KernelPleSIdeal.τ).loc Cert.KernelPleSIdeal.main_arg0) = m ((c.tc : Thread Cert.KernelPleSIdeal.nD Cert.KernelPleSIdeal.τ).loc Cert.KernelPleSIdeal.main_arg0)
      ∧ r.2.mem ((c.tc : Thread Cert.KernelPleSIdeal.nD Cert.KernelPleSIdeal.τ).loc Cert.KernelPleSIdeal.main_arg1) = m ((c.tc : Thread Cert.KernelPleSIdeal.nD Cert.KernelPleSIdeal.τ).loc Cert.KernelPleSIdeal.main_arg1)
      ∧ r.2.mem ((c.tc : Thread Cert.KernelPleSIdeal.nD Cert.KernelPleSIdeal.τ).loc Cert.KernelPleSIdeal.main_arg2) = m ((c.tc : Thread Cert.KernelPleSIdeal.nD Cert.KernelPleSIdeal.τ).loc Cert.KernelPleSIdeal.main_arg2)
      ∧ r.2.mem ((c.tc : Thread Cert.KernelPleSIdeal.nD Cert.KernelPleSIdeal.τ).loc Cert.KernelPleSIdeal.main_arg3) = m ((c.tc : Thread Cert.KernelPleSIdeal.nD Cert.KernelPleSIdeal.τ).loc Cert.KernelPleSIdeal.main_arg3)
      ∧ r.2.mem ((c.tc : Thread Cert.KernelPleSIdeal.nD Cert.KernelPleSIdeal.τ).loc Cert.KernelPleSIdeal.main_arg4) = m ((c.tc : Thread Cert.KernelPleSIdeal.nD Cert.KernelPleSIdeal.τ).loc Cert.KernelPleSIdeal.main_arg4)
      ∧ r.2.mem ((c.tc : Thread Cert.KernelPleSIdeal.nD Cert.KernelPleSIdeal.τ).loc Cert.KernelPleSIdeal.main_arg5) = m ((c.tc : Thread Cert.KernelPleSIdeal.nD Cert.KernelPleSIdeal.τ).loc Cert.KernelPleSIdeal.main_arg5))
      ∧ r.2.sem = fun _ => 0)

def quiescent_ReferencePleSIdeal [hReferencePleSIdeal : Cert.ReferencePleSIdeal.Facts] : Prop :=
  ∀ (m : (ℓ : Loc Cert.ReferencePleSIdeal.nD Cert.ReferencePleSIdeal.τ Cert.ReferencePleSIdeal.sig) → Buf (Elt Ideal) ℓ) (g : Dev Cert.ReferencePleSIdeal.nD → PrngReg), Pre_ReferencePleSIdeal m →
    θ_run (Cert.ReferencePleSIdeal.defs (F := Ideal)) (onTc (τ := Cert.ReferencePleSIdeal.τ) (Cert.ReferencePleSIdeal.main (F := Ideal))) ⟨m, fun _ => 0, g⟩ (fun r => (∀ c : Dev Cert.ReferencePleSIdeal.nD,
      r.2.mem ((c.tc : Thread Cert.ReferencePleSIdeal.nD Cert.ReferencePleSIdeal.τ).loc Cert.ReferencePleSIdeal.main_arg0) = m ((c.tc : Thread Cert.ReferencePleSIdeal.nD Cert.ReferencePleSIdeal.τ).loc Cert.ReferencePleSIdeal.main_arg0)
      ∧ r.2.mem ((c.tc : Thread Cert.ReferencePleSIdeal.nD Cert.ReferencePleSIdeal.τ).loc Cert.ReferencePleSIdeal.main_arg1) = m ((c.tc : Thread Cert.ReferencePleSIdeal.nD Cert.ReferencePleSIdeal.τ).loc Cert.ReferencePleSIdeal.main_arg1)
      ∧ r.2.mem ((c.tc : Thread Cert.ReferencePleSIdeal.nD Cert.ReferencePleSIdeal.τ).loc Cert.ReferencePleSIdeal.main_arg2) = m ((c.tc : Thread Cert.ReferencePleSIdeal.nD Cert.ReferencePleSIdeal.τ).loc Cert.ReferencePleSIdeal.main_arg2)
      ∧ r.2.mem ((c.tc : Thread Cert.ReferencePleSIdeal.nD Cert.ReferencePleSIdeal.τ).loc Cert.ReferencePleSIdeal.main_arg3) = m ((c.tc : Thread Cert.ReferencePleSIdeal.nD Cert.ReferencePleSIdeal.τ).loc Cert.ReferencePleSIdeal.main_arg3)
      ∧ r.2.mem ((c.tc : Thread Cert.ReferencePleSIdeal.nD Cert.ReferencePleSIdeal.τ).loc Cert.ReferencePleSIdeal.main_arg4) = m ((c.tc : Thread Cert.ReferencePleSIdeal.nD Cert.ReferencePleSIdeal.τ).loc Cert.ReferencePleSIdeal.main_arg4)
      ∧ r.2.mem ((c.tc : Thread Cert.ReferencePleSIdeal.nD Cert.ReferencePleSIdeal.τ).loc Cert.ReferencePleSIdeal.main_arg5) = m ((c.tc : Thread Cert.ReferencePleSIdeal.nD Cert.ReferencePleSIdeal.τ).loc Cert.ReferencePleSIdeal.main_arg5))
      ∧ r.2.sem = fun _ => 0)

def quiescent_KernelPrepS [hKernelPrepS : Cert.KernelPrepS.Facts] : Prop :=
  ∀ (m : (ℓ : Loc Cert.KernelPrepS.nD Cert.KernelPrepS.τ Cert.KernelPrepS.sig) → Buf (Elt Bits) ℓ) (g : Dev Cert.KernelPrepS.nD → PrngReg), Pre_KernelPrepS m →
    θ_run (Cert.KernelPrepS.defs (F := Bits)) (onTc (τ := Cert.KernelPrepS.τ) (Cert.KernelPrepS.main (F := Bits))) ⟨m, fun _ => 0, g⟩ (fun r => (∀ c : Dev Cert.KernelPrepS.nD,
      r.2.mem ((c.tc : Thread Cert.KernelPrepS.nD Cert.KernelPrepS.τ).loc Cert.KernelPrepS.main_arg0) = m ((c.tc : Thread Cert.KernelPrepS.nD Cert.KernelPrepS.τ).loc Cert.KernelPrepS.main_arg0)
      ∧ r.2.mem ((c.tc : Thread Cert.KernelPrepS.nD Cert.KernelPrepS.τ).loc Cert.KernelPrepS.main_arg1) = m ((c.tc : Thread Cert.KernelPrepS.nD Cert.KernelPrepS.τ).loc Cert.KernelPrepS.main_arg1)
      ∧ r.2.mem ((c.tc : Thread Cert.KernelPrepS.nD Cert.KernelPrepS.τ).loc Cert.KernelPrepS.main_arg2) = m ((c.tc : Thread Cert.KernelPrepS.nD Cert.KernelPrepS.τ).loc Cert.KernelPrepS.main_arg2))
      ∧ r.2.sem = fun _ => 0)

def quiescent_KernelPrepSIdeal [hKernelPrepSIdeal : Cert.KernelPrepSIdeal.Facts] : Prop :=
  ∀ (m : (ℓ : Loc Cert.KernelPrepSIdeal.nD Cert.KernelPrepSIdeal.τ Cert.KernelPrepSIdeal.sig) → Buf (Elt Ideal) ℓ) (g : Dev Cert.KernelPrepSIdeal.nD → PrngReg), Pre_KernelPrepSIdeal m →
    θ_run (Cert.KernelPrepSIdeal.defs (F := Ideal)) (onTc (τ := Cert.KernelPrepSIdeal.τ) (Cert.KernelPrepSIdeal.main (F := Ideal))) ⟨m, fun _ => 0, g⟩ (fun r => (∀ c : Dev Cert.KernelPrepSIdeal.nD,
      r.2.mem ((c.tc : Thread Cert.KernelPrepSIdeal.nD Cert.KernelPrepSIdeal.τ).loc Cert.KernelPrepSIdeal.main_arg0) = m ((c.tc : Thread Cert.KernelPrepSIdeal.nD Cert.KernelPrepSIdeal.τ).loc Cert.KernelPrepSIdeal.main_arg0)
      ∧ r.2.mem ((c.tc : Thread Cert.KernelPrepSIdeal.nD Cert.KernelPrepSIdeal.τ).loc Cert.KernelPrepSIdeal.main_arg1) = m ((c.tc : Thread Cert.KernelPrepSIdeal.nD Cert.KernelPrepSIdeal.τ).loc Cert.KernelPrepSIdeal.main_arg1)
      ∧ r.2.mem ((c.tc : Thread Cert.KernelPrepSIdeal.nD Cert.KernelPrepSIdeal.τ).loc Cert.KernelPrepSIdeal.main_arg2) = m ((c.tc : Thread Cert.KernelPrepSIdeal.nD Cert.KernelPrepSIdeal.τ).loc Cert.KernelPrepSIdeal.main_arg2))
      ∧ r.2.sem = fun _ => 0)

def quiescent_ReferencePrepSIdeal [hReferencePrepSIdeal : Cert.ReferencePrepSIdeal.Facts] : Prop :=
  ∀ (m : (ℓ : Loc Cert.ReferencePrepSIdeal.nD Cert.ReferencePrepSIdeal.τ Cert.ReferencePrepSIdeal.sig) → Buf (Elt Ideal) ℓ) (g : Dev Cert.ReferencePrepSIdeal.nD → PrngReg), Pre_ReferencePrepSIdeal m →
    θ_run (Cert.ReferencePrepSIdeal.defs (F := Ideal)) (onTc (τ := Cert.ReferencePrepSIdeal.τ) (Cert.ReferencePrepSIdeal.main (F := Ideal))) ⟨m, fun _ => 0, g⟩ (fun r => (∀ c : Dev Cert.ReferencePrepSIdeal.nD,
      r.2.mem ((c.tc : Thread Cert.ReferencePrepSIdeal.nD Cert.ReferencePrepSIdeal.τ).loc Cert.ReferencePrepSIdeal.main_arg0) = m ((c.tc : Thread Cert.ReferencePrepSIdeal.nD Cert.ReferencePrepSIdeal.τ).loc Cert.ReferencePrepSIdeal.main_arg0)
      ∧ r.2.mem ((c.tc : Thread Cert.ReferencePrepSIdeal.nD Cert.ReferencePrepSIdeal.τ).loc Cert.ReferencePrepSIdeal.main_arg1) = m ((c.tc : Thread Cert.ReferencePrepSIdeal.nD Cert.ReferencePrepSIdeal.τ).loc Cert.ReferencePrepSIdeal.main_arg1)
      ∧ r.2.mem ((c.tc : Thread Cert.ReferencePrepSIdeal.nD Cert.ReferencePrepSIdeal.τ).loc Cert.ReferencePrepSIdeal.main_arg2) = m ((c.tc : Thread Cert.ReferencePrepSIdeal.nD Cert.ReferencePrepSIdeal.τ).loc Cert.ReferencePrepSIdeal.main_arg2))
      ∧ r.2.sem = fun _ => 0)

def quiescent_KernelCombine [hKernelCombine : Cert.KernelCombine.Facts] : Prop :=
  ∀ (m : (ℓ : Loc Cert.KernelCombine.nD Cert.KernelCombine.τ Cert.KernelCombine.sig) → Buf (Elt Bits) ℓ) (g : Dev Cert.KernelCombine.nD → PrngReg), Pre_KernelCombine m →
    θ_run (Cert.KernelCombine.defs (F := Bits)) (onTc (τ := Cert.KernelCombine.τ) (Cert.KernelCombine.main (F := Bits))) ⟨m, fun _ => 0, g⟩ (fun r => (∀ c : Dev Cert.KernelCombine.nD,
      r.2.mem ((c.tc : Thread Cert.KernelCombine.nD Cert.KernelCombine.τ).loc Cert.KernelCombine.main_arg0) = m ((c.tc : Thread Cert.KernelCombine.nD Cert.KernelCombine.τ).loc Cert.KernelCombine.main_arg0)
      ∧ r.2.mem ((c.tc : Thread Cert.KernelCombine.nD Cert.KernelCombine.τ).loc Cert.KernelCombine.main_arg1) = m ((c.tc : Thread Cert.KernelCombine.nD Cert.KernelCombine.τ).loc Cert.KernelCombine.main_arg1)
      ∧ r.2.mem ((c.tc : Thread Cert.KernelCombine.nD Cert.KernelCombine.τ).loc Cert.KernelCombine.main_arg2) = m ((c.tc : Thread Cert.KernelCombine.nD Cert.KernelCombine.τ).loc Cert.KernelCombine.main_arg2)
      ∧ r.2.mem ((c.tc : Thread Cert.KernelCombine.nD Cert.KernelCombine.τ).loc Cert.KernelCombine.main_arg3) = m ((c.tc : Thread Cert.KernelCombine.nD Cert.KernelCombine.τ).loc Cert.KernelCombine.main_arg3))
      ∧ r.2.sem = fun _ => 0)

def quiescent_KernelCombineIdeal [hKernelCombineIdeal : Cert.KernelCombineIdeal.Facts] : Prop :=
  ∀ (m : (ℓ : Loc Cert.KernelCombineIdeal.nD Cert.KernelCombineIdeal.τ Cert.KernelCombineIdeal.sig) → Buf (Elt Ideal) ℓ) (g : Dev Cert.KernelCombineIdeal.nD → PrngReg), Pre_KernelCombineIdeal m →
    θ_run (Cert.KernelCombineIdeal.defs (F := Ideal)) (onTc (τ := Cert.KernelCombineIdeal.τ) (Cert.KernelCombineIdeal.main (F := Ideal))) ⟨m, fun _ => 0, g⟩ (fun r => (∀ c : Dev Cert.KernelCombineIdeal.nD,
      r.2.mem ((c.tc : Thread Cert.KernelCombineIdeal.nD Cert.KernelCombineIdeal.τ).loc Cert.KernelCombineIdeal.main_arg0) = m ((c.tc : Thread Cert.KernelCombineIdeal.nD Cert.KernelCombineIdeal.τ).loc Cert.KernelCombineIdeal.main_arg0)
      ∧ r.2.mem ((c.tc : Thread Cert.KernelCombineIdeal.nD Cert.KernelCombineIdeal.τ).loc Cert.KernelCombineIdeal.main_arg1) = m ((c.tc : Thread Cert.KernelCombineIdeal.nD Cert.KernelCombineIdeal.τ).loc Cert.KernelCombineIdeal.main_arg1)
      ∧ r.2.mem ((c.tc : Thread Cert.KernelCombineIdeal.nD Cert.KernelCombineIdeal.τ).loc Cert.KernelCombineIdeal.main_arg2) = m ((c.tc : Thread Cert.KernelCombineIdeal.nD Cert.KernelCombineIdeal.τ).loc Cert.KernelCombineIdeal.main_arg2)
      ∧ r.2.mem ((c.tc : Thread Cert.KernelCombineIdeal.nD Cert.KernelCombineIdeal.τ).loc Cert.KernelCombineIdeal.main_arg3) = m ((c.tc : Thread Cert.KernelCombineIdeal.nD Cert.KernelCombineIdeal.τ).loc Cert.KernelCombineIdeal.main_arg3))
      ∧ r.2.sem = fun _ => 0)

def quiescent_ReferenceCombineIdeal [hReferenceCombineIdeal : Cert.ReferenceCombineIdeal.Facts] : Prop :=
  ∀ (m : (ℓ : Loc Cert.ReferenceCombineIdeal.nD Cert.ReferenceCombineIdeal.τ Cert.ReferenceCombineIdeal.sig) → Buf (Elt Ideal) ℓ) (g : Dev Cert.ReferenceCombineIdeal.nD → PrngReg), Pre_ReferenceCombineIdeal m →
    θ_run (Cert.ReferenceCombineIdeal.defs (F := Ideal)) (onTc (τ := Cert.ReferenceCombineIdeal.τ) (Cert.ReferenceCombineIdeal.main (F := Ideal))) ⟨m, fun _ => 0, g⟩ (fun r => (∀ c : Dev Cert.ReferenceCombineIdeal.nD,
      r.2.mem ((c.tc : Thread Cert.ReferenceCombineIdeal.nD Cert.ReferenceCombineIdeal.τ).loc Cert.ReferenceCombineIdeal.main_arg0) = m ((c.tc : Thread Cert.ReferenceCombineIdeal.nD Cert.ReferenceCombineIdeal.τ).loc Cert.ReferenceCombineIdeal.main_arg0)
      ∧ r.2.mem ((c.tc : Thread Cert.ReferenceCombineIdeal.nD Cert.ReferenceCombineIdeal.τ).loc Cert.ReferenceCombineIdeal.main_arg1) = m ((c.tc : Thread Cert.ReferenceCombineIdeal.nD Cert.ReferenceCombineIdeal.τ).loc Cert.ReferenceCombineIdeal.main_arg1)
      ∧ r.2.mem ((c.tc : Thread Cert.ReferenceCombineIdeal.nD Cert.ReferenceCombineIdeal.τ).loc Cert.ReferenceCombineIdeal.main_arg2) = m ((c.tc : Thread Cert.ReferenceCombineIdeal.nD Cert.ReferenceCombineIdeal.τ).loc Cert.ReferenceCombineIdeal.main_arg2)
      ∧ r.2.mem ((c.tc : Thread Cert.ReferenceCombineIdeal.nD Cert.ReferenceCombineIdeal.τ).loc Cert.ReferenceCombineIdeal.main_arg3) = m ((c.tc : Thread Cert.ReferenceCombineIdeal.nD Cert.ReferenceCombineIdeal.τ).loc Cert.ReferenceCombineIdeal.main_arg3))
      ∧ r.2.sem = fun _ => 0)

def quiescent_KernelAbsorbQ [hKernelAbsorbQ : Cert.KernelAbsorbQ.Facts] : Prop :=
  ∀ (m : (ℓ : Loc Cert.KernelAbsorbQ.nD Cert.KernelAbsorbQ.τ Cert.KernelAbsorbQ.sig) → Buf (Elt Bits) ℓ) (g : Dev Cert.KernelAbsorbQ.nD → PrngReg), Pre_KernelAbsorbQ m →
    θ_run (Cert.KernelAbsorbQ.defs (F := Bits)) (onTc (τ := Cert.KernelAbsorbQ.τ) (Cert.KernelAbsorbQ.main (F := Bits))) ⟨m, fun _ => 0, g⟩ (fun r => (∀ c : Dev Cert.KernelAbsorbQ.nD,
      r.2.mem ((c.tc : Thread Cert.KernelAbsorbQ.nD Cert.KernelAbsorbQ.τ).loc Cert.KernelAbsorbQ.main_arg0) = m ((c.tc : Thread Cert.KernelAbsorbQ.nD Cert.KernelAbsorbQ.τ).loc Cert.KernelAbsorbQ.main_arg0)
      ∧ r.2.mem ((c.tc : Thread Cert.KernelAbsorbQ.nD Cert.KernelAbsorbQ.τ).loc Cert.KernelAbsorbQ.main_arg1) = m ((c.tc : Thread Cert.KernelAbsorbQ.nD Cert.KernelAbsorbQ.τ).loc Cert.KernelAbsorbQ.main_arg1))
      ∧ r.2.sem = fun _ => 0)

def quiescent_KernelAbsorbQIdeal [hKernelAbsorbQIdeal : Cert.KernelAbsorbQIdeal.Facts] : Prop :=
  ∀ (m : (ℓ : Loc Cert.KernelAbsorbQIdeal.nD Cert.KernelAbsorbQIdeal.τ Cert.KernelAbsorbQIdeal.sig) → Buf (Elt Ideal) ℓ) (g : Dev Cert.KernelAbsorbQIdeal.nD → PrngReg), Pre_KernelAbsorbQIdeal m →
    θ_run (Cert.KernelAbsorbQIdeal.defs (F := Ideal)) (onTc (τ := Cert.KernelAbsorbQIdeal.τ) (Cert.KernelAbsorbQIdeal.main (F := Ideal))) ⟨m, fun _ => 0, g⟩ (fun r => (∀ c : Dev Cert.KernelAbsorbQIdeal.nD,
      r.2.mem ((c.tc : Thread Cert.KernelAbsorbQIdeal.nD Cert.KernelAbsorbQIdeal.τ).loc Cert.KernelAbsorbQIdeal.main_arg0) = m ((c.tc : Thread Cert.KernelAbsorbQIdeal.nD Cert.KernelAbsorbQIdeal.τ).loc Cert.KernelAbsorbQIdeal.main_arg0)
      ∧ r.2.mem ((c.tc : Thread Cert.KernelAbsorbQIdeal.nD Cert.KernelAbsorbQIdeal.τ).loc Cert.KernelAbsorbQIdeal.main_arg1) = m ((c.tc : Thread Cert.KernelAbsorbQIdeal.nD Cert.KernelAbsorbQIdeal.τ).loc Cert.KernelAbsorbQIdeal.main_arg1))
      ∧ r.2.sem = fun _ => 0)

def quiescent_ReferenceAbsorbQIdeal [hReferenceAbsorbQIdeal : Cert.ReferenceAbsorbQIdeal.Facts] : Prop :=
  ∀ (m : (ℓ : Loc Cert.ReferenceAbsorbQIdeal.nD Cert.ReferenceAbsorbQIdeal.τ Cert.ReferenceAbsorbQIdeal.sig) → Buf (Elt Ideal) ℓ) (g : Dev Cert.ReferenceAbsorbQIdeal.nD → PrngReg), Pre_ReferenceAbsorbQIdeal m →
    θ_run (Cert.ReferenceAbsorbQIdeal.defs (F := Ideal)) (onTc (τ := Cert.ReferenceAbsorbQIdeal.τ) (Cert.ReferenceAbsorbQIdeal.main (F := Ideal))) ⟨m, fun _ => 0, g⟩ (fun r => (∀ c : Dev Cert.ReferenceAbsorbQIdeal.nD,
      r.2.mem ((c.tc : Thread Cert.ReferenceAbsorbQIdeal.nD Cert.ReferenceAbsorbQIdeal.τ).loc Cert.ReferenceAbsorbQIdeal.main_arg0) = m ((c.tc : Thread Cert.ReferenceAbsorbQIdeal.nD Cert.ReferenceAbsorbQIdeal.τ).loc Cert.ReferenceAbsorbQIdeal.main_arg0)
      ∧ r.2.mem ((c.tc : Thread Cert.ReferenceAbsorbQIdeal.nD Cert.ReferenceAbsorbQIdeal.τ).loc Cert.ReferenceAbsorbQIdeal.main_arg1) = m ((c.tc : Thread Cert.ReferenceAbsorbQIdeal.nD Cert.ReferenceAbsorbQIdeal.τ).loc Cert.ReferenceAbsorbQIdeal.main_arg1))
      ∧ r.2.sem = fun _ => 0)

def quiescent_KernelAbsorbO [hKernelAbsorbO : Cert.KernelAbsorbO.Facts] : Prop :=
  ∀ (m : (ℓ : Loc Cert.KernelAbsorbO.nD Cert.KernelAbsorbO.τ Cert.KernelAbsorbO.sig) → Buf (Elt Bits) ℓ) (g : Dev Cert.KernelAbsorbO.nD → PrngReg), Pre_KernelAbsorbO m →
    θ_run (Cert.KernelAbsorbO.defs (F := Bits)) (onTc (τ := Cert.KernelAbsorbO.τ) (Cert.KernelAbsorbO.main (F := Bits))) ⟨m, fun _ => 0, g⟩ (fun r => (∀ c : Dev Cert.KernelAbsorbO.nD,
      r.2.mem ((c.tc : Thread Cert.KernelAbsorbO.nD Cert.KernelAbsorbO.τ).loc Cert.KernelAbsorbO.main_arg0) = m ((c.tc : Thread Cert.KernelAbsorbO.nD Cert.KernelAbsorbO.τ).loc Cert.KernelAbsorbO.main_arg0)
      ∧ r.2.mem ((c.tc : Thread Cert.KernelAbsorbO.nD Cert.KernelAbsorbO.τ).loc Cert.KernelAbsorbO.main_arg1) = m ((c.tc : Thread Cert.KernelAbsorbO.nD Cert.KernelAbsorbO.τ).loc Cert.KernelAbsorbO.main_arg1))
      ∧ r.2.sem = fun _ => 0)

def quiescent_KernelAbsorbOIdeal [hKernelAbsorbOIdeal : Cert.KernelAbsorbOIdeal.Facts] : Prop :=
  ∀ (m : (ℓ : Loc Cert.KernelAbsorbOIdeal.nD Cert.KernelAbsorbOIdeal.τ Cert.KernelAbsorbOIdeal.sig) → Buf (Elt Ideal) ℓ) (g : Dev Cert.KernelAbsorbOIdeal.nD → PrngReg), Pre_KernelAbsorbOIdeal m →
    θ_run (Cert.KernelAbsorbOIdeal.defs (F := Ideal)) (onTc (τ := Cert.KernelAbsorbOIdeal.τ) (Cert.KernelAbsorbOIdeal.main (F := Ideal))) ⟨m, fun _ => 0, g⟩ (fun r => (∀ c : Dev Cert.KernelAbsorbOIdeal.nD,
      r.2.mem ((c.tc : Thread Cert.KernelAbsorbOIdeal.nD Cert.KernelAbsorbOIdeal.τ).loc Cert.KernelAbsorbOIdeal.main_arg0) = m ((c.tc : Thread Cert.KernelAbsorbOIdeal.nD Cert.KernelAbsorbOIdeal.τ).loc Cert.KernelAbsorbOIdeal.main_arg0)
      ∧ r.2.mem ((c.tc : Thread Cert.KernelAbsorbOIdeal.nD Cert.KernelAbsorbOIdeal.τ).loc Cert.KernelAbsorbOIdeal.main_arg1) = m ((c.tc : Thread Cert.KernelAbsorbOIdeal.nD Cert.KernelAbsorbOIdeal.τ).loc Cert.KernelAbsorbOIdeal.main_arg1))
      ∧ r.2.sem = fun _ => 0)

def quiescent_ReferenceAbsorbOIdeal [hReferenceAbsorbOIdeal : Cert.ReferenceAbsorbOIdeal.Facts] : Prop :=
  ∀ (m : (ℓ : Loc Cert.ReferenceAbsorbOIdeal.nD Cert.ReferenceAbsorbOIdeal.τ Cert.ReferenceAbsorbOIdeal.sig) → Buf (Elt Ideal) ℓ) (g : Dev Cert.ReferenceAbsorbOIdeal.nD → PrngReg), Pre_ReferenceAbsorbOIdeal m →
    θ_run (Cert.ReferenceAbsorbOIdeal.defs (F := Ideal)) (onTc (τ := Cert.ReferenceAbsorbOIdeal.τ) (Cert.ReferenceAbsorbOIdeal.main (F := Ideal))) ⟨m, fun _ => 0, g⟩ (fun r => (∀ c : Dev Cert.ReferenceAbsorbOIdeal.nD,
      r.2.mem ((c.tc : Thread Cert.ReferenceAbsorbOIdeal.nD Cert.ReferenceAbsorbOIdeal.τ).loc Cert.ReferenceAbsorbOIdeal.main_arg0) = m ((c.tc : Thread Cert.ReferenceAbsorbOIdeal.nD Cert.ReferenceAbsorbOIdeal.τ).loc Cert.ReferenceAbsorbOIdeal.main_arg0)
      ∧ r.2.mem ((c.tc : Thread Cert.ReferenceAbsorbOIdeal.nD Cert.ReferenceAbsorbOIdeal.τ).loc Cert.ReferenceAbsorbOIdeal.main_arg1) = m ((c.tc : Thread Cert.ReferenceAbsorbOIdeal.nD Cert.ReferenceAbsorbOIdeal.τ).loc Cert.ReferenceAbsorbOIdeal.main_arg1))
      ∧ r.2.sem = fun _ => 0)

def preserves_Kernel_KernelIdeal : Prop :=
  IdealRules.named_const.Statement Cert.KernelIdeal.κ "scale" .f32 0x3D93CD3A#32 (((Real.sqrt 192)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelSwiglu_KernelSwigluIdeal : Prop :=
  True

def algebraic_KernelSwigluIdeal_ReferenceSwigluIdeal [hKernelSwigluIdeal : Cert.KernelSwigluIdeal.Facts] [hReferenceSwigluIdeal : Cert.ReferenceSwigluIdeal.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg)
    (m' : (ℓ : Loc Cert.ReferenceSwigluIdeal.nD Cert.ReferenceSwigluIdeal.τ Cert.ReferenceSwigluIdeal.sig) → Buf (Elt Ideal) ℓ) (g' : Dev Cert.ReferenceSwigluIdeal.nD → PrngReg), Pre_KernelSwigluIdeal m →
    (∀ c : Dev Cert.KernelSwigluIdeal.nD,
      m' ((c.tc : Thread Cert.ReferenceSwigluIdeal.nD Cert.ReferenceSwigluIdeal.τ).loc Cert.ReferenceSwigluIdeal.main_arg0) = m ((c.tc : Thread Cert.KernelSwigluIdeal.nD Cert.KernelSwigluIdeal.τ).loc Cert.KernelSwigluIdeal.main_arg0)
      ∧ m' ((c.tc : Thread Cert.ReferenceSwigluIdeal.nD Cert.ReferenceSwigluIdeal.τ).loc Cert.ReferenceSwigluIdeal.main_arg1) = m ((c.tc : Thread Cert.KernelSwigluIdeal.nD Cert.KernelSwigluIdeal.τ).loc Cert.KernelSwigluIdeal.main_arg1)
      ∧ m' ((c.tc : Thread Cert.ReferenceSwigluIdeal.nD Cert.ReferenceSwigluIdeal.τ).loc Cert.ReferenceSwigluIdeal.main_arg2) = m ((c.tc : Thread Cert.KernelSwigluIdeal.nD Cert.KernelSwigluIdeal.τ).loc Cert.KernelSwigluIdeal.main_arg2)
      ∧ m' ((c.tc : Thread Cert.ReferenceSwigluIdeal.nD Cert.ReferenceSwigluIdeal.τ).loc Cert.ReferenceSwigluIdeal.main_arg3) = m ((c.tc : Thread Cert.KernelSwigluIdeal.nD Cert.KernelSwigluIdeal.τ).loc Cert.KernelSwigluIdeal.main_arg3)) →
    ∃ (v0 : (c : Dev Cert.KernelSwigluIdeal.nD) → Buf (Elt Ideal) ((c.tc : Thread Cert.KernelSwigluIdeal.nD Cert.KernelSwigluIdeal.τ).loc Cert.KernelSwigluIdeal.main_v3_0)) (v1 : (c : Dev Cert.KernelSwigluIdeal.nD) → Buf (Elt Ideal) ((c.tc : Thread Cert.KernelSwigluIdeal.nD Cert.KernelSwigluIdeal.τ).loc Cert.KernelSwigluIdeal.main_v3_1)) (v2 : (c : Dev Cert.KernelSwigluIdeal.nD) → Buf (Elt Ideal) ((c.tc : Thread Cert.KernelSwigluIdeal.nD Cert.KernelSwigluIdeal.τ).loc Cert.KernelSwigluIdeal.main_v3_2)),
      θ_run (Cert.KernelSwigluIdeal.defs (F := Ideal)) (onTc (τ := Cert.KernelSwigluIdeal.τ) (Cert.KernelSwigluIdeal.main (F := Ideal))) ⟨m, fun _ => 0, g⟩ (fun r => ∀ c : Dev Cert.KernelSwigluIdeal.nD,
          r.2.mem ((c.tc : Thread Cert.KernelSwigluIdeal.nD Cert.KernelSwigluIdeal.τ).loc Cert.KernelSwigluIdeal.main_v3_0) = v0 c
          ∧ r.2.mem ((c.tc : Thread Cert.KernelSwigluIdeal.nD Cert.KernelSwigluIdeal.τ).loc Cert.KernelSwigluIdeal.main_v3_1) = v1 c
          ∧ r.2.mem ((c.tc : Thread Cert.KernelSwigluIdeal.nD Cert.KernelSwigluIdeal.τ).loc Cert.KernelSwigluIdeal.main_v3_2) = v2 c
          ∧ r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
          ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1)
          ∧ r.2.mem ((c.tc : Thread Cert.KernelSwigluIdeal.nD Cert.KernelSwigluIdeal.τ).loc Cert.KernelSwigluIdeal.main_arg2) = m ((c.tc : Thread Cert.KernelSwigluIdeal.nD Cert.KernelSwigluIdeal.τ).loc Cert.KernelSwigluIdeal.main_arg2)
          ∧ r.2.mem ((c.tc : Thread Cert.KernelSwigluIdeal.nD Cert.KernelSwigluIdeal.τ).loc Cert.KernelSwigluIdeal.main_arg3) = m ((c.tc : Thread Cert.KernelSwigluIdeal.nD Cert.KernelSwigluIdeal.τ).loc Cert.KernelSwigluIdeal.main_arg3))
      ∧ θ_run (Cert.ReferenceSwigluIdeal.defs (F := Ideal)) (onTc (τ := Cert.ReferenceSwigluIdeal.τ) (Cert.ReferenceSwigluIdeal.main (F := Ideal))) ⟨m', fun _ => 0, g'⟩ (fun r => ∀ c : Dev Cert.ReferenceSwigluIdeal.nD,
          r.2.mem ((c.tc : Thread Cert.ReferenceSwigluIdeal.nD Cert.ReferenceSwigluIdeal.τ).loc Cert.ReferenceSwigluIdeal.main_v46) = v0 c
          ∧ r.2.mem ((c.tc : Thread Cert.ReferenceSwigluIdeal.nD Cert.ReferenceSwigluIdeal.τ).loc Cert.ReferenceSwigluIdeal.main_v47) = v1 c
          ∧ r.2.mem ((c.tc : Thread Cert.ReferenceSwigluIdeal.nD Cert.ReferenceSwigluIdeal.τ).loc Cert.ReferenceSwigluIdeal.main_v48) = v2 c
          ∧ r.2.mem ((c.tc : Thread Cert.ReferenceSwigluIdeal.nD Cert.ReferenceSwigluIdeal.τ).loc Cert.ReferenceSwigluIdeal.main_arg0) = m' ((c.tc : Thread Cert.ReferenceSwigluIdeal.nD Cert.ReferenceSwigluIdeal.τ).loc Cert.ReferenceSwigluIdeal.main_arg0)
          ∧ r.2.mem ((c.tc : Thread Cert.ReferenceSwigluIdeal.nD Cert.ReferenceSwigluIdeal.τ).loc Cert.ReferenceSwigluIdeal.main_arg1) = m' ((c.tc : Thread Cert.ReferenceSwigluIdeal.nD Cert.ReferenceSwigluIdeal.τ).loc Cert.ReferenceSwigluIdeal.main_arg1)
          ∧ r.2.mem ((c.tc : Thread Cert.ReferenceSwigluIdeal.nD Cert.ReferenceSwigluIdeal.τ).loc Cert.ReferenceSwigluIdeal.main_arg2) = m' ((c.tc : Thread Cert.ReferenceSwigluIdeal.nD Cert.ReferenceSwigluIdeal.τ).loc Cert.ReferenceSwigluIdeal.main_arg2)
          ∧ r.2.mem ((c.tc : Thread Cert.ReferenceSwigluIdeal.nD Cert.ReferenceSwigluIdeal.τ).loc Cert.ReferenceSwigluIdeal.main_arg3) = m' ((c.tc : Thread Cert.ReferenceSwigluIdeal.nD Cert.ReferenceSwigluIdeal.τ).loc Cert.ReferenceSwigluIdeal.main_arg3))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)
      ∧ m' ((c.tc : Thread Cert.ReferenceDownIdeal.nD Cert.ReferenceDownIdeal.τ).loc Cert.ReferenceDownIdeal.main_arg5) = m ((c.tc : Thread Cert.KernelDownIdeal.nD Cert.KernelDownIdeal.τ).loc Cert.KernelDownIdeal.main_arg5)
      ∧ m' ((c.tc : Thread Cert.ReferenceDownIdeal.nD Cert.ReferenceDownIdeal.τ).loc Cert.ReferenceDownIdeal.main_arg6) = m ((c.tc : Thread Cert.KernelDownIdeal.nD Cert.KernelDownIdeal.τ).loc Cert.KernelDownIdeal.main_arg6)) →
    ∃ (v0 : (c : Dev Cert.KernelDownIdeal.nD) → Buf (Elt Ideal) ((c.tc : Thread Cert.KernelDownIdeal.nD Cert.KernelDownIdeal.τ).loc Cert.KernelDownIdeal.main_v6)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v6) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
          ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5)
          ∧ r.2.mem ((c.tc : Thread Cert.KernelDownIdeal.nD Cert.KernelDownIdeal.τ).loc Cert.KernelDownIdeal.main_arg6) = m ((c.tc : Thread Cert.KernelDownIdeal.nD Cert.KernelDownIdeal.τ).loc Cert.KernelDownIdeal.main_arg6))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v17) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4)
          ∧ r.2.mem ((c.tc : Thread Cert.ReferenceDownIdeal.nD Cert.ReferenceDownIdeal.τ).loc Cert.ReferenceDownIdeal.main_arg5) = m' ((c.tc : Thread Cert.ReferenceDownIdeal.nD Cert.ReferenceDownIdeal.τ).loc Cert.ReferenceDownIdeal.main_arg5)
          ∧ r.2.mem ((c.tc : Thread Cert.ReferenceDownIdeal.nD Cert.ReferenceDownIdeal.τ).loc Cert.ReferenceDownIdeal.main_arg6) = m' ((c.tc : Thread Cert.ReferenceDownIdeal.nD Cert.ReferenceDownIdeal.τ).loc Cert.ReferenceDownIdeal.main_arg6))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)
      ∧ m' ((c.tc : Thread Cert.ReferencePleIdeal.nD Cert.ReferencePleIdeal.τ).loc Cert.ReferencePleIdeal.main_arg4) = m ((c.tc : Thread Cert.KernelPleIdeal.nD Cert.KernelPleIdeal.τ).loc Cert.KernelPleIdeal.main_arg4)
      ∧ m' ((c.tc : Thread Cert.ReferencePleIdeal.nD Cert.ReferencePleIdeal.τ).loc Cert.ReferencePleIdeal.main_arg5) = m ((c.tc : Thread Cert.KernelPleIdeal.nD Cert.KernelPleIdeal.τ).loc Cert.KernelPleIdeal.main_arg5)) →
    ∃ (v0 : (c : Dev Cert.KernelPleIdeal.nD) → Buf (Elt Ideal) ((c.tc : Thread Cert.KernelPleIdeal.nD Cert.KernelPleIdeal.τ).loc Cert.KernelPleIdeal.main_v4)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v4) = v0 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
          ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
          ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v40) = v0 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3)
          ∧ r.2.mem ((c.tc : Thread Cert.ReferencePleIdeal.nD Cert.ReferencePleIdeal.τ).loc Cert.ReferencePleIdeal.main_arg4) = m' ((c.tc : Thread Cert.ReferencePleIdeal.nD Cert.ReferencePleIdeal.τ).loc Cert.ReferencePleIdeal.main_arg4)
          ∧ r.2.mem ((c.tc : Thread Cert.ReferencePleIdeal.nD Cert.ReferencePleIdeal.τ).loc Cert.ReferencePleIdeal.main_arg5) = m' ((c.tc : Thread Cert.ReferencePleIdeal.nD Cert.ReferencePleIdeal.τ).loc Cert.ReferencePleIdeal.main_arg5))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v6) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v2) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelPrep_KernelPrepIdeal : Prop :=
  True

def algebraic_KernelPrepIdeal_ReferencePrepIdeal [hKernelPrepIdeal : Cert.KernelPrepIdeal.Facts] [hReferencePrepIdeal : Cert.ReferencePrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg)
    (m' : (ℓ : Loc Cert.ReferencePrepIdeal.nD Cert.ReferencePrepIdeal.τ Cert.ReferencePrepIdeal.sig) → Buf (Elt Ideal) ℓ) (g' : Dev Cert.ReferencePrepIdeal.nD → PrngReg), Pre_KernelPrepIdeal m →
    (∀ c : Dev Cert.KernelPrepIdeal.nD,
      m' ((c.tc : Thread Cert.ReferencePrepIdeal.nD Cert.ReferencePrepIdeal.τ).loc Cert.ReferencePrepIdeal.main_arg0) = m ((c.tc : Thread Cert.KernelPrepIdeal.nD Cert.KernelPrepIdeal.τ).loc Cert.KernelPrepIdeal.main_arg0)
      ∧ m' ((c.tc : Thread Cert.ReferencePrepIdeal.nD Cert.ReferencePrepIdeal.τ).loc Cert.ReferencePrepIdeal.main_arg1) = m ((c.tc : Thread Cert.KernelPrepIdeal.nD Cert.KernelPrepIdeal.τ).loc Cert.KernelPrepIdeal.main_arg1)
      ∧ m' ((c.tc : Thread Cert.ReferencePrepIdeal.nD Cert.ReferencePrepIdeal.τ).loc Cert.ReferencePrepIdeal.main_arg2) = m ((c.tc : Thread Cert.KernelPrepIdeal.nD Cert.KernelPrepIdeal.τ).loc Cert.KernelPrepIdeal.main_arg2)) →
    ∃ (v0 : (c : Dev Cert.KernelPrepIdeal.nD) → Buf (Elt Ideal) ((c.tc : Thread Cert.KernelPrepIdeal.nD Cert.KernelPrepIdeal.τ).loc Cert.KernelPrepIdeal.main_v33_0)) (v1 : (c : Dev Cert.KernelPrepIdeal.nD) → Buf (Elt Ideal) ((c.tc : Thread Cert.KernelPrepIdeal.nD Cert.KernelPrepIdeal.τ).loc Cert.KernelPrepIdeal.main_v33_1)) (v2 : (c : Dev Cert.KernelPrepIdeal.nD) → Buf (Elt Ideal) ((c.tc : Thread Cert.KernelPrepIdeal.nD Cert.KernelPrepIdeal.τ).loc Cert.KernelPrepIdeal.main_v33_2)) (v3 : (c : Dev Cert.KernelPrepIdeal.nD) → Buf (Elt Ideal) ((c.tc : Thread Cert.KernelPrepIdeal.nD Cert.KernelPrepIdeal.τ).loc Cert.KernelPrepIdeal.main_v33_3)),
      θ_run (Cert.KernelPrepIdeal.defs (F := Ideal)) (onTc (τ := Cert.KernelPrepIdeal.τ) (Cert.KernelPrepIdeal.main (F := Ideal))) ⟨m, fun _ => 0, g⟩ (fun r => ∀ c : Dev Cert.KernelPrepIdeal.nD,
          r.2.mem ((c.tc : Thread Cert.KernelPrepIdeal.nD Cert.KernelPrepIdeal.τ).loc Cert.KernelPrepIdeal.main_v33_0) = v0 c
          ∧ r.2.mem ((c.tc : Thread Cert.KernelPrepIdeal.nD Cert.KernelPrepIdeal.τ).loc Cert.KernelPrepIdeal.main_v33_1) = v1 c
          ∧ r.2.mem ((c.tc : Thread Cert.KernelPrepIdeal.nD Cert.KernelPrepIdeal.τ).loc Cert.KernelPrepIdeal.main_v33_2) = v2 c
          ∧ r.2.mem ((c.tc : Thread Cert.KernelPrepIdeal.nD Cert.KernelPrepIdeal.τ).loc Cert.KernelPrepIdeal.main_v33_3) = v3 c
          ∧ r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
          ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
          ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2))
      ∧ θ_run (Cert.ReferencePrepIdeal.defs (F := Ideal)) (onTc (τ := Cert.ReferencePrepIdeal.τ) (Cert.ReferencePrepIdeal.main (F := Ideal))) ⟨m', fun _ => 0, g'⟩ (fun r => ∀ c : Dev Cert.ReferencePrepIdeal.nD,
          r.2.mem ((c.tc : Thread Cert.ReferencePrepIdeal.nD Cert.ReferencePrepIdeal.τ).loc Cert.ReferencePrepIdeal.main_v69) = v0 c
          ∧ r.2.mem ((c.tc : Thread Cert.ReferencePrepIdeal.nD Cert.ReferencePrepIdeal.τ).loc Cert.ReferencePrepIdeal.main_v71) = v1 c
          ∧ r.2.mem ((c.tc : Thread Cert.ReferencePrepIdeal.nD Cert.ReferencePrepIdeal.τ).loc Cert.ReferencePrepIdeal.main_v72) = v2 c
          ∧ r.2.mem ((c.tc : Thread Cert.ReferencePrepIdeal.nD Cert.ReferencePrepIdeal.τ).loc Cert.ReferencePrepIdeal.main_v74) = v3 c
          ∧ r.2.mem ((c.tc : Thread Cert.ReferencePrepIdeal.nD Cert.ReferencePrepIdeal.τ).loc Cert.ReferencePrepIdeal.main_arg0) = m' ((c.tc : Thread Cert.ReferencePrepIdeal.nD Cert.ReferencePrepIdeal.τ).loc Cert.ReferencePrepIdeal.main_arg0)
          ∧ r.2.mem ((c.tc : Thread Cert.ReferencePrepIdeal.nD Cert.ReferencePrepIdeal.τ).loc Cert.ReferencePrepIdeal.main_arg1) = m' ((c.tc : Thread Cert.ReferencePrepIdeal.nD Cert.ReferencePrepIdeal.τ).loc Cert.ReferencePrepIdeal.main_arg1)
          ∧ r.2.mem ((c.tc : Thread Cert.ReferencePrepIdeal.nD Cert.ReferencePrepIdeal.τ).loc Cert.ReferencePrepIdeal.main_arg2) = m' ((c.tc : Thread Cert.ReferencePrepIdeal.nD Cert.ReferencePrepIdeal.τ).loc Cert.ReferencePrepIdeal.main_arg2))

def preserves_KernelRope_KernelRopeIdeal : Prop :=
  True

def algebraic_KernelRopeIdeal_ReferenceRopeIdeal [hKernelRopeIdeal : Cert.KernelRopeIdeal.Facts] [hReferenceRopeIdeal : Cert.ReferenceRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg)
    (m' : (ℓ : Loc Cert.ReferenceRopeIdeal.nD Cert.ReferenceRopeIdeal.τ Cert.ReferenceRopeIdeal.sig) → Buf (Elt Ideal) ℓ) (g' : Dev Cert.ReferenceRopeIdeal.nD → PrngReg), Pre_KernelRopeIdeal m →
    (∀ c : Dev Cert.KernelRopeIdeal.nD,
      m' ((c.tc : Thread Cert.ReferenceRopeIdeal.nD Cert.ReferenceRopeIdeal.τ).loc Cert.ReferenceRopeIdeal.main_arg0) = m ((c.tc : Thread Cert.KernelRopeIdeal.nD Cert.KernelRopeIdeal.τ).loc Cert.KernelRopeIdeal.main_arg0)) →
    ∃ (v0 : (c : Dev Cert.KernelRopeIdeal.nD) → Buf (Elt Ideal) ((c.tc : Thread Cert.KernelRopeIdeal.nD Cert.KernelRopeIdeal.τ).loc Cert.KernelRopeIdeal.main_v29)),
      θ_run (Cert.KernelRopeIdeal.defs (F := Ideal)) (onTc (τ := Cert.KernelRopeIdeal.τ) (Cert.KernelRopeIdeal.main (F := Ideal))) ⟨m, fun _ => 0, g⟩ (fun r => ∀ c : Dev Cert.KernelRopeIdeal.nD,
          r.2.mem ((c.tc : Thread Cert.KernelRopeIdeal.nD Cert.KernelRopeIdeal.τ).loc Cert.KernelRopeIdeal.main_v29) = v0 c
          ∧ r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0))
      ∧ θ_run (Cert.ReferenceRopeIdeal.defs (F := Ideal)) (onTc (τ := Cert.ReferenceRopeIdeal.τ) (Cert.ReferenceRopeIdeal.main (F := Ideal))) ⟨m', fun _ => 0, g'⟩ (fun r => ∀ c : Dev Cert.ReferenceRopeIdeal.nD,
          r.2.mem ((c.tc : Thread Cert.ReferenceRopeIdeal.nD Cert.ReferenceRopeIdeal.τ).loc Cert.ReferenceRopeIdeal.main_v40) = v0 c
          ∧ r.2.mem ((c.tc : Thread Cert.ReferenceRopeIdeal.nD Cert.ReferenceRopeIdeal.τ).loc Cert.ReferenceRopeIdeal.main_arg0) = m' ((c.tc : Thread Cert.ReferenceRopeIdeal.nD Cert.ReferenceRopeIdeal.τ).loc Cert.ReferenceRopeIdeal.main_arg0))

def preserves_KernelMlaIn_KernelMlaInIdeal : Prop :=
  True

def algebraic_KernelMlaInIdeal_ReferenceMlaInIdeal [hKernelMlaInIdeal : Cert.KernelMlaInIdeal.Facts] [hReferenceMlaInIdeal : Cert.ReferenceMlaInIdeal.Facts] : Prop :=
  ∀ (m : (ℓ : Loc Cert.KernelMlaInIdeal.nD Cert.KernelMlaInIdeal.τ Cert.KernelMlaInIdeal.sig) → Buf (Elt Ideal) ℓ) (g : Dev Cert.KernelMlaInIdeal.nD → PrngReg)
    (m' : (ℓ : Loc Cert.ReferenceMlaInIdeal.nD Cert.ReferenceMlaInIdeal.τ Cert.ReferenceMlaInIdeal.sig) → Buf (Elt Ideal) ℓ) (g' : Dev Cert.ReferenceMlaInIdeal.nD → PrngReg), Pre_KernelMlaInIdeal m →
    (∀ c : Dev Cert.KernelMlaInIdeal.nD,
      m' ((c.tc : Thread Cert.ReferenceMlaInIdeal.nD Cert.ReferenceMlaInIdeal.τ).loc Cert.ReferenceMlaInIdeal.main_arg0) = m ((c.tc : Thread Cert.KernelMlaInIdeal.nD Cert.KernelMlaInIdeal.τ).loc Cert.KernelMlaInIdeal.main_arg0)
      ∧ m' ((c.tc : Thread Cert.ReferenceMlaInIdeal.nD Cert.ReferenceMlaInIdeal.τ).loc Cert.ReferenceMlaInIdeal.main_arg1) = m ((c.tc : Thread Cert.KernelMlaInIdeal.nD Cert.KernelMlaInIdeal.τ).loc Cert.KernelMlaInIdeal.main_arg1)) →
    ∃ (v0 : (c : Dev Cert.KernelMlaInIdeal.nD) → Buf (Elt Ideal) ((c.tc : Thread Cert.KernelMlaInIdeal.nD Cert.KernelMlaInIdeal.τ).loc Cert.KernelMlaInIdeal.main_v2)),
      θ_run (Cert.KernelMlaInIdeal.defs (F := Ideal)) (onTc (τ := Cert.KernelMlaInIdeal.τ) (Cert.KernelMlaInIdeal.main (F := Ideal))) ⟨m, fun _ => 0, g⟩ (fun r => ∀ c : Dev Cert.KernelMlaInIdeal.nD,
          r.2.mem ((c.tc : Thread Cert.KernelMlaInIdeal.nD Cert.KernelMlaInIdeal.τ).loc Cert.KernelMlaInIdeal.main_v2) = v0 c
          ∧ r.2.mem ((c.tc : Thread Cert.KernelMlaInIdeal.nD Cert.KernelMlaInIdeal.τ).loc Cert.KernelMlaInIdeal.main_arg0) = m ((c.tc : Thread Cert.KernelMlaInIdeal.nD Cert.KernelMlaInIdeal.τ).loc Cert.KernelMlaInIdeal.main_arg0)
          ∧ r.2.mem ((c.tc : Thread Cert.KernelMlaInIdeal.nD Cert.KernelMlaInIdeal.τ).loc Cert.KernelMlaInIdeal.main_arg1) = m ((c.tc : Thread Cert.KernelMlaInIdeal.nD Cert.KernelMlaInIdeal.τ).loc Cert.KernelMlaInIdeal.main_arg1))
      ∧ θ_run (Cert.ReferenceMlaInIdeal.defs (F := Ideal)) (onTc (τ := Cert.ReferenceMlaInIdeal.τ) (Cert.ReferenceMlaInIdeal.main (F := Ideal))) ⟨m', fun _ => 0, g'⟩ (fun r => ∀ c : Dev Cert.ReferenceMlaInIdeal.nD,
          r.2.mem ((c.tc : Thread Cert.ReferenceMlaInIdeal.nD Cert.ReferenceMlaInIdeal.τ).loc Cert.ReferenceMlaInIdeal.main_v2) = v0 c
          ∧ r.2.mem ((c.tc : Thread Cert.ReferenceMlaInIdeal.nD Cert.ReferenceMlaInIdeal.τ).loc Cert.ReferenceMlaInIdeal.main_arg0) = m' ((c.tc : Thread Cert.ReferenceMlaInIdeal.nD Cert.ReferenceMlaInIdeal.τ).loc Cert.ReferenceMlaInIdeal.main_arg0)
          ∧ r.2.mem ((c.tc : Thread Cert.ReferenceMlaInIdeal.nD Cert.ReferenceMlaInIdeal.τ).loc Cert.ReferenceMlaInIdeal.main_arg1) = m' ((c.tc : Thread Cert.ReferenceMlaInIdeal.nD Cert.ReferenceMlaInIdeal.τ).loc Cert.ReferenceMlaInIdeal.main_arg1))

def preserves_KernelQuery_KernelQueryIdeal : Prop :=
  True

def algebraic_KernelQueryIdeal_ReferenceQueryIdeal [hKernelQueryIdeal : Cert.KernelQueryIdeal.Facts] [hReferenceQueryIdeal : Cert.ReferenceQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg)
    (m' : (ℓ : Loc Cert.ReferenceQueryIdeal.nD Cert.ReferenceQueryIdeal.τ Cert.ReferenceQueryIdeal.sig) → Buf (Elt Ideal) ℓ) (g' : Dev Cert.ReferenceQueryIdeal.nD → PrngReg), Pre_KernelQueryIdeal m →
    (∀ c : Dev Cert.KernelQueryIdeal.nD,
      m' ((c.tc : Thread Cert.ReferenceQueryIdeal.nD Cert.ReferenceQueryIdeal.τ).loc Cert.ReferenceQueryIdeal.main_arg0) = m ((c.tc : Thread Cert.KernelQueryIdeal.nD Cert.KernelQueryIdeal.τ).loc Cert.KernelQueryIdeal.main_arg0)
      ∧ m' ((c.tc : Thread Cert.ReferenceQueryIdeal.nD Cert.ReferenceQueryIdeal.τ).loc Cert.ReferenceQueryIdeal.main_arg1) = m ((c.tc : Thread Cert.KernelQueryIdeal.nD Cert.KernelQueryIdeal.τ).loc Cert.KernelQueryIdeal.main_arg1)) →
    ∃ (v0 : (c : Dev Cert.KernelQueryIdeal.nD) → Buf (Elt Ideal) ((c.tc : Thread Cert.KernelQueryIdeal.nD Cert.KernelQueryIdeal.τ).loc Cert.KernelQueryIdeal.main_v8)),
      θ_run (Cert.KernelQueryIdeal.defs (F := Ideal)) (onTc (τ := Cert.KernelQueryIdeal.τ) (Cert.KernelQueryIdeal.main (F := Ideal))) ⟨m, fun _ => 0, g⟩ (fun r => ∀ c : Dev Cert.KernelQueryIdeal.nD,
          r.2.mem ((c.tc : Thread Cert.KernelQueryIdeal.nD Cert.KernelQueryIdeal.τ).loc Cert.KernelQueryIdeal.main_v8) = v0 c
          ∧ r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
          ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1))
      ∧ θ_run (Cert.ReferenceQueryIdeal.defs (F := Ideal)) (onTc (τ := Cert.ReferenceQueryIdeal.τ) (Cert.ReferenceQueryIdeal.main (F := Ideal))) ⟨m', fun _ => 0, g'⟩ (fun r => ∀ c : Dev Cert.ReferenceQueryIdeal.nD,
          r.2.mem ((c.tc : Thread Cert.ReferenceQueryIdeal.nD Cert.ReferenceQueryIdeal.τ).loc Cert.ReferenceQueryIdeal.main_v8) = v0 c
          ∧ r.2.mem ((c.tc : Thread Cert.ReferenceQueryIdeal.nD Cert.ReferenceQueryIdeal.τ).loc Cert.ReferenceQueryIdeal.main_arg0) = m' ((c.tc : Thread Cert.ReferenceQueryIdeal.nD Cert.ReferenceQueryIdeal.τ).loc Cert.ReferenceQueryIdeal.main_arg0)
          ∧ r.2.mem ((c.tc : Thread Cert.ReferenceQueryIdeal.nD Cert.ReferenceQueryIdeal.τ).loc Cert.ReferenceQueryIdeal.main_arg1) = m' ((c.tc : Thread Cert.ReferenceQueryIdeal.nD Cert.ReferenceQueryIdeal.τ).loc Cert.ReferenceQueryIdeal.main_arg1))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)) →
    ∃ (v0 : (c : Dev Cert.KernelKvIdeal.nD) → Buf (Elt Ideal) ((c.tc : Thread Cert.KernelKvIdeal.nD Cert.KernelKvIdeal.τ).loc Cert.KernelKvIdeal.main_v2)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v2) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v4) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1))

def preserves_KernelInS_KernelInSIdeal : Prop :=
  True

def algebraic_KernelInSIdeal_ReferenceInSIdeal [hKernelInSIdeal : Cert.KernelInSIdeal.Facts] [hReferenceInSIdeal : Cert.ReferenceInSIdeal.Facts] : Prop :=
  ∀ (m : (ℓ : Loc Cert.KernelInSIdeal.nD Cert.KernelInSIdeal.τ Cert.KernelInSIdeal.sig) → Buf (Elt Ideal) ℓ) (g : Dev Cert.KernelInSIdeal.nD → PrngReg)
    (m' : (ℓ : Loc Cert.ReferenceInSIdeal.nD Cert.ReferenceInSIdeal.τ Cert.ReferenceInSIdeal.sig) → Buf (Elt Ideal) ℓ) (g' : Dev Cert.ReferenceInSIdeal.nD → PrngReg), Pre_KernelInSIdeal m →
    (∀ c : Dev Cert.KernelInSIdeal.nD,
      m' ((c.tc : Thread Cert.ReferenceInSIdeal.nD Cert.ReferenceInSIdeal.τ).loc Cert.ReferenceInSIdeal.main_arg0) = m ((c.tc : Thread Cert.KernelInSIdeal.nD Cert.KernelInSIdeal.τ).loc Cert.KernelInSIdeal.main_arg0)
      ∧ m' ((c.tc : Thread Cert.ReferenceInSIdeal.nD Cert.ReferenceInSIdeal.τ).loc Cert.ReferenceInSIdeal.main_arg1) = m ((c.tc : Thread Cert.KernelInSIdeal.nD Cert.KernelInSIdeal.τ).loc Cert.KernelInSIdeal.main_arg1)) →
    ∃ (v0 : (c : Dev Cert.KernelInSIdeal.nD) → Buf (Elt Ideal) ((c.tc : Thread Cert.KernelInSIdeal.nD Cert.KernelInSIdeal.τ).loc Cert.KernelInSIdeal.main_v2)),
      θ_run (Cert.KernelInSIdeal.defs (F := Ideal)) (onTc (τ := Cert.KernelInSIdeal.τ) (Cert.KernelInSIdeal.main (F := Ideal))) ⟨m, fun _ => 0, g⟩ (fun r => ∀ c : Dev Cert.KernelInSIdeal.nD,
          r.2.mem ((c.tc : Thread Cert.KernelInSIdeal.nD Cert.KernelInSIdeal.τ).loc Cert.KernelInSIdeal.main_v2) = v0 c
          ∧ r.2.mem ((c.tc : Thread Cert.KernelInSIdeal.nD Cert.KernelInSIdeal.τ).loc Cert.KernelInSIdeal.main_arg0) = m ((c.tc : Thread Cert.KernelInSIdeal.nD Cert.KernelInSIdeal.τ).loc Cert.KernelInSIdeal.main_arg0)
          ∧ r.2.mem ((c.tc : Thread Cert.KernelInSIdeal.nD Cert.KernelInSIdeal.τ).loc Cert.KernelInSIdeal.main_arg1) = m ((c.tc : Thread Cert.KernelInSIdeal.nD Cert.KernelInSIdeal.τ).loc Cert.KernelInSIdeal.main_arg1))
      ∧ θ_run (Cert.ReferenceInSIdeal.defs (F := Ideal)) (onTc (τ := Cert.ReferenceInSIdeal.τ) (Cert.ReferenceInSIdeal.main (F := Ideal))) ⟨m', fun _ => 0, g'⟩ (fun r => ∀ c : Dev Cert.ReferenceInSIdeal.nD,
          r.2.mem ((c.tc : Thread Cert.ReferenceInSIdeal.nD Cert.ReferenceInSIdeal.τ).loc Cert.ReferenceInSIdeal.main_v2) = v0 c
          ∧ r.2.mem ((c.tc : Thread Cert.ReferenceInSIdeal.nD Cert.ReferenceInSIdeal.τ).loc Cert.ReferenceInSIdeal.main_arg0) = m' ((c.tc : Thread Cert.ReferenceInSIdeal.nD Cert.ReferenceInSIdeal.τ).loc Cert.ReferenceInSIdeal.main_arg0)
          ∧ r.2.mem ((c.tc : Thread Cert.ReferenceInSIdeal.nD Cert.ReferenceInSIdeal.τ).loc Cert.ReferenceInSIdeal.main_arg1) = m' ((c.tc : Thread Cert.ReferenceInSIdeal.nD Cert.ReferenceInSIdeal.τ).loc Cert.ReferenceInSIdeal.main_arg1))

def preserves_KernelPleS_KernelPleSIdeal : Prop :=
  True

def algebraic_KernelPleSIdeal_ReferencePleSIdeal [hKernelPleSIdeal : Cert.KernelPleSIdeal.Facts] [hReferencePleSIdeal : Cert.ReferencePleSIdeal.Facts] : Prop :=
  ∀ (m : (ℓ : Loc Cert.KernelPleSIdeal.nD Cert.KernelPleSIdeal.τ Cert.KernelPleSIdeal.sig) → Buf (Elt Ideal) ℓ) (g : Dev Cert.KernelPleSIdeal.nD → PrngReg)
    (m' : (ℓ : Loc Cert.ReferencePleSIdeal.nD Cert.ReferencePleSIdeal.τ Cert.ReferencePleSIdeal.sig) → Buf (Elt Ideal) ℓ) (g' : Dev Cert.ReferencePleSIdeal.nD → PrngReg), Pre_KernelPleSIdeal m →
    (∀ c : Dev Cert.KernelPleSIdeal.nD,
      m' ((c.tc : Thread Cert.ReferencePleSIdeal.nD Cert.ReferencePleSIdeal.τ).loc Cert.ReferencePleSIdeal.main_arg0) = m ((c.tc : Thread Cert.KernelPleSIdeal.nD Cert.KernelPleSIdeal.τ).loc Cert.KernelPleSIdeal.main_arg0)
      ∧ m' ((c.tc : Thread Cert.ReferencePleSIdeal.nD Cert.ReferencePleSIdeal.τ).loc Cert.ReferencePleSIdeal.main_arg1) = m ((c.tc : Thread Cert.KernelPleSIdeal.nD Cert.KernelPleSIdeal.τ).loc Cert.KernelPleSIdeal.main_arg1)
      ∧ m' ((c.tc : Thread Cert.ReferencePleSIdeal.nD Cert.ReferencePleSIdeal.τ).loc Cert.ReferencePleSIdeal.main_arg2) = m ((c.tc : Thread Cert.KernelPleSIdeal.nD Cert.KernelPleSIdeal.τ).loc Cert.KernelPleSIdeal.main_arg2)
      ∧ m' ((c.tc : Thread Cert.ReferencePleSIdeal.nD Cert.ReferencePleSIdeal.τ).loc Cert.ReferencePleSIdeal.main_arg3) = m ((c.tc : Thread Cert.KernelPleSIdeal.nD Cert.KernelPleSIdeal.τ).loc Cert.KernelPleSIdeal.main_arg3)
      ∧ m' ((c.tc : Thread Cert.ReferencePleSIdeal.nD Cert.ReferencePleSIdeal.τ).loc Cert.ReferencePleSIdeal.main_arg4) = m ((c.tc : Thread Cert.KernelPleSIdeal.nD Cert.KernelPleSIdeal.τ).loc Cert.KernelPleSIdeal.main_arg4)
      ∧ m' ((c.tc : Thread Cert.ReferencePleSIdeal.nD Cert.ReferencePleSIdeal.τ).loc Cert.ReferencePleSIdeal.main_arg5) = m ((c.tc : Thread Cert.KernelPleSIdeal.nD Cert.KernelPleSIdeal.τ).loc Cert.KernelPleSIdeal.main_arg5)) →
    ∃ (v0 : (c : Dev Cert.KernelPleSIdeal.nD) → Buf (Elt Ideal) ((c.tc : Thread Cert.KernelPleSIdeal.nD Cert.KernelPleSIdeal.τ).loc Cert.KernelPleSIdeal.main_v4)),
      θ_run (Cert.KernelPleSIdeal.defs (F := Ideal)) (onTc (τ := Cert.KernelPleSIdeal.τ) (Cert.KernelPleSIdeal.main (F := Ideal))) ⟨m, fun _ => 0, g⟩ (fun r => ∀ c : Dev Cert.KernelPleSIdeal.nD,
          r.2.mem ((c.tc : Thread Cert.KernelPleSIdeal.nD Cert.KernelPleSIdeal.τ).loc Cert.KernelPleSIdeal.main_v4) = v0 c
          ∧ r.2.mem ((c.tc : Thread Cert.KernelPleSIdeal.nD Cert.KernelPleSIdeal.τ).loc Cert.KernelPleSIdeal.main_arg0) = m ((c.tc : Thread Cert.KernelPleSIdeal.nD Cert.KernelPleSIdeal.τ).loc Cert.KernelPleSIdeal.main_arg0)
          ∧ r.2.mem ((c.tc : Thread Cert.KernelPleSIdeal.nD Cert.KernelPleSIdeal.τ).loc Cert.KernelPleSIdeal.main_arg1) = m ((c.tc : Thread Cert.KernelPleSIdeal.nD Cert.KernelPleSIdeal.τ).loc Cert.KernelPleSIdeal.main_arg1)
          ∧ r.2.mem ((c.tc : Thread Cert.KernelPleSIdeal.nD Cert.KernelPleSIdeal.τ).loc Cert.KernelPleSIdeal.main_arg2) = m ((c.tc : Thread Cert.KernelPleSIdeal.nD Cert.KernelPleSIdeal.τ).loc Cert.KernelPleSIdeal.main_arg2)
          ∧ r.2.mem ((c.tc : Thread Cert.KernelPleSIdeal.nD Cert.KernelPleSIdeal.τ).loc Cert.KernelPleSIdeal.main_arg3) = m ((c.tc : Thread Cert.KernelPleSIdeal.nD Cert.KernelPleSIdeal.τ).loc Cert.KernelPleSIdeal.main_arg3)
          ∧ r.2.mem ((c.tc : Thread Cert.KernelPleSIdeal.nD Cert.KernelPleSIdeal.τ).loc Cert.KernelPleSIdeal.main_arg4) = m ((c.tc : Thread Cert.KernelPleSIdeal.nD Cert.KernelPleSIdeal.τ).loc Cert.KernelPleSIdeal.main_arg4)
          ∧ r.2.mem ((c.tc : Thread Cert.KernelPleSIdeal.nD Cert.KernelPleSIdeal.τ).loc Cert.KernelPleSIdeal.main_arg5) = m ((c.tc : Thread Cert.KernelPleSIdeal.nD Cert.KernelPleSIdeal.τ).loc Cert.KernelPleSIdeal.main_arg5))
      ∧ θ_run (Cert.ReferencePleSIdeal.defs (F := Ideal)) (onTc (τ := Cert.ReferencePleSIdeal.τ) (Cert.ReferencePleSIdeal.main (F := Ideal))) ⟨m', fun _ => 0, g'⟩ (fun r => ∀ c : Dev Cert.ReferencePleSIdeal.nD,
          r.2.mem ((c.tc : Thread Cert.ReferencePleSIdeal.nD Cert.ReferencePleSIdeal.τ).loc Cert.ReferencePleSIdeal.main_v40) = v0 c
          ∧ r.2.mem ((c.tc : Thread Cert.ReferencePleSIdeal.nD Cert.ReferencePleSIdeal.τ).loc Cert.ReferencePleSIdeal.main_arg0) = m' ((c.tc : Thread Cert.ReferencePleSIdeal.nD Cert.ReferencePleSIdeal.τ).loc Cert.ReferencePleSIdeal.main_arg0)
          ∧ r.2.mem ((c.tc : Thread Cert.ReferencePleSIdeal.nD Cert.ReferencePleSIdeal.τ).loc Cert.ReferencePleSIdeal.main_arg1) = m' ((c.tc : Thread Cert.ReferencePleSIdeal.nD Cert.ReferencePleSIdeal.τ).loc Cert.ReferencePleSIdeal.main_arg1)
          ∧ r.2.mem ((c.tc : Thread Cert.ReferencePleSIdeal.nD Cert.ReferencePleSIdeal.τ).loc Cert.ReferencePleSIdeal.main_arg2) = m' ((c.tc : Thread Cert.ReferencePleSIdeal.nD Cert.ReferencePleSIdeal.τ).loc Cert.ReferencePleSIdeal.main_arg2)
          ∧ r.2.mem ((c.tc : Thread Cert.ReferencePleSIdeal.nD Cert.ReferencePleSIdeal.τ).loc Cert.ReferencePleSIdeal.main_arg3) = m' ((c.tc : Thread Cert.ReferencePleSIdeal.nD Cert.ReferencePleSIdeal.τ).loc Cert.ReferencePleSIdeal.main_arg3)
          ∧ r.2.mem ((c.tc : Thread Cert.ReferencePleSIdeal.nD Cert.ReferencePleSIdeal.τ).loc Cert.ReferencePleSIdeal.main_arg4) = m' ((c.tc : Thread Cert.ReferencePleSIdeal.nD Cert.ReferencePleSIdeal.τ).loc Cert.ReferencePleSIdeal.main_arg4)
          ∧ r.2.mem ((c.tc : Thread Cert.ReferencePleSIdeal.nD Cert.ReferencePleSIdeal.τ).loc Cert.ReferencePleSIdeal.main_arg5) = m' ((c.tc : Thread Cert.ReferencePleSIdeal.nD Cert.ReferencePleSIdeal.τ).loc Cert.ReferencePleSIdeal.main_arg5))

def preserves_KernelPrepS_KernelPrepSIdeal : Prop :=
  True

def algebraic_KernelPrepSIdeal_ReferencePrepSIdeal [hKernelPrepSIdeal : Cert.KernelPrepSIdeal.Facts] [hReferencePrepSIdeal : Cert.ReferencePrepSIdeal.Facts] : Prop :=
  ∀ (m : (ℓ : Loc Cert.KernelPrepSIdeal.nD Cert.KernelPrepSIdeal.τ Cert.KernelPrepSIdeal.sig) → Buf (Elt Ideal) ℓ) (g : Dev Cert.KernelPrepSIdeal.nD → PrngReg)
    (m' : (ℓ : Loc Cert.ReferencePrepSIdeal.nD Cert.ReferencePrepSIdeal.τ Cert.ReferencePrepSIdeal.sig) → Buf (Elt Ideal) ℓ) (g' : Dev Cert.ReferencePrepSIdeal.nD → PrngReg), Pre_KernelPrepSIdeal m →
    (∀ c : Dev Cert.KernelPrepSIdeal.nD,
      m' ((c.tc : Thread Cert.ReferencePrepSIdeal.nD Cert.ReferencePrepSIdeal.τ).loc Cert.ReferencePrepSIdeal.main_arg0) = m ((c.tc : Thread Cert.KernelPrepSIdeal.nD Cert.KernelPrepSIdeal.τ).loc Cert.KernelPrepSIdeal.main_arg0)
      ∧ m' ((c.tc : Thread Cert.ReferencePrepSIdeal.nD Cert.ReferencePrepSIdeal.τ).loc Cert.ReferencePrepSIdeal.main_arg1) = m ((c.tc : Thread Cert.KernelPrepSIdeal.nD Cert.KernelPrepSIdeal.τ).loc Cert.KernelPrepSIdeal.main_arg1)
      ∧ m' ((c.tc : Thread Cert.ReferencePrepSIdeal.nD Cert.ReferencePrepSIdeal.τ).loc Cert.ReferencePrepSIdeal.main_arg2) = m ((c.tc : Thread Cert.KernelPrepSIdeal.nD Cert.KernelPrepSIdeal.τ).loc Cert.KernelPrepSIdeal.main_arg2)) →
    ∃ (v0 : (c : Dev Cert.KernelPrepSIdeal.nD) → Buf (Elt Ideal) ((c.tc : Thread Cert.KernelPrepSIdeal.nD Cert.KernelPrepSIdeal.τ).loc Cert.KernelPrepSIdeal.main_v33_0)) (v1 : (c : Dev Cert.KernelPrepSIdeal.nD) → Buf (Elt Ideal) ((c.tc : Thread Cert.KernelPrepSIdeal.nD Cert.KernelPrepSIdeal.τ).loc Cert.KernelPrepSIdeal.main_v33_1)) (v2 : (c : Dev Cert.KernelPrepSIdeal.nD) → Buf (Elt Ideal) ((c.tc : Thread Cert.KernelPrepSIdeal.nD Cert.KernelPrepSIdeal.τ).loc Cert.KernelPrepSIdeal.main_v33_2)) (v3 : (c : Dev Cert.KernelPrepSIdeal.nD) → Buf (Elt Ideal) ((c.tc : Thread Cert.KernelPrepSIdeal.nD Cert.KernelPrepSIdeal.τ).loc Cert.KernelPrepSIdeal.main_v33_3)),
      θ_run (Cert.KernelPrepSIdeal.defs (F := Ideal)) (onTc (τ := Cert.KernelPrepSIdeal.τ) (Cert.KernelPrepSIdeal.main (F := Ideal))) ⟨m, fun _ => 0, g⟩ (fun r => ∀ c : Dev Cert.KernelPrepSIdeal.nD,
          r.2.mem ((c.tc : Thread Cert.KernelPrepSIdeal.nD Cert.KernelPrepSIdeal.τ).loc Cert.KernelPrepSIdeal.main_v33_0) = v0 c
          ∧ r.2.mem ((c.tc : Thread Cert.KernelPrepSIdeal.nD Cert.KernelPrepSIdeal.τ).loc Cert.KernelPrepSIdeal.main_v33_1) = v1 c
          ∧ r.2.mem ((c.tc : Thread Cert.KernelPrepSIdeal.nD Cert.KernelPrepSIdeal.τ).loc Cert.KernelPrepSIdeal.main_v33_2) = v2 c
          ∧ r.2.mem ((c.tc : Thread Cert.KernelPrepSIdeal.nD Cert.KernelPrepSIdeal.τ).loc Cert.KernelPrepSIdeal.main_v33_3) = v3 c
          ∧ r.2.mem ((c.tc : Thread Cert.KernelPrepSIdeal.nD Cert.KernelPrepSIdeal.τ).loc Cert.KernelPrepSIdeal.main_arg0) = m ((c.tc : Thread Cert.KernelPrepSIdeal.nD Cert.KernelPrepSIdeal.τ).loc Cert.KernelPrepSIdeal.main_arg0)
          ∧ r.2.mem ((c.tc : Thread Cert.KernelPrepSIdeal.nD Cert.KernelPrepSIdeal.τ).loc Cert.KernelPrepSIdeal.main_arg1) = m ((c.tc : Thread Cert.KernelPrepSIdeal.nD Cert.KernelPrepSIdeal.τ).loc Cert.KernelPrepSIdeal.main_arg1)
          ∧ r.2.mem ((c.tc : Thread Cert.KernelPrepSIdeal.nD Cert.KernelPrepSIdeal.τ).loc Cert.KernelPrepSIdeal.main_arg2) = m ((c.tc : Thread Cert.KernelPrepSIdeal.nD Cert.KernelPrepSIdeal.τ).loc Cert.KernelPrepSIdeal.main_arg2))
      ∧ θ_run (Cert.ReferencePrepSIdeal.defs (F := Ideal)) (onTc (τ := Cert.ReferencePrepSIdeal.τ) (Cert.ReferencePrepSIdeal.main (F := Ideal))) ⟨m', fun _ => 0, g'⟩ (fun r => ∀ c : Dev Cert.ReferencePrepSIdeal.nD,
          r.2.mem ((c.tc : Thread Cert.ReferencePrepSIdeal.nD Cert.ReferencePrepSIdeal.τ).loc Cert.ReferencePrepSIdeal.main_v70) = v0 c
          ∧ r.2.mem ((c.tc : Thread Cert.ReferencePrepSIdeal.nD Cert.ReferencePrepSIdeal.τ).loc Cert.ReferencePrepSIdeal.main_v72) = v1 c
          ∧ r.2.mem ((c.tc : Thread Cert.ReferencePrepSIdeal.nD Cert.ReferencePrepSIdeal.τ).loc Cert.ReferencePrepSIdeal.main_v73) = v2 c
          ∧ r.2.mem ((c.tc : Thread Cert.ReferencePrepSIdeal.nD Cert.ReferencePrepSIdeal.τ).loc Cert.ReferencePrepSIdeal.main_v75) = v3 c
          ∧ r.2.mem ((c.tc : Thread Cert.ReferencePrepSIdeal.nD Cert.ReferencePrepSIdeal.τ).loc Cert.ReferencePrepSIdeal.main_arg0) = m' ((c.tc : Thread Cert.ReferencePrepSIdeal.nD Cert.ReferencePrepSIdeal.τ).loc Cert.ReferencePrepSIdeal.main_arg0)
          ∧ r.2.mem ((c.tc : Thread Cert.ReferencePrepSIdeal.nD Cert.ReferencePrepSIdeal.τ).loc Cert.ReferencePrepSIdeal.main_arg1) = m' ((c.tc : Thread Cert.ReferencePrepSIdeal.nD Cert.ReferencePrepSIdeal.τ).loc Cert.ReferencePrepSIdeal.main_arg1)
          ∧ r.2.mem ((c.tc : Thread Cert.ReferencePrepSIdeal.nD Cert.ReferencePrepSIdeal.τ).loc Cert.ReferencePrepSIdeal.main_arg2) = m' ((c.tc : Thread Cert.ReferencePrepSIdeal.nD Cert.ReferencePrepSIdeal.τ).loc Cert.ReferencePrepSIdeal.main_arg2))

def preserves_KernelCombine_KernelCombineIdeal : Prop :=
  True

def algebraic_KernelCombineIdeal_ReferenceCombineIdeal [hKernelCombineIdeal : Cert.KernelCombineIdeal.Facts] [hReferenceCombineIdeal : Cert.ReferenceCombineIdeal.Facts] : Prop :=
  ∀ (m : (ℓ : Loc Cert.KernelCombineIdeal.nD Cert.KernelCombineIdeal.τ Cert.KernelCombineIdeal.sig) → Buf (Elt Ideal) ℓ) (g : Dev Cert.KernelCombineIdeal.nD → PrngReg)
    (m' : (ℓ : Loc Cert.ReferenceCombineIdeal.nD Cert.ReferenceCombineIdeal.τ Cert.ReferenceCombineIdeal.sig) → Buf (Elt Ideal) ℓ) (g' : Dev Cert.ReferenceCombineIdeal.nD → PrngReg), Pre_KernelCombineIdeal m →
    (∀ c : Dev Cert.KernelCombineIdeal.nD,
      m' ((c.tc : Thread Cert.ReferenceCombineIdeal.nD Cert.ReferenceCombineIdeal.τ).loc Cert.ReferenceCombineIdeal.main_arg0) = m ((c.tc : Thread Cert.KernelCombineIdeal.nD Cert.KernelCombineIdeal.τ).loc Cert.KernelCombineIdeal.main_arg0)
      ∧ m' ((c.tc : Thread Cert.ReferenceCombineIdeal.nD Cert.ReferenceCombineIdeal.τ).loc Cert.ReferenceCombineIdeal.main_arg1) = m ((c.tc : Thread Cert.KernelCombineIdeal.nD Cert.KernelCombineIdeal.τ).loc Cert.KernelCombineIdeal.main_arg1)
      ∧ m' ((c.tc : Thread Cert.ReferenceCombineIdeal.nD Cert.ReferenceCombineIdeal.τ).loc Cert.ReferenceCombineIdeal.main_arg2) = m ((c.tc : Thread Cert.KernelCombineIdeal.nD Cert.KernelCombineIdeal.τ).loc Cert.KernelCombineIdeal.main_arg2)
      ∧ m' ((c.tc : Thread Cert.ReferenceCombineIdeal.nD Cert.ReferenceCombineIdeal.τ).loc Cert.ReferenceCombineIdeal.main_arg3) = m ((c.tc : Thread Cert.KernelCombineIdeal.nD Cert.KernelCombineIdeal.τ).loc Cert.KernelCombineIdeal.main_arg3)) →
    ∃ (v0 : (c : Dev Cert.KernelCombineIdeal.nD) → Buf (Elt Ideal) ((c.tc : Thread Cert.KernelCombineIdeal.nD Cert.KernelCombineIdeal.τ).loc Cert.KernelCombineIdeal.main_v6)),
      θ_run (Cert.KernelCombineIdeal.defs (F := Ideal)) (onTc (τ := Cert.KernelCombineIdeal.τ) (Cert.KernelCombineIdeal.main (F := Ideal))) ⟨m, fun _ => 0, g⟩ (fun r => ∀ c : Dev Cert.KernelCombineIdeal.nD,
          r.2.mem ((c.tc : Thread Cert.KernelCombineIdeal.nD Cert.KernelCombineIdeal.τ).loc Cert.KernelCombineIdeal.main_v6) = v0 c
          ∧ r.2.mem ((c.tc : Thread Cert.KernelCombineIdeal.nD Cert.KernelCombineIdeal.τ).loc Cert.KernelCombineIdeal.main_arg0) = m ((c.tc : Thread Cert.KernelCombineIdeal.nD Cert.KernelCombineIdeal.τ).loc Cert.KernelCombineIdeal.main_arg0)
          ∧ r.2.mem ((c.tc : Thread Cert.KernelCombineIdeal.nD Cert.KernelCombineIdeal.τ).loc Cert.KernelCombineIdeal.main_arg1) = m ((c.tc : Thread Cert.KernelCombineIdeal.nD Cert.KernelCombineIdeal.τ).loc Cert.KernelCombineIdeal.main_arg1)
          ∧ r.2.mem ((c.tc : Thread Cert.KernelCombineIdeal.nD Cert.KernelCombineIdeal.τ).loc Cert.KernelCombineIdeal.main_arg2) = m ((c.tc : Thread Cert.KernelCombineIdeal.nD Cert.KernelCombineIdeal.τ).loc Cert.KernelCombineIdeal.main_arg2)
          ∧ r.2.mem ((c.tc : Thread Cert.KernelCombineIdeal.nD Cert.KernelCombineIdeal.τ).loc Cert.KernelCombineIdeal.main_arg3) = m ((c.tc : Thread Cert.KernelCombineIdeal.nD Cert.KernelCombineIdeal.τ).loc Cert.KernelCombineIdeal.main_arg3))
      ∧ θ_run (Cert.ReferenceCombineIdeal.defs (F := Ideal)) (onTc (τ := Cert.ReferenceCombineIdeal.τ) (Cert.ReferenceCombineIdeal.main (F := Ideal))) ⟨m', fun _ => 0, g'⟩ (fun r => ∀ c : Dev Cert.ReferenceCombineIdeal.nD,
          r.2.mem ((c.tc : Thread Cert.ReferenceCombineIdeal.nD Cert.ReferenceCombineIdeal.τ).loc Cert.ReferenceCombineIdeal.main_v25) = v0 c
          ∧ r.2.mem ((c.tc : Thread Cert.ReferenceCombineIdeal.nD Cert.ReferenceCombineIdeal.τ).loc Cert.ReferenceCombineIdeal.main_arg0) = m' ((c.tc : Thread Cert.ReferenceCombineIdeal.nD Cert.ReferenceCombineIdeal.τ).loc Cert.ReferenceCombineIdeal.main_arg0)
          ∧ r.2.mem ((c.tc : Thread Cert.ReferenceCombineIdeal.nD Cert.ReferenceCombineIdeal.τ).loc Cert.ReferenceCombineIdeal.main_arg1) = m' ((c.tc : Thread Cert.ReferenceCombineIdeal.nD Cert.ReferenceCombineIdeal.τ).loc Cert.ReferenceCombineIdeal.main_arg1)
          ∧ r.2.mem ((c.tc : Thread Cert.ReferenceCombineIdeal.nD Cert.ReferenceCombineIdeal.τ).loc Cert.ReferenceCombineIdeal.main_arg2) = m' ((c.tc : Thread Cert.ReferenceCombineIdeal.nD Cert.ReferenceCombineIdeal.τ).loc Cert.ReferenceCombineIdeal.main_arg2)
          ∧ r.2.mem ((c.tc : Thread Cert.ReferenceCombineIdeal.nD Cert.ReferenceCombineIdeal.τ).loc Cert.ReferenceCombineIdeal.main_arg3) = m' ((c.tc : Thread Cert.ReferenceCombineIdeal.nD Cert.ReferenceCombineIdeal.τ).loc Cert.ReferenceCombineIdeal.main_arg3))

def preserves_KernelAbsorbQ_KernelAbsorbQIdeal : Prop :=
  True

def algebraic_KernelAbsorbQIdeal_ReferenceAbsorbQIdeal [hKernelAbsorbQIdeal : Cert.KernelAbsorbQIdeal.Facts] [hReferenceAbsorbQIdeal : Cert.ReferenceAbsorbQIdeal.Facts] : Prop :=
  ∀ (m : (ℓ : Loc Cert.KernelAbsorbQIdeal.nD Cert.KernelAbsorbQIdeal.τ Cert.KernelAbsorbQIdeal.sig) → Buf (Elt Ideal) ℓ) (g : Dev Cert.KernelAbsorbQIdeal.nD → PrngReg)
    (m' : (ℓ : Loc Cert.ReferenceAbsorbQIdeal.nD Cert.ReferenceAbsorbQIdeal.τ Cert.ReferenceAbsorbQIdeal.sig) → Buf (Elt Ideal) ℓ) (g' : Dev Cert.ReferenceAbsorbQIdeal.nD → PrngReg), Pre_KernelAbsorbQIdeal m →
    (∀ c : Dev Cert.KernelAbsorbQIdeal.nD,
      m' ((c.tc : Thread Cert.ReferenceAbsorbQIdeal.nD Cert.ReferenceAbsorbQIdeal.τ).loc Cert.ReferenceAbsorbQIdeal.main_arg0) = m ((c.tc : Thread Cert.KernelAbsorbQIdeal.nD Cert.KernelAbsorbQIdeal.τ).loc Cert.KernelAbsorbQIdeal.main_arg0)
      ∧ m' ((c.tc : Thread Cert.ReferenceAbsorbQIdeal.nD Cert.ReferenceAbsorbQIdeal.τ).loc Cert.ReferenceAbsorbQIdeal.main_arg1) = m ((c.tc : Thread Cert.KernelAbsorbQIdeal.nD Cert.KernelAbsorbQIdeal.τ).loc Cert.KernelAbsorbQIdeal.main_arg1)) →
    ∃ (v0 : (c : Dev Cert.KernelAbsorbQIdeal.nD) → Buf (Elt Ideal) ((c.tc : Thread Cert.KernelAbsorbQIdeal.nD Cert.KernelAbsorbQIdeal.τ).loc Cert.KernelAbsorbQIdeal.main_v2)),
      θ_run (Cert.KernelAbsorbQIdeal.defs (F := Ideal)) (onTc (τ := Cert.KernelAbsorbQIdeal.τ) (Cert.KernelAbsorbQIdeal.main (F := Ideal))) ⟨m, fun _ => 0, g⟩ (fun r => ∀ c : Dev Cert.KernelAbsorbQIdeal.nD,
          r.2.mem ((c.tc : Thread Cert.KernelAbsorbQIdeal.nD Cert.KernelAbsorbQIdeal.τ).loc Cert.KernelAbsorbQIdeal.main_v2) = v0 c
          ∧ r.2.mem ((c.tc : Thread Cert.KernelAbsorbQIdeal.nD Cert.KernelAbsorbQIdeal.τ).loc Cert.KernelAbsorbQIdeal.main_arg0) = m ((c.tc : Thread Cert.KernelAbsorbQIdeal.nD Cert.KernelAbsorbQIdeal.τ).loc Cert.KernelAbsorbQIdeal.main_arg0)
          ∧ r.2.mem ((c.tc : Thread Cert.KernelAbsorbQIdeal.nD Cert.KernelAbsorbQIdeal.τ).loc Cert.KernelAbsorbQIdeal.main_arg1) = m ((c.tc : Thread Cert.KernelAbsorbQIdeal.nD Cert.KernelAbsorbQIdeal.τ).loc Cert.KernelAbsorbQIdeal.main_arg1))
      ∧ θ_run (Cert.ReferenceAbsorbQIdeal.defs (F := Ideal)) (onTc (τ := Cert.ReferenceAbsorbQIdeal.τ) (Cert.ReferenceAbsorbQIdeal.main (F := Ideal))) ⟨m', fun _ => 0, g'⟩ (fun r => ∀ c : Dev Cert.ReferenceAbsorbQIdeal.nD,
          r.2.mem ((c.tc : Thread Cert.ReferenceAbsorbQIdeal.nD Cert.ReferenceAbsorbQIdeal.τ).loc Cert.ReferenceAbsorbQIdeal.main_v8) = v0 c
          ∧ r.2.mem ((c.tc : Thread Cert.ReferenceAbsorbQIdeal.nD Cert.ReferenceAbsorbQIdeal.τ).loc Cert.ReferenceAbsorbQIdeal.main_arg0) = m' ((c.tc : Thread Cert.ReferenceAbsorbQIdeal.nD Cert.ReferenceAbsorbQIdeal.τ).loc Cert.ReferenceAbsorbQIdeal.main_arg0)
          ∧ r.2.mem ((c.tc : Thread Cert.ReferenceAbsorbQIdeal.nD Cert.ReferenceAbsorbQIdeal.τ).loc Cert.ReferenceAbsorbQIdeal.main_arg1) = m' ((c.tc : Thread Cert.ReferenceAbsorbQIdeal.nD Cert.ReferenceAbsorbQIdeal.τ).loc Cert.ReferenceAbsorbQIdeal.main_arg1))

def preserves_KernelAbsorbO_KernelAbsorbOIdeal : Prop :=
  True

def algebraic_KernelAbsorbOIdeal_ReferenceAbsorbOIdeal [hKernelAbsorbOIdeal : Cert.KernelAbsorbOIdeal.Facts] [hReferenceAbsorbOIdeal : Cert.ReferenceAbsorbOIdeal.Facts] : Prop :=
  ∀ (m : (ℓ : Loc Cert.KernelAbsorbOIdeal.nD Cert.KernelAbsorbOIdeal.τ Cert.KernelAbsorbOIdeal.sig) → Buf (Elt Ideal) ℓ) (g : Dev Cert.KernelAbsorbOIdeal.nD → PrngReg)
    (m' : (ℓ : Loc Cert.ReferenceAbsorbOIdeal.nD Cert.ReferenceAbsorbOIdeal.τ Cert.ReferenceAbsorbOIdeal.sig) → Buf (Elt Ideal) ℓ) (g' : Dev Cert.ReferenceAbsorbOIdeal.nD → PrngReg), Pre_KernelAbsorbOIdeal m →
    (∀ c : Dev Cert.KernelAbsorbOIdeal.nD,
      m' ((c.tc : Thread Cert.ReferenceAbsorbOIdeal.nD Cert.ReferenceAbsorbOIdeal.τ).loc Cert.ReferenceAbsorbOIdeal.main_arg0) = m ((c.tc : Thread Cert.KernelAbsorbOIdeal.nD Cert.KernelAbsorbOIdeal.τ).loc Cert.KernelAbsorbOIdeal.main_arg0)
      ∧ m' ((c.tc : Thread Cert.ReferenceAbsorbOIdeal.nD Cert.ReferenceAbsorbOIdeal.τ).loc Cert.ReferenceAbsorbOIdeal.main_arg1) = m ((c.tc : Thread Cert.KernelAbsorbOIdeal.nD Cert.KernelAbsorbOIdeal.τ).loc Cert.KernelAbsorbOIdeal.main_arg1)) →
    ∃ (v0 : (c : Dev Cert.KernelAbsorbOIdeal.nD) → Buf (Elt Ideal) ((c.tc : Thread Cert.KernelAbsorbOIdeal.nD Cert.KernelAbsorbOIdeal.τ).loc Cert.KernelAbsorbOIdeal.main_v3)),
      θ_run (Cert.KernelAbsorbOIdeal.defs (F := Ideal)) (onTc (τ := Cert.KernelAbsorbOIdeal.τ) (Cert.KernelAbsorbOIdeal.main (F := Ideal))) ⟨m, fun _ => 0, g⟩ (fun r => ∀ c : Dev Cert.KernelAbsorbOIdeal.nD,
          r.2.mem ((c.tc : Thread Cert.KernelAbsorbOIdeal.nD Cert.KernelAbsorbOIdeal.τ).loc Cert.KernelAbsorbOIdeal.main_v3) = v0 c
          ∧ r.2.mem ((c.tc : Thread Cert.KernelAbsorbOIdeal.nD Cert.KernelAbsorbOIdeal.τ).loc Cert.KernelAbsorbOIdeal.main_arg0) = m ((c.tc : Thread Cert.KernelAbsorbOIdeal.nD Cert.KernelAbsorbOIdeal.τ).loc Cert.KernelAbsorbOIdeal.main_arg0)
          ∧ r.2.mem ((c.tc : Thread Cert.KernelAbsorbOIdeal.nD Cert.KernelAbsorbOIdeal.τ).loc Cert.KernelAbsorbOIdeal.main_arg1) = m ((c.tc : Thread Cert.KernelAbsorbOIdeal.nD Cert.KernelAbsorbOIdeal.τ).loc Cert.KernelAbsorbOIdeal.main_arg1))
      ∧ θ_run (Cert.ReferenceAbsorbOIdeal.defs (F := Ideal)) (onTc (τ := Cert.ReferenceAbsorbOIdeal.τ) (Cert.ReferenceAbsorbOIdeal.main (F := Ideal))) ⟨m', fun _ => 0, g'⟩ (fun r => ∀ c : Dev Cert.ReferenceAbsorbOIdeal.nD,
          r.2.mem ((c.tc : Thread Cert.ReferenceAbsorbOIdeal.nD Cert.ReferenceAbsorbOIdeal.τ).loc Cert.ReferenceAbsorbOIdeal.main_v6) = v0 c
          ∧ r.2.mem ((c.tc : Thread Cert.ReferenceAbsorbOIdeal.nD Cert.ReferenceAbsorbOIdeal.τ).loc Cert.ReferenceAbsorbOIdeal.main_arg0) = m' ((c.tc : Thread Cert.ReferenceAbsorbOIdeal.nD Cert.ReferenceAbsorbOIdeal.τ).loc Cert.ReferenceAbsorbOIdeal.main_arg0)
          ∧ r.2.mem ((c.tc : Thread Cert.ReferenceAbsorbOIdeal.nD Cert.ReferenceAbsorbOIdeal.τ).loc Cert.ReferenceAbsorbOIdeal.main_arg1) = m' ((c.tc : Thread Cert.ReferenceAbsorbOIdeal.nD Cert.ReferenceAbsorbOIdeal.τ).loc Cert.ReferenceAbsorbOIdeal.main_arg1))

def Claim : Prop :=
  ∃ (hKernel : Cert.Kernel.Facts) (hKernelIdeal : Cert.KernelIdeal.Facts) (hReferenceIdeal : Cert.ReferenceIdeal.Facts) (hKernelSwiglu : Cert.KernelSwiglu.Facts) (hKernelSwigluIdeal : Cert.KernelSwigluIdeal.Facts) (hReferenceSwigluIdeal : Cert.ReferenceSwigluIdeal.Facts) (hKernelDown : Cert.KernelDown.Facts) (hKernelDownIdeal : Cert.KernelDownIdeal.Facts) (hReferenceDownIdeal : Cert.ReferenceDownIdeal.Facts) (hKernelPle : Cert.KernelPle.Facts) (hKernelPleIdeal : Cert.KernelPleIdeal.Facts) (hReferencePleIdeal : Cert.ReferencePleIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelPrep : Cert.KernelPrep.Facts) (hKernelPrepIdeal : Cert.KernelPrepIdeal.Facts) (hReferencePrepIdeal : Cert.ReferencePrepIdeal.Facts) (hKernelRope : Cert.KernelRope.Facts) (hKernelRopeIdeal : Cert.KernelRopeIdeal.Facts) (hReferenceRopeIdeal : Cert.ReferenceRopeIdeal.Facts) (hKernelMlaIn : Cert.KernelMlaIn.Facts) (hKernelMlaInIdeal : Cert.KernelMlaInIdeal.Facts) (hReferenceMlaInIdeal : Cert.ReferenceMlaInIdeal.Facts) (hKernelQuery : Cert.KernelQuery.Facts) (hKernelQueryIdeal : Cert.KernelQueryIdeal.Facts) (hReferenceQueryIdeal : Cert.ReferenceQueryIdeal.Facts) (hKernelKv : Cert.KernelKv.Facts) (hKernelKvIdeal : Cert.KernelKvIdeal.Facts) (hReferenceKvIdeal : Cert.ReferenceKvIdeal.Facts) (hKernelInS : Cert.KernelInS.Facts) (hKernelInSIdeal : Cert.KernelInSIdeal.Facts) (hReferenceInSIdeal : Cert.ReferenceInSIdeal.Facts) (hKernelPleS : Cert.KernelPleS.Facts) (hKernelPleSIdeal : Cert.KernelPleSIdeal.Facts) (hReferencePleSIdeal : Cert.ReferencePleSIdeal.Facts) (hKernelPrepS : Cert.KernelPrepS.Facts) (hKernelPrepSIdeal : Cert.KernelPrepSIdeal.Facts) (hReferencePrepSIdeal : Cert.ReferencePrepSIdeal.Facts) (hKernelCombine : Cert.KernelCombine.Facts) (hKernelCombineIdeal : Cert.KernelCombineIdeal.Facts) (hReferenceCombineIdeal : Cert.ReferenceCombineIdeal.Facts) (hKernelAbsorbQ : Cert.KernelAbsorbQ.Facts) (hKernelAbsorbQIdeal : Cert.KernelAbsorbQIdeal.Facts) (hReferenceAbsorbQIdeal : Cert.ReferenceAbsorbQIdeal.Facts) (hKernelAbsorbO : Cert.KernelAbsorbO.Facts) (hKernelAbsorbOIdeal : Cert.KernelAbsorbOIdeal.Facts) (hReferenceAbsorbOIdeal : Cert.ReferenceAbsorbOIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelSwiglu (hKernelSwiglu := hKernelSwiglu)
    ∧ quiescent_KernelSwigluIdeal (hKernelSwigluIdeal := hKernelSwigluIdeal)
    ∧ quiescent_ReferenceSwigluIdeal (hReferenceSwigluIdeal := hReferenceSwigluIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelPrep (hKernelPrep := hKernelPrep)
    ∧ quiescent_KernelPrepIdeal (hKernelPrepIdeal := hKernelPrepIdeal)
    ∧ quiescent_ReferencePrepIdeal (hReferencePrepIdeal := hReferencePrepIdeal)
    ∧ quiescent_KernelRope (hKernelRope := hKernelRope)
    ∧ quiescent_KernelRopeIdeal (hKernelRopeIdeal := hKernelRopeIdeal)
    ∧ quiescent_ReferenceRopeIdeal (hReferenceRopeIdeal := hReferenceRopeIdeal)
    ∧ quiescent_KernelMlaIn (hKernelMlaIn := hKernelMlaIn)
    ∧ quiescent_KernelMlaInIdeal (hKernelMlaInIdeal := hKernelMlaInIdeal)
    ∧ quiescent_ReferenceMlaInIdeal (hReferenceMlaInIdeal := hReferenceMlaInIdeal)
    ∧ quiescent_KernelQuery (hKernelQuery := hKernelQuery)
    ∧ quiescent_KernelQueryIdeal (hKernelQueryIdeal := hKernelQueryIdeal)
    ∧ quiescent_ReferenceQueryIdeal (hReferenceQueryIdeal := hReferenceQueryIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelInS (hKernelInS := hKernelInS)
    ∧ quiescent_KernelInSIdeal (hKernelInSIdeal := hKernelInSIdeal)
    ∧ quiescent_ReferenceInSIdeal (hReferenceInSIdeal := hReferenceInSIdeal)
    ∧ quiescent_KernelPleS (hKernelPleS := hKernelPleS)
    ∧ quiescent_KernelPleSIdeal (hKernelPleSIdeal := hKernelPleSIdeal)
    ∧ quiescent_ReferencePleSIdeal (hReferencePleSIdeal := hReferencePleSIdeal)
    ∧ quiescent_KernelPrepS (hKernelPrepS := hKernelPrepS)
    ∧ quiescent_KernelPrepSIdeal (hKernelPrepSIdeal := hKernelPrepSIdeal)
    ∧ quiescent_ReferencePrepSIdeal (hReferencePrepSIdeal := hReferencePrepSIdeal)
    ∧ quiescent_KernelCombine (hKernelCombine := hKernelCombine)
    ∧ quiescent_KernelCombineIdeal (hKernelCombineIdeal := hKernelCombineIdeal)
    ∧ quiescent_ReferenceCombineIdeal (hReferenceCombineIdeal := hReferenceCombineIdeal)
    ∧ quiescent_KernelAbsorbQ (hKernelAbsorbQ := hKernelAbsorbQ)
    ∧ quiescent_KernelAbsorbQIdeal (hKernelAbsorbQIdeal := hKernelAbsorbQIdeal)
    ∧ quiescent_ReferenceAbsorbQIdeal (hReferenceAbsorbQIdeal := hReferenceAbsorbQIdeal)
    ∧ quiescent_KernelAbsorbO (hKernelAbsorbO := hKernelAbsorbO)
    ∧ quiescent_KernelAbsorbOIdeal (hKernelAbsorbOIdeal := hKernelAbsorbOIdeal)
    ∧ quiescent_ReferenceAbsorbOIdeal (hReferenceAbsorbOIdeal := hReferenceAbsorbOIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelSwiglu_KernelSwigluIdeal
    ∧ algebraic_KernelSwigluIdeal_ReferenceSwigluIdeal (hKernelSwigluIdeal := hKernelSwigluIdeal) (hReferenceSwigluIdeal := hReferenceSwigluIdeal)
    ∧ preserves_KernelDown_KernelDownIdeal
    ∧ algebraic_KernelDownIdeal_ReferenceDownIdeal (hKernelDownIdeal := hKernelDownIdeal) (hReferenceDownIdeal := hReferenceDownIdeal)
    ∧ preserves_KernelPle_KernelPleIdeal
    ∧ algebraic_KernelPleIdeal_ReferencePleIdeal (hKernelPleIdeal := hKernelPleIdeal) (hReferencePleIdeal := hReferencePleIdeal)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelPrep_KernelPrepIdeal
    ∧ algebraic_KernelPrepIdeal_ReferencePrepIdeal (hKernelPrepIdeal := hKernelPrepIdeal) (hReferencePrepIdeal := hReferencePrepIdeal)
    ∧ preserves_KernelRope_KernelRopeIdeal
    ∧ algebraic_KernelRopeIdeal_ReferenceRopeIdeal (hKernelRopeIdeal := hKernelRopeIdeal) (hReferenceRopeIdeal := hReferenceRopeIdeal)
    ∧ preserves_KernelMlaIn_KernelMlaInIdeal
    ∧ algebraic_KernelMlaInIdeal_ReferenceMlaInIdeal (hKernelMlaInIdeal := hKernelMlaInIdeal) (hReferenceMlaInIdeal := hReferenceMlaInIdeal)
    ∧ preserves_KernelQuery_KernelQueryIdeal
    ∧ algebraic_KernelQueryIdeal_ReferenceQueryIdeal (hKernelQueryIdeal := hKernelQueryIdeal) (hReferenceQueryIdeal := hReferenceQueryIdeal)
    ∧ preserves_KernelKv_KernelKvIdeal
    ∧ algebraic_KernelKvIdeal_ReferenceKvIdeal (hKernelKvIdeal := hKernelKvIdeal) (hReferenceKvIdeal := hReferenceKvIdeal)
    ∧ preserves_KernelInS_KernelInSIdeal
    ∧ algebraic_KernelInSIdeal_ReferenceInSIdeal (hKernelInSIdeal := hKernelInSIdeal) (hReferenceInSIdeal := hReferenceInSIdeal)
    ∧ preserves_KernelPleS_KernelPleSIdeal
    ∧ algebraic_KernelPleSIdeal_ReferencePleSIdeal (hKernelPleSIdeal := hKernelPleSIdeal) (hReferencePleSIdeal := hReferencePleSIdeal)
    ∧ preserves_KernelPrepS_KernelPrepSIdeal
    ∧ algebraic_KernelPrepSIdeal_ReferencePrepSIdeal (hKernelPrepSIdeal := hKernelPrepSIdeal) (hReferencePrepSIdeal := hReferencePrepSIdeal)
    ∧ preserves_KernelCombine_KernelCombineIdeal
    ∧ algebraic_KernelCombineIdeal_ReferenceCombineIdeal (hKernelCombineIdeal := hKernelCombineIdeal) (hReferenceCombineIdeal := hReferenceCombineIdeal)
    ∧ preserves_KernelAbsorbQ_KernelAbsorbQIdeal
    ∧ algebraic_KernelAbsorbQIdeal_ReferenceAbsorbQIdeal (hKernelAbsorbQIdeal := hKernelAbsorbQIdeal) (hReferenceAbsorbQIdeal := hReferenceAbsorbQIdeal)
    ∧ preserves_KernelAbsorbO_KernelAbsorbOIdeal
    ∧ algebraic_KernelAbsorbOIdeal_ReferenceAbsorbOIdeal (hKernelAbsorbOIdeal := hKernelAbsorbOIdeal) (hReferenceAbsorbOIdeal := hReferenceAbsorbOIdeal)
-- ==== Pre_finite.lean ====
abbrev S4x2048x16x192 : Shape := ⟨4, ![4, 2048, 16, 192]⟩
abbrev S4x2048x16x64 : Shape := ⟨4, ![4, 2048, 16, 64]⟩
abbrev S4x2048x16x256 : Shape := ⟨4, ![4, 2048, 16, 256]⟩
abbrev S4x2048x64 : Shape := ⟨3, ![4, 2048, 64]⟩
abbrev S_ : Shape := ⟨0, ![]⟩
abbrev S4x2048x16x128 : Shape := ⟨4, ![4, 2048, 16, 128]⟩

class Facts : Prop where
  bcast_S_S4x2048x16x192 : S_.BroadcastsInDim S4x2048x16x192 (![] : Fin 0 → Fin S4x2048x16x192.rank)
  reducesTo_S4x2048x16x192_S_d0_1_2_3 : S4x2048x16x192.ReducesTo [0, 1, 2, 3] S_
  h_S_ : 0 < S_.numel
  bcast_S_S4x2048x16x64 : S_.BroadcastsInDim S4x2048x16x64 (![] : Fin 0 → Fin S4x2048x16x64.rank)
  reducesTo_S4x2048x16x64_S_d0_1_2_3 : S4x2048x16x64.ReducesTo [0, 1, 2, 3] S_
  slices_S4x2048x16x256_S4x2048x16x128_0_0_0_0 : S4x2048x16x256.Slices ![0, 0, 0, 0] S4x2048x16x128
  bitsLt_bf16_f32 : FTy.bits .bf16 < FTy.bits .f32
  bcast_S_S4x2048x16x128 : S_.BroadcastsInDim S4x2048x16x128 (![] : Fin 0 → Fin S4x2048x16x128.rank)
  reducesTo_S4x2048x16x128_S_d0_1_2_3 : S4x2048x16x128.ReducesTo [0, 1, 2, 3] S_
  bcast_S_S4x2048x64 : S_.BroadcastsInDim S4x2048x64 (![] : Fin 0 → Fin S4x2048x64.rank)
  reducesTo_S4x2048x64_S_d0_1_2 : S4x2048x64.ReducesTo [0, 1, 2] S_

variable [Facts]

def fn_part1 {F : FTy → Type} [FloatOps F] (main_v15 : IVec S_ 1) (main_v16 : FVec F S4x2048x64 .f32) (main_cst_4 : FVec F S_ .f32) : IVec S_ 1 :=
  let main_v17 : FVec F S4x2048x64 .f32 := broadcastInDim S4x2048x64 ![] bcast_S_S4x2048x64 main_cst_4
  let main_v18 : IVec S4x2048x64 1 := cmpf .olt main_v16 main_v17
  let main_c_5 : IVec S_ 1 := constantI S_ 1 1#1
  let main_v19 : IVec S_ 1 := (fun x v => Host.reduce IntOp.andi x v reducesTo_S4x2048x64_S_d0_1_2 h_S_) main_v18 main_c_5
  let main_v20 : IVec S_ 1 := andi main_v15 main_v19
  main_v20

def fn {F : FTy → Type} [FloatOps F] (main_arg0 : FVec F S4x2048x16x192 .f32) (main_arg1 : FVec F S4x2048x16x64 .f32) (main_arg2 : FVec F S4x2048x16x256 .bf16) (main_arg3 : FVec F S4x2048x64 .f32) : IVec S_ 1 :=
  let main_v0 : FVec F S4x2048x16x192 .f32 := Host.absf main_arg0
  let main_cst : FVec F S_ .f32 := constant S_ .f32 0x7F800000#32
  let main_v1 : FVec F S4x2048x16x192 .f32 := broadcastInDim S4x2048x16x192 ![] bcast_S_S4x2048x16x192 main_cst
  let main_v2 : IVec S4x2048x16x192 1 := cmpf .olt main_v0 main_v1
  let main_c : IVec S_ 1 := constantI S_ 1 1#1
  let main_v3 : IVec S_ 1 := (fun x v => Host.reduce IntOp.andi x v reducesTo_S4x2048x16x192_S_d0_1_2_3 h_S_) main_v2 main_c
  let main_v4 : FVec F S4x2048x16x64 .f32 := Host.absf main_arg1
  let main_cst_0 : FVec F S_ .f32 := constant S_ .f32 0x7F800000#32
  let main_v5 : FVec F S4x2048x16x64 .f32 := broadcastInDim S4x2048x16x64 ![] bcast_S_S4x2048x16x64 main_cst_0
  let main_v6 : IVec S4x2048x16x64 1 := cmpf .olt main_v4 main_v5
  let main_c_1 : IVec S_ 1 := constantI S_ 1 1#1
  let main_v7 : IVec S_ 1 := (fun x v => Host.reduce IntOp.andi x v reducesTo_S4x2048x16x64_S_d0_1_2_3 h_S_) main_v6 main_c_1
  let main_v8 : IVec S_ 1 := andi main_v3 main_v7
  let main_v9 : FVec F S4x2048x16x128 .bf16 := (extractStridedSlice S4x2048x16x128 ![0, 0, 0, 0] · slices_S4x2048x16x256_S4x2048x16x128_0_0_0_0) main_arg2
  let main_v10 : FVec F S4x2048x16x128 .f32 := (extf .f32 · bitsLt_bf16_f32) main_v9
  let main_v11 : FVec F S4x2048x16x128 .f32 := Host.absf main_v10
  let main_cst_2 : FVec F S_ .f32 := constant S_ .f32 0x7F800000#32
  let main_v12 : FVec F S4x2048x16x128 .f32 := broadcastInDim S4x2048x16x128 ![] bcast_S_S4x2048x16x128 main_cst_2
  let main_v13 : IVec S4x2048x16x128 1 := cmpf .olt main_v11 main_v12
  let main_c_3 : IVec S_ 1 := constantI S_ 1 1#1
  let main_v14 : IVec S_ 1 := (fun x v => Host.reduce IntOp.andi x v reducesTo_S4x2048x16x128_S_d0_1_2_3 h_S_) main_v13 main_c_3
  let main_v15 : IVec S_ 1 := andi main_v8 main_v14
  let main_v16 : FVec F S4x2048x64 .f32 := Host.absf main_arg3
  let main_cst_4 : FVec F S_ .f32 := constant S_ .f32 0x7F800000#32
  fn_part1 (F := F) main_v15 main_v16 main_cst_4
-- ==== Kernel.lean ====
abbrev S4x2048x16x192 : Shape := ⟨4, ![4, 2048, 16, 192]⟩
abbrev S4x2048x16x64 : Shape := ⟨4, ![4, 2048, 16, 64]⟩
abbrev S4x2048x16x256 : Shape := ⟨4, ![4, 2048, 16, 256]⟩
abbrev S4x2048x64 : Shape := ⟨3, ![4, 2048, 64]⟩
abbrev S4x2048x16x128 : Shape := ⟨4, ![4, 2048, 16, 128]⟩
abbrev S8192x2048 : Shape := ⟨2, ![8192, 2048]⟩
abbrev S8192x1024 : Shape := ⟨2, ![8192, 1024]⟩
abbrev S8192x3072 : Shape := ⟨2, ![8192, 3072]⟩
abbrev S8192x64 : Shape := ⟨2, ![8192, 64]⟩
abbrev S8192x4096 : Shape := ⟨2, ![8192, 4096]⟩
abbrev S8192x128 : Shape := ⟨2, ![8192, 128]⟩
abbrev S2048x128 : Shape := ⟨2, ![2048, 128]⟩
abbrev S2048x256 : Shape := ⟨2, ![2048, 256]⟩
abbrev S512x128 : Shape := ⟨2, ![512, 128]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1024x256 : Shape := ⟨2, ![1024, 256]⟩
abbrev S512x1024 : Shape := ⟨2, ![512, 1024]⟩
abbrev S1024x128 : Shape := ⟨2, ![1024, 128]⟩
abbrev S1536x256 : Shape := ⟨2, ![1536, 256]⟩
abbrev S512x1536 : Shape := ⟨2, ![512, 1536]⟩
abbrev S1536x128 : Shape := ⟨2, ![1536, 128]⟩

abbrev nBuf : Space → Nat
  | .hbm => 14
  | .vmem => 13
  | .smem => 0
  | _ => 0

abbrev bufTy : (tb : Table) → Fin (tcTables nBuf tb) → BufTy
  | .hbm, ⟨0, _⟩ => ⟨S4x2048x16x192, .f32⟩
  | .hbm, ⟨1, _⟩ => ⟨S4x2048x16x64, .f32⟩
  | .hbm, ⟨2, _⟩ => ⟨S4x2048x16x256, .bf16⟩
  | .hbm, ⟨3, _⟩ => ⟨S4x2048x64, .f32⟩
  | .hbm, ⟨4, _⟩ => ⟨S4x2048x16x128, .f32⟩
  | .hbm, ⟨5, _⟩ => ⟨S8192x2048, .f32⟩
  | .hbm, ⟨6, _⟩ => ⟨S4x2048x16x64, .f32⟩
  | .hbm, ⟨7, _⟩ => ⟨S8192x1024, .f32⟩
  | .hbm, ⟨8, _⟩ => ⟨S8192x3072, .f32⟩
  | .hbm, ⟨9, _⟩ => ⟨S8192x64, .f32⟩
  | .hbm, ⟨10, _⟩ => ⟨S8192x1024, .f32⟩
  | .hbm, ⟨11, _⟩ => ⟨S8192x4096, .bf16⟩
  | .hbm, ⟨12, _⟩ => ⟨S8192x128, .f32⟩
  | .hbm, ⟨13, _⟩ => ⟨S8192x2048, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x256, .bf16⟩
  | .local _ .vmem, ⟨5, _⟩ => ⟨S2048x256, .bf16⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S2048x256, .bf16⟩
  | .local _ .vmem, ⟨11, _⟩ => ⟨S2048x256, .bf16⟩
  | .local _ .vmem, ⟨12, _⟩ => ⟨S2048x128, .bf16⟩
  | _, _ => ⟨S4x2048x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | "scale" => some (((Real.sqrt 192)⁻¹ : ℝ) : EReal)
  | _ => none
-- ==== ReferenceIdeal.lean ====
abbrev S4x2048x16x192 : Shape := ⟨4, ![4, 2048, 16, 192]⟩
abbrev S4x2048x16x64 : Shape := ⟨4, ![4, 2048, 16, 64]⟩
abbrev S4x2048x16x256 : Shape := ⟨4, ![4, 2048, 16, 256]⟩
abbrev S4x2048x64 : Shape := ⟨3, ![4, 2048, 64]⟩
abbrev S4x2048x16x128 : Shape := ⟨4, ![4, 2048, 16, 128]⟩
abbrev S4x16x2048x2048 : Shape := ⟨4, ![4, 16, 2048, 2048]⟩
abbrev S4x2048x2048x16 : Shape := ⟨4, ![4, 2048, 2048, 16]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩
abbrev S8192x2048 : Shape := ⟨2, ![8192, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x16x192, .f32⟩
  | .hbm, ⟨1, _⟩ => ⟨S4x2048x16x64, .f32⟩
  | .hbm, ⟨2, _⟩ => ⟨S4x2048x16x256, .bf16⟩
  | .hbm, ⟨3, _⟩ => ⟨S4x2048x64, .f32⟩
  | .hbm, ⟨4, _⟩ => ⟨S4x2048x16x128, .bf16⟩
  | .hbm, ⟨5, _⟩ => ⟨S4x2048x16x128, .f32⟩
  | .hbm, ⟨6, _⟩ => ⟨S4x2048x16x128, .bf16⟩
  | .hbm, ⟨7, _⟩ => ⟨S4x2048x16x128, .f32⟩
  | .hbm, ⟨8, _⟩ => ⟨S4x2048x16x128, .f32⟩
  | .hbm, ⟨9, _⟩ => ⟨S4x16x2048x2048, .f32⟩
  | .hbm, ⟨10, _⟩ => ⟨S4x2048x2048x16, .f32⟩
  | .hbm, ⟨11, _⟩ => ⟨S4x16x2048x2048, .f32⟩
  | .hbm, ⟨12, _⟩ => ⟨S4x16x2048x2048, .f32⟩
  | .hbm, ⟨13, _⟩ => ⟨S_, .f32⟩
  | .hbm, ⟨14, _⟩ => ⟨S_, .f32⟩
  | .hbm, ⟨15, _⟩ => ⟨S4x16x2048x2048, .f32⟩
  | .hbm, ⟨16, _⟩ => ⟨S4x16x2048x2048, .f32⟩
  | .hbm, ⟨17, _⟩ => ⟨S2048, .i32⟩
  | .hbm, ⟨18, _⟩ => ⟨S2048x1, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S1x1x2048x2048, .i1⟩
  | .hbm, ⟨24, _⟩ => ⟨S_, .f32⟩
  | .hbm, ⟨25, _⟩ => ⟨S_, .f32⟩
  | .hbm, ⟨26, _⟩ => ⟨S4x16x2048x2048, .i1⟩
  | .hbm, ⟨27, _⟩ => ⟨S4x16x2048x2048, .f32⟩
  | .hbm, ⟨28, _⟩ => ⟨S4x16x2048x2048, .f32⟩
  | .hbm, ⟨29, _⟩ => ⟨S_, .f32⟩
  | .hbm, ⟨30, _⟩ => ⟨S4x16x2048, .f32⟩
  | .hbm, ⟨31, _⟩ => ⟨S_, .f32⟩
  | .hbm, ⟨32, _⟩ => ⟨S4x16x2048, .f32⟩
  | .hbm, ⟨33, _⟩ => ⟨S4x16x2048, .f32⟩
  | .hbm, ⟨34, _⟩ => ⟨S4x16x2048x1, .f32⟩
  | .hbm, ⟨35, _⟩ => ⟨S4x16x2048x2048, .f32⟩
  | .hbm, ⟨36, _⟩ => ⟨S4x16x2048x2048, .f32⟩
  | .hbm, ⟨37, _⟩ => ⟨S4x16x2048x2048, .f32⟩
  | .hbm, ⟨38, _⟩ => ⟨S_, .f32⟩
  | .hbm, ⟨39, _⟩ => ⟨S4x16x2048, .f32⟩
  | .hbm, ⟨40, _⟩ => ⟨S4x16x2048x1, .f32⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S_, .f32⟩
  | .hbm, ⟨45, _⟩ => ⟨S4x16x2048x2048, .i1⟩
  | .hbm, ⟨46, _⟩ => ⟨S4x16x2048x2048, .f32⟩
  | .hbm, ⟨47, _⟩ => ⟨S4x16x2048x2048, .f32⟩
  | .hbm, ⟨48, _⟩ => ⟨S4x16x128x2048, .f32⟩
  | .hbm, ⟨49, _⟩ => ⟨S4x2048x16x128, .f32⟩
  | .hbm, ⟨50, _⟩ => ⟨S8192x2048, .f32⟩
  | .hbm, ⟨51, _⟩ => ⟨S8192x2048, .bf16⟩
  | _, _ => ⟨S4x2048x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== KernelSwiglu.lean ====
abbrev S4x2048x2048 : Shape := ⟨3, ![4, 2048, 2048]⟩
abbrev S2048 : Shape := ⟨1, ![2048]⟩
abbrev S2x2048x11264 : Shape := ⟨3, ![2, 2048, 11264]⟩
abbrev S8192x2048 : Shape := ⟨2, ![8192, 2048]⟩
abbrev S1x2048 : Shape := ⟨2, ![1, 2048]⟩
abbrev S8192x5632 : Shape := ⟨2, ![8192, 5632]⟩
abbrev S8192x1 : Shape := ⟨2, ![8192, 1]⟩
abbrev S1024x2048 : Shape := ⟨2, ![1024, 2048]⟩
abbrev S1x2048x512 : Shape := ⟨3, ![1, 2048, 512]⟩
abbrev S1024x512 : Shape := ⟨2, ![1024, 512]⟩
abbrev S1024x1 : Shape := ⟨2, ![1024, 1]⟩
abbrev S1024 : Shape := ⟨1, ![1024]⟩
abbrev S2048x512 : Shape := ⟨2, ![2048, 512]⟩

abbrev nBuf : Space → Nat
  | .hbm => 10
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048, .f32⟩
  | .hbm, ⟨3, _⟩ => ⟨S2x2048x11264, .f32⟩
  | .hbm, ⟨4, _⟩ => ⟨S8192x2048, .f32⟩
  | .hbm, ⟨5, _⟩ => ⟨S1x2048, .f32⟩
  | .hbm, ⟨6, _⟩ => ⟨S1x2048, .f32⟩
  | .hbm, ⟨7, _⟩ => ⟨S8192x5632, .bf16⟩
  | .hbm, ⟨8, _⟩ => ⟨S8192x1, .f32⟩
  | .hbm, ⟨9, _⟩ => ⟨S8192x1, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1024x512, .bf16⟩
  | .local _ .vmem, ⟨9, _⟩ => ⟨S1024x512, .bf16⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceSwigluIdeal.lean ====
abbrev S4x2048x2048 : Shape := ⟨3, ![4, 2048, 2048]⟩
abbrev S2048 : Shape := ⟨1, ![2048]⟩
abbrev S2x2048x11264 : Shape := ⟨3, ![2, 2048, 11264]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S4x2048x11264 : Shape := ⟨3, ![4, 2048, 11264]⟩
abbrev S4x2048x5632 : Shape := ⟨3, ![4, 2048, 5632]⟩
abbrev S8192x5632 : Shape := ⟨2, ![8192, 5632]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048, .f32⟩
  | .hbm, ⟨3, _⟩ => ⟨S2x2048x11264, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S4x2048x1, .f32⟩
  | .hbm, ⟨44, _⟩ => ⟨S4x2048x2048, .f32⟩
  | .hbm, ⟨45, _⟩ => ⟨S4x2048x2048, .f32⟩
  | .hbm, ⟨46, _⟩ => ⟨S1x1x2048, .f32⟩
  | .hbm, ⟨47, _⟩ => ⟨S4x2048x2048, .f32⟩
  | .hbm, ⟨48, _⟩ => ⟨S4x2048x2048, .f32⟩
  | .hbm, ⟨49, _⟩ => ⟨S1x1x2048, .f32⟩
  | .hbm, ⟨50, _⟩ => ⟨S4x2048x2048, .f32⟩
  | .hbm, ⟨51, _⟩ => ⟨S4x2048x2048, .f32⟩
  | .hbm, ⟨52, _⟩ => ⟨S1x2048x11264, .f32⟩
  | .hbm, ⟨53, _⟩ => ⟨S2048x11264, .f32⟩
  | .hbm, ⟨54, _⟩ => ⟨S4x2048x11264, .f32⟩
  | .hbm, ⟨55, _⟩ => ⟨S4x2048x5632, .f32⟩
  | .hbm, ⟨56, _⟩ => ⟨S4x2048x5632, .f32⟩
  | .hbm, ⟨57, _⟩ => ⟨S4x2048x5632, .f32⟩
  | .hbm, ⟨58, _⟩ => ⟨S_, .f32⟩
  | .hbm, ⟨59, _⟩ => ⟨S4x2048x5632, .f32⟩
  | .hbm, ⟨60, _⟩ => ⟨S4x2048x5632, .f32⟩
  | .hbm, ⟨61, _⟩ => ⟨S_, .f32⟩
  | .hbm, ⟨62, _⟩ => ⟨S4x2048x5632, .f32⟩
  | .hbm, ⟨63, _⟩ => ⟨S4x2048x5632, .f32⟩
  | .hbm, ⟨64, _⟩ => ⟨S4x2048x5632, .f32⟩
  | .hbm, ⟨65, _⟩ => ⟨S4x2048x5632, .f32⟩
  | .hbm, ⟨66, _⟩ => ⟨S4x2048x5632, .f32⟩
  | .hbm, ⟨67, _⟩ => ⟨S8192x5632, .f32⟩
  | .hbm, ⟨68, _⟩ => ⟨S8192x5632, .bf16⟩
  | .hbm, ⟨69, _⟩ => ⟨S8192x1, .f32⟩
  | .hbm, ⟨70, _⟩ => ⟨S8192x1, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== KernelDown.lean ====
abbrev S4x2048x5632 : Shape := ⟨3, ![4, 2048, 5632]⟩
abbrev S2x5632x2048 : Shape := ⟨3, ![2, 5632, 2048]⟩
abbrev S4x2048x2048 : Shape := ⟨3, ![4, 2048, 2048]⟩
abbrev S4x2048x1 : Shape := ⟨3, ![4, 2048, 1]⟩
abbrev S2048 : Shape := ⟨1, ![2048]⟩
abbrev S8192x5632 : Shape := ⟨2, ![8192, 5632]⟩
abbrev S8192x2048 : Shape := ⟨2, ![8192, 2048]⟩
abbrev S8192x1 : Shape := ⟨2, ![8192, 1]⟩
abbrev S1x2048 : Shape := ⟨2, ![1, 2048]⟩
abbrev S1024x5632 : Shape := ⟨2, ![1024, 5632]⟩
abbrev S1x5632x256 : Shape := ⟨3, ![1, 5632, 256]⟩
abbrev S1024x256 : Shape := ⟨2, ![1024, 256]⟩
abbrev S1024x1 : Shape := ⟨2, ![1024, 1]⟩
abbrev S1x256 : Shape := ⟨2, ![1, 256]⟩
abbrev S5632x256 : Shape := ⟨2, ![5632, 256]⟩

abbrev nBuf : Space → Nat
  | .hbm => 14
  | .vmem => 16
  | .smem => 0
  | _ => 0

abbrev bufTy : (tb : Table) → Fin (tcTables nBuf tb) → BufTy
  | .hbm, ⟨0, _⟩ => ⟨S4x2048x5632, .bf16⟩
  | .hbm, ⟨1, _⟩ => ⟨S2x5632x2048, .f32⟩
  | .hbm, ⟨2, _⟩ => ⟨S4x2048x2048, .f32⟩
  | .hbm, ⟨3, _⟩ => ⟨S4x2048x1, .f32⟩
  | .hbm, ⟨4, _⟩ => ⟨S4x2048x1, .f32⟩
  | .hbm, ⟨5, _⟩ => ⟨S2048, .f32⟩
  | .hbm, ⟨6, _⟩ => ⟨S2048, .f32⟩
  | .hbm, ⟨7, _⟩ => ⟨S8192x5632, .bf16⟩
  | .hbm, ⟨8, _⟩ => ⟨S8192x2048, .f32⟩
  | .hbm, ⟨9, _⟩ => ⟨S8192x1, .f32⟩
  | .hbm, ⟨10, _⟩ => ⟨S8192x1, .f32⟩
  | .hbm, ⟨11, _⟩ => ⟨S1x2048, .f32⟩
  | .hbm, ⟨12, _⟩ => ⟨S1x2048, .f32⟩
  | .hbm, ⟨13, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x256, .f32⟩
  | .local _ .vmem, ⟨3, _⟩ => ⟨S1x5632x256, .f32⟩
  | .local _ .vmem, ⟨4, _⟩ => ⟨S1024x256, .f32⟩
  | .local _ .vmem, ⟨5, _⟩ => ⟨S1024x256, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1024x256, .f32⟩
  | .local _ .vmem, ⟨15, _⟩ => ⟨S1024x256, .f32⟩
  | _, _ => ⟨S4x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceDownIdeal.lean ====
abbrev S4x2048x5632 : Shape := ⟨3, ![4, 2048, 5632]⟩
abbrev S2x5632x2048 : Shape := ⟨3, ![2, 5632, 2048]⟩
abbrev S4x2048x2048 : Shape := ⟨3, ![4, 2048, 2048]⟩
abbrev S4x2048x1 : Shape := ⟨3, ![4, 2048, 1]⟩
abbrev S2048 : Shape := ⟨1, ![2048]⟩
abbrev S1x1x2048 : Shape := ⟨3, ![1, 1, 2048]⟩
abbrev S_ : Shape := ⟨0, ![]⟩
abbrev S1x5632x2048 : Shape := ⟨3, ![1, 5632, 2048]⟩
abbrev S5632x2048 : Shape := ⟨2, ![5632, 2048]⟩
abbrev S8192x2048 : Shape := ⟨2, ![8192, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x5632, .bf16⟩
  | .hbm, ⟨1, _⟩ => ⟨S2x5632x2048, .f32⟩
  | .hbm, ⟨2, _⟩ => ⟨S4x2048x2048, .f32⟩
  | .hbm, ⟨3, _⟩ => ⟨S4x2048x1, .f32⟩
  | .hbm, ⟨4, _⟩ => ⟨S4x2048x1, .f32⟩
  | .hbm, ⟨5, _⟩ => ⟨S2048, .f32⟩
  | .hbm, ⟨6, _⟩ => ⟨S2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S1x1x2048, .f32⟩
  | .hbm, ⟨12, _⟩ => ⟨S4x2048x2048, .f32⟩
  | .hbm, ⟨13, _⟩ => ⟨S4x2048x2048, .f32⟩
  | .hbm, ⟨14, _⟩ => ⟨S1x1x2048, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048x2048, .f32⟩
  | .hbm, ⟨19, _⟩ => ⟨S4x2048x2048, .f32⟩
  | .hbm, ⟨20, _⟩ => ⟨S4x2048x5632, .f32⟩
  | .hbm, ⟨21, _⟩ => ⟨S1x5632x2048, .f32⟩
  | .hbm, ⟨22, _⟩ => ⟨S5632x2048, .f32⟩
  | .hbm, ⟨23, _⟩ => ⟨S4x2048x2048, .f32⟩
  | .hbm, ⟨24, _⟩ => ⟨S4x2048x2048, .f32⟩
  | .hbm, ⟨25, _⟩ => ⟨S8192x2048, .f32⟩
  | _, _ => ⟨S4x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== KernelPle.lean ====
abbrev S4x2048x2048 : Shape := ⟨3, ![4, 2048, 2048]⟩
abbrev S2048 : Shape := ⟨1, ![2048]⟩
abbrev S2x2048x2048 : Shape := ⟨3, ![2, 2048, 2048]⟩
abbrev S2x4x2048x256 : Shape := ⟨4, ![2, 4, 2048, 256]⟩
abbrev S2x256x2048 : Shape := ⟨3, ![2, 256, 2048]⟩
abbrev S8192x2048 : Shape := ⟨2, ![8192, 2048]⟩
abbrev S2x8192x256 : Shape := ⟨3, ![2, 8192, 256]⟩
abbrev S1x2048 : Shape := ⟨2, ![1, 2048]⟩
abbrev S1024x2048 : Shape := ⟨2, ![1024, 2048]⟩
abbrev S1x2048x512 : Shape := ⟨3, ![1, 2048, 512]⟩
abbrev S1x1024x256 : Shape := ⟨3, ![1, 1024, 256]⟩
abbrev S1x256x512 : Shape := ⟨3, ![1, 256, 512]⟩
abbrev S1024x512 : Shape := ⟨2, ![1024, 512]⟩
abbrev S4x1024x512 : Shape := ⟨3, ![4, 1024, 512]⟩
abbrev S1024 : Shape := ⟨1, ![1024]⟩
abbrev S1024x1 : Shape := ⟨2, ![1024, 1]⟩
abbrev S1x1024x512 : Shape := ⟨3, ![1, 1024, 512]⟩
abbrev S2048x512 : Shape := ⟨2, ![2048, 512]⟩
abbrev S1024x256 : Shape := ⟨2, ![1024, 256]⟩
abbrev S256x512 : Shape := ⟨2, ![256, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048, .f32⟩
  | .hbm, ⟨3, _⟩ => ⟨S2x2048x2048, .f32⟩
  | .hbm, ⟨4, _⟩ => ⟨S2x4x2048x256, .f32⟩
  | .hbm, ⟨5, _⟩ => ⟨S2x256x2048, .f32⟩
  | .hbm, ⟨6, _⟩ => ⟨S8192x2048, .f32⟩
  | .hbm, ⟨7, _⟩ => ⟨S2x8192x256, .f32⟩
  | .hbm, ⟨8, _⟩ => ⟨S1x2048, .f32⟩
  | .hbm, ⟨9, _⟩ => ⟨S1x2048, .f32⟩
  | .hbm, ⟨10, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048x512, .f32⟩
  | .local _ .vmem, ⟨5, _⟩ => ⟨S1x2048x512, .f32⟩
  | .local _ .vmem, ⟨6, _⟩ => ⟨S1x1024x256, .f32⟩
  | .local _ .vmem, ⟨7, _⟩ => ⟨S1x1024x256, .f32⟩
  | .local _ .vmem, ⟨8, _⟩ => ⟨S1x256x512, .f32⟩
  | .local _ .vmem, ⟨9, _⟩ => ⟨S1x256x512, .f32⟩
  | .local _ .vmem, ⟨10, _⟩ => ⟨S1024x512, .f32⟩
  | .local _ .vmem, ⟨11, _⟩ => ⟨S1024x512, .f32⟩
  | .local _ .vmem, ⟨12, _⟩ => ⟨S4x1024x512, .f32⟩
  | .local _ .vmem, ⟨13, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v22 : Index := Scalar.indexCast arg1
  let c0_15 : Index := 0#32
  let c0_16 : Index := 0#32
  ![v22.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelPleIdeal.lean ====
abbrev S4x2048x2048 : Shape := ⟨3, ![4, 2048, 2048]⟩
abbrev S2048 : Shape := ⟨1, ![2048]⟩
abbrev S2x2048x2048 : Shape := ⟨3, ![2, 2048, 2048]⟩
abbrev S2x4x2048x256 : Shape := ⟨4, ![2, 4, 2048, 256]⟩
abbrev S2x256x2048 : Shape := ⟨3, ![2, 256, 2048]⟩
abbrev S8192x2048 : Shape := ⟨2, ![8192, 2048]⟩
abbrev S2x8192x256 : Shape := ⟨3, ![2, 8192, 256]⟩
abbrev S1x2048 : Shape := ⟨2, ![1, 2048]⟩
abbrev S1024x2048 : Shape := ⟨2, ![1024, 2048]⟩
abbrev S1x2048x512 : Shape := ⟨3, ![1, 2048, 512]⟩
abbrev S1x1024x256 : Shape := ⟨3, ![1, 1024, 256]⟩
abbrev S1x256x512 : Shape := ⟨3, ![1, 256, 512]⟩
abbrev S1024x512 : Shape := ⟨2, ![1024, 512]⟩
abbrev S4x1024x512 : Shape := ⟨3, ![4, 1024, 512]⟩
abbrev S1024 : Shape := ⟨1, ![1024]⟩
abbrev S1024x1 : Shape := ⟨2, ![1024, 1]⟩
abbrev S1x1024x512 : Shape := ⟨3, ![1, 1024, 512]⟩
abbrev S2048x512 : Shape := ⟨2, ![2048, 512]⟩
abbrev S1024x256 : Shape := ⟨2, ![1024, 256]⟩
abbrev S256x512 : Shape := ⟨2, ![256, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048, .f32⟩
  | .hbm, ⟨3, _⟩ => ⟨S2x2048x2048, .f32⟩
  | .hbm, ⟨4, _⟩ => ⟨S2x4x2048x256, .f32⟩
  | .hbm, ⟨5, _⟩ => ⟨S2x256x2048, .f32⟩
  | .hbm, ⟨6, _⟩ => ⟨S8192x2048, .f32⟩
  | .hbm, ⟨7, _⟩ => ⟨S2x8192x256, .f32⟩
  | .hbm, ⟨8, _⟩ => ⟨S1x2048, .f32⟩
  | .hbm, ⟨9, _⟩ => ⟨S1x2048, .f32⟩
  | .hbm, ⟨10, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048x512, .f32⟩
  | .local _ .vmem, ⟨5, _⟩ => ⟨S1x2048x512, .f32⟩
  | .local _ .vmem, ⟨6, _⟩ => ⟨S1x1024x256, .f32⟩
  | .local _ .vmem, ⟨7, _⟩ => ⟨S1x1024x256, .f32⟩
  | .local _ .vmem, ⟨8, _⟩ => ⟨S1x256x512, .f32⟩
  | .local _ .vmem, ⟨9, _⟩ => ⟨S1x256x512, .f32⟩
  | .local _ .vmem, ⟨10, _⟩ => ⟨S1024x512, .f32⟩
  | .local _ .vmem, ⟨11, _⟩ => ⟨S1024x512, .f32⟩
  | .local _ .vmem, ⟨12, _⟩ => ⟨S4x1024x512, .f32⟩
  | .local _ .vmem, ⟨13, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v22 : Index := Scalar.indexCast arg1
  let c0_15 : Index := 0#32
  let c0_16 : Index := 0#32
  ![v22.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferencePleIdeal.lean ====
abbrev S4x2048x2048 : Shape := ⟨3, ![4, 2048, 2048]⟩
abbrev S2048 : Shape := ⟨1, ![2048]⟩
abbrev S2x2048x2048 : Shape := ⟨3, ![2, 2048, 2048]⟩
abbrev S2x4x2048x256 : Shape := ⟨4, ![2, 4, 2048, 256]⟩
abbrev S2x256x2048 : Shape := ⟨3, ![2, 256, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S1x4x2048x256 : Shape := ⟨4, ![1, 4, 2048, 256]⟩
abbrev S4x2048x256 : Shape := ⟨3, ![4, 2048, 256]⟩
abbrev S1x256x2048 : Shape := ⟨3, ![1, 256, 2048]⟩
abbrev S256x2048 : Shape := ⟨2, ![256, 2048]⟩
abbrev S8192x2048 : Shape := ⟨2, ![8192, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048, .f32⟩
  | .hbm, ⟨3, _⟩ => ⟨S2x2048x2048, .f32⟩
  | .hbm, ⟨4, _⟩ => ⟨S2x4x2048x256, .f32⟩
  | .hbm, ⟨5, _⟩ => ⟨S2x256x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S1x1x2048, .f32⟩
  | .hbm, ⟨30, _⟩ => ⟨S4x2048x2048, .f32⟩
  | .hbm, ⟨31, _⟩ => ⟨S4x2048x2048, .f32⟩
  | .hbm, ⟨32, _⟩ => ⟨S1x1x2048, .f32⟩
  | .hbm, ⟨33, _⟩ => ⟨S4x2048x2048, .f32⟩
  | .hbm, ⟨34, _⟩ => ⟨S4x2048x2048, .f32⟩
  | .hbm, ⟨35, _⟩ => ⟨S1x2048x2048, .f32⟩
  | .hbm, ⟨36, _⟩ => ⟨S2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S_, .f32⟩
  | .hbm, ⟨41, _⟩ => ⟨S4x2048x2048, .f32⟩
  | .hbm, ⟨42, _⟩ => ⟨S4x2048x2048, .f32⟩
  | .hbm, ⟨43, _⟩ => ⟨S_, .f32⟩
  | .hbm, ⟨44, _⟩ => ⟨S4x2048x2048, .f32⟩
  | .hbm, ⟨45, _⟩ => ⟨S4x2048x2048, .f32⟩
  | .hbm, ⟨46, _⟩ => ⟨S1x4x2048x256, .f32⟩
  | .hbm, ⟨47, _⟩ => ⟨S4x2048x256, .f32⟩
  | .hbm, ⟨48, _⟩ => ⟨S1x256x2048, .f32⟩
  | .hbm, ⟨49, _⟩ => ⟨S256x2048, .f32⟩
  | .hbm, ⟨50, _⟩ => ⟨S4x2048x2048, .f32⟩
  | .hbm, ⟨51, _⟩ => ⟨S4x2048x2048, .f32⟩
  | .hbm, ⟨52, _⟩ => ⟨S4x2048x2048, .f32⟩
  | .hbm, ⟨53, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== KernelOut.lean ====
abbrev S4x2048x2048 : Shape := ⟨3, ![4, 2048, 2048]⟩
abbrev S1x2048x2048 : Shape := ⟨3, ![1, 2048, 2048]⟩
abbrev S8192x2048 : Shape := ⟨2, ![8192, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x2048, .f32⟩
  | .hbm, ⟨2, _⟩ => ⟨S4x2048x2048, .f32⟩
  | .hbm, ⟨3, _⟩ => ⟨S8192x2048, .bf16⟩
  | .hbm, ⟨4, _⟩ => ⟨S8192x2048, .f32⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S4x2048x2048 : Shape := ⟨3, ![4, 2048, 2048]⟩
abbrev S1x2048x2048 : Shape := ⟨3, ![1, 2048, 2048]⟩
abbrev S_ : Shape := ⟨0, ![]⟩
abbrev S2048x2048 : Shape := ⟨2, ![2048, 2048]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S1x2048x2048, .f32⟩
  | .hbm, ⟨2, _⟩ => ⟨S4x2048x2048, .f32⟩
  | .hbm, ⟨3, _⟩ => ⟨S_, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S2048x2048, .f32⟩
  | .hbm, ⟨8, _⟩ => ⟨S4x2048x2048, .f32⟩
  | .hbm, ⟨9, _⟩ => ⟨S4x2048x2048, .f32⟩
  | .hbm, ⟨10, _⟩ => ⟨S8192x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelIn.lean ====
abbrev S4x2048x2048 : Shape := ⟨3, ![4, 2048, 2048]⟩
abbrev S1x2048x2864 : Shape := ⟨3, ![1, 2048, 2864]⟩
abbrev S8192x2048 : Shape := ⟨2, ![8192, 2048]⟩
abbrev S2048x2864 : Shape := ⟨2, ![2048, 2864]⟩
abbrev S8192x2864 : Shape := ⟨2, ![8192, 2864]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S1x2048x2864, .f32⟩
  | .hbm, ⟨2, _⟩ => ⟨S8192x2048, .f32⟩
  | .hbm, ⟨3, _⟩ => ⟨S2048x2864, .f32⟩
  | .hbm, ⟨4, _⟩ => ⟨S8192x2864, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelInIdeal.lean ====
abbrev S4x2048x2048 : Shape := ⟨3, ![4, 2048, 2048]⟩
abbrev S1x2048x2864 : Shape := ⟨3, ![1, 2048, 2864]⟩
abbrev S8192x2048 : Shape := ⟨2, ![8192, 2048]⟩
abbrev S2048x2864 : Shape := ⟨2, ![2048, 2864]⟩
abbrev S8192x2864 : Shape := ⟨2, ![8192, 2864]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S1x2048x2864, .f32⟩
  | .hbm, ⟨2, _⟩ => ⟨S8192x2048, .f32⟩
  | .hbm, ⟨3, _⟩ => ⟨S2048x2864, .f32⟩
  | .hbm, ⟨4, _⟩ => ⟨S8192x2864, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInIdeal.lean ====
abbrev S4x2048x2048 : Shape := ⟨3, ![4, 2048, 2048]⟩
abbrev S1x2048x2864 : Shape := ⟨3, ![1, 2048, 2864]⟩
abbrev S2048x2864 : Shape := ⟨2, ![2048, 2864]⟩
abbrev S4x2048x2864 : Shape := ⟨3, ![4, 2048, 2864]⟩
abbrev S8192x2864 : Shape := ⟨2, ![8192, 2864]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x2864, .f32⟩
  | .hbm, ⟨2, _⟩ => ⟨S2048x2864, .f32⟩
  | .hbm, ⟨3, _⟩ => ⟨S4x2048x2864, .f32⟩
  | .hbm, ⟨4, _⟩ => ⟨S8192x2864, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelPrep.lean ====
abbrev S4x2048x1344 : Shape := ⟨3, ![4, 2048, 1344]⟩
abbrev S1x768 : Shape := ⟨2, ![1, 768]⟩
abbrev S1x512 : Shape := ⟨2, ![1, 512]⟩
abbrev S64x128 : Shape := ⟨2, ![64, 128]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S8192x1344 : Shape := ⟨2, ![8192, 1344]⟩
abbrev S768 : Shape := ⟨1, ![768]⟩
abbrev S512 : Shape := ⟨1, ![512]⟩
abbrev S8192x768 : Shape := ⟨2, ![8192, 768]⟩
abbrev S8192x512 : Shape := ⟨2, ![8192, 512]⟩
abbrev S8192x576 : Shape := ⟨2, ![8192, 576]⟩
abbrev S8192x128 : Shape := ⟨2, ![8192, 128]⟩
abbrev S512x1344 : Shape := ⟨2, ![512, 1344]⟩
abbrev S512x128 : Shape := ⟨2, ![512, 128]⟩
abbrev S512x768 : Shape := ⟨2, ![512, 768]⟩
abbrev S512x512 : Shape := ⟨2, ![512, 512]⟩
abbrev S512x576 : Shape := ⟨2, ![512, 576]⟩
abbrev S512x1 : Shape := ⟨2, ![512, 1]⟩
abbrev S512x64 : Shape := ⟨2, ![512, 64]⟩

abbrev nBuf : Space → Nat
  | .hbm => 45
  | .vmem => 17
  | .smem => 0
  | _ => 0

abbrev bufTy : (tb : Table) → Fin (tcTables nBuf tb) → BufTy
  | .hbm, ⟨0, _⟩ => ⟨S4x2048x1344, .f32⟩
  | .hbm, ⟨1, _⟩ => ⟨S1x768, .f32⟩
  | .hbm, ⟨2, _⟩ => ⟨S1x512, .f32⟩
  | .hbm, ⟨3, _⟩ => ⟨S64x128, .f32⟩
  | .hbm, ⟨4, _⟩ => ⟨S2048, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x64, .f32⟩
  | .hbm, ⟨28, _⟩ => ⟨S1x2048x1x64, .f32⟩
  | .hbm, ⟨29, _⟩ => ⟨S1x2048x2x64, .f32⟩
  | .hbm, ⟨30, _⟩ => ⟨S2048x128, .f32⟩
  | .hbm, ⟨31, _⟩ => ⟨S2048x32, .f32⟩
  | .hbm, ⟨32, _⟩ => ⟨S2048x64, .f32⟩
  | .hbm, ⟨33, _⟩ => ⟨S1x2048x1x64, .f32⟩
  | .hbm, ⟨34, _⟩ => ⟨S1x2048x2x64, .f32⟩
  | .hbm, ⟨35, _⟩ => ⟨S2048x128, .f32⟩
  | .hbm, ⟨36, _⟩ => ⟨S8192x1344, .f32⟩
  | .hbm, ⟨37, _⟩ => ⟨S768, .f32⟩
  | .hbm, ⟨38, _⟩ => ⟨S512, .f32⟩
  | .hbm, ⟨39, _⟩ => ⟨S1x768, .f32⟩
  | .hbm, ⟨40, _⟩ => ⟨S1x512, .f32⟩
  | .hbm, ⟨41, _⟩ => ⟨S8192x768, .bf16⟩
  | .hbm, ⟨42, _⟩ => ⟨S8192x512, .bf16⟩
  | .hbm, ⟨43, _⟩ => ⟨S8192x576, .f32⟩
  | .hbm, ⟨44, _⟩ => ⟨S8192x128, .f32⟩
  | .local _ .vmem, ⟨0, _⟩ => ⟨S512x1344, .f32⟩
  | .local _ .vmem, ⟨1, _⟩ => ⟨S512x1344, .f32⟩
  | .local _ .vmem, ⟨2, _⟩ => ⟨S1x768, .f32⟩
  | .local _ .vmem, ⟨3, _⟩ => ⟨S1x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S64x128, .f32⟩
  | .local _ .vmem, ⟨9, _⟩ => ⟨S512x768, .bf16⟩
  | .local _ .vmem, ⟨10, _⟩ => ⟨S512x768, .bf16⟩
  | .local _ .vmem, ⟨11, _⟩ => ⟨S512x512, .bf16⟩
  | .local _ .vmem, ⟨12, _⟩ => ⟨S512x512, .bf16⟩
  | .local _ .vmem, ⟨13, _⟩ => ⟨S512x576, .f32⟩
  | .local _ .vmem, ⟨14, _⟩ => ⟨S512x576, .f32⟩
  | .local _ .vmem, ⟨15, _⟩ => ⟨S512x128, .f32⟩
  | .local _ .vmem, ⟨16, _⟩ => ⟨S512x128, .f32⟩
  | _, _ => ⟨S4x2048x1344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33_0 : Ref sig .tc := ⟨.hbm, 41, rfl⟩
abbrev main_v33_1 : Ref sig .tc := ⟨.hbm, 42, rfl⟩
abbrev main_v33_2 : Ref sig .tc := ⟨.hbm, 43, rfl⟩
abbrev main_v33_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1344 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferencePrepIdeal.lean ====
abbrev S4x2048x1344 : Shape := ⟨3, ![4, 2048, 1344]⟩
abbrev S1x768 : Shape := ⟨2, ![1, 768]⟩
abbrev S1x512 : Shape := ⟨2, ![1, 512]⟩
abbrev S4x2048x768 : Shape := ⟨3, ![4, 2048, 768]⟩
abbrev S768 : Shape := ⟨1, ![768]⟩
abbrev S_ : Shape := ⟨0, ![]⟩
abbrev S4x2048 : Shape := ⟨2, ![4, 2048]⟩
abbrev S4x2048x1 : Shape := ⟨3, ![4, 2048, 1]⟩
abbrev S1x1x768 : Shape := ⟨3, ![1, 1, 768]⟩
abbrev S4x2048x512 : Shape := ⟨3, ![4, 2048, 512]⟩
abbrev S512 : Shape := ⟨1, ![512]⟩
abbrev S1x1x512 : Shape := ⟨3, ![1, 1, 512]⟩
abbrev S4x2048x64 : Shape := ⟨3, ![4, 2048, 64]⟩
abbrev S4x2048x32 : Shape := ⟨3, ![4, 2048, 32]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x32 : Shape := ⟨3, ![1, 2048, 32]⟩
abbrev S4x2048x576 : Shape := ⟨3, ![4, 2048, 576]⟩
abbrev S8192x768 : Shape := ⟨2, ![8192, 768]⟩
abbrev S8192x512 : Shape := ⟨2, ![8192, 512]⟩
abbrev S8192x576 : Shape := ⟨2, ![8192, 576]⟩
abbrev S4x2048x128 : Shape := ⟨3, ![4, 2048, 128]⟩
abbrev S8192x128 : Shape := ⟨2, ![8192, 128]⟩

abbrev nBuf : Space → Nat
  | .hbm => 88
  | .vmem => 0
  | .smem => 0
  | _ => 0

abbrev bufTy : (tb : Table) → Fin (tcTables nBuf tb) → BufTy
  | .hbm, ⟨0, _⟩ => ⟨S4x2048x1344, .f32⟩
  | .hbm, ⟨1, _⟩ => ⟨S1x768, .f32⟩
  | .hbm, ⟨2, _⟩ => ⟨S1x512, .f32⟩
  | .hbm, ⟨3, _⟩ => ⟨S4x2048x768, .f32⟩
  | .hbm, ⟨4, _⟩ => ⟨S768, .f32⟩
  | .hbm, ⟨5, _⟩ => ⟨S4x2048x768, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x768, .f32⟩
  | .hbm, ⟨17, _⟩ => ⟨S4x2048x768, .f32⟩
  | .hbm, ⟨18, _⟩ => ⟨S1x1x768, .f32⟩
  | .hbm, ⟨19, _⟩ => ⟨S4x2048x768, .f32⟩
  | .hbm, ⟨20, _⟩ => ⟨S4x2048x768, .f32⟩
  | .hbm, ⟨21, _⟩ => ⟨S4x2048x512, .f32⟩
  | .hbm, ⟨22, _⟩ => ⟨S512, .f32⟩
  | .hbm, ⟨23, _⟩ => ⟨S4x2048x512, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x1, .f32⟩
  | .hbm, ⟨34, _⟩ => ⟨S4x2048x512, .f32⟩
  | .hbm, ⟨35, _⟩ => ⟨S4x2048x512, .f32⟩
  | .hbm, ⟨36, _⟩ => ⟨S1x1x512, .f32⟩
  | .hbm, ⟨37, _⟩ => ⟨S4x2048x512, .f32⟩
  | .hbm, ⟨38, _⟩ => ⟨S4x2048x512, .f32⟩
  | .hbm, ⟨39, _⟩ => ⟨S4x2048x64, .f32⟩
  | .hbm, ⟨40, _⟩ => ⟨S4x2048x32, .f32⟩
  | .hbm, ⟨41, _⟩ => ⟨S4x2048x32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S2048, .i32⟩
  | .hbm, ⟨57, _⟩ => ⟨S2048, .f32⟩
  | .hbm, ⟨58, _⟩ => ⟨S2048x1, .f32⟩
  | .hbm, ⟨59, _⟩ => ⟨S1x32, .f32⟩
  | .hbm, ⟨60, _⟩ => ⟨S2048x32, .f32⟩
  | .hbm, ⟨61, _⟩ => ⟨S2048x32, .f32⟩
  | .hbm, ⟨62, _⟩ => ⟨S2048x32, .f32⟩
  | .hbm, ⟨63, _⟩ => ⟨S2048x32, .f32⟩
  | .hbm, ⟨64, _⟩ => ⟨S2048x32, .f32⟩
  | .hbm, ⟨65, _⟩ => ⟨S1x2048x32, .f32⟩
  | .hbm, ⟨66, _⟩ => ⟨S4x2048x32, .f32⟩
  | .hbm, ⟨67, _⟩ => ⟨S4x2048x32, .f32⟩
  | .hbm, ⟨68, _⟩ => ⟨S1x2048x32, .f32⟩
  | .hbm, ⟨69, _⟩ => ⟨S4x2048x32, .f32⟩
  | .hbm, ⟨70, _⟩ => ⟨S4x2048x32, .f32⟩
  | .hbm, ⟨71, _⟩ => ⟨S4x2048x32, .f32⟩
  | .hbm, ⟨72, _⟩ => ⟨S1x2048x32, .f32⟩
  | .hbm, ⟨73, _⟩ => ⟨S4x2048x32, .f32⟩
  | .hbm, ⟨74, _⟩ => ⟨S4x2048x32, .f32⟩
  | .hbm, ⟨75, _⟩ => ⟨S1x2048x32, .f32⟩
  | .hbm, ⟨76, _⟩ => ⟨S4x2048x32, .f32⟩
  | .hbm, ⟨77, _⟩ => ⟨S4x2048x32, .f32⟩
  | .hbm, ⟨78, _⟩ => ⟨S4x2048x32, .f32⟩
  | .hbm, ⟨79, _⟩ => ⟨S4x2048x64, .f32⟩
  | .hbm, ⟨80, _⟩ => ⟨S4x2048x576, .f32⟩
  | .hbm, ⟨81, _⟩ => ⟨S4x2048x768, .bf16⟩
  | .hbm, ⟨82, _⟩ => ⟨S8192x768, .bf16⟩
  | .hbm, ⟨83, _⟩ => ⟨S4x2048x512, .bf16⟩
  | .hbm, ⟨84, _⟩ => ⟨S8192x512, .bf16⟩
  | .hbm, ⟨85, _⟩ => ⟨S8192x576, .f32⟩
  | .hbm, ⟨86, _⟩ => ⟨S4x2048x128, .f32⟩
  | .hbm, ⟨87, _⟩ => ⟨S8192x128, .f32⟩
  | _, _ => ⟨S4x2048x1344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩

abbrev nD : Nat := 1
abbrev τ : Topo := Topo.v7x

variable {F : FTy → Type} [FloatOps F]
-- ==== KernelRope.lean ====
abbrev S4x2048x3072 : Shape := ⟨3, ![4, 2048, 3072]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S8192x3072 : Shape := ⟨2, ![8192, 3072]⟩
abbrev S8192x1024 : Shape := ⟨2, ![8192, 1024]⟩
abbrev S512x1024 : Shape := ⟨2, ![512, 1024]⟩
abbrev S512x128 : Shape := ⟨2, ![512, 128]⟩

abbrev nBuf : Space → Nat
  | .hbm => 35
  | .vmem => 8
  | .smem => 0
  | _ => 0

abbrev bufTy : (tb : Table) → Fin (tcTables nBuf tb) → BufTy
  | .hbm, ⟨0, _⟩ => ⟨S4x2048x3072, .f32⟩
  | .hbm, ⟨1, _⟩ => ⟨S2048, .i32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S2048, .f32⟩
  | .hbm, ⟨17, _⟩ => ⟨S2048x1, .f32⟩
  | .hbm, ⟨18, _⟩ => ⟨S1x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x64, .f32⟩
  | .hbm, ⟨25, _⟩ => ⟨S1x2048x1x64, .f32⟩
  | .hbm, ⟨26, _⟩ => ⟨S1x2048x2x64, .f32⟩
  | .hbm, ⟨27, _⟩ => ⟨S2048x128, .f32⟩
  | .hbm, ⟨28, _⟩ => ⟨S2048x32, .f32⟩
  | .hbm, ⟨29, _⟩ => ⟨S2048x64, .f32⟩
  | .hbm, ⟨30, _⟩ => ⟨S1x2048x1x64, .f32⟩
  | .hbm, ⟨31, _⟩ => ⟨S1x2048x2x64, .f32⟩
  | .hbm, ⟨32, _⟩ => ⟨S2048x128, .f32⟩
  | .hbm, ⟨33, _⟩ => ⟨S8192x3072, .f32⟩
  | .hbm, ⟨34, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x1024, .f32⟩
  | .local _ .vmem, ⟨7, _⟩ => ⟨S512x1024, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceRopeIdeal.lean ====
abbrev S4x2048x3072 : Shape := ⟨3, ![4, 2048, 3072]⟩
abbrev S4x2048x1024 : Shape := ⟨3, ![4, 2048, 1024]⟩
abbrev S4x2048x16x64 : Shape := ⟨4, ![4, 2048, 16, 64]⟩
abbrev S4x2048x16x32 : Shape := ⟨4, ![4, 2048, 16, 32]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S1x2048x1x32 : Shape := ⟨4, ![1, 2048, 1, 32]⟩
abbrev S8192x1024 : Shape := ⟨2, ![8192, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S4x2048x1024, .f32⟩
  | .hbm, ⟨2, _⟩ => ⟨S4x2048x16x64, .f32⟩
  | .hbm, ⟨3, _⟩ => ⟨S4x2048x16x32, .f32⟩
  | .hbm, ⟨4, _⟩ => ⟨S4x2048x16x32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048, .i32⟩
  | .hbm, ⟨20, _⟩ => ⟨S2048, .f32⟩
  | .hbm, ⟨21, _⟩ => ⟨S2048x1, .f32⟩
  | .hbm, ⟨22, _⟩ => ⟨S1x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x1x32, .f32⟩
  | .hbm, ⟨28, _⟩ => ⟨S2048x32, .f32⟩
  | .hbm, ⟨29, _⟩ => ⟨S2048x1x32, .f32⟩
  | .hbm, ⟨30, _⟩ => ⟨S1x2048x1x32, .f32⟩
  | .hbm, ⟨31, _⟩ => ⟨S4x2048x16x32, .f32⟩
  | .hbm, ⟨32, _⟩ => ⟨S4x2048x16x32, .f32⟩
  | .hbm, ⟨33, _⟩ => ⟨S1x2048x1x32, .f32⟩
  | .hbm, ⟨34, _⟩ => ⟨S4x2048x16x32, .f32⟩
  | .hbm, ⟨35, _⟩ => ⟨S4x2048x16x32, .f32⟩
  | .hbm, ⟨36, _⟩ => ⟨S4x2048x16x32, .f32⟩
  | .hbm, ⟨37, _⟩ => ⟨S1x2048x1x32, .f32⟩
  | .hbm, ⟨38, _⟩ => ⟨S4x2048x16x32, .f32⟩
  | .hbm, ⟨39, _⟩ => ⟨S4x2048x16x32, .f32⟩
  | .hbm, ⟨40, _⟩ => ⟨S1x2048x1x32, .f32⟩
  | .hbm, ⟨41, _⟩ => ⟨S4x2048x16x32, .f32⟩
  | .hbm, ⟨42, _⟩ => ⟨S4x2048x16x32, .f32⟩
  | .hbm, ⟨43, _⟩ => ⟨S4x2048x16x32, .f32⟩
  | .hbm, ⟨44, _⟩ => ⟨S4x2048x16x64, .f32⟩
  | .hbm, ⟨45, _⟩ => ⟨S8192x1024, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩

abbrev nD : Nat := 1
abbrev τ : Topo := Topo.v7x

variable {F : FTy → Type} [FloatOps F]
-- ==== KernelMlaIn.lean ====
abbrev S4x2048x2048 : Shape := ⟨3, ![4, 2048, 2048]⟩
abbrev S1x2048x1344 : Shape := ⟨3, ![1, 2048, 1344]⟩
abbrev S8192x2048 : Shape := ⟨2, ![8192, 2048]⟩
abbrev S2048x1344 : Shape := ⟨2, ![2048, 1344]⟩
abbrev S8192x1344 : Shape := ⟨2, ![8192, 1344]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S1x2048x1344, .f32⟩
  | .hbm, ⟨2, _⟩ => ⟨S8192x2048, .f32⟩
  | .hbm, ⟨3, _⟩ => ⟨S2048x1344, .f32⟩
  | .hbm, ⟨4, _⟩ => ⟨S8192x1344, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMlaInIdeal.lean ====
abbrev S4x2048x2048 : Shape := ⟨3, ![4, 2048, 2048]⟩
abbrev S1x2048x1344 : Shape := ⟨3, ![1, 2048, 1344]⟩
abbrev S2048x1344 : Shape := ⟨2, ![2048, 1344]⟩
abbrev S4x2048x1344 : Shape := ⟨3, ![4, 2048, 1344]⟩
abbrev S8192x1344 : Shape := ⟨2, ![8192, 1344]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x1344, .f32⟩
  | .hbm, ⟨2, _⟩ => ⟨S2048x1344, .f32⟩
  | .hbm, ⟨3, _⟩ => ⟨S4x2048x1344, .f32⟩
  | .hbm, ⟨4, _⟩ => ⟨S8192x1344, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelQuery.lean ====
abbrev S4x2048x768 : Shape := ⟨3, ![4, 2048, 768]⟩
abbrev S1x768x3072 : Shape := ⟨3, ![1, 768, 3072]⟩
abbrev S768x3072 : Shape := ⟨2, ![768, 3072]⟩
abbrev S768x16x192 : Shape := ⟨3, ![768, 16, 192]⟩
abbrev S768x16x128 : Shape := ⟨3, ![768, 16, 128]⟩
abbrev S768x2048 : Shape := ⟨2, ![768, 2048]⟩
abbrev S768x16x64 : Shape := ⟨3, ![768, 16, 64]⟩
abbrev S768x1024 : Shape := ⟨2, ![768, 1024]⟩
abbrev S8192x768 : Shape := ⟨2, ![8192, 768]⟩
abbrev S8192x3072 : Shape := ⟨2, ![8192, 3072]⟩
abbrev S1024x768 : Shape := ⟨2, ![1024, 768]⟩
abbrev S768x512 : Shape := ⟨2, ![768, 512]⟩
abbrev S1024x512 : Shape := ⟨2, ![1024, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x2048x768, .bf16⟩
  | .hbm, ⟨1, _⟩ => ⟨S1x768x3072, .f32⟩
  | .hbm, ⟨2, _⟩ => ⟨S768x3072, .f32⟩
  | .hbm, ⟨3, _⟩ => ⟨S768x16x192, .f32⟩
  | .hbm, ⟨4, _⟩ => ⟨S768x16x128, .f32⟩
  | .hbm, ⟨5, _⟩ => ⟨S768x2048, .f32⟩
  | .hbm, ⟨6, _⟩ => ⟨S768x16x64, .f32⟩
  | .hbm, ⟨7, _⟩ => ⟨S768x1024, .f32⟩
  | .hbm, ⟨8, _⟩ => ⟨S768x3072, .f32⟩
  | .hbm, ⟨9, _⟩ => ⟨S8192x768, .bf16⟩
  | .hbm, ⟨10, _⟩ => ⟨S8192x3072, .f32⟩
  | .local _ .vmem, ⟨0, _⟩ => ⟨S1024x768, .bf16⟩
  | .local _ .vmem, ⟨1, _⟩ => ⟨S1024x768, .bf16⟩
  | .local _ .vmem, ⟨2, _⟩ => ⟨S768x512, .f32⟩
  | .local _ .vmem, ⟨3, _⟩ => ⟨S768x512, .f32⟩
  | .local _ .vmem, ⟨4, _⟩ => ⟨S1024x512, .f32⟩
  | .local _ .vmem, ⟨5, _⟩ => ⟨S1024x512, .f32⟩
  | .local _ .vmem, ⟨6, _⟩ => ⟨S1024x768, .bf16⟩
  | _, _ => ⟨S4x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQueryIdeal.lean ====
abbrev S4x2048x768 : Shape := ⟨3, ![4, 2048, 768]⟩
abbrev S1x768x3072 : Shape := ⟨3, ![1, 768, 3072]⟩
abbrev S768x3072 : Shape := ⟨2, ![768, 3072]⟩
abbrev S4x2048x3072 : Shape := ⟨3, ![4, 2048, 3072]⟩
abbrev S8192x16x192 : Shape := ⟨3, ![8192, 16, 192]⟩
abbrev S8192x16x128 : Shape := ⟨3, ![8192, 16, 128]⟩
abbrev S8192x2048 : Shape := ⟨2, ![8192, 2048]⟩
abbrev S8192x16x64 : Shape := ⟨3, ![8192, 16, 64]⟩
abbrev S8192x1024 : Shape := ⟨2, ![8192, 1024]⟩
abbrev S8192x3072 : Shape := ⟨2, ![8192, 3072]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x768, .bf16⟩
  | .hbm, ⟨1, _⟩ => ⟨S1x768x3072, .f32⟩
  | .hbm, ⟨2, _⟩ => ⟨S4x2048x768, .f32⟩
  | .hbm, ⟨3, _⟩ => ⟨S768x3072, .f32⟩
  | .hbm, ⟨4, _⟩ => ⟨S4x2048x3072, .f32⟩
  | .hbm, ⟨5, _⟩ => ⟨S8192x16x192, .f32⟩
  | .hbm, ⟨6, _⟩ => ⟨S8192x16x128, .f32⟩
  | .hbm, ⟨7, _⟩ => ⟨S8192x2048, .f32⟩
  | .hbm, ⟨8, _⟩ => ⟨S8192x16x64, .f32⟩
  | .hbm, ⟨9, _⟩ => ⟨S8192x1024, .f32⟩
  | .hbm, ⟨10, _⟩ => ⟨S8192x3072, .f32⟩
  | _, _ => ⟨S4x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== KernelKv.lean ====
abbrev S4x2048x512 : Shape := ⟨3, ![4, 2048, 512]⟩
abbrev S1x512x4096 : Shape := ⟨3, ![1, 512, 4096]⟩
abbrev S8192x512 : Shape := ⟨2, ![8192, 512]⟩
abbrev S512x4096 : Shape := ⟨2, ![512, 4096]⟩
abbrev S8192x4096 : Shape := ⟨2, ![8192, 4096]⟩
abbrev S1024x512 : Shape := ⟨2, ![1024, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x512, .bf16⟩
  | .hbm, ⟨1, _⟩ => ⟨S1x512x4096, .f32⟩
  | .hbm, ⟨2, _⟩ => ⟨S8192x512, .bf16⟩
  | .hbm, ⟨3, _⟩ => ⟨S512x4096, .f32⟩
  | .hbm, ⟨4, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S512x512, .f32⟩
  | .local _ .vmem, ⟨3, _⟩ => ⟨S512x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceKvIdeal.lean ====
abbrev S4x2048x512 : Shape := ⟨3, ![4, 2048, 512]⟩
abbrev S1x512x4096 : Shape := ⟨3, ![1, 512, 4096]⟩
abbrev S512x4096 : Shape := ⟨2, ![512, 4096]⟩
abbrev S4x2048x4096 : Shape := ⟨3, ![4, 2048, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S1x512x4096, .f32⟩
  | .hbm, ⟨2, _⟩ => ⟨S4x2048x512, .f32⟩
  | .hbm, ⟨3, _⟩ => ⟨S512x4096, .f32⟩
  | .hbm, ⟨4, _⟩ => ⟨S4x2048x4096, .f32⟩
  | .hbm, ⟨5, _⟩ => ⟨S4x2048x4096, .bf16⟩
  | .hbm, ⟨6, _⟩ => ⟨S8192x4096, .bf16⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelInS.lean ====
abbrev S128x1x2048 : Shape := ⟨3, ![128, 1, 2048]⟩
abbrev S1x2048x2864 : Shape := ⟨3, ![1, 2048, 2864]⟩
abbrev S128x2048 : Shape := ⟨2, ![128, 2048]⟩
abbrev S2048x2864 : Shape := ⟨2, ![2048, 2864]⟩
abbrev S128x2864 : Shape := ⟨2, ![128, 2864]⟩
abbrev S2048x512 : Shape := ⟨2, ![2048, 512]⟩
abbrev S128x512 : Shape := ⟨2, ![128, 512]⟩

abbrev nBuf : Space → Nat
  | .hbm => 5
  | .vmem => 6
  | .smem => 0
  | _ => 0

abbrev bufTy : (tb : Table) → Fin (tcTables nBuf tb) → BufTy
  | .hbm, ⟨0, _⟩ => ⟨S128x1x2048, .f32⟩
  | .hbm, ⟨1, _⟩ => ⟨S1x2048x2864, .f32⟩
  | .hbm, ⟨2, _⟩ => ⟨S128x2048, .f32⟩
  | .hbm, ⟨3, _⟩ => ⟨S2048x2864, .f32⟩
  | .hbm, ⟨4, _⟩ => ⟨S128x2864, .f32⟩
  | .local _ .vmem, ⟨0, _⟩ => ⟨S128x2048, .f32⟩
  | .local _ .vmem, ⟨1, _⟩ => ⟨S2048x512, .f32⟩
  | .local _ .vmem, ⟨2, _⟩ => ⟨S2048x512, .f32⟩
  | .local _ .vmem, ⟨3, _⟩ => ⟨S128x512, .f32⟩
  | .local _ .vmem, ⟨4, _⟩ => ⟨S128x512, .f32⟩
  | .local _ .vmem, ⟨5, _⟩ => ⟨S128x2048, .bf16⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInSIdeal.lean ====
abbrev S128x1x2048 : Shape := ⟨3, ![128, 1, 2048]⟩
abbrev S1x2048x2864 : Shape := ⟨3, ![1, 2048, 2864]⟩
abbrev S2048x2864 : Shape := ⟨2, ![2048, 2864]⟩
abbrev S128x1x2864 : Shape := ⟨3, ![128, 1, 2864]⟩
abbrev S128x2864 : Shape := ⟨2, ![128, 2864]⟩

abbrev nBuf : Space → Nat
  | .hbm => 5
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S1x2048x2864, .f32⟩
  | .hbm, ⟨2, _⟩ => ⟨S2048x2864, .f32⟩
  | .hbm, ⟨3, _⟩ => ⟨S128x1x2864, .f32⟩
  | .hbm, ⟨4, _⟩ => ⟨S128x2864, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelPleS.lean ====
abbrev S128x1x2048 : Shape := ⟨3, ![128, 1, 2048]⟩
abbrev S2048 : Shape := ⟨1, ![2048]⟩
abbrev S2x2048x2048 : Shape := ⟨3, ![2, 2048, 2048]⟩
abbrev S2x128x1x256 : Shape := ⟨4, ![2, 128, 1, 256]⟩
abbrev S2x256x2048 : Shape := ⟨3, ![2, 256, 2048]⟩
abbrev S128x2048 : Shape := ⟨2, ![128, 2048]⟩
abbrev S2x128x256 : Shape := ⟨3, ![2, 128, 256]⟩
abbrev S1x2048 : Shape := ⟨2, ![1, 2048]⟩
abbrev S1x2048x512 : Shape := ⟨3, ![1, 2048, 512]⟩
abbrev S1x128x256 : Shape := ⟨3, ![1, 128, 256]⟩
abbrev S1x256x512 : Shape := ⟨3, ![1, 256, 512]⟩
abbrev S128x512 : Shape := ⟨2, ![128, 512]⟩
abbrev S4x128x512 : Shape := ⟨3, ![4, 128, 512]⟩
abbrev S128 : Shape := ⟨1, ![128]⟩
abbrev S128x1 : Shape := ⟨2, ![128, 1]⟩
abbrev S1x128x512 : Shape := ⟨3, ![1, 128, 512]⟩
abbrev S2048x512 : Shape := ⟨2, ![2048, 512]⟩
abbrev S128x256 : Shape := ⟨2, ![128, 256]⟩
abbrev S256x512 : Shape := ⟨2, ![256, 512]⟩

abbrev nBuf : Space → Nat
  | .hbm => 11
  | .vmem => 12
  | .smem => 0
  | _ => 0

abbrev bufTy : (tb : Table) → Fin (tcTables nBuf tb) → BufTy
  | .hbm, ⟨0, _⟩ => ⟨S128x1x2048, .f32⟩
  | .hbm, ⟨1, _⟩ => ⟨S2048, .f32⟩
  | .hbm, ⟨2, _⟩ => ⟨S2048, .f32⟩
  | .hbm, ⟨3, _⟩ => ⟨S2x2048x2048, .f32⟩
  | .hbm, ⟨4, _⟩ => ⟨S2x128x1x256, .f32⟩
  | .hbm, ⟨5, _⟩ => ⟨S2x256x2048, .f32⟩
  | .hbm, ⟨6, _⟩ => ⟨S128x2048, .f32⟩
  | .hbm, ⟨7, _⟩ => ⟨S2x128x256, .f32⟩
  | .hbm, ⟨8, _⟩ => ⟨S1x2048, .f32⟩
  | .hbm, ⟨9, _⟩ => ⟨S1x2048, .f32⟩
  | .hbm, ⟨10, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x128x256, .f32⟩
  | .local _ .vmem, ⟨6, _⟩ => ⟨S1x256x512, .f32⟩
  | .local _ .vmem, ⟨7, _⟩ => ⟨S1x256x512, .f32⟩
  | .local _ .vmem, ⟨8, _⟩ => ⟨S128x512, .f32⟩
  | .local _ .vmem, ⟨9, _⟩ => ⟨S128x512, .f32⟩
  | .local _ .vmem, ⟨10, _⟩ => ⟨S4x128x512, .f32⟩
  | .local _ .vmem, ⟨11, _⟩ => ⟨S128x2048, .bf16⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![1, 4], ![false, false]⟩

def k0_off1 (i : grid0.Coords) : Fin 3 → Nat :=
  let arg1 : BitVec 32 := BitVec.ofNat 32 (i 1).val
  let v22 : Index := Scalar.indexCast arg1
  let c0_15 : Index := 0#32
  let c0_16 : Index := 0#32
  ![v22.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferencePleSIdeal.lean ====
abbrev S128x1x2048 : Shape := ⟨3, ![128, 1, 2048]⟩
abbrev S2048 : Shape := ⟨1, ![2048]⟩
abbrev S2x2048x2048 : Shape := ⟨3, ![2, 2048, 2048]⟩
abbrev S2x128x1x256 : Shape := ⟨4, ![2, 128, 1, 256]⟩
abbrev S2x256x2048 : Shape := ⟨3, ![2, 256, 2048]⟩
abbrev S_ : Shape := ⟨0, ![]⟩
abbrev S128x1 : Shape := ⟨2, ![128, 1]⟩
abbrev S128x1x1 : Shape := ⟨3, ![128, 1, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S1x128x1x256 : Shape := ⟨4, ![1, 128, 1, 256]⟩
abbrev S128x1x256 : Shape := ⟨3, ![128, 1, 256]⟩
abbrev S1x256x2048 : Shape := ⟨3, ![1, 256, 2048]⟩
abbrev S256x2048 : Shape := ⟨2, ![256, 2048]⟩
abbrev S128x2048 : Shape := ⟨2, ![128, 2048]⟩

abbrev nBuf : Space → Nat
  | .hbm => 54
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S2048, .f32⟩
  | .hbm, ⟨2, _⟩ => ⟨S2048, .f32⟩
  | .hbm, ⟨3, _⟩ => ⟨S2x2048x2048, .f32⟩
  | .hbm, ⟨4, _⟩ => ⟨S2x128x1x256, .f32⟩
  | .hbm, ⟨5, _⟩ => ⟨S2x256x2048, .f32⟩
  | .hbm, ⟨6, _⟩ => ⟨S_, .f32⟩
  | .hbm, ⟨7, _⟩ => ⟨S128x1, .f32⟩
  | .hbm, ⟨8, _⟩ => ⟨S128x1x1, .f32⟩
  | .hbm, ⟨9, _⟩ => ⟨S_, .f32⟩
  | .hbm, ⟨10, _⟩ => ⟨S128x1x1, .f32⟩
  | .hbm, ⟨11, _⟩ => ⟨S128x1x1, .f32⟩
  | .hbm, ⟨12, _⟩ => ⟨S128x1x2048, .f32⟩
  | .hbm, ⟨13, _⟩ => ⟨S128x1x2048, .f32⟩
  | .hbm, ⟨14, _⟩ => ⟨S128x1x2048, .f32⟩
  | .hbm, ⟨15, _⟩ => ⟨S_, .f32⟩
  | .hbm, ⟨16, _⟩ => ⟨S128x1, .f32⟩
  | .hbm, ⟨17, _⟩ => ⟨S128x1x1, .f32⟩
  | .hbm, ⟨18, _⟩ => ⟨S_, .f32⟩
  | .hbm, ⟨19, _⟩ => ⟨S128x1x1, .f32⟩
  | .hbm, ⟨20, _⟩ => ⟨S128x1x1, .f32⟩
  | .hbm, ⟨21, _⟩ => ⟨S128x1x2048, .f32⟩
  | .hbm, ⟨22, _⟩ => ⟨S128x1x2048, .f32⟩
  | .hbm, ⟨23, _⟩ => ⟨S_, .f32⟩
  | .hbm, ⟨24, _⟩ => ⟨S128x1x1, .f32⟩
  | .hbm, ⟨25, _⟩ => ⟨S128x1x1, .f32⟩
  | .hbm, ⟨26, _⟩ => ⟨S128x1x1, .f32⟩
  | .hbm, ⟨27, _⟩ => ⟨S128x1x2048, .f32⟩
  | .hbm, ⟨28, _⟩ => ⟨S128x1x2048, .f32⟩
  | .hbm, ⟨29, _⟩ => ⟨S1x1x2048, .f32⟩
  | .hbm, ⟨30, _⟩ => ⟨S128x1x2048, .f32⟩
  | .hbm, ⟨31, _⟩ => ⟨S128x1x2048, .f32⟩
  | .hbm, ⟨32, _⟩ => ⟨S1x1x2048, .f32⟩
  | .hbm, ⟨33, _⟩ => ⟨S128x1x2048, .f32⟩
  | .hbm, ⟨34, _⟩ => ⟨S128x1x2048, .f32⟩
  | .hbm, ⟨35, _⟩ => ⟨S1x2048x2048, .f32⟩
  | .hbm, ⟨36, _⟩ => ⟨S2048x2048, .f32⟩
  | .hbm, ⟨37, _⟩ => ⟨S128x1x2048, .f32⟩
  | .hbm, ⟨38, _⟩ => ⟨S128x1x2048, .f32⟩
  | .hbm, ⟨39, _⟩ => ⟨S128x1x2048, .f32⟩
  | .hbm, ⟨40, _⟩ => ⟨S_, .f32⟩
  | .hbm, ⟨41, _⟩ => ⟨S128x1x2048, .f32⟩
  | .hbm, ⟨42, _⟩ => ⟨S128x1x2048, .f32⟩
  | .hbm, ⟨43, _⟩ => ⟨S_, .f32⟩
  | .hbm, ⟨44, _⟩ => ⟨S128x1x2048, .f32⟩
  | .hbm, ⟨45, _⟩ => ⟨S128x1x2048, .f32⟩
  | .hbm, ⟨46, _⟩ => ⟨S1x128x1x256, .f32⟩
  | .hbm, ⟨47, _⟩ => ⟨S128x1x256, .f32⟩
  | .hbm, ⟨48, _⟩ => ⟨S1x256x2048, .f32⟩
  | .hbm, ⟨49, _⟩ => ⟨S256x2048, .f32⟩
  | .hbm, ⟨50, _⟩ => ⟨S128x1x2048, .f32⟩
  | .hbm, ⟨51, _⟩ => ⟨S128x1x2048, .f32⟩
  | .hbm, ⟨52, _⟩ => ⟨S128x1x2048, .f32⟩
  | .hbm, ⟨53, _⟩ => ⟨S128x2048, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== KernelPrepS.lean ====
abbrev S128x1x1344 : Shape := ⟨3, ![128, 1, 1344]⟩
abbrev S1x768 : Shape := ⟨2, ![1, 768]⟩
abbrev S1x512 : Shape := ⟨2, ![1, 512]⟩
abbrev S64x128 : Shape := ⟨2, ![64, 128]⟩
abbrev S_ : Shape := ⟨0, ![]⟩
abbrev S128 : Shape := ⟨1, ![128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x64 : Shape := ⟨2, ![128, 64]⟩
abbrev S1x128x1x64 : Shape := ⟨4, ![1, 128, 1, 64]⟩
abbrev S1x128x2x64 : Shape := ⟨4, ![1, 128, 2, 64]⟩
abbrev S128x128 : Shape := ⟨2, ![128, 128]⟩
abbrev S128x1344 : Shape := ⟨2, ![128, 1344]⟩
abbrev S768 : Shape := ⟨1, ![768]⟩
abbrev S512 : Shape := ⟨1, ![512]⟩
abbrev S128x768 : Shape := ⟨2, ![128, 768]⟩
abbrev S128x512 : Shape := ⟨2, ![128, 512]⟩
abbrev S128x576 : Shape := ⟨2, ![128, 576]⟩

abbrev nBuf : Space → Nat
  | .hbm => 46
  | .vmem => 10
  | .smem => 0
  | _ => 0

abbrev bufTy : (tb : Table) → Fin (tcTables nBuf tb) → BufTy
  | .hbm, ⟨0, _⟩ => ⟨S128x1x1344, .f32⟩
  | .hbm, ⟨1, _⟩ => ⟨S1x768, .f32⟩
  | .hbm, ⟨2, _⟩ => ⟨S1x512, .f32⟩
  | .hbm, ⟨3, _⟩ => ⟨S64x128, .f32⟩
  | .hbm, ⟨4, _⟩ => ⟨S_, .i32⟩
  | .hbm, ⟨5, _⟩ => ⟨S128, .i32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S128, .f32⟩
  | .hbm, ⟨21, _⟩ => ⟨S128x1, .f32⟩
  | .hbm, ⟨22, _⟩ => ⟨S1x32, .f32⟩
  | .hbm, ⟨23, _⟩ => ⟨S128x32, .f32⟩
  | .hbm, ⟨24, _⟩ => ⟨S128x32, .f32⟩
  | .hbm, ⟨25, _⟩ => ⟨S128x32, .f32⟩
  | .hbm, ⟨26, _⟩ => ⟨S128x32, .f32⟩
  | .hbm, ⟨27, _⟩ => ⟨S128x32, .f32⟩
  | .hbm, ⟨28, _⟩ => ⟨S128x64, .f32⟩
  | .hbm, ⟨29, _⟩ => ⟨S1x128x1x64, .f32⟩
  | .hbm, ⟨30, _⟩ => ⟨S1x128x2x64, .f32⟩
  | .hbm, ⟨31, _⟩ => ⟨S128x128, .f32⟩
  | .hbm, ⟨32, _⟩ => ⟨S128x32, .f32⟩
  | .hbm, ⟨33, _⟩ => ⟨S128x64, .f32⟩
  | .hbm, ⟨34, _⟩ => ⟨S1x128x1x64, .f32⟩
  | .hbm, ⟨35, _⟩ => ⟨S1x128x2x64, .f32⟩
  | .hbm, ⟨36, _⟩ => ⟨S128x128, .f32⟩
  | .hbm, ⟨37, _⟩ => ⟨S128x1344, .f32⟩
  | .hbm, ⟨38, _⟩ => ⟨S768, .f32⟩
  | .hbm, ⟨39, _⟩ => ⟨S512, .f32⟩
  | .hbm, ⟨40, _⟩ => ⟨S1x768, .f32⟩
  | .hbm, ⟨41, _⟩ => ⟨S1x512, .f32⟩
  | .hbm, ⟨42, _⟩ => ⟨S128x768, .bf16⟩
  | .hbm, ⟨43, _⟩ => ⟨S128x512, .bf16⟩
  | .hbm, ⟨44, _⟩ => ⟨S128x576, .f32⟩
  | .hbm, ⟨45, _⟩ => ⟨S128x128, .f32⟩
  | .local _ .vmem, ⟨0, _⟩ => ⟨S128x1344, .f32⟩
  | .local _ .vmem, ⟨1, _⟩ => ⟨S1x768, .f32⟩
  | .local _ .vmem, ⟨2, _⟩ => ⟨S1x512, .f32⟩
  | .local _ .vmem, ⟨3, _⟩ => ⟨S128x128, .f32⟩
  | .local _ .vmem, ⟨4, _⟩ => ⟨S128x128, .f32⟩
  | .local _ .vmem, ⟨5, _⟩ => ⟨S64x128, .f32⟩
  | .local _ .vmem, ⟨6, _⟩ => ⟨S128x768, .bf16⟩
  | .local _ .vmem, ⟨7, _⟩ => ⟨S128x512, .bf16⟩
  | .local _ .vmem, ⟨8, _⟩ => ⟨S128x576, .f32⟩
  | .local _ .vmem, ⟨9, _⟩ => ⟨S128x128, .f32⟩
  | _, _ => ⟨S128x1x1344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev main_v33_2 : Ref sig .tc := ⟨.hbm, 44, rfl⟩
abbrev main_v33_3 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1344 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x576 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== ReferencePrepSIdeal.lean ====
abbrev S128x1x1344 : Shape := ⟨3, ![128, 1, 1344]⟩
abbrev S1x768 : Shape := ⟨2, ![1, 768]⟩
abbrev S1x512 : Shape := ⟨2, ![1, 512]⟩
abbrev S128x1x768 : Shape := ⟨3, ![128, 1, 768]⟩
abbrev S768 : Shape := ⟨1, ![768]⟩
abbrev S_ : Shape := ⟨0, ![]⟩
abbrev S128x1 : Shape := ⟨2, ![128, 1]⟩
abbrev S128x1x1 : Shape := ⟨3, ![128, 1, 1]⟩
abbrev S1x1x768 : Shape := ⟨3, ![1, 1, 768]⟩
abbrev S128x1x512 : Shape := ⟨3, ![128, 1, 512]⟩
abbrev S512 : Shape := ⟨1, ![512]⟩
abbrev S1x1x512 : Shape := ⟨3, ![1, 1, 512]⟩
abbrev S128x1x64 : Shape := ⟨3, ![128, 1, 64]⟩
abbrev S128x1x32 : Shape := ⟨3, ![128, 1, 32]⟩
abbrev S32 : Shape := ⟨1, ![32]⟩
abbrev S1 : Shape := ⟨1, ![1]⟩
abbrev S1x1 : Shape := ⟨2, ![1, 1]⟩
abbrev S1x32 : Shape := ⟨2, ![1, 32]⟩
abbrev S1x1x32 : Shape := ⟨3, ![1, 1, 32]⟩
abbrev S128x1x576 : Shape := ⟨3, ![128, 1, 576]⟩
abbrev S128x768 : Shape := ⟨2, ![128, 768]⟩
abbrev S128x512 : Shape := ⟨2, ![128, 512]⟩
abbrev S128x576 : Shape := ⟨2, ![128, 576]⟩
abbrev S128x1x128 : Shape := ⟨3, ![128, 1, 128]⟩
abbrev S128x128 : Shape := ⟨2, ![128, 128]⟩

abbrev nBuf : Space → Nat
  | .hbm => 90
  | .vmem => 0
  | .smem => 0
  | _ => 0

abbrev bufTy : (tb : Table) → Fin (tcTables nBuf tb) → BufTy
  | .hbm, ⟨0, _⟩ => ⟨S128x1x1344, .f32⟩
  | .hbm, ⟨1, _⟩ => ⟨S1x768, .f32⟩
  | .hbm, ⟨2, _⟩ => ⟨S1x512, .f32⟩
  | .hbm, ⟨3, _⟩ => ⟨S128x1x768, .f32⟩
  | .hbm, ⟨4, _⟩ => ⟨S768, .f32⟩
  | .hbm, ⟨5, _⟩ => ⟨S128x1x768, .f32⟩
  | .hbm, ⟨6, _⟩ => ⟨S_, .f32⟩
  | .hbm, ⟨7, _⟩ => ⟨S128x1, .f32⟩
  | .hbm, ⟨8, _⟩ => ⟨S128x1x1, .f32⟩
  | .hbm, ⟨9, _⟩ => ⟨S_, .f32⟩
  | .hbm, ⟨10, _⟩ => ⟨S128x1x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S128x1x1, .f32⟩
  | .hbm, ⟨16, _⟩ => ⟨S128x1x768, .f32⟩
  | .hbm, ⟨17, _⟩ => ⟨S128x1x768, .f32⟩
  | .hbm, ⟨18, _⟩ => ⟨S1x1x768, .f32⟩
  | .hbm, ⟨19, _⟩ => ⟨S128x1x768, .f32⟩
  | .hbm, ⟨20, _⟩ => ⟨S128x1x768, .f32⟩
  | .hbm, ⟨21, _⟩ => ⟨S128x1x512, .f32⟩
  | .hbm, ⟨22, _⟩ => ⟨S512, .f32⟩
  | .hbm, ⟨23, _⟩ => ⟨S128x1x512, .f32⟩
  | .hbm, ⟨24, _⟩ => ⟨S_, .f32⟩
  | .hbm, ⟨25, _⟩ => ⟨S128x1, .f32⟩
  | .hbm, ⟨26, _⟩ => ⟨S128x1x1, .f32⟩
  | .hbm, ⟨27, _⟩ => ⟨S_, .f32⟩
  | .hbm, ⟨28, _⟩ => ⟨S128x1x1, .f32⟩
  | .hbm, ⟨29, _⟩ => ⟨S128x1x1, .f32⟩
  | .hbm, ⟨30, _⟩ => ⟨S_, .f32⟩
  | .hbm, ⟨31, _⟩ => ⟨S128x1x1, .f32⟩
  | .hbm, ⟨32, _⟩ => ⟨S128x1x1, .f32⟩
  | .hbm, ⟨33, _⟩ => ⟨S128x1x1, .f32⟩
  | .hbm, ⟨34, _⟩ => ⟨S128x1x512, .f32⟩
  | .hbm, ⟨35, _⟩ => ⟨S128x1x512, .f32⟩
  | .hbm, ⟨36, _⟩ => ⟨S1x1x512, .f32⟩
  | .hbm, ⟨37, _⟩ => ⟨S128x1x512, .f32⟩
  | .hbm, ⟨38, _⟩ => ⟨S128x1x512, .f32⟩
  | .hbm, ⟨39, _⟩ => ⟨S128x1x64, .f32⟩
  | .hbm, ⟨40, _⟩ => ⟨S128x1x32, .f32⟩
  | .hbm, ⟨41, _⟩ => ⟨S128x1x32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S1, .i32⟩
  | .hbm, ⟨60, _⟩ => ⟨S1, .f32⟩
  | .hbm, ⟨61, _⟩ => ⟨S1x1, .f32⟩
  | .hbm, ⟨62, _⟩ => ⟨S1x32, .f32⟩
  | .hbm, ⟨63, _⟩ => ⟨S1x32, .f32⟩
  | .hbm, ⟨64, _⟩ => ⟨S1x32, .f32⟩
  | .hbm, ⟨65, _⟩ => ⟨S1x32, .f32⟩
  | .hbm, ⟨66, _⟩ => ⟨S1x32, .f32⟩
  | .hbm, ⟨67, _⟩ => ⟨S1x1x32, .f32⟩
  | .hbm, ⟨68, _⟩ => ⟨S128x1x32, .f32⟩
  | .hbm, ⟨69, _⟩ => ⟨S128x1x32, .f32⟩
  | .hbm, ⟨70, _⟩ => ⟨S1x1x32, .f32⟩
  | .hbm, ⟨71, _⟩ => ⟨S128x1x32, .f32⟩
  | .hbm, ⟨72, _⟩ => ⟨S128x1x32, .f32⟩
  | .hbm, ⟨73, _⟩ => ⟨S128x1x32, .f32⟩
  | .hbm, ⟨74, _⟩ => ⟨S1x1x32, .f32⟩
  | .hbm, ⟨75, _⟩ => ⟨S128x1x32, .f32⟩
  | .hbm, ⟨76, _⟩ => ⟨S128x1x32, .f32⟩
  | .hbm, ⟨77, _⟩ => ⟨S1x1x32, .f32⟩
  | .hbm, ⟨78, _⟩ => ⟨S128x1x32, .f32⟩
  | .hbm, ⟨79, _⟩ => ⟨S128x1x32, .f32⟩
  | .hbm, ⟨80, _⟩ => ⟨S128x1x32, .f32⟩
  | .hbm, ⟨81, _⟩ => ⟨S128x1x64, .f32⟩
  | .hbm, ⟨82, _⟩ => ⟨S128x1x576, .f32⟩
  | .hbm, ⟨83, _⟩ => ⟨S128x1x768, .bf16⟩
  | .hbm, ⟨84, _⟩ => ⟨S128x768, .bf16⟩
  | .hbm, ⟨85, _⟩ => ⟨S128x1x512, .bf16⟩
  | .hbm, ⟨86, _⟩ => ⟨S128x512, .bf16⟩
  | .hbm, ⟨87, _⟩ => ⟨S128x576, .f32⟩
  | .hbm, ⟨88, _⟩ => ⟨S128x1x128, .f32⟩
  | .hbm, ⟨89, _⟩ => ⟨S128x128, .f32⟩
  | _, _ => ⟨S128x1x1344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩

abbrev nD : Nat := 1
abbrev τ : Topo := Topo.v7x

variable {F : FTy → Type} [FloatOps F]
-- ==== KernelCombine.lean ====
abbrev S128x1x48 : Shape := ⟨3, ![128, 1, 48]⟩
abbrev S128x1x16x128 : Shape := ⟨4, ![128, 1, 16, 128]⟩
abbrev S128x3x16 : Shape := ⟨3, ![128, 3, 16]⟩
abbrev S3x128x16 : Shape := ⟨3, ![3, 128, 16]⟩
abbrev S3x2048x1 : Shape := ⟨3, ![3, 2048, 1]⟩
abbrev S2048x128 : Shape := ⟨2, ![2048, 128]⟩
abbrev S1x2048x1 : Shape := ⟨3, ![1, 2048, 1]⟩
abbrev S2048x1 : Shape := ⟨2, ![2048, 1]⟩

abbrev nBuf : Space → Nat
  | .hbm => 11
  | .vmem => 5
  | .smem => 0
  | _ => 0

abbrev bufTy : (tb : Table) → Fin (tcTables nBuf tb) → BufTy
  | .hbm, ⟨0, _⟩ => ⟨S128x1x48, .f32⟩
  | .hbm, ⟨1, _⟩ => ⟨S128x1x16x128, .f32⟩
  | .hbm, ⟨2, _⟩ => ⟨S128x1x16x128, .f32⟩
  | .hbm, ⟨3, _⟩ => ⟨S128x1x16x128, .f32⟩
  | .hbm, ⟨4, _⟩ => ⟨S128x3x16, .f32⟩
  | .hbm, ⟨5, _⟩ => ⟨S3x128x16, .f32⟩
  | .hbm, ⟨6, _⟩ => ⟨S3x2048x1, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .bf16⟩
  | .local _ .vmem, ⟨0, _⟩ => ⟨S3x2048x1, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .bf16⟩
  | _, _ => ⟨S128x1x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3x2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceCombineIdeal.lean ====
abbrev S128x1x48 : Shape := ⟨3, ![128, 1, 48]⟩
abbrev S128x1x16x128 : Shape := ⟨4, ![128, 1, 16, 128]⟩
abbrev S_ : Shape := ⟨0, ![]⟩
abbrev S128x1x3x16 : Shape := ⟨4, ![128, 1, 3, 16]⟩
abbrev S128x1x1x16 : Shape := ⟨4, ![128, 1, 1, 16]⟩
abbrev S128x1x16 : Shape := ⟨3, ![128, 1, 16]⟩
abbrev S128x1x16x1 : Shape := ⟨4, ![128, 1, 16, 1]⟩
abbrev S2048x128 : Shape := ⟨2, ![2048, 128]⟩

abbrev nBuf : Space → Nat
  | .hbm => 32
  | .vmem => 0
  | .smem => 0
  | _ => 0

abbrev bufTy : (tb : Table) → Fin (tcTables nBuf tb) → BufTy
  | .hbm, ⟨0, _⟩ => ⟨S128x1x48, .f32⟩
  | .hbm, ⟨1, _⟩ => ⟨S128x1x16x128, .f32⟩
  | .hbm, ⟨2, _⟩ => ⟨S128x1x16x128, .f32⟩
  | .hbm, ⟨3, _⟩ => ⟨S128x1x16x128, .f32⟩
  | .hbm, ⟨4, _⟩ => ⟨S128x1x48, .f32⟩
  | .hbm, ⟨5, _⟩ => ⟨S128x1x48, .f32⟩
  | .hbm, ⟨6, _⟩ => ⟨S_, .f32⟩
  | .hbm, ⟨7, _⟩ => ⟨S128x1x48, .f32⟩
  | .hbm, ⟨8, _⟩ => ⟨S128x1x48, .f32⟩
  | .hbm, ⟨9, _⟩ => ⟨S_, .f32⟩
  | .hbm, ⟨10, _⟩ => ⟨S128x1x48, .f32⟩
  | .hbm, ⟨11, _⟩ => ⟨S128x1x48, .f32⟩
  | .hbm, ⟨12, _⟩ => ⟨S128x1x3x16, .f32⟩
  | .hbm, ⟨13, _⟩ => ⟨S128x1x1x16, .f32⟩
  | .hbm, ⟨14, _⟩ => ⟨S128x1x16, .f32⟩
  | .hbm, ⟨15, _⟩ => ⟨S128x1x16x1, .f32⟩
  | .hbm, ⟨16, _⟩ => ⟨S128x1x16x128, .f32⟩
  | .hbm, ⟨17, _⟩ => ⟨S128x1x16x128, .f32⟩
  | .hbm, ⟨18, _⟩ => ⟨S128x1x1x16, .f32⟩
  | .hbm, ⟨19, _⟩ => ⟨S128x1x16, .f32⟩
  | .hbm, ⟨20, _⟩ => ⟨S128x1x16x1, .f32⟩
  | .hbm, ⟨21, _⟩ => ⟨S128x1x16x128, .f32⟩
  | .hbm, ⟨22, _⟩ => ⟨S128x1x16x128, .f32⟩
  | .hbm, ⟨23, _⟩ => ⟨S128x1x16x128, .f32⟩
  | .hbm, ⟨24, _⟩ => ⟨S128x1x1x16, .f32⟩
  | .hbm, ⟨25, _⟩ => ⟨S128x1x16, .f32⟩
  | .hbm, ⟨26, _⟩ => ⟨S128x1x16x1, .f32⟩
  | .hbm, ⟨27, _⟩ => ⟨S128x1x16x128, .f32⟩
  | .hbm, ⟨28, _⟩ => ⟨S128x1x16x128, .f32⟩
  | .hbm, ⟨29, _⟩ => ⟨S128x1x16x128, .f32⟩
  | .hbm, ⟨30, _⟩ => ⟨S128x1x16x128, .bf16⟩
  | .hbm, ⟨31, _⟩ => ⟨S2048x128, .bf16⟩
  | _, _ => ⟨S128x1x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== KernelAbsorbQ.lean ====
abbrev S128x1x3072 : Shape := ⟨3, ![128, 1, 3072]⟩
abbrev S1x512x4096 : Shape := ⟨3, ![1, 512, 4096]⟩
abbrev S128x3072 : Shape := ⟨2, ![128, 3072]⟩
abbrev S512x4096 : Shape := ⟨2, ![512, 4096]⟩
abbrev S16x128x512 : Shape := ⟨3, ![16, 128, 512]⟩
abbrev S128x128 : Shape := ⟨2, ![128, 128]⟩
abbrev S512x128 : Shape := ⟨2, ![512, 128]⟩
abbrev S1x128x512 : Shape := ⟨3, ![1, 128, 512]⟩
abbrev S128x512 : Shape := ⟨2, ![128, 512]⟩

abbrev nBuf : Space → Nat
  | .hbm => 5
  | .vmem => 6
  | .smem => 0
  | _ => 0

abbrev bufTy : (tb : Table) → Fin (tcTables nBuf tb) → BufTy
  | .hbm, ⟨0, _⟩ => ⟨S128x1x3072, .f32⟩
  | .hbm, ⟨1, _⟩ => ⟨S1x512x4096, .f32⟩
  | .hbm, ⟨2, _⟩ => ⟨S128x3072, .f32⟩
  | .hbm, ⟨3, _⟩ => ⟨S512x4096, .f32⟩
  | .hbm, ⟨4, _⟩ => ⟨S16x128x512, .f32⟩
  | .local _ .vmem, ⟨0, _⟩ => ⟨S128x128, .f32⟩
  | .local _ .vmem, ⟨1, _⟩ => ⟨S128x128, .f32⟩
  | .local _ .vmem, ⟨2, _⟩ => ⟨S512x128, .f32⟩
  | .local _ .vmem, ⟨3, _⟩ => ⟨S512x128, .f32⟩
  | .local _ .vmem, ⟨4, _⟩ => ⟨S1x128x512, .f32⟩
  | .local _ .vmem, ⟨5, _⟩ => ⟨S1x128x512, .f32⟩
  | _, _ => ⟨S128x1x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceAbsorbQIdeal.lean ====
abbrev S128x1x3072 : Shape := ⟨3, ![128, 1, 3072]⟩
abbrev S1x512x4096 : Shape := ⟨3, ![1, 512, 4096]⟩
abbrev S512x4096 : Shape := ⟨2, ![512, 4096]⟩
abbrev S512x16x256 : Shape := ⟨3, ![512, 16, 256]⟩
abbrev S512x16x128 : Shape := ⟨3, ![512, 16, 128]⟩
abbrev S128x1x2048 : Shape := ⟨3, ![128, 1, 2048]⟩
abbrev S128x1x16x128 : Shape := ⟨4, ![128, 1, 16, 128]⟩
abbrev S16x512x128x1 : Shape := ⟨4, ![16, 512, 128, 1]⟩
abbrev S128x1x16x512 : Shape := ⟨4, ![128, 1, 16, 512]⟩
abbrev S128x16x512 : Shape := ⟨3, ![128, 16, 512]⟩
abbrev S16x128x512 : Shape := ⟨3, ![16, 128, 512]⟩

abbrev nBuf : Space → Nat
  | .hbm => 11
  | .vmem => 0
  | .smem => 0
  | _ => 0

abbrev bufTy : (tb : Table) → Fin (tcTables nBuf tb) → BufTy
  | .hbm, ⟨0, _⟩ => ⟨S128x1x3072, .f32⟩
  | .hbm, ⟨1, _⟩ => ⟨S1x512x4096, .f32⟩
  | .hbm, ⟨2, _⟩ => ⟨S512x4096, .f32⟩
  | .hbm, ⟨3, _⟩ => ⟨S512x16x256, .f32⟩
  | .hbm, ⟨4, _⟩ => ⟨S512x16x128, .f32⟩
  | .hbm, ⟨5, _⟩ => ⟨S128x1x2048, .f32⟩
  | .hbm, ⟨6, _⟩ => ⟨S128x1x16x128, .f32⟩
  | .hbm, ⟨7, _⟩ => ⟨S16x512x128x1, .f32⟩
  | .hbm, ⟨8, _⟩ => ⟨S128x1x16x512, .f32⟩
  | .hbm, ⟨9, _⟩ => ⟨S128x16x512, .f32⟩
  | .hbm, ⟨10, _⟩ => ⟨S16x128x512, .f32⟩
  | _, _ => ⟨S128x1x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== KernelAbsorbO.lean ====
abbrev S128x1x16x512 : Shape := ⟨4, ![128, 1, 16, 512]⟩
abbrev S1x512x4096 : Shape := ⟨3, ![1, 512, 4096]⟩
abbrev S128x16x512 : Shape := ⟨3, ![128, 16, 512]⟩
abbrev S16x128x512 : Shape := ⟨3, ![16, 128, 512]⟩
abbrev S512x4096 : Shape := ⟨2, ![512, 4096]⟩
abbrev S128x2048 : Shape := ⟨2, ![128, 2048]⟩
abbrev S1x128x512 : Shape := ⟨3, ![1, 128, 512]⟩
abbrev S512x128 : Shape := ⟨2, ![512, 128]⟩
abbrev S128x128 : Shape := ⟨2, ![128, 128]⟩
abbrev S128x512 : Shape := ⟨2, ![128, 512]⟩

abbrev nBuf : Space → Nat
  | .hbm => 6
  | .vmem => 6
  | .smem => 0
  | _ => 0

abbrev bufTy : (tb : Table) → Fin (tcTables nBuf tb) → BufTy
  | .hbm, ⟨0, _⟩ => ⟨S128x1x16x512, .f32⟩
  | .hbm, ⟨1, _⟩ => ⟨S1x512x4096, .f32⟩
  | .hbm, ⟨2, _⟩ => ⟨S128x16x512, .f32⟩
  | .hbm, ⟨3, _⟩ => ⟨S16x128x512, .f32⟩
  | .hbm, ⟨4, _⟩ => ⟨S512x4096, .f32⟩
  | .hbm, ⟨5, _⟩ => ⟨S128x2048, .bf16⟩
  | .local _ .vmem, ⟨0, _⟩ => ⟨S1x128x512, .f32⟩
  | .local _ .vmem, ⟨1, _⟩ => ⟨S1x128x512, .f32⟩
  | .local _ .vmem, ⟨2, _⟩ => ⟨S512x128, .f32⟩
  | .local _ .vmem, ⟨3, _⟩ => ⟨S512x128, .f32⟩
  | .local _ .vmem, ⟨4, _⟩ => ⟨S128x128, .bf16⟩
  | .local _ .vmem, ⟨5, _⟩ => ⟨S128x128, .bf16⟩
  | _, _ => ⟨S128x1x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceAbsorbOIdeal.lean ====
abbrev S128x1x16x512 : Shape := ⟨4, ![128, 1, 16, 512]⟩
abbrev S1x512x4096 : Shape := ⟨3, ![1, 512, 4096]⟩
abbrev S512x4096 : Shape := ⟨2, ![512, 4096]⟩
abbrev S512x16x256 : Shape := ⟨3, ![512, 16, 256]⟩
abbrev S512x16x128 : Shape := ⟨3, ![512, 16, 128]⟩
abbrev S16x128x128x1 : Shape := ⟨4, ![16, 128, 128, 1]⟩
abbrev S128x1x16x128 : Shape := ⟨4, ![128, 1, 16, 128]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S128x1x16x512, .f32⟩
  | .hbm, ⟨1, _⟩ => ⟨S1x512x4096, .f32⟩
  | .hbm, ⟨2, _⟩ => ⟨S512x4096, .f32⟩
  | .hbm, ⟨3, _⟩ => ⟨S512x16x256, .f32⟩
  | .hbm, ⟨4, _⟩ => ⟨S512x16x128, .f32⟩
  | .hbm, ⟨5, _⟩ => ⟨S16x128x128x1, .f32⟩
  | .hbm, ⟨6, _⟩ => ⟨S128x1x16x128, .f32⟩
  | .hbm, ⟨7, _⟩ => ⟨S128x1x16x128, .bf16⟩
  | .hbm, ⟨8, _⟩ => ⟨S128x2048, .bf16⟩
  | _, _ => ⟨S128x1x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Proof.SwiRun.lean ====
/-
  The first feed-forward product with the norm in front of it: its run. The row block is normed at the first column of each
  row block and kept, in the narrow type, in a scratch buffer; its mean and reciprocal deviation are stored at that column too
  and held in their output buffers until the row block's last column.
-/
module

public import proofs.«01_k».proof.Proof.Gen.KernelSwigluIdeal.Launch
public import proofs.«01_k».proof.Proof.Gen.KernelSwigluIdeal.Skeleton
public import Idealize.ShloMosaic.Lib.Pipeline.FrameBody
public import Idealize.ShloMosaic.Lib.Claim
public import Idealize.ShloMosaic.Lib.VecWindow
public import Idealize.ShloMosaic.Lib.Tactic
public import Idealize.ShloMosaic.Lib.WordCmp

@[expose] public section

set_option maxRecDepth 16384

noncomputable section

namespace Cert.Own.Swi

open Cert.KernelSwigluIdeal Cert.KernelSwigluIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch is taken at the first column of a row block. -/
abbrev first (i : grid0.Coords) : Prop := k0_cond1 i = 1#1

theorem first_iff : ∀ t : Fin cfg0.N, first (grid0.coords t) ↔ t.val % 11 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    unfold first k0_cond1
    word_cmp
   : ∀ t : Fin grid0.N, first (grid0.coords t) ↔ t.val % 11 = 0)

section Body
variable (c : Dev nD) (i : grid0.Coords)
    (arg2 : Memref sig .tc .vmem S1024x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S1x2048x512 .f32) (harg5 : arg5.IsWhole)
    (arg6 : Memref sig .tc .vmem S1x2048x512 .f32) (harg6 : arg6.IsWhole) (arg7 : Memref sig .tc .vmem S1024x512 .bf16) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x2048 .bf16) (harg10 : arg10.IsWhole)
    (x0 : Vec F S1024x2048 .f32) (x1 x2 : Vec F S1x2048 .f32) (x3 x4 : Vec F S1x2048x512 .f32)

/-- The body at a row block's first column: the norm's row statistics and the normed block are stored, then the product. -/
theorem run_first (hc : first i) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay5 (k0_pay4 x0 x1 x2) x3 x4) ∗ owns (c : Thread nD τ) arg8 fullShare (k0_pay2 x0)
            ∗ owns (c : Thread nD τ) arg9 fullShare (k0_pay3 x0) ∗ owns (c : Thread nD τ) arg10 fullShare (k0_pay4 x0 x1 x2)) -∗ K ⟨⟩))
      ⊢ wp frame (wpE (defs₀ (F := F)) Variants.none c none) E
          (cc0_swiglu_ln i arg2 harg2 arg3 harg3 arg4 harg4 arg5 harg5 arg6 harg6 arg7 harg7 arg8 harg8 arg9 harg9 arg10 harg10) K := by
  simp only [cc0_swiglu_ln_eq_skeleton]; unfold cc0_swiglu_ln_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_full _ _ _ _ _).trans ?_
    delta run_first.sl.v3 run_first.sl.H8_1
    rw [View.readCov_full, View.readAt_full, View.readAt_full, View.readAt_full, View.readAt_full, View.readAt_full, hf0, hf1, hf2, hf3, hf4]
  isplitl [H6]
  · iexists _; isplitr
    swap; · iexact H6
    ipureintro
    refine (View.read_writes_full _ _ _ _ _).trans ?_
    rw [View.readAt_full, hf0]
  isplitl [H7]
  · iexists _; isplitr
    swap; · iexact H7
    ipureintro
    refine (View.read_writes_full _ _ _ _ _).trans ?_
    rw [View.readAt_full, hf0]
  iexists _; isplitr
  swap; · iexact H8
  ipureintro
  refine (View.read_writes_full _ _ _ _ _).trans ?_
  rw [View.readAt_full, View.readAt_full, View.readAt_full, hf0, hf1, hf2]

/-- The body at any later column: the product alone, the other buffers as they were. -/
theorem run_later (hc : ¬first i) (y6 y7 : Vec F S1024x1 .f32) (xb : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare y6
        ∗ owns (c : Thread nD τ) arg9 fullShare y7 ∗ owns (c : Thread nD τ) arg10 fullShare xb
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay5 xb x3 x4) ∗ owns (c : Thread nD τ) arg8 fullShare y6
            ∗ owns (c : Thread nD τ) arg9 fullShare y7 ∗ owns (c : Thread nD τ) arg10 fullShare xb) -∗ K ⟨⟩))
      ⊢ wp frame (wpE (defs₀ (F := F)) Variants.none c none) E
          (cc0_swiglu_ln i arg2 harg2 arg3 harg3 arg4 harg4 arg5 harg5 arg6 harg6 arg7 harg7 arg8 harg8 arg9 harg9 arg10 harg10) K := by
  simp only [cc0_swiglu_ln_eq_skeleton]; unfold cc0_swiglu_ln_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hf6; obtain rfl := harg9.eq_unread hf7; obtain rfl := harg10.eq_unread hf8
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_full _ _ _ _ _).trans ?_
    rw [View.readAt_full, View.readAt_full, View.readAt_full, hf8, hf3, hf4]
  isplitl [H6]
  · iexists _; isplitr; · ipureintro; exact harg8.read_unread _
    iexact H6
  isplitl [H7]
  · iexists _; isplitr; · ipureintro; exact harg9.read_unread _
    iexact H7
  iexists _; isplitr; · ipureintro; exact harg10.read_unread _
  iexact H8

end Body

variable (m : (ℓ : Loc nD τ sig) → Buf (Elt F) ℓ) (ρ : Dev nD → PrngReg)

/-! ## The arrays that the call finds -/

/-- The buffers of core `c` after the host operations before the call. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write none of the arguments. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- Window `w`'s block of its array at a grid point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the buffers hold after each point -/

/-- The first grid point of a point's row block. -/
def head (t : Fin cfg0.N) : Fin cfg0.N := ⟨t.val / 11 * 11, lt_of_le_of_lt (Nat.div_mul_le_self _ _) t.isLt⟩

/-- The normed block that the scratch buffer holds from a row block's first point on. -/
def normed (c : Dev nD) (t : Fin cfg0.N) : Vec F S1024x2048 .bf16 :=
  k0_pay4 (iblk m c 0 (head t)) (iblk m c 1 (head t)) (iblk m c 2 (head t))

/-- The mean and the reciprocal deviation of each row of the row block. -/
def means (c : Dev nD) (t : Fin cfg0.N) : Vec F S1024x1 .f32 := k0_pay2 (iblk m c 0 (head t))
def rstds (c : Dev nD) (t : Fin cfg0.N) : Vec F S1024x1 .f32 := k0_pay3 (iblk m c 0 (head t))

/-- The block of the result that a point stores. -/
def outs (c : Dev nD) (t : Fin cfg0.N) : Vec F S1024x512 .bf16 := k0_pay5 (normed m c t) (iblk m c 3 t) (iblk m c 4 t)

/-- The scratch buffer. -/
abbrev scM : Memref sig .tc .vmem S1024x2048 .bf16 := Memref.whole cc0_scratch0

/-- Before the first point the scratch buffer holds anything; after point `n` it holds that point's normed block. -/
def PhiS (c : Dev nD) : (n : ℕ) → n ≤ cfg0.N → sProp 𝕄
  | 0, _ => Pipeline.ΦA spec0 c
  | n + 1, hn => iprop(owns (c : Thread nD τ) scM fullShare (normed m c ⟨n, hn⟩) ∗ (∃ r, prngReg c r))

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- At any point the scratch buffer holds something. -/
theorem PhiS_any (c : Dev nD) : (n : ℕ) → (h : n ≤ cfg0.N) →
    (PhiS m c n h ⊢ iprop((∃ d, owns (c : Thread nD τ) scM fullShare d) ∗ (∃ r, prngReg c r)))
  | 0, _ => by
    unfold PhiS; rw [PhiA_eq]
  | n + 1, hn => by
    unfold PhiS
    iintro ⟨HS, Hg⟩
    isplitl [HS]; · iexists _; iexact HS
    iexact Hg

theorem PhiS_pos (c : Dev nD) (n : ℕ) (h : n ≤ cfg0.N) (hz : n ≠ 0) :
    PhiS m c n h = iprop(owns (c : Thread nD τ) scM fullShare (normed m c ⟨n - 1, by omega⟩) ∗ (∃ r, prngReg c r)) := by
  cases n with
  | zero => exact absurd rfl hz
  | succ n => rfl

/-- The run's data: the arrays as the call finds them, the inputs' buffers at their blocks, the outputs' at the formulas above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outs m c t
    | ⟨6, _⟩ => means m c t
    | ⟨7, _⟩ => rstds m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outs m c t := by dsimp only [dats]
theorem after_6 (c : Dev nD) (t : Fin cfg0.N) : (dats m 0 c).after 6 t = means m c t := by dsimp only [dats]
theorem after_7 (c : Dev nD) (t : Fin cfg0.N) : (dats m 0 c).after 7 t = rstds m c t := by dsimp only [dats]

/-- An input's buffer holds its block when the body starts, whether or not it was fetched at this point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The row statistics are written back at a row block's last column alone. -/
theorem flush_6 : ∀ t : Fin cfg0.N, (cfg0.win 6).flush t = true ↔ t.val % 11 = 10 :=
  (by decide +kernel : ∀ t : Fin grid0.N, win0_6.flush t = true ↔ t.val % 11 = 10)
theorem flush_7 : ∀ t : Fin cfg0.N, (cfg0.win 7).flush t = true ↔ t.val % 11 = 10 :=
  (by decide +kernel : ∀ t : Fin grid0.N, win0_7.flush t = true ↔ t.val % 11 = 10)

/-- The point before a later column belongs to the same row block. -/
theorem head_pred (t : Fin cfg0.N) (h0 : ¬t.val % 11 = 0) (hl : t.val - 1 < cfg0.N) : head ⟨t.val - 1, hl⟩ = head t := by
  unfold head; apply Fin.ext; show (t.val - 1) / 11 * 11 = t.val / 11 * 11; omega

theorem head_self (t : Fin cfg0.N) (h0 : t.val % 11 = 0) : head t = t := by
  unfold head; apply Fin.ext; show t.val / 11 * 11 = t.val; omega

/-- The body stores the row statistics at a row block's first column alone. -/
theorem idle_first (t : Fin cfg0.N) (h0 : t.val % 11 = 0) : (!(k0_cond1 (grid0.coords t) == 1#1)) = false := by
  have h : k0_cond1 (grid0.coords t) = 1#1 := (first_iff t).mpr h0
  rw [h]; rfl

theorem idle_later (t : Fin cfg0.N) (h0 : ¬t.val % 11 = 0) : (!(k0_cond1 (grid0.coords t) == 1#1)) = true := by
  have h : ¬k0_cond1 (grid0.coords t) = 1#1 := fun h => h0 ((first_iff t).mp h)
  rw [beq_eq_false_iff_ne.mpr h]; rfl

/-- At a later column the buffers of the row statistics still hold them. -/
theorem before_6 (c : Dev nD) : (n : ℕ) → (h : n < cfg0.N) → ¬n % 11 = 0 → ∀ d, (dats m 0 c).before 6 ⟨n, h⟩ d = means m c ⟨n, h⟩
  | 0, _, h0, _ => absurd rfl h0
  | n + 1, h, h0, d => by
    have hn : n < cfg0.N := by omega
    have hf : (cfg0.win 6).flush ⟨n, hn⟩ = false := by
      rw [← Bool.not_eq_true, flush_6]; show ¬n % 11 = 10; omega
    have e : means m c ⟨n, hn⟩ = means m c ⟨n + 1, h⟩ := by
      unfold means; rw [← head_pred ⟨n + 1, h⟩ h0 hn]; rfl
    have hb := (dats m 0 c).before_of_pos 6 ⟨n + 1, h⟩ (Nat.succ_ne_zero n) ((cfg0.win 6).fetch_out rfl _) d
    refine hb.trans ?_
    refine (if_neg (by rw [show (cfg0.win 6).flush ⟨n + 1 - 1, _⟩ = false from hf]; exact Bool.false_ne_true)).trans ?_
    show (dats m 0 c).left 6 ⟨n, hn⟩ d = _
    rw [← e]
    unfold Dat.left
    by_cases h1 : n % 11 = 0
    · rw [show cfg0.idle 6 (cfg0.grid.coords ⟨n, hn⟩) = false from idle_first ⟨n, hn⟩ h1]
      dsimp only
      unfold Dat.kept; rw [after_6]; rfl
    · rw [show cfg0.idle 6 (cfg0.grid.coords ⟨n, hn⟩) = true from idle_later ⟨n, hn⟩ h1]
      exact before_6 c n hn h1 d

theorem before_7 (c : Dev nD) : (n : ℕ) → (h : n < cfg0.N) → ¬n % 11 = 0 → ∀ d, (dats m 0 c).before 7 ⟨n, h⟩ d = rstds m c ⟨n, h⟩
  | 0, _, h0, _ => absurd rfl h0
  | n + 1, h, h0, d => by
    have hn : n < cfg0.N := by omega
    have hf : (cfg0.win 7).flush ⟨n, hn⟩ = false := by
      rw [← Bool.not_eq_true, flush_7]; show ¬n % 11 = 10; omega
    have e : rstds m c ⟨n, hn⟩ = rstds m c ⟨n + 1, h⟩ := by
      unfold rstds; rw [← head_pred ⟨n + 1, h⟩ h0 hn]; rfl
    have hb := (dats m 0 c).before_of_pos 7 ⟨n + 1, h⟩ (Nat.succ_ne_zero n) ((cfg0.win 7).fetch_out rfl _) d
    refine hb.trans ?_
    refine (if_neg (by rw [show (cfg0.win 7).flush ⟨n + 1 - 1, _⟩ = false from hf]; exact Bool.false_ne_true)).trans ?_
    show (dats m 0 c).left 7 ⟨n, hn⟩ d = _
    rw [← e]
    unfold Dat.left
    by_cases h1 : n % 11 = 0
    · rw [show cfg0.idle 7 (cfg0.grid.coords ⟨n, hn⟩) = false from idle_first ⟨n, hn⟩ h1]
      dsimp only
      unfold Dat.kept; rw [after_7]; rfl
    · rw [show cfg0.idle 7 (cfg0.grid.coords ⟨n, hn⟩) = true from idle_later ⟨n, hn⟩ h1]
      exact before_7 c n hn h1 d

/-- The buffer of a row statistic at the statistic is what the body has to give back, at any point. -/
theorem leaves_6 (c : Dev nD) (t : Fin cfg0.N) :
    (owns (c : Thread nD τ) ((cfg0.win 6).stage (cfg0.slots t 6)) fullShare (means m c t) : sProp 𝕄) ⊢ (dats m 0 c).leavesExact 6 t := by
  by_cases h0 : t.val % 11 = 0
  · unfold Dat.leavesExact
    rw [show cfg0.idle 6 (cfg0.grid.coords t) = false from idle_first t h0, after_6]
  · cases hf : (cfg0.win 6).flush t
    · rw [(dats m 0 c).leavesExact_idle 6 t (idle_later t h0) hf]
      iintro H
      iexists (means m c t)
      rw [before_6 m c t.val t.isLt h0]
      iexact H
    · unfold Dat.leavesExact
      rw [show cfg0.idle 6 (cfg0.grid.coords t) = true from idle_later t h0, hf, after_6]

theorem leaves_7 (c : Dev nD) (t : Fin cfg0.N) :
    (owns (c : Thread nD τ) ((cfg0.win 7).stage (cfg0.slots t 7)) fullShare (rstds m c t) : sProp 𝕄) ⊢ (dats m 0 c).leavesExact 7 t := by
  by_cases h0 : t.val % 11 = 0
  · unfold Dat.leavesExact
    rw [show cfg0.idle 7 (cfg0.grid.coords t) = false from idle_first t h0, after_7]
  · cases hf : (cfg0.win 7).flush t
    · rw [(dats m 0 c).leavesExact_idle 7 t (idle_later t h0) hf]
      iintro H
      iexists (rstds m c t)
      rw [before_7 m c t.val t.isLt h0]
      iexact H
    · unfold Dat.leavesExact
      rw [show cfg0.idle 7 (cfg0.grid.coords t) = true from idle_later t h0, hf, after_7]

/-! ## The body at a grid point -/

abbrev ms_0 (t : Fin cfg0.N) : Memref sig .tc .vmem S1024x2048 .f32 := win0_0.stage (cfg0.slots t 0)
abbrev ms_1 (t : Fin cfg0.N) : Memref sig .tc .vmem S1x2048 .f32 := win0_1.stage (cfg0.slots t 1)
abbrev ms_2 (t : Fin cfg0.N) : Memref sig .tc .vmem S1x2048 .f32 := win0_2.stage (cfg0.slots t 2)
abbrev ms_3 (t : Fin cfg0.N) : Memref sig .tc .vmem S1x2048x512 .f32 := win0_3.stage (cfg0.slots t 3)
abbrev ms_4 (t : Fin cfg0.N) : Memref sig .tc .vmem S1x2048x512 .f32 := win0_4.stage (cfg0.slots t 4)
abbrev ms_5 (t : Fin cfg0.N) : Memref sig .tc .vmem S1024x512 .bf16 := win0_5.stage (cfg0.slots t 5)
abbrev ms_6 (t : Fin cfg0.N) : Memref sig .tc .vmem S1024x1 .f32 := win0_6.stage (cfg0.slots t 6)
abbrev ms_7 (t : Fin cfg0.N) : Memref sig .tc .vmem S1024x1 .f32 := win0_7.stage (cfg0.slots t 7)

/-- The body at point `t`, on the buffers that the pipeline passes. -/
abbrev bodyAt (t : Fin cfg0.N) : Prog (TpuEff nD τ sig (Elt F) Λ₀ .tc) PUnit :=
  cc0_swiglu_ln (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _)

/-- What the body is given. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d)))

/-- What the body gives back. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ (dats m 0 c).leavesExact 6 t
    ∗ (dats m 0 c).leavesExact 7 t)

/-- The body takes the one to the other, at any point. -/
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before_0, before_1, before_2, before_3, before_4]
  rw [show (dats m 0 c).owesAt () t.succ = (dats m 0 c).owesAt () t.castSucc from rfl,
    after_0, after_1, after_2, after_3, after_4, after_5, PhiS_castSucc m c t]
  rw [show (dats m 0 c).Φ t.succ = iprop(owns (c : Thread nD τ) scM fullShare (normed m c t) ∗ (∃ r, prngReg c r)) from rfl]
  by_cases h0 : t.val % 11 = 0
  · refine (sep_mono (PhiS_any m c _ _) .rfl).trans ?_
    have e := head_self t h0
    have l6 := leaves_6 m c t
    have l7 := leaves_7 m c t
    unfold means at l6; unfold rstds at l7
    unfold outs normed
    rw [e] at l6 l7 ⊢
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ _ _ (iblk m c 0 t) (iblk m c 1 t) (iblk m c 2 t) (iblk m c 3 t) (iblk m c 4 t) ((first_iff t).mpr h0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply l6 $$ [H6]; iexact H6
    iapply l7 $$ [H7]; iexact H7
  · have hz : t.val ≠ 0 := by omega
    rw [PhiS_pos m c _ _ hz]
    have e : normed m c ⟨t.val - 1, by have := t.isLt; omega⟩ = normed m c t := by
      unfold normed; rw [head_pred t h0]
    rw [e]
    simp only [before_6 m c t.val t.isLt h0, before_7 m c t.val t.isLt h0]
    unfold outs
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ _ _ (iblk m c 0 t) (iblk m c 1 t) (iblk m c 2 t) (iblk m c 3 t) (iblk m c 4 t) (fun h => h0 ((first_iff t).mp h)) (means m c t) (rstds m c t) (normed m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves_6 m c t) $$ [H6]; iexact H6
    iapply (leaves_7 m c t) $$ [H7]; iexact H7

theorem defs₀_row (t : Fin cfg0.N) : defs₀ (F := F) .tc cfg0.body (cfg0.bodyArgs t (cfg0.slots t)) = bodyAt t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [PhiA_eq]
  exact PhiS_any m c _ (Nat.le_of_lt_succ (Fin.last cfg0.N).isLt)

/-! ## The run -/

set_option backward.isDefEq.respectTransparency.types false in
/-- Every run ends, with each array at what the data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The three result arrays, and the arguments as they were. -/
theorem run_arrays : θ_run defs (onTc (τ := τ) (main (F := F))) ⟨m, fun _ => 0, ρ⟩ (fun r => (∀ c : Dev nD,
      r.2.mem ((c.tc : Thread nD τ).loc main_v3_0) = (dats m 0 c).arrAt 5 cfg0.N
      ∧ r.2.mem ((c.tc : Thread nD τ).loc main_v3_1) = (dats m 0 c).arrAt 6 cfg0.N
      ∧ r.2.mem ((c.tc : Thread nD τ).loc main_v3_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 5, (h.1 c).1 6, (h.1 c).1 7,
      ((h.1 c).2 main_arg0 (Pipeline.mem_restRefs_of main_arg0 (by decide) (by decide))).trans (V_arg0 m c),
      ((h.1 c).2 main_arg1 (Pipeline.mem_restRefs_of main_arg1 (by decide) (by decide))).trans (V_arg1 m c),
      ((h.1 c).2 main_arg2 (Pipeline.mem_restRefs_of main_arg2 (by decide) (by decide))).trans (V_arg2 m c),
      ((h.1 c).1 3).trans (((dats m 0 c).arrAt_in 3 rfl _).trans ((A_eq m c 3).trans (V_arg3 m c)))⟩, h.2⟩) (run_quiet m ρ)

/-- Every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2.2, h.2⟩) (run_arrays m ρ)

end Cert.Own.Swi

end
-- ==== Proof.SwiBits.lean ====
/-
  The first feed-forward product at machine floats: its program text is that of its idealized form, so the run is the same.
-/
module

public import proofs.«01_k».proof.Proof.SwiRun
public import proofs.«01_k».proof.Proof.Gen.KernelSwiglu
public import Idealize.ShloMosaic.PureOps.BitExact

@[expose] public section

set_option maxRecDepth 16384

noncomputable section

namespace Cert.Own.SwiBits

open Idealize.ShloMosaic Idealize.SL.Sem Cert.KernelSwiglu Cert.KernelSwiglu.Gen

/-- The two body tables are one. -/
theorem defs₀_eq : defs₀ (F := Bits) = Cert.KernelSwigluIdeal.defs₀ (F := Bits) := by
  unfold defs₀ Cert.KernelSwigluIdeal.defs₀
  congr 1
  funext l x
  obtain rfl : l = (0 : Fin 1) := Subsingleton.elim _ _
  rfl

/-- Every run ends with the arguments as they were and every counter at zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := Cert.Own.Swi.frame (F := Bits) m ρ
  unfold Cert.KernelSwigluIdeal.defs at h
  unfold defs
  rw [defs₀_eq]
  exact h

end Cert.Own.SwiBits

end
-- ==== Proof.SwiVal.lean ====
/-
  The first feed-forward product with the norm in front of it: the kernel's three result arrays and the reference's.
-/
module

public import proofs.«01_k».proof.Proof.SwiRun
public import proofs.«01_k».proof.Proof.Gen.ReferenceSwigluIdeal.Read
public import Idealize.ShloMosaic.Lib.Pipeline.ValueKit
public import Idealize.ShloMosaic.Lib.Pointwise

@[expose] public section

set_option maxRecDepth 16384

noncomputable section

namespace Cert.Own.SwiVal

open Idealize.ShloMosaic Idealize.SL.Sem Cert.KernelSwigluIdeal Cert.KernelSwigluIdeal.Gen Cert.Own.Swi

/-- The mean of a row. -/
def mean (x : Fin 2048 → EReal) : EReal := Ideal.div (∑ k, x k) (Ideal.ofBits .f32 0x45000000#32)

/-- The reciprocal deviation of a row. -/
def rstd (x : Fin 2048 → EReal) : EReal :=
  Ideal.rsqrt (Ideal.div (∑ k, (x k - mean x) * (x k - mean x)) (Ideal.ofBits .f32 0x45000000#32) + Ideal.ofBits .f32 0x3727C5AC#32)

/-- An entry of the normed row. -/
def norm (x g b : Fin 2048 → EReal) (k : Fin 2048) : EReal := (x k - mean x) * rstd x * g k + b k

/-- The gate of one product times the other. -/
def gate (p q : EReal) : EReal :=
  p * Ideal.div (Ideal.ofBits .f32 0x3F800000#32) (Ideal.ofBits .f32 0x3F800000#32 + Ideal.exp (0 - p)) * q

theorem mean_read (x : Vec Ideal S1024x2048 .f32) (a : Fin 1024) : k0_pay2 x (ix2 a 0) = mean fun k => x (ix2 a k) := by
  pointwise [k0_pay2, k0_pay1, mean]

theorem rstd_read (x : Vec Ideal S1024x2048 .f32) (a : Fin 1024) : k0_pay3 x (ix2 a 0) = rstd fun k => x (ix2 a k) := by
  pointwise [k0_pay3, k0_pay2, k0_pay1, rstd, mean]

theorem norm_read (x : Vec Ideal S1024x2048 .f32) (g b : Vec Ideal S1x2048 .f32) (a : Fin 1024) (k : Fin 2048) :
    k0_pay4 x g b (ix2 a k) = norm (fun k => x (ix2 a k)) (fun k => g (ix2 0 k)) (fun k => b (ix2 0 k)) k := by
  pointwise [k0_pay4, k0_pay3, k0_pay2, k0_pay1, norm, rstd, mean]

theorem out_read (y : Vec Ideal S1024x2048 .bf16) (u v : Vec Ideal S1x2048x512 .f32) (a : Fin 1024) (n : Fin 512) :
    k0_pay5 y u v (ix2 a n) = gate (∑ k : Fin 2048, y (ix2 a k) * u (ix3 0 k n)) (∑ k : Fin 2048, y (ix2 a k) * v (ix3 0 k n)) := by
  pointwise [k0_pay5, gate]

variable (m : (ℓ : Loc nD τ sig) → Buf (Elt Ideal) ℓ) (c : Dev nD)

/-- The block index of each window at a grid point. -/
theorem idx0 : ∀ t : Fin cfg0.N, win0_0.index t = ![t.val / 11, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![1, 0, t.val % 11] := (by decide +kernel : ∀ t : Fin grid0.N, _)
theorem idx4 : ∀ t : Fin cfg0.N, win0_4.index t = ![1, 0, t.val % 11 + 11] := (by decide +kernel : ∀ t : Fin grid0.N, _)
theorem idx5 : ∀ t : Fin cfg0.N, win0_5.index t = ![t.val / 11, t.val % 11] := (by decide +kernel : ∀ t : Fin grid0.N, _)
theorem idx6 : ∀ t : Fin cfg0.N, win0_6.index t = ![t.val / 11, 0] := (by decide +kernel : ∀ t : Fin grid0.N, _)
theorem idx7 : ∀ t : Fin cfg0.N, win0_7.index t = ![t.val / 11, 0] := (by decide +kernel : ∀ t : Fin grid0.N, _)

theorem t_lt (t : Fin cfg0.N) : t.val < 88 := lt_of_lt_of_eq t.isLt (by decide +kernel)

/-- The argument arrays of core `c`. -/
def a0 : (⟨3, ![4, 2048, 2048]⟩ : Shape).Idx → EReal := m (c, Proc.tc.devRef main_arg0)
def a1 : (⟨1, ![2048]⟩ : Shape).Idx → EReal := m (c, Proc.tc.devRef main_arg1)
def a2 : (⟨1, ![2048]⟩ : Shape).Idx → EReal := m (c, Proc.tc.devRef main_arg2)
def a3 : (⟨3, ![2, 2048, 11264]⟩ : Shape).Idx → EReal := m (c, Proc.tc.devRef main_arg3)

/-- The batch and the sequence position of a row. -/
def bOf (i : Fin 8192) : Fin 4 := ⟨i.val / 2048, by omega⟩
def rOf (i : Fin 8192) : Fin 2048 := ⟨i.val % 2048, by omega⟩

/-- Row `i` of the first argument. -/
def row (A0 : (⟨3, ![4, 2048, 2048]⟩ : Shape).Idx → EReal) (i : Fin 8192) (k : Fin 2048) : EReal := A0 (ix3 (bOf i) (rOf i) k)

/-- A column of the weights' first half, and the column of the second half beside it. -/
def lo (j : Fin 5632) : Fin 11264 := ⟨j.val, by omega⟩
def hi (j : Fin 5632) : Fin 11264 := ⟨5632 + j.val, by omega⟩

/-- The normed row times a column of the weights. -/
def prod (A0 : (⟨3, ![4, 2048, 2048]⟩ : Shape).Idx → EReal) (A1 A2 : (⟨1, ![2048]⟩ : Shape).Idx → EReal)
    (A3 : (⟨3, ![2, 2048, 11264]⟩ : Shape).Idx → EReal) (i : Fin 8192) (n : Fin 11264) : EReal :=
  ∑ k : Fin 2048, norm (row A0 i) (fun k => A1 (ix1 k)) (fun k => A2 (ix1 k)) k * A3 (ix3 1 k n)

/-- The operands that the host code lays out, and the weights as they are. -/
theorem V0 (r : Fin 8192) (k : Fin 2048) : V m c main_v0 (ix2 r k) = row (a0 m c) r k := by
  unfold V
  after_results
  pointwise [a0, row, bOf, rOf]

theorem V1 (k : Fin 2048) : V m c main_v1 (ix2 0 k) = a1 m c (ix1 k) := by
  unfold V
  after_results
  pointwise [a1]

theorem V2 (k : Fin 2048) : V m c main_v2 (ix2 0 k) = a2 m c (ix1 k) := by
  unfold V
  after_results
  pointwise [a2]

theorem Va3 (i : (⟨3, ![2, 2048, 11264]⟩ : Shape).Idx) : V m c main_arg3 i = a3 m c i := by
  unfold V
  after_results
  rfl

/-- A row of the arrays, from the grid point and the row in its block. -/
def rowOf (t : Fin cfg0.N) (r : Fin 1024) : Fin 8192 := ⟨t.val / 11 * 1024 + r.val, by have := t_lt t; omega⟩

/-- A column of the result, from the grid point and the column in its block. -/
def colOf (t : Fin cfg0.N) (n : Fin 512) : Fin 5632 := ⟨t.val % 11 * 512 + n.val, by omega⟩

/-- A row block's first point has the block's rows. -/
theorem rowOf_head (t : Fin cfg0.N) (r : Fin 1024) : rowOf (head t) r = rowOf t r := by
  apply Fin.ext
  show t.val / 11 * 11 / 11 * 1024 + r.val = t.val / 11 * 1024 + r.val
  omega

/-- The row block. -/
theorem blk0 (t : Fin cfg0.N) (r : Fin 1024) (k : Fin 2048) : iblk m c 0 t (ix2 r k) = row (a0 m c) (rowOf t r) k := by
  have e : iblk m c 0 t (ix2 r k) = V m c main_v0 (ix2 (rowOf t r) k) := by
    blk_point [iblk, V, idx0 t, rowOf]
  exact e.trans (V0 m c _ _)

/-- The norm's gain and offset. -/
theorem blk1 (t : Fin cfg0.N) (k : Fin 2048) : iblk m c 1 t (ix2 0 k) = a1 m c (ix1 k) := by
  have e : iblk m c 1 t (ix2 0 k) = V m c main_v1 (ix2 0 k) := by
    blk_point [iblk, V, idx1 t]
  exact e.trans (V1 m c _)

theorem blk2 (t : Fin cfg0.N) (k : Fin 2048) : iblk m c 2 t (ix2 0 k) = a2 m c (ix1 k) := by
  have e : iblk m c 2 t (ix2 0 k) = V m c main_v2 (ix2 0 k) := by
    blk_point [iblk, V, idx2 t]
  exact e.trans (V2 m c _)

/-- The two column blocks of the weights. -/
theorem blk3 (t : Fin cfg0.N) (k : Fin 2048) (n : Fin 512) : iblk m c 3 t (ix3 0 k n) = a3 m c (ix3 1 k (lo (colOf t n))) := by
  have e : iblk m c 3 t (ix3 0 k n) = V m c main_arg3 (ix3 1 k (lo (colOf t n))) := by
    blk_point [iblk, V, idx3 t, colOf, lo]
  exact e.trans (Va3 m c _)

theorem blk4 (t : Fin cfg0.N) (k : Fin 2048) (n : Fin 512) : iblk m c 4 t (ix3 0 k n) = a3 m c (ix3 1 k (hi (colOf t n))) := by
  have e : iblk m c 4 t (ix3 0 k n) = V m c main_arg3 (ix3 1 k (hi (colOf t n))) := by
    blk_point [iblk, V, idx4 t, colOf, hi]
  exact e.trans (Va3 m c _)

/-- What a point stores, at a row and column of its block. -/
theorem means_read (t : Fin cfg0.N) (a : Fin 1024) : means m c t (ix2 a 0) = mean (row (a0 m c) (rowOf t a)) := by
  unfold means
  rw [mean_read]
  simp only [blk0, rowOf_head]

theorem rstds_read (t : Fin cfg0.N) (a : Fin 1024) : rstds m c t (ix2 a 0) = rstd (row (a0 m c) (rowOf t a)) := by
  unfold rstds
  rw [rstd_read]
  simp only [blk0, rowOf_head]

theorem normed_read (t : Fin cfg0.N) (a : Fin 1024) (k : Fin 2048) :
    normed m c t (ix2 a k) = norm (row (a0 m c) (rowOf t a)) (fun k => a1 m c (ix1 k)) (fun k => a2 m c (ix1 k)) k := by
  unfold normed
  rw [norm_read]
  simp only [blk0, blk1, blk2, rowOf_head]

theorem outs_read (t : Fin cfg0.N) (a : Fin 1024) (n : Fin 512) :
    outs m c t (ix2 a n) = gate (prod (a0 m c) (a1 m c) (a2 m c) (a3 m c) (rowOf t a) (lo (colOf t n)))
      (prod (a0 m c) (a1 m c) (a2 m c) (a3 m c) (rowOf t a) (hi (colOf t n))) := by
  unfold outs prod
  rw [out_read]
  simp only [normed_read, blk3, blk4]

/-- The three result arrays. -/
def outArr : S8192x5632.Idx → EReal := fun y =>
  gate (prod (a0 m c) (a1 m c) (a2 m c) (a3 m c) (y 0) (lo (y 1))) (prod (a0 m c) (a1 m c) (a2 m c) (a3 m c) (y 0) (hi (y 1)))
def meanArr : S8192x1.Idx → EReal := fun y => mean (row (a0 m c) (y 0))
def rstdArr : S8192x1.Idx → EReal := fun y => rstd (row (a0 m c) (y 0))

/-- The run's first result array is `outArr`. -/
theorem arr5 : (dats m 0 c).arrAt 5 cfg0.N = outArr m c := by
  refine (dats m 0 c).arrAt_eq_of_covers 5 _ (by decide +kernel) fun t hf y => ?_
  blk_simp
  rw [after_5]
  have h0 : (((cfg0.win 5).blk t).view.emb y 0).val = t.val / 11 * 1024 + (y 0).val := by
    blk_simp [idx5 t]
  have h1 : (((cfg0.win 5).blk t).view.emb y 1).val = t.val % 11 * 512 + (y 1).val := by
    blk_simp [idx5 t]
  obtain ⟨a, n, rfl⟩ : ∃ (a : Fin 1024) (n : Fin 512), y = ix2 a n := ⟨y 0, y 1, eq_ix2 y⟩
  have e0 : ((cfg0.win 5).blk t).view.emb (ix2 a n) 0 = rowOf t a := Fin.ext h0
  have e1 : ((cfg0.win 5).blk t).view.emb (ix2 a n) 1 = colOf t n := Fin.ext h1
  refine (outs_read m c t a n).trans ?_
  unfold outArr
  rw [e0, e1]

/-- An index of a one-column array is its row's. -/
theorem eq_row {n : ℕ} (y : (⟨2, ![n, 1]⟩ : Shape).Idx) : y = ix2 (y 0) 0 := by
  have h : y 1 = (0 : Fin 1) := Subsingleton.elim (α := Fin 1) _ _
  exact (eq_ix2 y).trans (congrArg (ix2 (y 0)) h)

/-- The second is the means and the third the reciprocal deviations. -/
theorem arr6 : (dats m 0 c).arrAt 6 cfg0.N = meanArr m c := by
  refine (dats m 0 c).arrAt_eq_of_covers 6 _ (by decide +kernel) fun t hf y => ?_
  blk_simp
  rw [after_6]
  have h0 : (((cfg0.win 6).blk t).view.emb y 0).val = t.val / 11 * 1024 + (y 0).val := by
    blk_simp [idx6 t]
  obtain ⟨a, rfl⟩ : ∃ a : Fin 1024, y = ix2 a 0 := ⟨y 0, eq_row y⟩
  have e0 : ((cfg0.win 6).blk t).view.emb (ix2 a 0) 0 = rowOf t a := Fin.ext h0
  refine (means_read m c t a).trans ?_
  unfold meanArr
  rw [e0]

theorem arr7 : (dats m 0 c).arrAt 7 cfg0.N = rstdArr m c := by
  refine (dats m 0 c).arrAt_eq_of_covers 7 _ (by decide +kernel) fun t hf y => ?_
  blk_simp
  rw [after_7]
  have h0 : (((cfg0.win 7).blk t).view.emb y 0).val = t.val / 11 * 1024 + (y 0).val := by
    blk_simp [idx7 t]
  obtain ⟨a, rfl⟩ : ∃ a : Fin 1024, y = ix2 a 0 := ⟨y 0, eq_row y⟩
  have e0 : ((cfg0.win 7).blk t).view.emb (ix2 a 0) 0 = rowOf t a := Fin.ext h0
  refine (rstds_read m c t a).trans ?_
  unfold rstdArr
  rw [e0]

end Cert.Own.SwiVal

namespace Cert.Own.SwiRef

open Idealize.ShloMosaic Idealize.SL.Sem Cert.ReferenceSwigluIdeal Cert.ReferenceSwigluIdeal.Read
open Cert.Own.SwiVal (mean rstd norm gate row bOf rOf lo hi prod)

variable (x0 : (⟨S4x2048x2048, .f32⟩ : BufTy).Contents (Elt Ideal)) (x1 x2 : (⟨S2048, .f32⟩ : BufTy).Contents (Elt Ideal))
  (x3 : (⟨S2x2048x11264, .f32⟩ : BufTy).Contents (Elt Ideal))

/-- The reference's means and reciprocal deviations. -/
theorem ref_mean (i : Fin 8192) : val_main_v47 (F := Ideal) x0 (ix2 i 0) = mean (row x0 i) := by
  pointwise [val_main_v47, val_main_v3, val_main_v2, val_main_v1, val_main_v0, val_main_cst, val_main_cst_0, mean, row, bOf, rOf]

theorem ref_rstd (i : Fin 8192) : val_main_v48 (F := Ideal) x0 (ix2 i 0) = rstd (row x0 i) := by
  pointwise [val_main_v48, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3,
    rstd, mean, row, bOf, rOf]

/-- The reference's mean, reciprocal deviation and normed row inside the product. -/
theorem ref_mean' (b : Fin 4) (r : Fin 2048) : val_main_v17 (F := Ideal) x0 (ix3 b r 0) = mean fun k => x0 (ix3 b r k) := by
  pointwise [val_main_v17, val_main_v16, val_main_v15, val_main_v14, val_main_cst_4, val_main_cst_5, mean]

theorem ref_rstd' (b : Fin 4) (r : Fin 2048) : val_main_v29 (F := Ideal) x0 (ix3 b r 0) = rstd fun k => x0 (ix3 b r k) := by
  pointwise [val_main_v29, val_main_v28, val_main_v27, val_main_v24, val_main_v23, val_main_v22, val_main_v21, val_main_v20, val_main_v19, val_main_v18,
    val_main_v17, val_main_v16, val_main_v15, val_main_v14, val_main_cst_4, val_main_cst_5, val_main_cst_6, val_main_cst_7, val_main_cst_8, rstd, mean]

theorem ref_norm (b : Fin 4) (r k : Fin 2048) : val_main_v37 (F := Ideal) x0 x1 x2 (ix3 b r k)
    = norm (fun k => x0 (ix3 b r k)) (fun k => x1 (ix1 k)) (fun k => x2 (ix1 k)) k := by
  have e : val_main_v37 (F := Ideal) x0 x1 x2 (ix3 b r k)
      = (x0 (ix3 b r k) - val_main_v17 (F := Ideal) x0 (ix3 b r 0)) * val_main_v29 (F := Ideal) x0 (ix3 b r 0) * x1 (ix1 k) + x2 (ix1 k) := by
    pointwise [val_main_v37, val_main_v36, val_main_v35, val_main_v34, val_main_v33, val_main_v32, val_main_v31, val_main_v30, val_main_v26, val_main_v25]
  rw [e, ref_mean', ref_rstd']
  rfl

/-- The reference's product at a row and column. -/
theorem ref_prod (b : Fin 4) (r : Fin 2048) (n : Fin 11264) : val_main_v40 (F := Ideal) x0 x1 x2 x3 (ix3 b r n)
    = ∑ k : Fin 2048, norm (fun k => x0 (ix3 b r k)) (fun k => x1 (ix1 k)) (fun k => x2 (ix1 k)) k * x3 (ix3 1 k n) := by
  have e : val_main_v40 (F := Ideal) x0 x1 x2 x3 (ix3 b r n)
      = ∑ k : Fin 2048, val_main_v37 (F := Ideal) x0 x1 x2 (ix3 b r k) * x3 (ix3 1 k n) := by
    pointwise [val_main_v40, val_main_v39, val_main_v38]
  rw [e]
  simp only [ref_norm]

/-- The reference's result at a row and column. -/
theorem ref_out (i : Fin 8192) (j : Fin 5632) : val_main_v46 (F := Ideal) x0 x1 x2 x3 (ix2 i j)
    = gate (prod x0 x1 x2 x3 i (lo j)) (prod x0 x1 x2 x3 i (hi j)) := by
  have e : val_main_v46 (F := Ideal) x0 x1 x2 x3 (ix2 i j)
      = gate (val_main_v40 (F := Ideal) x0 x1 x2 x3 (ix3 (bOf i) (rOf i) (lo j))) (val_main_v40 (F := Ideal) x0 x1 x2 x3 (ix3 (bOf i) (rOf i) (hi j))) := by
    unfold gate
    rw [zero_sub]
    pointwise [val_main_v46, val_main_v45, val_main_v44, val_main_v43, val_main_v42, val_main_v41, val_main_call0_v0, val_main_call0_v1, val_main_call0_v2,
      val_main_call0_v3, val_main_call0_v4, val_main_call0_v5, val_main_call0_cst, val_main_call0_cst_0, bOf, rOf, lo, hi]
  rw [e, ref_prod, ref_prod]
  rfl

end Cert.Own.SwiRef

end
-- ==== Proof.Down.lean ====
/-
  The feed-forward part's second product, added to alpha times the normed row: the kernel's result array and the reference's.
-/
module

public import proofs.«01_k».proof.Proof.Gen.KernelDownIdeal.Value
public import proofs.«01_k».proof.Proof.Gen.ReferenceDownIdeal.Read
public import Idealize.ShloMosaic.Lib.Pipeline.ValueKit
public import Idealize.ShloMosaic.Lib.Pointwise

@[expose] public section

set_option maxRecDepth 16384

noncomputable section

namespace Cert.Own.Down

open Idealize.ShloMosaic Idealize.SL.Sem Cert.KernelDownIdeal Cert.KernelDownIdeal.Gen

/-- Alpha times the normed row plus the product of the row with the weights' column. -/
def down (A0 : (⟨3, ![4, 2048, 5632]⟩ : Shape).Idx → EReal) (A1 : (⟨3, ![2, 5632, 2048]⟩ : Shape).Idx → EReal)
    (A2 : (⟨3, ![4, 2048, 2048]⟩ : Shape).Idx → EReal) (A3 A4 : (⟨3, ![4, 2048, 1]⟩ : Shape).Idx → EReal)
    (A5 A6 : (⟨1, ![2048]⟩ : Shape).Idx → EReal) (b : Fin 4) (r n : Fin 2048) : EReal :=
  Ideal.ofBits .f32 0x3FB504F3#32 * ((A2 (ix3 b r n) - A3 (ix3 b r 0)) * A4 (ix3 b r 0) * A5 (ix1 n) + A6 (ix1 n))
    + ∑ k : Fin 5632, A0 (ix3 b r k) * A1 (ix3 1 k n)

/-- What a grid point stores, at a row and column of its block. -/
theorem out_read (x0 : Vec Ideal S1024x5632 .bf16) (x1 : Vec Ideal S1x5632x256 .f32) (x2 : Vec Ideal S1024x256 .f32) (x3 x4 : Vec Ideal S1024x1 .f32)
    (x5 x6 : Vec Ideal S1x256 .f32) (a : Fin 1024) (n : Fin 256) :
    out0_7 x0 x1 x2 x3 x4 x5 x6 (ix2 a n)
      = Ideal.ofBits .f32 0x3FB504F3#32 * ((x2 (ix2 a n) - x3 (ix2 a 0)) * x4 (ix2 a 0) * x5 (ix2 0 n) + x6 (ix2 0 n))
        + ∑ k : Fin 5632, x0 (ix2 a k) * x1 (ix3 0 k n) := by
  unfold out0_7
  rw [View.canon_cons_unit_lit (h := fun d => by fin_cases d <;> rfl)]
  pointwise [k0_pay1]

variable (m : (ℓ : Loc nD τ sig) → Buf (Elt Ideal) ℓ) (c : Dev nD)

/-- The block index of each window at a grid point. -/
theorem idx0 : ∀ t : Fin cfg0.N, win0_0.index t = ![t.val / 8, 0] := (by decide +kernel : ∀ t : Fin grid0.N, _)
theorem idx1 : ∀ t : Fin cfg0.N, win0_1.index t = ![1, 0, t.val % 8] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, 0] := (by decide +kernel : ∀ t : Fin grid0.N, _)
theorem idx4 : ∀ t : Fin cfg0.N, win0_4.index t = ![t.val / 8, 0] := (by decide +kernel : ∀ t : Fin grid0.N, _)
theorem idx5 : ∀ t : Fin cfg0.N, win0_5.index t = ![0, t.val % 8] := (by decide +kernel : ∀ t : Fin grid0.N, _)
theorem idx6 : ∀ t : Fin cfg0.N, win0_6.index t = ![0, t.val % 8] := (by decide +kernel : ∀ t : Fin grid0.N, _)
theorem idx7 : ∀ t : Fin cfg0.N, win0_7.index t = ![t.val / 8, t.val % 8] := (by decide +kernel : ∀ t : Fin grid0.N, _)

theorem t_lt (t : Fin cfg0.N) : t.val < 64 := lt_of_lt_of_eq t.isLt (by decide +kernel)

/-- The argument arrays of core `c`. -/
def a0 : (⟨3, ![4, 2048, 5632]⟩ : Shape).Idx → EReal := m (c, Proc.tc.devRef main_arg0)
def a1 : (⟨3, ![2, 5632, 2048]⟩ : Shape).Idx → EReal := m (c, Proc.tc.devRef main_arg1)
def a2 : (⟨3, ![4, 2048, 2048]⟩ : Shape).Idx → EReal := m (c, Proc.tc.devRef main_arg2)
def a3 : (⟨3, ![4, 2048, 1]⟩ : Shape).Idx → EReal := m (c, Proc.tc.devRef main_arg3)
def a4 : (⟨3, ![4, 2048, 1]⟩ : Shape).Idx → EReal := m (c, Proc.tc.devRef main_arg4)
def a5 : (⟨1, ![2048]⟩ : Shape).Idx → EReal := m (c, Proc.tc.devRef main_arg5)
def a6 : (⟨1, ![2048]⟩ : Shape).Idx → EReal := m (c, Proc.tc.devRef main_arg6)

/-- The batch and the sequence position of a row. -/
def bOf (i : Fin 8192) : Fin 4 := ⟨i.val / 2048, by omega⟩
def rOf (i : Fin 8192) : Fin 2048 := ⟨i.val % 2048, by omega⟩

/-- The operands that the host code lays out, and the weights as they are. -/
theorem V0 (r : Fin 8192) (k : Fin 5632) : V m c main_v0 (ix2 r k) = a0 m c (ix3 (bOf r) (rOf r) k) := by
  unfold V
  after_results
  pointwise [a0, bOf, rOf]

theorem V1 (r : Fin 8192) (k : Fin 2048) : V m c main_v1 (ix2 r k) = a2 m c (ix3 (bOf r) (rOf r) k) := by
  unfold V
  after_results
  pointwise [a2, bOf, rOf]

theorem V2 (r : Fin 8192) : V m c main_v2 (ix2 r 0) = a3 m c (ix3 (bOf r) (rOf r) 0) := by
  unfold V
  after_results
  pointwise [a3, bOf, rOf]

theorem V3 (r : Fin 8192) : V m c main_v3 (ix2 r 0) = a4 m c (ix3 (bOf r) (rOf r) 0) := by
  unfold V
  after_results
  pointwise [a4, bOf, rOf]

theorem V4 (k : Fin 2048) : V m c main_v4 (ix2 0 k) = a5 m c (ix1 k) := by
  unfold V
  after_results
  pointwise [a5]

theorem V5 (k : Fin 2048) : V m c main_v5 (ix2 0 k) = a6 m c (ix1 k) := by
  unfold V
  after_results
  pointwise [a6]

theorem Va1 (i : (⟨3, ![2, 5632, 2048]⟩ : Shape).Idx) : V m c main_arg1 i = a1 m c i := by
  unfold V
  after_results
  rfl

/-- A row of the arrays, from the grid point and the row in its block. -/
def rowOf (t : Fin cfg0.N) (r : Fin 1024) : Fin 8192 := ⟨t.val / 8 * 1024 + r.val, by have := t_lt t; omega⟩

/-- A column of the weights and of the result, from the grid point and the column in its block. -/
def colOf (t : Fin cfg0.N) (n : Fin 256) : Fin 2048 := ⟨t.val % 8 * 256 + n.val, by omega⟩

/-- The row block of the product's left operand. -/
theorem blk0 (t : Fin cfg0.N) (r : Fin 1024) (k : Fin 5632) :
    iblk m c 0 t (ix2 r k) = a0 m c (ix3 (bOf (rowOf t r)) (rOf (rowOf t r)) k) := by
  have e : iblk m c 0 t (ix2 r k) = V m c main_v0 (ix2 (rowOf t r) k) := by
    blk_point [iblk, V, idx0 t, rowOf]
  exact e.trans (V0 m c _ _)

/-- The column block of the weights. -/
theorem blk1 (t : Fin cfg0.N) (k : Fin 5632) (n : Fin 256) :
    iblk m c 1 t (ix3 0 k n) = a1 m c (ix3 1 k (colOf t n)) := by
  have e : iblk m c 1 t (ix3 0 k n) = V m c main_arg1 (ix3 1 k (colOf t n)) := by
    blk_point [iblk, V, idx1 t, colOf]
  exact e.trans (Va1 m c _)

/-- The block of the row before the norm. -/
theorem blk2 (t : Fin cfg0.N) (r : Fin 1024) (n : Fin 256) :
    iblk m c 2 t (ix2 r n) = a2 m c (ix3 (bOf (rowOf t r)) (rOf (rowOf t r)) (colOf t n)) := by
  have e : iblk m c 2 t (ix2 r n) = V m c main_v1 (ix2 (rowOf t r) (colOf t n)) := by
    blk_point [iblk, V, idx2 t, rowOf, colOf]
  exact e.trans (V1 m c _ _)

/-- The blocks of the means and of the reciprocal deviations. -/
theorem blk3 (t : Fin cfg0.N) (r : Fin 1024) : iblk m c 3 t (ix2 r 0) = a3 m c (ix3 (bOf (rowOf t r)) (rOf (rowOf t r)) 0) := by
  have e : iblk m c 3 t (ix2 r 0) = V m c main_v2 (ix2 (rowOf t r) 0) := by
    blk_point [iblk, V, idx3 t, rowOf]
  exact e.trans (V2 m c _)

theorem blk4 (t : Fin cfg0.N) (r : Fin 1024) : iblk m c 4 t (ix2 r 0) = a4 m c (ix3 (bOf (rowOf t r)) (rOf (rowOf t r)) 0) := by
  have e : iblk m c 4 t (ix2 r 0) = V m c main_v3 (ix2 (rowOf t r) 0) := by
    blk_point [iblk, V, idx4 t, rowOf]
  exact e.trans (V3 m c _)

/-- The column blocks of the norm's gain and offset. -/
theorem blk5 (t : Fin cfg0.N) (n : Fin 256) : iblk m c 5 t (ix2 0 n) = a5 m c (ix1 (colOf t n)) := by
  have e : iblk m c 5 t (ix2 0 n) = V m c main_v4 (ix2 0 (colOf t n)) := by
    blk_point [iblk, V, idx5 t, colOf]
  exact e.trans (V4 m c _)

theorem blk6 (t : Fin cfg0.N) (n : Fin 256) : iblk m c 6 t (ix2 0 n) = a6 m c (ix1 (colOf t n)) := by
  have e : iblk m c 6 t (ix2 0 n) = V m c main_v5 (ix2 0 (colOf t n)) := by
    blk_point [iblk, V, idx6 t, colOf]
  exact e.trans (V5 m c _)

/-- The result array. -/
def outArr : S8192x2048.Idx → EReal := fun y =>
  down (a0 m c) (a1 m c) (a2 m c) (a3 m c) (a4 m c) (a5 m c) (a6 m c) (bOf (y 0)) (rOf (y 0)) (y 1)

/-- The result array of the run is `outArr`. -/
theorem arr_eq : (dats m 0 c).arrAt 7 cfg0.N = outArr m c := by
  refine (dats m 0 c).arrAt_eq_of_covers 7 _ (by decide +kernel) fun t hf y => ?_
  blk_simp
  rw [after0_7]
  have h0 : (((cfg0.win 7).blk t).view.emb y 0).val = t.val / 8 * 1024 + (y 0).val := by
    blk_simp [idx7 t]
  have h1 : (((cfg0.win 7).blk t).view.emb y 1).val = t.val % 8 * 256 + (y 1).val := by
    blk_simp [idx7 t]
  obtain ⟨a, n, rfl⟩ : ∃ (a : Fin 1024) (n : Fin 256), y = ix2 a n := ⟨y 0, y 1, eq_ix2 y⟩
  have e0 : ((cfg0.win 7).blk t).view.emb (ix2 a n) 0 = rowOf t a := Fin.ext h0
  have e1 : ((cfg0.win 7).blk t).view.emb (ix2 a n) 1 = colOf t n := Fin.ext h1
  refine (out_read _ _ _ _ _ _ _ a n).trans ?_
  unfold outArr down
  rw [e0, e1]
  simp only [blk0, blk1, blk2, blk3, blk4, blk5, blk6]

end Cert.Own.Down

namespace Cert.Own.DownRef

open Idealize.ShloMosaic Idealize.SL.Sem Cert.ReferenceDownIdeal Cert.ReferenceDownIdeal.Read

/-- The reference's result at a row and column. -/
theorem ref_out (x0 : (⟨S4x2048x5632, .bf16⟩ : BufTy).Contents (Elt Ideal)) (x1 : (⟨S2x5632x2048, .f32⟩ : BufTy).Contents (Elt Ideal))
    (x2 : (⟨S4x2048x2048, .f32⟩ : BufTy).Contents (Elt Ideal)) (x3 x4 : (⟨S4x2048x1, .f32⟩ : BufTy).Contents (Elt Ideal))
    (x5 x6 : (⟨S2048, .f32⟩ : BufTy).Contents (Elt Ideal)) (i : Fin 8192) (j : Fin 2048) :
    val_main_v17 (F := Ideal) x0 x1 x2 x3 x4 x5 x6 (ix2 i j)
      = Cert.Own.Down.down x0 x1 x2 x3 x4 x5 x6 (Cert.Own.Down.bOf i) (Cert.Own.Down.rOf i) j := by
  pointwise [val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst,
    Cert.Own.Down.down, Cert.Own.Down.bOf, Cert.Own.Down.rOf]

end Cert.Own.DownRef

end
-- ==== Proof.Ple.lean ====
/-
  The norm after the feed-forward part and the per-layer embedding on top of it: the kernel's result array and the reference's.
-/
module

public import proofs.«01_k».proof.Proof.SwiVal
public import proofs.«01_k».proof.Proof.Gen.KernelPleIdeal.Value
public import proofs.«01_k».proof.Proof.Gen.ReferencePleIdeal.Read
public import Idealize.ShloMosaic.Lib.Pipeline.ValueKit
public import Idealize.ShloMosaic.Lib.Pointwise

@[expose] public section

set_option maxRecDepth 16384

noncomputable section

namespace Cert.Own.Ple

open Idealize.ShloMosaic Idealize.SL.Sem Cert.KernelPleIdeal Cert.KernelPleIdeal.Gen
open Cert.Own.SwiVal (mean rstd norm row bOf rOf)

/-- One over one plus the exponential of the negated number. -/
def sigm (p : EReal) : EReal :=
  Ideal.div (Ideal.ofBits .f32 0x3F800000#32) (Ideal.ofBits .f32 0x3F800000#32 + Ideal.exp (0 - p))

/-- The column `k` of row block `j`'s 512 columns. -/
def colAt (j : Fin 4) (n : Fin 512) : Fin 2048 := ⟨j.val * 512 + n.val, by omega⟩

section Payloads
variable (x : Vec Ideal S1024x2048 .f32) (g b : Vec Ideal S1x2048 .f32)

theorem norm_read (a : Fin 1024) (k : Fin 2048) :
    k0_pay5 x g b (ix2 a k) = norm (fun k => x (ix2 a k)) (fun k => g (ix2 0 k)) (fun k => b (ix2 0 k)) k := by
  pointwise [k0_pay5, SwiVal.norm, rstd, mean]

/-- The normed block as it is stored for the product. -/
theorem xb_read (a : Fin 1024) (k : Fin 2048) :
    k0_pay6 x g b (ix2 a k) = norm (fun k => x (ix2 a k)) (fun k => g (ix2 0 k)) (fun k => b (ix2 0 k)) k := by
  have e : k0_pay6 x g b (ix2 a k) = k0_pay5 x g b (ix2 a k) := by
    unfold k0_pay6
    generalize k0_pay5 x g b = y
    pointwise []
  exact e.trans (norm_read x g b a k)

/-- The four column blocks of the normed block. -/
theorem xn_read0 (a : Fin 1024) (n : Fin 512) : k0_pay7 x g b (ix3 0 a n) = k0_pay5 x g b (ix2 a (colAt 0 n)) := by
  unfold k0_pay7
  generalize k0_pay5 x g b = y
  pointwise [colAt]

theorem xn_read1 (a : Fin 1024) (n : Fin 512) :
    k0_pay1 (k0_pay8 x g b) (ix3 0 a n) = k0_pay5 x g b (ix2 a (colAt 1 n)) := by
  unfold k0_pay8
  generalize k0_pay5 x g b = y
  pointwise [k0_pay1, colAt]

theorem xn_read2 (y : FVec Ideal S1024x2048 .f32) (a : Fin 1024) (n : Fin 512) : k0_pay2 y (ix3 0 a n) = y (ix2 a (colAt 2 n)) := by
  pointwise [k0_pay2, colAt]

theorem xn_read3 (y : FVec Ideal S1024x2048 .f32) (a : Fin 1024) (n : Fin 512) : k0_pay3 y (ix3 0 a n) = y (ix2 a (colAt 3 n)) := by
  pointwise [k0_pay3, colAt]

theorem out_read (y : Vec Ideal S1024x2048 .bf16) (u : Vec Ideal S1x2048x512 .f32) (p : Vec Ideal S1x1024x256 .f32)
    (w : Vec Ideal S1x256x512 .f32) (z : Vec Ideal S1x1024x512 .f32) (a : Fin 1024) (n : Fin 512) :
    k0_pay4 y u p w z (ix2 a n) = z (ix3 0 a n)
      + sigm (∑ k : Fin 2048, y (ix2 a k) * u (ix3 0 k n)) * ∑ k : Fin 256, p (ix3 0 a k) * w (ix3 0 k n) := by
  pointwise [k0_pay4, sigm]
end Payloads

/-- The normed block, column block by column block. -/
def XN (x : Vec Ideal S1024x2048 .f32) (g b : Vec Ideal S1x2048 .f32) : Vec Ideal S4x1024x512 .f32 := fun y =>
  k0_pay5 x g b (ix2 (y 1) (colAt (y 0) (y 2)))

/-- An entry of a column block of the normed block is the entry of the buffer at the block's place. -/
theorem XN_at (x : Vec Ideal S1024x2048 .f32) (g b : Vec Ideal S1x2048 .f32) (y : S4x1024x512.Idx) (j : Fin 4) (a : Fin 1024) (n : Fin 512)
    (h0 : (y 0).val = j.val) (h1 : (y 1).val = a.val) (h2 : (y 2).val = n.val) : k0_pay5 x g b (ix2 a (colAt j n)) = XN x g b y := by
  obtain rfl : y 0 = j := Fin.ext h0
  obtain rfl : y 1 = a := Fin.ext h1
  obtain rfl : y 2 = n := Fin.ext h2
  rfl

/-- An index into one column block. -/
theorem eq_blk (x : S1x1024x512.Idx) : ∃ (a : Fin 1024) (n : Fin 512), x = ix3 0 a n := by
  have h : x 0 = (0 : Fin 1) := Subsingleton.elim (α := Fin 1) _ _
  exact ⟨x 1, x 2, (eq_ix3 x).trans (congrArg (fun z => ix3 z (x 1) (x 2)) h)⟩

section Scratch
variable (x : Vec Ideal S1024x2048 .f32) (g b : Vec Ideal S1x2048 .f32)

/-- The four stores into the first scratch leave the normed block there. -/
theorem canon_XN :
    (View.canon (Val := Elt Ideal) (s := S4x1024x512) (e := .f32)
      [⟨Rect.unit ![3, 0, 0] ![1, 1024, 512] inb_S4x1024x512_S1x1024x512_3_0_0, k0_pay3 (k0_pay5 x g b)⟩,
       ⟨Rect.unit ![2, 0, 0] ![1, 1024, 512] inb_S4x1024x512_S1x1024x512_2_0_0, k0_pay2 (k0_pay5 x g b)⟩,
       ⟨Rect.unit ![1, 0, 0] ![1, 1024, 512] inb_S4x1024x512_S1x1024x512_1_0_0, k0_pay1 (k0_pay8 x g b)⟩,
       ⟨Rect.unit ![0, 0, 0] ![1, 1024, 512] inb_S4x1024x512_S1x1024x512_0_0_0, k0_pay7 x g b⟩]) = XN x g b := by
  funext y
  canon_tiles x' h
  all_goals
    obtain ⟨a, n, rfl⟩ := eq_blk x'
    simp only [ix3_0, ix3_1, ix3_2] at h0 h1 h2
  case piece0 => exact (xn_read3 _ a n).trans (XN_at x g b y 3 a n (by simpa using h0) (by omega) (by omega))
  case piece1 => exact (xn_read2 _ a n).trans (XN_at x g b y 2 a n (by simpa using h0) (by omega) (by omega))
  case piece2 => exact (xn_read1 x g b a n).trans (XN_at x g b y 1 a n (by simpa using h0) (by omega) (by omega))
  case piece3 => exact (xn_read0 x g b a n).trans (XN_at x g b y 0 a n (by simpa using h0) (by omega) (by omega))

end Scratch

section Points
variable (m : (ℓ : Loc nD τ sig) → Buf (Elt Ideal) ℓ) (c : Dev nD)

/-- A load over what some stores left, through a box that they may fill. -/
theorem readCov_ld {sp : Space} {s : Shape} {e : EltTy} (v : View sig .tc sp s e) (L : List (View.Piece (Elt Ideal) s e)) (r : Rect s) :
    v.readCov L r.toLoadRect = View.ld (View.canon L) r := View.readCov_eq_canon' v L r.toLoadRect

theorem t_lt (t : Fin cfg0.N) : t.val < 32 := lt_of_lt_of_eq t.isLt (by decide +kernel)

/-- The column block of a grid point. -/
def colBlk (t : Fin cfg0.N) : Fin 4 := ⟨t.val % 4, by omega⟩

/-- The first coordinate at which a grid point loads the normed block. -/
theorem off_eq : ∀ t : Fin cfg0.N, BitVec.toNat (Scalar.indexCast (BitVec.ofNat 32 (grid0.coords t 1).val)) = t.val % 4 :=
  (by decide +kernel : ∀ t : Fin grid0.N, _)

/-- The column block that a grid point loads. -/
theorem ld_XN (X : Vec Ideal S4x1024x512 .f32) (t : Fin cfg0.N) (inb) (a : Fin 1024) (n : Fin 512) :
    View.ld (Val := Elt Ideal) X (Rect.unit (s := S4x1024x512)
      ![BitVec.toNat (Scalar.indexCast (BitVec.ofNat 32 (grid0.coords t 1).val)), 0, 0] ![1, 1024, 512] inb) (ix3 0 a n)
      = X (ix3 (colBlk t) a n) := by
  refine View.ld_unit_apply_of X _ _ _ _ _ fun k => ?_
  fin_cases k
  · exact (off_eq t).symm
  · exact (Nat.zero_add _).symm
  · exact (Nat.zero_add _).symm

/-- What the first point of a row block leaves in the two scratches: the normed block, twice. -/
theorem scratch0 (t : Fin cfg0.N) (h : t.val % 4 = 0) :
    (outsAt0 m c t.val t.isLt).2.1 = XN (iblk m c 0 t) (iblk m c 1 t) (iblk m c 2 t) := by
  rw [outsAt0_A m c t h]
  dsimp only
  unfold sout0_A_0 kernelRun0_A
  dsimp only
  sl_unfold_words
  simp only [View.readAt_eq_ld, (hs0_0 t).read_unread, (hs0_1 t).read_unread, (hs0_2 t).read_unread]
  rw [View.read_writes_junk_eq_canon, canon_XN]
  rw [View.ld_unit_lit (h := fun d => by fin_cases d <;> rfl), View.ld_unit_lit (h := fun d => by fin_cases d <;> rfl),
    View.ld_unit_lit (h := fun d => by fin_cases d <;> rfl)]

theorem scratch1 (t : Fin cfg0.N) (h : t.val % 4 = 0) :
    (outsAt0 m c t.val t.isLt).2.2 = k0_pay6 (iblk m c 0 t) (iblk m c 1 t) (iblk m c 2 t) := by
  rw [outsAt0_A m c t h]
  dsimp only
  unfold sout0_A_1 kernelRun0_A
  dsimp only
  sl_unfold_words
  simp only [View.readAt_eq_ld, (hs0_0 t).read_unread, (hs0_1 t).read_unread, (hs0_2 t).read_unread]
  rw [View.read_writes_junk_eq_canon, View.canon_cons_unit_lit (h := fun d => by fin_cases d <;> rfl)]
  rw [View.ld_unit_lit (h := fun d => by fin_cases d <;> rfl), View.ld_unit_lit (h := fun d => by fin_cases d <;> rfl),
    View.ld_unit_lit (h := fun d => by fin_cases d <;> rfl)]

/-- What a point stores, from a normed block held twice and its own blocks of the weights and of the per-layer inputs. -/
def stored (j : Fin 4) (X : Vec Ideal S4x1024x512 .f32) (Y : Vec Ideal S1024x2048 .bf16) (U : Vec Ideal S1x2048x512 .f32)
    (P : Vec Ideal S1x1024x256 .f32) (W : Vec Ideal S1x256x512 .f32) (a : Fin 1024) (n : Fin 512) : EReal :=
  X (ix3 j a n) + sigm (∑ k : Fin 2048, Y (ix2 a k) * U (ix3 0 k n)) * ∑ k : Fin 256, P (ix3 0 a k) * W (ix3 0 k n)

/-- The first point of a row block. -/
theorem out_first (t : Fin cfg0.N) (h : t.val % 4 = 0) (a : Fin 1024) (n : Fin 512) :
    (outsAt0 m c t.val t.isLt).1 (ix2 a n) = stored (colBlk t) (XN (iblk m c 0 t) (iblk m c 1 t) (iblk m c 2 t))
      (k0_pay6 (iblk m c 0 t) (iblk m c 1 t) (iblk m c 2 t)) (iblk m c 3 t) (iblk m c 4 t) (iblk m c 5 t) a n := by
  rw [outsAt0_A m c t h]
  dsimp only
  unfold out0_A_6 kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, readCov_ld, View.read_writes_junk_eq_canon]
  rw [View.canon_cons_unit_lit (h := fun d => by fin_cases d <;> rfl), canon_XN, out_read]
  rw [View.canon_cons_unit_lit (h := fun d => by fin_cases d <;> rfl)]
  rw [View.ld_unit_lit (h := fun d => by fin_cases d <;> rfl),
    View.ld_unit_lit (h := fun d => by fin_cases d <;> rfl),
    View.ld_unit_lit (h := fun d => by fin_cases d <;> rfl)]
  refine congrArg₂ (· + ·) (ld_XN _ t _ a n) (congrArg₂ (· * ·) (congrArg sigm (Finset.sum_congr rfl fun k _ => congrArg₂ (· * ·) ?_ ?_))
    (Finset.sum_congr rfl fun k _ => congrArg₂ (· * ·) ?_ ?_))
  all_goals exact congrFun (View.ld_unit_lit (h := fun d => by fin_cases d <;> rfl) ..) _

/-- The other points of a row block. -/
theorem out_next (t : Fin cfg0.N) (h : ¬t.val % 4 = 0) (a : Fin 1024) (n : Fin 512) :
    (outsAt0 m c t.val t.isLt).1 (ix2 a n)
      = stored (colBlk t) (outsAt0 m c (t.val - 1) (Nat.lt_of_le_of_lt (Nat.sub_le _ _) t.isLt)).2.1
          (outsAt0 m c (t.val - 1) (Nat.lt_of_le_of_lt (Nat.sub_le _ _) t.isLt)).2.2 (iblk m c 3 t) (iblk m c 4 t) (iblk m c 5 t) a n := by
  rw [outsAt0_B m c t h]
  dsimp only
  generalize outsAt0 m c (t.val - 1) _ = prev
  unfold out0_B_6 kernelRun0_B
  dsimp only
  sl_unfold_words
  simp only [View.readAt_eq_ld, (hs0_3 t).read_unread, (hs0_4 t).read_unread, (hs0_5 t).read_unread, View.read_writes_junk_eq_canon]
  rw [View.canon_cons_unit_lit (h := fun d => by fin_cases d <;> rfl), out_read]
  refine congrArg₂ (· + ·) ((ld_XN _ t _ a n).trans (congrFun ((Memref.isWhole_whole cc0_scratch0).read_unread _) _))
    (congrArg₂ (· * ·) (congrArg sigm (Finset.sum_congr rfl fun k _ => congrArg₂ (· * ·) ?_ ?_))
    (Finset.sum_congr rfl fun k _ => congrArg₂ (· * ·) ?_ ?_))
  · exact (congrFun (View.ld_unit_lit (h := fun d => by fin_cases d <;> rfl) ..) _).trans
      (congrFun ((Memref.isWhole_whole cc0_scratch1).read_unread _) _)
  all_goals exact congrFun (View.ld_unit_lit (h := fun d => by fin_cases d <;> rfl) ..) _

theorem keep0 (t : Fin cfg0.N) (h : ¬t.val % 4 = 0) : (outsAt0 m c t.val t.isLt).2
    = (outsAt0 m c (t.val - 1) (Nat.lt_of_le_of_lt (Nat.sub_le _ _) t.isLt)).2 := by
  rw [outsAt0_B m c t h]
  rfl

/-- The first point of the row block. -/
def head (t : Fin cfg0.N) : Fin cfg0.N := ⟨t.val / 4 * 4, lt_of_le_of_lt (Nat.div_mul_le_self _ _) t.isLt⟩

/-- A row block's scratches hold its normed block from its first point on. -/
theorem carried : ∀ (k : ℕ) (hk : k < cfg0.N), (outsAt0 m c k hk).2
    = (XN (iblk m c 0 (head ⟨k, hk⟩)) (iblk m c 1 (head ⟨k, hk⟩)) (iblk m c 2 (head ⟨k, hk⟩)),
        k0_pay6 (iblk m c 0 (head ⟨k, hk⟩)) (iblk m c 1 (head ⟨k, hk⟩)) (iblk m c 2 (head ⟨k, hk⟩))) := by
  intro k
  induction k with
  | zero =>
    intro hk
    have e : head ⟨0, hk⟩ = ⟨0, hk⟩ := Fin.ext (by show 0 / 4 * 4 = 0; omega)
    rw [e]
    exact Prod.ext (scratch0 m c ⟨0, hk⟩ (Nat.zero_mod 4)) (scratch1 m c ⟨0, hk⟩ (Nat.zero_mod 4))
  | succ k ih =>
    intro hk
    by_cases h : (k + 1) % 4 = 0
    · have e : head ⟨k + 1, hk⟩ = ⟨k + 1, hk⟩ := Fin.ext (by show (k + 1) / 4 * 4 = k + 1; omega)
      rw [e]
      exact Prod.ext (scratch0 m c ⟨k + 1, hk⟩ h) (scratch1 m c ⟨k + 1, hk⟩ h)
    · have hk' : k < cfg0.N := Nat.lt_of_succ_lt hk
      have e : head ⟨k + 1, hk⟩ = head ⟨k, hk'⟩ := Fin.ext (by show (k + 1) / 4 * 4 = k / 4 * 4; omega)
      rw [e]
      exact (keep0 m c ⟨k + 1, hk⟩ h).trans (ih hk')

/-- What each point stores. -/
theorem out_eq (t : Fin cfg0.N) (a : Fin 1024) (n : Fin 512) :
    (outsAt0 m c t.val t.isLt).1 (ix2 a n) = stored (colBlk t) (XN (iblk m c 0 (head t)) (iblk m c 1 (head t)) (iblk m c 2 (head t)))
      (k0_pay6 (iblk m c 0 (head t)) (iblk m c 1 (head t)) (iblk m c 2 (head t))) (iblk m c 3 t) (iblk m c 4 t) (iblk m c 5 t) a n := by
  by_cases h : t.val % 4 = 0
  · have e : head t = t := Fin.ext (by show t.val / 4 * 4 = t.val; omega)
    rw [e]
    exact out_first m c t h a n
  · have e : head ⟨t.val - 1, Nat.lt_of_le_of_lt (Nat.sub_le _ _) t.isLt⟩ = head t :=
      Fin.ext (by show (t.val - 1) / 4 * 4 = t.val / 4 * 4; omega)
    rw [out_next m c t h, carried, e]

/-- The block index of each window at a grid point. -/
theorem idx0 : ∀ t : Fin cfg0.N, win0_0.index t = ![t.val / 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![1, 0, t.val % 4] := (by decide +kernel : ∀ t : Fin grid0.N, _)
theorem idx4 : ∀ t : Fin cfg0.N, win0_4.index t = ![1, t.val / 4, 0] := (by decide +kernel : ∀ t : Fin grid0.N, _)
theorem idx5 : ∀ t : Fin cfg0.N, win0_5.index t = ![1, 0, t.val % 4] := (by decide +kernel : ∀ t : Fin grid0.N, _)
theorem idx6 : ∀ t : Fin cfg0.N, win0_6.index t = ![t.val / 4, t.val % 4] := (by decide +kernel : ∀ t : Fin grid0.N, _)

/-- The argument arrays of core `c`. -/
def a0 : (⟨3, ![4, 2048, 2048]⟩ : Shape).Idx → EReal := m (c, Proc.tc.devRef main_arg0)
def a1 : (⟨1, ![2048]⟩ : Shape).Idx → EReal := m (c, Proc.tc.devRef main_arg1)
def a2 : (⟨1, ![2048]⟩ : Shape).Idx → EReal := m (c, Proc.tc.devRef main_arg2)
def a3 : (⟨3, ![2, 2048, 2048]⟩ : Shape).Idx → EReal := m (c, Proc.tc.devRef main_arg3)
def a4 : (⟨4, ![2, 4, 2048, 256]⟩ : Shape).Idx → EReal := m (c, Proc.tc.devRef main_arg4)
def a5 : (⟨3, ![2, 256, 2048]⟩ : Shape).Idx → EReal := m (c, Proc.tc.devRef main_arg5)

/-- The normed row plus the gated product of the per-layer inputs, at row `i` and column `j`. -/
def ple (A0 : (⟨3, ![4, 2048, 2048]⟩ : Shape).Idx → EReal) (A1 A2 : (⟨1, ![2048]⟩ : Shape).Idx → EReal)
    (A3 : (⟨3, ![2, 2048, 2048]⟩ : Shape).Idx → EReal) (A4 : (⟨4, ![2, 4, 2048, 256]⟩ : Shape).Idx → EReal)
    (A5 : (⟨3, ![2, 256, 2048]⟩ : Shape).Idx → EReal) (i : Fin 8192) (j : Fin 2048) : EReal :=
  norm (row A0 i) (fun k => A1 (ix1 k)) (fun k => A2 (ix1 k)) j
    + sigm (∑ k : Fin 2048, norm (row A0 i) (fun k => A1 (ix1 k)) (fun k => A2 (ix1 k)) k * A3 (ix3 1 k j))
      * ∑ k : Fin 256, A4 (ix4 1 (bOf i) (rOf i) k) * A5 (ix3 1 k j)

/-- The operands that the host code lays out, and the weights as they are. -/
theorem V0 (r : Fin 8192) (k : Fin 2048) : V m c main_v0 (ix2 r k) = row (a0 m c) r k := by
  unfold V
  after_results
  pointwise [a0, SwiVal.row, SwiVal.bOf, SwiVal.rOf]

theorem V1 (r : Fin 8192) (k : Fin 256) : V m c main_v1 (ix3 1 r k) = a4 m c (ix4 1 (bOf r) (rOf r) k) := by
  unfold V
  after_results
  pointwise [a4, SwiVal.bOf, SwiVal.rOf]

theorem V2 (k : Fin 2048) : V m c main_v2 (ix2 0 k) = a1 m c (ix1 k) := by
  unfold V
  after_results
  pointwise [a1]

theorem V3 (k : Fin 2048) : V m c main_v3 (ix2 0 k) = a2 m c (ix1 k) := by
  unfold V
  after_results
  pointwise [a2]

theorem Va3 (i : (⟨3, ![2, 2048, 2048]⟩ : Shape).Idx) : V m c main_arg3 i = a3 m c i := by
  unfold V
  after_results
  rfl

theorem Va5 (i : (⟨3, ![2, 256, 2048]⟩ : Shape).Idx) : V m c main_arg5 i = a5 m c i := by
  unfold V
  after_results
  rfl

/-- A row of the arrays, from the grid point and the row in its block. -/
def rowOf (t : Fin cfg0.N) (r : Fin 1024) : Fin 8192 := ⟨t.val / 4 * 1024 + r.val, by have := t_lt t; omega⟩

/-- A column of the weights and of the result, from the grid point and the column in its block. -/
def colOf (t : Fin cfg0.N) (n : Fin 512) : Fin 2048 := ⟨t.val % 4 * 512 + n.val, by omega⟩

theorem rowOf_head (t : Fin cfg0.N) (r : Fin 1024) : rowOf (head t) r = rowOf t r := by
  apply Fin.ext
  show t.val / 4 * 4 / 4 * 1024 + r.val = t.val / 4 * 1024 + r.val
  omega

/-- The blocks of the windows. -/
theorem blk0 (t : Fin cfg0.N) (r : Fin 1024) (k : Fin 2048) : iblk m c 0 t (ix2 r k) = row (a0 m c) (rowOf t r) k := by
  have e : iblk m c 0 t (ix2 r k) = V m c main_v0 (ix2 (rowOf t r) k) := by
    blk_point [iblk, V, idx0 t, rowOf]
  exact e.trans (V0 m c _ _)

theorem blk1 (t : Fin cfg0.N) (k : Fin 2048) : iblk m c 1 t (ix2 0 k) = a1 m c (ix1 k) := by
  have e : iblk m c 1 t (ix2 0 k) = V m c main_v2 (ix2 0 k) := by
    blk_point [iblk, V, idx1 t]
  exact e.trans (V2 m c _)

theorem blk2 (t : Fin cfg0.N) (k : Fin 2048) : iblk m c 2 t (ix2 0 k) = a2 m c (ix1 k) := by
  have e : iblk m c 2 t (ix2 0 k) = V m c main_v3 (ix2 0 k) := by
    blk_point [iblk, V, idx2 t]
  exact e.trans (V3 m c _)

theorem blk3 (t : Fin cfg0.N) (k : Fin 2048) (n : Fin 512) : iblk m c 3 t (ix3 0 k n) = a3 m c (ix3 1 k (colOf t n)) := by
  have e : iblk m c 3 t (ix3 0 k n) = V m c main_arg3 (ix3 1 k (colOf t n)) := by
    blk_point [iblk, V, idx3 t, colOf]
  exact e.trans (Va3 m c _)

theorem blk4 (t : Fin cfg0.N) (r : Fin 1024) (k : Fin 256) : iblk m c 4 t (ix3 0 r k) = a4 m c (ix4 1 (bOf (rowOf t r)) (rOf (rowOf t r)) k) := by
  have e : iblk m c 4 t (ix3 0 r k) = V m c main_v1 (ix3 1 (rowOf t r) k) := by
    blk_point [iblk, V, idx4 t, rowOf]
  exact e.trans (V1 m c _ _)

theorem blk5 (t : Fin cfg0.N) (k : Fin 256) (n : Fin 512) : iblk m c 5 t (ix3 0 k n) = a5 m c (ix3 1 k (colOf t n)) := by
  have e : iblk m c 5 t (ix3 0 k n) = V m c main_arg5 (ix3 1 k (colOf t n)) := by
    blk_point [iblk, V, idx5 t, colOf]
  exact e.trans (Va5 m c _)

/-- What each point stores, at a row and column of its block. -/
theorem out_ple (t : Fin cfg0.N) (a : Fin 1024) (n : Fin 512) : (outsAt0 m c t.val t.isLt).1 (ix2 a n)
    = ple (a0 m c) (a1 m c) (a2 m c) (a3 m c) (a4 m c) (a5 m c) (rowOf t a) (colOf t n) := by
  rw [out_eq]
  unfold stored XN ple
  simp only [xb_read, norm_read, ix3_0, ix3_1, ix3_2, blk0, blk1, blk2, blk3, blk4, blk5, rowOf_head]
  rfl

/-- The result array. -/
def outArr : S8192x2048.Idx → EReal := fun y =>
  ple (a0 m c) (a1 m c) (a2 m c) (a3 m c) (a4 m c) (a5 m c) (y 0) (y 1)

/-- The result array of the run is `outArr`. -/
theorem arr_eq : (dats m 0 c).arrAt 6 cfg0.N = outArr m c := by
  refine (dats m 0 c).arrAt_eq_of_covers 6 _ (by decide +kernel) fun t hf y => ?_
  blk_simp
  rw [after0_6]
  have h0 : (((cfg0.win 6).blk t).view.emb y 0).val = t.val / 4 * 1024 + (y 0).val := by
    blk_simp [idx6 t]
  have h1 : (((cfg0.win 6).blk t).view.emb y 1).val = t.val % 4 * 512 + (y 1).val := by
    blk_simp [idx6 t]
  obtain ⟨a, n, rfl⟩ : ∃ (a : Fin 1024) (n : Fin 512), y = ix2 a n := ⟨y 0, y 1, eq_ix2 y⟩
  have e0 : ((cfg0.win 6).blk t).view.emb (ix2 a n) 0 = rowOf t a := Fin.ext h0
  have e1 : ((cfg0.win 6).blk t).view.emb (ix2 a n) 1 = colOf t n := Fin.ext h1
  refine (out_ple m c t a n).trans ?_
  unfold outArr
  rw [e0, e1]

end Points

end Cert.Own.Ple

namespace Cert.Own.PleRef

open Idealize.ShloMosaic Idealize.SL.Sem Cert.ReferencePleIdeal Cert.ReferencePleIdeal.Read
open Cert.Own.SwiVal (mean rstd norm row bOf rOf)
open Cert.Own.Ple (sigm ple)

variable (x0 : (⟨S4x2048x2048, .f32⟩ : BufTy).Contents (Elt Ideal)) (x1 x2 : (⟨S2048, .f32⟩ : BufTy).Contents (Elt Ideal))
  (x3 : (⟨S2x2048x2048, .f32⟩ : BufTy).Contents (Elt Ideal)) (x4 : (⟨S2x4x2048x256, .f32⟩ : BufTy).Contents (Elt Ideal))
  (x5 : (⟨S2x256x2048, .f32⟩ : BufTy).Contents (Elt Ideal))

/-- The reference's mean, reciprocal deviation and normed row. -/
theorem ref_mean (b : Fin 4) (r : Fin 2048) : val_main_v3 (F := Ideal) x0 (ix3 b r 0) = mean fun k => x0 (ix3 b r k) := by
  pointwise [val_main_v3, val_main_v2, val_main_v1, val_main_v0, val_main_cst, val_main_cst_0, SwiVal.mean]

theorem ref_rstd (b : Fin 4) (r : Fin 2048) : val_main_v15 (F := Ideal) x0 (ix3 b r 0) = rstd fun k => x0 (ix3 b r k) := by
  pointwise [val_main_v15, val_main_v14, val_main_v13, val_main_v10, val_main_v9, val_main_v8, val_main_v7, val_main_v6, val_main_v5, val_main_v4,
    val_main_v3, val_main_v2, val_main_v1, val_main_v0, val_main_cst, val_main_cst_0, val_main_cst_1, val_main_cst_2, val_main_cst_3,
    SwiVal.rstd, SwiVal.mean]

theorem ref_norm (b : Fin 4) (r k : Fin 2048) : val_main_v23 (F := Ideal) x0 x1 x2 (ix3 b r k)
    = norm (fun k => x0 (ix3 b r k)) (fun k => x1 (ix1 k)) (fun k => x2 (ix1 k)) k := by
  have e : val_main_v23 (F := Ideal) x0 x1 x2 (ix3 b r k)
      = (x0 (ix3 b r k) - val_main_v3 (F := Ideal) x0 (ix3 b r 0)) * val_main_v15 (F := Ideal) x0 (ix3 b r 0) * x1 (ix1 k) + x2 (ix1 k) := by
    pointwise [val_main_v23, val_main_v22, val_main_v21, val_main_v20, val_main_v19, val_main_v18, val_main_v17, val_main_v16, val_main_v12, val_main_v11]
  rw [e, ref_mean, ref_rstd]
  rfl

/-- The reference's gate, before the exponential. -/
theorem ref_gate (b : Fin 4) (r n : Fin 2048) : val_main_v26 (F := Ideal) x0 x1 x2 x3 (ix3 b r n)
    = ∑ k : Fin 2048, norm (fun k => x0 (ix3 b r k)) (fun k => x1 (ix1 k)) (fun k => x2 (ix1 k)) k * x3 (ix3 1 k n) := by
  have e : val_main_v26 (F := Ideal) x0 x1 x2 x3 (ix3 b r n)
      = ∑ k : Fin 2048, val_main_v23 (F := Ideal) x0 x1 x2 (ix3 b r k) * x3 (ix3 1 k n) := by
    pointwise [val_main_v26, val_main_v25, val_main_v24]
  rw [e]
  simp only [ref_norm]

/-- The reference's result at a row and column. -/
theorem ref_out (i : Fin 8192) (j : Fin 2048) : val_main_v40 (F := Ideal) x0 x1 x2 x3 x4 x5 (ix2 i j) = ple x0 x1 x2 x3 x4 x5 i j := by
  have e : val_main_v40 (F := Ideal) x0 x1 x2 x3 x4 x5 (ix2 i j) = val_main_v23 (F := Ideal) x0 x1 x2 (ix3 (bOf i) (rOf i) j)
      + sigm (val_main_v26 (F := Ideal) x0 x1 x2 x3 (ix3 (bOf i) (rOf i) j)) * ∑ k : Fin 256, x4 (ix4 1 (bOf i) (rOf i) k) * x5 (ix3 1 k j) := by
    unfold sigm
    rw [zero_sub]
    pointwise [val_main_v40, val_main_v39, val_main_v38, val_main_v37, val_main_v36, val_main_v35, val_main_v34, val_main_v33, val_main_v32,
      val_main_v31, val_main_v30, val_main_v29, val_main_v28, val_main_v27, val_main_cst_4, val_main_cst_5, SwiVal.bOf, SwiVal.rOf]
  rw [e, ref_norm, ref_gate]
  rfl

end Cert.Own.PleRef

end
-- ==== Proof.Res.lean ====
/-
  The mixer's output product with its residual: the kernel's result array and the reference's, row by row and column by column.
-/
module

public import proofs.«01_k».proof.Proof.Gen.KernelOutIdeal.Value
public import proofs.«01_k».proof.Proof.Gen.ReferenceOutIdeal.Read
public import Idealize.ShloMosaic.Lib.Pipeline.ValueKit
public import Idealize.ShloMosaic.Lib.Pointwise

@[expose] public section

set_option maxRecDepth 16384

noncomputable section

namespace Cert.Own.Res

open Idealize.ShloMosaic Idealize.SL.Sem Cert.KernelOutIdeal Cert.KernelOutIdeal.Gen

/-- Alpha times the residual plus the product of the row with the weights' column. -/
def resid (A0 : (⟨3, ![4, 2048, 2048]⟩ : Shape).Idx → EReal) (A1 : (⟨3, ![1, 2048, 2048]⟩ : Shape).Idx → EReal)
    (A2 : (⟨3, ![4, 2048, 2048]⟩ : Shape).Idx → EReal) (b : Fin 4) (r n : Fin 2048) : EReal :=
  Ideal.ofBits .f32 0x3FB504F3#32 * A2 (ix3 b r n) + ∑ k : Fin 2048, A0 (ix3 b r k) * A1 (ix3 0 k n)

/-- What a grid point stores, at a row and column of its block. -/
theorem out_read (x0 : Vec Ideal S1024x2048 .bf16) (x1 : Vec Ideal S1x2048x512 .f32) (x2 : Vec Ideal S1024x512 .f32) (a : Fin 1024) (n : Fin 512) :
    out0_3 x0 x1 x2 (ix2 a n) = Ideal.ofBits .f32 0x3FB504F3#32 * x2 (ix2 a n) + ∑ k : Fin 2048, x0 (ix2 a k) * x1 (ix3 0 k n) := by
  unfold out0_3
  rw [View.canon_cons_unit_lit (h := fun d => by fin_cases d <;> rfl)]
  pointwise [k0_pay1]

variable (m : (ℓ : Loc nD τ sig) → Buf (Elt Ideal) ℓ) (c : Dev nD)

/-- The block index of each window at a grid point. -/
theorem idx0 : ∀ t : Fin cfg0.N, win0_0.index t = ![t.val / 4, 0] := (by decide +kernel : ∀ t : Fin grid0.N, _)
theorem idx1 : ∀ t : Fin cfg0.N, win0_1.index t = ![0, 0, t.val % 4] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, t.val % 4] := (by decide +kernel : ∀ t : Fin grid0.N, _)

theorem t_lt (t : Fin cfg0.N) : t.val < 32 := lt_of_lt_of_eq t.isLt (by decide +kernel)

/-- The argument arrays of core `c`. -/
def a0 : (⟨3, ![4, 2048, 2048]⟩ : Shape).Idx → EReal := m (c, Proc.tc.devRef main_arg0)
def a1 : (⟨3, ![1, 2048, 2048]⟩ : Shape).Idx → EReal := m (c, Proc.tc.devRef main_arg1)
def a2 : (⟨3, ![4, 2048, 2048]⟩ : Shape).Idx → EReal := m (c, Proc.tc.devRef main_arg2)

theorem V0 (r : Fin 8192) (k : Fin 2048) : V m c main_v0 (ix2 r k) = a0 m c (ix3 ⟨r.val / 2048, by omega⟩ ⟨r.val % 2048, by omega⟩ k) := by
  unfold V
  after_results
  pointwise [a0, a1, a2]

theorem V1 (r : Fin 8192) (k : Fin 2048) : V m c main_v1 (ix2 r k) = a2 m c (ix3 ⟨r.val / 2048, by omega⟩ ⟨r.val % 2048, by omega⟩ k) := by
  unfold V
  after_results
  pointwise [a0, a1, a2]

theorem Va1 (i : (⟨3, ![1, 2048, 2048]⟩ : Shape).Idx) : V m c main_arg1 i = a1 m c i := by
  unfold V
  after_results
  rfl

/-- A row of the arrays, from the grid point and the row in its block. -/
def rowOf (t : Fin cfg0.N) (r : Fin 1024) : Fin 8192 := ⟨t.val / 4 * 1024 + r.val, by have := t_lt t; omega⟩

/-- A column of the weights and of the result, from the grid point and the column in its block. -/
def colOf (t : Fin cfg0.N) (n : Fin 512) : Fin 2048 := ⟨t.val % 4 * 512 + n.val, by omega⟩

/-- The batch and the sequence position of a row. -/
def bOf (i : Fin 8192) : Fin 4 := ⟨i.val / 2048, by omega⟩
def rOf (i : Fin 8192) : Fin 2048 := ⟨i.val % 2048, by omega⟩

/-- The row block of the product's left operand. -/
theorem blk0 (t : Fin cfg0.N) (r : Fin 1024) (k : Fin 2048) :
    iblk m c 0 t (ix2 r k) = a0 m c (ix3 (bOf (rowOf t r)) (rOf (rowOf t r)) k) := by
  have e : iblk m c 0 t (ix2 r k) = V m c main_v0 (ix2 (rowOf t r) k) := by
    blk_point [iblk, V, idx0 t, rowOf]
  exact e.trans (V0 m c _ _)

/-- The column block of the weights. -/
theorem blk1 (t : Fin cfg0.N) (k : Fin 2048) (n : Fin 512) :
    iblk m c 1 t (ix3 0 k n) = a1 m c (ix3 0 k (colOf t n)) := by
  have e : iblk m c 1 t (ix3 0 k n) = V m c main_arg1 (ix3 0 k (colOf t n)) := by
    blk_point [iblk, V, idx1 t, colOf]
  exact e.trans (Va1 m c _)

/-- The block of the residual. -/
theorem blk2 (t : Fin cfg0.N) (r : Fin 1024) (n : Fin 512) :
    iblk m c 2 t (ix2 r n) = a2 m c (ix3 (bOf (rowOf t r)) (rOf (rowOf t r)) (colOf t n)) := by
  have e : iblk m c 2 t (ix2 r n) = V m c main_v1 (ix2 (rowOf t r) (colOf t n)) := by
    blk_point [iblk, V, idx2 t, rowOf, colOf]
  exact e.trans (V1 m c _ _)

/-- The result array. -/
def outArr : S8192x2048.Idx → EReal := fun y => resid (a0 m c) (a1 m c) (a2 m c) (bOf (y 0)) (rOf (y 0)) (y 1)

/-- The result array of the run is `outArr`. -/
theorem arr_eq : (dats m 0 c).arrAt 3 cfg0.N = outArr m c := by
  refine (dats m 0 c).arrAt_eq_of_covers 3 _ (by decide +kernel) fun t hf y => ?_
  blk_simp
  rw [after0_3]
  have h0 : (((cfg0.win 3).blk t).view.emb y 0).val = t.val / 4 * 1024 + (y 0).val := by
    blk_simp [idx3 t]
  have h1 : (((cfg0.win 3).blk t).view.emb y 1).val = t.val % 4 * 512 + (y 1).val := by
    blk_simp [idx3 t]
  obtain ⟨a, n, rfl⟩ : ∃ (a : Fin 1024) (n : Fin 512), y = ix2 a n := ⟨y 0, y 1, eq_ix2 y⟩
  have e0 : ((cfg0.win 3).blk t).view.emb (ix2 a n) 0 = rowOf t a := Fin.ext h0
  have e1 : ((cfg0.win 3).blk t).view.emb (ix2 a n) 1 = colOf t n := Fin.ext h1
  refine (out_read _ _ _ a n).trans ?_
  unfold outArr resid
  rw [e0, e1]
  simp only [blk0, blk1, blk2]

end Cert.Own.Res

namespace Cert.Own.ResRef

open Idealize.ShloMosaic Idealize.SL.Sem Cert.ReferenceOutIdeal Cert.ReferenceOutIdeal.Read

/-- The reference's result at a row and column. -/
theorem ref_out (x0 : (⟨S4x2048x2048, .bf16⟩ : BufTy).Contents (Elt Ideal)) (x1 : (⟨S1x2048x2048, .f32⟩ : BufTy).Contents (Elt Ideal))
    (x2 : (⟨S4x2048x2048, .f32⟩ : BufTy).Contents (Elt Ideal)) (i : Fin 8192) (j : Fin 2048) :
    val_main_v6 (F := Ideal) x0 x1 x2 (ix2 i j) = Cert.Own.Res.resid x0 x1 x2 ⟨i.val / 2048, by omega⟩ ⟨i.val % 2048, by omega⟩ j := by
  pointwise [val_main_v6, val_main_v5, val_main_v4, val_main_v3, val_main_v2, val_main_v1, val_main_v0, val_main_cst, Cert.Own.Res.resid]

end Cert.Own.ResRef

end
-- ==== Proof.InpRun.lean ====
/-
  The input projections: the run. The row block is kept, in the narrow type, in a scratch buffer from the first column of each
  row block on. The last column block of the weights overhangs the array, so part of its buffer holds unknown numbers; the
  frame says nothing of the weights' buffer nor of what is stored, the value run says what is stored inside the array.
-/
module

public import proofs.«01_k».proof.Proof.Gen.KernelInIdeal.Frame
public import proofs.«01_k».proof.Proof.Gen.KernelInIdeal.Skeleton
public import Idealize.ShloMosaic.Lib.Claim
public import Idealize.ShloMosaic.Lib.VecWindow

@[expose] public section

set_option maxRecDepth 16384

noncomputable section

namespace Cert.Own.Inp

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- The body's branch is taken at the first column of a row block. -/
abbrev first (i : grid0.Coords) : Prop := Scalar.cmpi .ne (Scalar.extui (Scalar.cmpi .eq (BitVec.ofNat 32 (i 1).val) 0#32) : BitVec 32) 0#32 = 1#1

theorem first_iff : ∀ t : Fin cfg0.N, first (grid0.coords t) ↔ t.val % 6 = 0 :=
  (fun t => by
    have ht : t.val < 48 := Nat.lt_of_lt_of_eq t.isLt N_0
    have e1 : (grid0.coords t 1).val = t.val / 1 % 6 := Pipeline.Grid.coords_val t 1 (by decide) rfl
    unfold first
    word_cmp
   : ∀ t : Fin grid0.N, first (grid0.coords t) ↔ t.val % 6 = 0)

section Body
variable (c : Dev nD) (i : grid0.Coords)
    (arg2 : Memref sig .tc .vmem S1024x2048 .f32) (harg2 : arg2.IsWhole) (arg3 : Memref sig .tc .vmem S2048x512 .f32) (harg3 : arg3.IsWhole)
    (arg4 : Memref sig .tc .vmem S1024x512 .f32) (harg4 : arg4.IsWhole) (arg5 : Memref sig .tc .vmem S1024x2048 .bf16) (harg5 : arg5.IsWhole)
    (x0 : Vec F S1024x2048 .f32) (x1 : Vec F S2048x512 .f32)

/-- The body at a row block's first column: the row block is stored in the narrow type, then the product. -/
theorem run_first (hc : first i) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 (k0_pay1 x0) x1) ∗ owns (c : Thread nD τ) arg5 fullShare (k0_pay1 x0)) -∗ K ⟨⟩))
      ⊢ wp frame (wpE (defs₀ (F := F)) Variants.none c none) E (cc0_matmul i arg2 harg2 arg3 harg3 arg4 harg4 arg5 harg5) K := by
  simp only [cc0_matmul_eq_skeleton]; unfold cc0_matmul_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (View.read_writes_full _ _ _ _ _).trans ?_
    delta run_first.sl.v3 run_first.sl.H3_1
    rw [View.readCov_full, View.readAt_full, View.readAt_full, hf0, hf1]
  iexists _; isplitr
  swap; · iexact H3
  ipureintro
  refine (View.read_writes_full _ _ _ _ _).trans ?_
  rw [View.readAt_full, hf0]

/-- The body at any later column: the product alone, the kept row block as it was. -/
theorem run_later (hc : ¬first i) (xb : Vec F S1024x2048 .bf16) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xb
        ∗ (iprop(owns (c : Thread nD τ) arg2 fullShare x0 ∗ owns (c : Thread nD τ) arg3 fullShare x1
            ∗ owns (c : Thread nD τ) arg4 fullShare (k0_pay2 xb x1) ∗ owns (c : Thread nD τ) arg5 fullShare xb) -∗ K ⟨⟩))
      ⊢ wp frame (wpE (defs₀ (F := F)) Variants.none c none) E (cc0_matmul i arg2 harg2 arg3 harg3 arg4 harg4 arg5 harg5) K := by
  simp only [cc0_matmul_eq_skeleton]; unfold cc0_matmul_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (View.read_writes_full _ _ _ _ _).trans ?_
    rw [View.readAt_full, View.readAt_full, hf3, hf1]
  iexists _; isplitr; · ipureintro; exact harg5.read_unread _
  iexact H3

end Body

variable (m : (ℓ : Loc nD τ sig) → Buf (Elt F) ℓ) (ρ : Dev nD → PrngReg)

/-- The scratch buffer. -/
abbrev scM : Memref sig .tc .vmem S1024x2048 .bf16 := Memref.whole cc0_scratch0

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

abbrev ms_0 (t : Fin cfg0.N) : Memref sig .tc .vmem S1024x2048 .f32 := win0_0.stage (cfg0.slots t 0)
abbrev ms_1 (t : Fin cfg0.N) : Memref sig .tc .vmem S2048x512 .f32 := win0_1.stage (cfg0.slots t 1)
abbrev ms_2 (t : Fin cfg0.N) : Memref sig .tc .vmem S1024x512 .f32 := win0_2.stage (cfg0.slots t 2)

theorem defs₀_row (t : Fin cfg0.N) : defs₀ (F := F) .tc cfg0.body (cfg0.bodyArgs t (cfg0.slots t)) = bodyAt0 t := by
  unfold defs₀; rw [Defs.onTc_tc]

/-! ## The frame -/

/-- The windows that the frame says nothing of: the weights' and the result's. -/
abbrev unsaid : Fin cfg0.W → Bool := fun | 0 => false | 1 => true | 2 => true | ⟨_ + 3, h⟩ => absurd h (Nat.not_lt.2 (Nat.le_add_left _ _))

/-- The frame's data: the arrays as the call finds them and the rows' buffer at its block. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Dat.unnamed 1 t
    | ⟨2, _⟩ => Dat.unnamed 2 t
  Φ _ := Pipeline.ΦA spec0 c
  q _ := fullShare
  owed _ := 0

theorem fA_eq (c : Dev nD) (w : Fin cfg0.W) : (fdats m 0 c).A w = V m c (Pipeline.arrRef spec0 w) := by dsimp only [fdats]

theorem fafter_0 (c : Dev nD) (t : Fin cfg0.N) : (fdats m 0 c).after 0 t = iblk m c 0 t := by dsimp only [fdats]

theorem fbefore_0 (c : Dev nD) (t : Fin cfg0.N) (d) : (fdats m 0 c).before 0 t d = iblk m c 0 t :=
  before0_0_of m (fdats m 0 c) (fA_eq m c 0) (fafter_0 m c) t d

/-- What the body is given, and gives back, for the frame. -/
def fPre (c : Dev nD) (t : Fin cfg0.N) : sProp 𝕄 :=
  iprop(Pipeline.ΦA spec0 c ∗ (fdats m 0 c).owesAt () t.castSucc
    ∗ (∃ d, owns (c : Thread nD τ) (ms_0 t) fullShare ((fdats m 0 c).before 0 t d))
    ∗ (∃ d, owns (c : Thread nD τ) (ms_1 t) fullShare d)
    ∗ (∃ d, owns (c : Thread nD τ) (ms_2 t) fullShare d))
def fPost (c : Dev nD) (t : Fin cfg0.N) : sProp 𝕄 :=
  iprop(Pipeline.ΦA spec0 c ∗ (fdats m 0 c).owesAt () t.castSucc
    ∗ owns (c : Thread nD τ) (ms_0 t) fullShare ((fdats m 0 c).after 0 t)
    ∗ (∃ d, owns (c : Thread nD τ) (ms_1 t) fullShare d)
    ∗ (∃ d, owns (c : Thread nD τ) (ms_2 t) fullShare d))

theorem fsound (c : Dev nD) (t : Fin cfg0.N) :
    fPre m c t ⊢ wp frame (wpE (defs₀ (F := F)) Variants.none c none) Set.univ (bodyAt0 t) (fun _ => fPost m c t) := by
  unfold fPre fPost
  simp only [fbefore_0, fafter_0]
  rw [PhiA_eq]
  by_cases h0 : t.val % 6 = 0
  · iintro ⟨⟨HS, Hg⟩, Ho, ⟨%d0, H0⟩, ⟨%d1, H1⟩, ⟨%d2, H2⟩⟩
    iapply (run_first c (grid0.coords t) _ _ _ _ _ _ _ _ (iblk m c 0 t) d1 ((first_iff t).mpr h0) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexists _; iexact HS
      iexact Hg
    isplitl [Ho]; · iexact Ho
    isplitl [H0]; · iexact H0
    isplitl [H1]; · iexists _; iexact H1
    iexists _; iexact H2
  · iintro ⟨⟨⟨%ds, HS⟩, Hg⟩, Ho, ⟨%d0, H0⟩, ⟨%d1, H1⟩, ⟨%d2, H2⟩⟩
    iapply (run_later c (grid0.coords t) _ _ _ _ _ _ _ _ (iblk m c 0 t) d1 (fun h => h0 ((first_iff t).mp h)) ds Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexists _; iexact HS
      iexact Hg
    isplitl [Ho]; · iexact Ho
    isplitl [H0]; · iexact H0
    isplitl [H1]; · iexists _; iexact H1
    iexists _; iexact H2

theorem fbody (c : Dev nD) : BodyObligationLoose (fdats (F := F) m 0 c) (defs₀ (F := F)) Variants.none () Set.univ unsaid := fun t => by
  rw [bigSep_W0, bigSep_W0, defs₀_row]
  exact triple_restated (fsound m c t) rfl .rfl fun _ => .rfl

/-- Every run ends, the arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_forget (Q' := _) cfgs (fdats m) (0 : Fin 1) launch0 defs₀ Variants.none unsaid m ρ main
    (hbody := fbody m)
    (hshare := fun c w => by unfold Dat.share; split <;> rfl)
    (howed := fun _ _ => rfl) (V := V m) (hmain := hmain m Variants.none) (hA := fA_eq m) (hΦ := fun _ _ => rfl)
    (hQ' := fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩)

end Cert.Own.Inp

end
-- ==== Proof.InpBits.lean ====
/-
  The input projections at machine floats: the program text is that of the idealized form, so the run is the same.
-/
module

public import proofs.«01_k».proof.Proof.InpRun
public import proofs.«01_k».proof.Proof.Gen.KernelIn
public import Idealize.ShloMosaic.PureOps.BitExact

@[expose] public section

set_option maxRecDepth 16384

noncomputable section

namespace Cert.Own.InpBits

open Idealize.ShloMosaic Idealize.SL.Sem Cert.KernelIn Cert.KernelIn.Gen

/-- The two body tables are one. -/
theorem defs₀_eq : defs₀ (F := Bits) = Cert.KernelInIdeal.defs₀ (F := Bits) := by
  unfold defs₀ Cert.KernelInIdeal.defs₀
  congr 1
  funext l x
  obtain rfl : l = (0 : Fin 1) := Subsingleton.elim _ _
  rfl

/-- Every run ends with the arguments as they were and every counter at zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  have h := Cert.Own.Inp.run_frame (F := Bits) m ρ
  unfold Cert.KernelInIdeal.defs at h
  unfold defs
  rw [defs₀_eq]
  exact h

end Cert.Own.InpBits

end
-- ==== Proof.Inp.lean ====
/-
  The input projections: what the run stores inside the result array, and the reference's result.
-/
module

public import proofs.«01_k».proof.Proof.InpRun
public import proofs.«01_k».proof.Proof.Gen.ReferenceInIdeal.Read
public import Idealize.ShloMosaic.Lib.Pipeline.ValueKit
public import Idealize.ShloMosaic.Lib.Pointwise

@[expose] public section

set_option maxRecDepth 16384

noncomputable section

namespace Cert.Own.Inp

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the buffers hold after each point -/

/-- The first grid point of a point's row block. -/
def head (t : Fin cfg0.N) : Fin cfg0.N := ⟨t.val / 6 * 6, lt_of_le_of_lt (Nat.div_mul_le_self _ _) t.isLt⟩

/-- The row block that the scratch buffer holds from a row block's first point on. -/
def kept (c : Dev nD) (t : Fin cfg0.N) : Vec Ideal S1024x2048 .bf16 := k0_pay1 (F := Ideal) (iblk m c 0 (head t))

/-- The weights' buffer: the block inside the array, `d` past the array's end. -/
def wbuf (c : Dev nD) (t : Fin cfg0.N) (d : Vec Ideal S2048x512 .f32) : Vec Ideal S2048x512 .f32 :=
  win0_1.fill (grid0.coords t) d (iblk m c 1 t)

/-- The weights' buffer with zeros past the array's end. -/
def wzero (c : Dev nD) (t : Fin cfg0.N) : Vec Ideal S2048x512 .f32 := wbuf m c t fun _ => (0 : EReal)

/-- The block of the result that a point stores, with those zeros. -/
def outs (c : Dev nD) (t : Fin cfg0.N) : Vec Ideal S1024x512 .f32 := k0_pay2 (F := Ideal) (kept m c t) (wzero m c t)

/-- A product of the payload, at a row and a column. -/
theorem pay2_read (x : Vec Ideal S1024x2048 .bf16) (w : Vec Ideal S2048x512 .f32) (a : Fin 1024) (n : Fin 512) :
    k0_pay2 (F := Ideal) x w (ix2 a n) = ∑ k : Fin 2048, x (ix2 a k) * w (ix2 k n) := by
  pointwise [k0_pay2]

/-- Inside the array the weights' buffer does not depend on what lies past the array's end. -/
theorem wbuf_inside (c : Dev nD) (t : Fin cfg0.N) (d d' : Vec Ideal S2048x512 .f32) (k : Fin 2048) (n : Fin 512)
    (hn : n.val < win0_1.xsize (grid0.coords t) 1) : wbuf m c t d (ix2 k n) = wbuf m c t d' (ix2 k n) := by
  have h : win0_1.moved (grid0.coords t) (ix2 k n) = true := (win0_1.moved_iff _ _).mpr fun a => by
    fin_cases a
    · exact k.isLt
    · exact hn
  unfold wbuf Window.fill
  rw [dif_pos h, dif_pos h]

/-- The stored block, inside the array, likewise. -/
theorem cut_outs (c : Dev nD) (t : Fin cfg0.N) (d : Vec Ideal S2048x512 .f32) :
    win0_2.cut (grid0.coords t) (k0_pay2 (F := Ideal) (kept m c t) (wbuf m c t d)) = win0_2.cut (grid0.coords t) (outs m c t) := by
  funext j
  have e : win0_2.xinj (grid0.coords t) j = ix2 (win0_2.xinj (grid0.coords t) j 0) (win0_2.xinj (grid0.coords t) j 1) := eq_ix2 _
  show k0_pay2 (F := Ideal) (kept m c t) (wbuf m c t d) (win0_2.xinj (grid0.coords t) j) = outs m c t (win0_2.xinj (grid0.coords t) j)
  rw [e]
  unfold outs
  refine (pay2_read _ _ _ _).trans (Eq.trans ?_ (pay2_read _ _ _ _).symm)
  refine Finset.sum_congr rfl fun k _ => ?_
  exact congrArg (fun z : EReal => kept m c t (ix2 (win0_2.xinj (grid0.coords t) j 0) k) * z)
    (wbuf_inside m c t d (fun _ => (0 : EReal)) k _ (j 1).isLt)

/-- Before the first point the scratch buffer holds anything; after point `n` it holds that point's row block. -/
def PhiS (c : Dev nD) : (n : ℕ) → n ≤ cfg0.N → sProp 𝕄
  | 0, _ => Pipeline.ΦA spec0 c
  | n + 1, hn => iprop(owns (c : Thread nD τ) scM fullShare (kept m c ⟨n, hn⟩) ∗ (∃ r, prngReg c r))

/-- At any point the scratch buffer holds something. -/
theorem PhiS_any (c : Dev nD) : (n : ℕ) → (h : n ≤ cfg0.N) →
    (PhiS m c n h ⊢ iprop((∃ d, owns (c : Thread nD τ) scM fullShare d) ∗ (∃ r, prngReg c r)))
  | 0, _ => by
    unfold PhiS; rw [PhiA_eq]
  | n + 1, hn => by
    unfold PhiS
    iintro ⟨HS, Hg⟩
    isplitl [HS]; · iexists _; iexact HS
    iexact Hg

theorem PhiS_pos (c : Dev nD) (n : ℕ) (h : n ≤ cfg0.N) (hz : n ≠ 0) :
    PhiS m c n h = iprop(owns (c : Thread nD τ) scM fullShare (kept m c ⟨n - 1, by omega⟩) ∗ (∃ r, prngReg c r)) := by
  cases n with
  | zero => exact absurd rfl hz
  | succ n => rfl

/-- The run's data: the arrays as the call finds them, the inputs' buffers at their blocks, the result's at the product. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wzero m c t
    | ⟨2, _⟩ => outs m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = wzero m c t := by dsimp only [dats]
theorem after_2 (c : Dev nD) (t : Fin cfg0.N) : (dats m 0 c).after 2 t = outs m c t := by dsimp only [dats]

theorem before_0 (c : Dev nD) (t : Fin cfg0.N) (d) : (dats m 0 c).before 0 t d = iblk m c 0 t :=
  before0_0_of m (dats m 0 c) (A_eq m c 0) (after_0 m c) t d

/-- The weights' buffer, fetched at every point. -/
theorem before_1 (c : Dev nD) (t : Fin cfg0.N) (d) : (dats m 0 c).before 1 t d = wbuf m c t d := by
  unfold Dat.before
  rw [if_pos (fetch0_1 t)]
  unfold Dat.fetched Dat.blockOf
  rw [A_eq]
  rfl

/-- The point before a later column belongs to the same row block. -/
theorem head_pred (t : Fin cfg0.N) (h0 : ¬t.val % 6 = 0) (hl : t.val - 1 < cfg0.N) : head ⟨t.val - 1, hl⟩ = head t := by
  unfold head; apply Fin.ext; show (t.val - 1) / 6 * 6 = t.val / 6 * 6; omega

theorem head_self (t : Fin cfg0.N) (h0 : t.val % 6 = 0) : head t = t := by
  unfold head; apply Fin.ext; show t.val / 6 * 6 = t.val; omega

/-! ## The body at a grid point -/

/-- What the body is given. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d)))

/-- What the body gives back. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ (∃ d, owns (c : Thread nD τ) (ms_1 t) fullShare (win0_1.fill (grid0.coords t) d (win0_1.cut (grid0.coords t) ((dats m 0 c).after 1 t))))
    ∗ (∃ d, owns (c : Thread nD τ) (ms_2 t) fullShare (win0_2.fill (grid0.coords t) d (win0_2.cut (grid0.coords t) ((dats m 0 c).after 2 t)))))

/-- What was fetched is the weights' block inside the array. -/
theorem fill_wzero (c : Dev nD) (t : Fin cfg0.N) (d : Vec Ideal S2048x512 .f32) :
    win0_1.fill (grid0.coords t) d (win0_1.cut (grid0.coords t) (wzero m c t)) = wbuf m c t d := by
  unfold wzero wbuf
  rw [win0_1.cut_fill]

/-- What was stored is the product's block inside the array. -/
theorem fill_outs (c : Dev nD) (t : Fin cfg0.N) (d : Vec Ideal S2048x512 .f32) :
    win0_2.fill (grid0.coords t) (k0_pay2 (F := Ideal) (kept m c t) (wbuf m c t d)) (win0_2.cut (grid0.coords t) (outs m c t))
      = k0_pay2 (F := Ideal) (kept m c t) (wbuf m c t d) :=
  win0_2.fill_congr_cut _ (cut_outs m c t d)

/-- The body takes the one to the other, at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before_0, before_1]
  rw [show (dats m 0 c).owesAt () t.succ = (dats m 0 c).owesAt () t.castSucc from rfl, after_0, after_1, after_2, PhiS_castSucc m c t]
  rw [show (dats m 0 c).Φ t.succ = iprop(owns (c : Thread nD τ) scM fullShare (kept m c t) ∗ (∃ r, prngReg c r)) from rfl]
  by_cases h0 : t.val % 6 = 0
  · refine (sep_mono (PhiS_any m c _ _) .rfl).trans ?_
    have e : kept m c t = k0_pay1 (F := Ideal) (iblk m c 0 t) := by unfold kept; rw [head_self t h0]
    iintro ⟨⟨HS, Hg⟩, Ho, ⟨%d0, H0⟩, ⟨%d1, H1⟩, ⟨%d2, H2⟩⟩
    iapply (run_first c (grid0.coords t) _ _ _ _ _ _ _ _ (iblk m c 0 t) (wbuf m c t d1) ((first_iff t).mpr h0) Set.univ _)
    isplitl [H0]; · iexact H0
    isplitl [H1]; · iexact H1
    isplitl [H2]; · iexists _; iexact H2
    isplitl [HS]; · iexact HS
    rw [← e]
    iintro ⟨H0, H1, H2, HS⟩
    isplitl [HS Hg]
    · isplitl [HS]; · iexact HS
      iexact Hg
    isplitl [Ho]; · iexact Ho
    isplitl [H0]; · iexact H0
    isplitl [H1]
    · iexists d1; rw [fill_wzero]; iexact H1
    iexists (k0_pay2 (F := Ideal) (kept m c t) (wbuf m c t d1)); rw [fill_outs]; iexact H2
  · have hz : t.val ≠ 0 := by omega
    rw [PhiS_pos m c _ _ hz]
    have e : kept m c ⟨t.val - 1, by have := t.isLt; omega⟩ = kept m c t := by
      unfold kept; rw [head_pred t h0]
    rw [e]
    iintro ⟨⟨HS, Hg⟩, Ho, ⟨%d0, H0⟩, ⟨%d1, H1⟩, ⟨%d2, H2⟩⟩
    iapply (run_later c (grid0.coords t) _ _ _ _ _ _ _ _ (iblk m c 0 t) (wbuf m c t d1) (fun h => h0 ((first_iff t).mp h)) (kept m c t) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]
    · iexists d1; rw [fill_wzero]; iexact H1
    iexists (k0_pay2 (F := Ideal) (kept m c t) (wbuf m c t d1)); rw [fill_outs]; iexact H2

theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [PhiA_eq]
  exact PhiS_any m c _ (Nat.le_of_lt_succ (Fin.last cfg0.N).isLt)

/-- Every run ends with the result array at what the data says, and the arguments as they were. -/
theorem run_arrays : θ_run defs (onTc (τ := τ) (main (F := Ideal))) ⟨m, fun _ => 0, ρ⟩ (fun r => ∀ c : Dev nD,
      r.2.mem ((c.tc : Thread nD τ).loc main_v2) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_frame_track (Q' := _) cfgs (dats m) (0 : Fin 1) launch0 defs₀ Variants.none m ρ main
    (hbody := body_obligation m) (hshare := fun c w => by unfold Dat.share; split <;> rfl)
    (howed := fun _ _ => rfl) (V := V m) (hmain := hmain m Variants.none) (hA := A_eq m) (hin := hin m) (hout := hout m)
    (hQ' := fun r h c => ⟨(h.1 c).1 2,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩)

/-! ## The result array -/

variable (c : Dev nD)

/-- The block index of each window at a grid point. -/
theorem idx0 : ∀ t : Fin cfg0.N, win0_0.index t = ![t.val / 6, 0] := (by decide +kernel : ∀ t : Fin grid0.N, _)
theorem idx1 : ∀ t : Fin cfg0.N, win0_1.index t = ![0, t.val % 6] := (by decide +kernel : ∀ t : Fin grid0.N, _)
theorem idx2 : ∀ t : Fin cfg0.N, win0_2.index t = ![t.val / 6, t.val % 6] := (by decide +kernel : ∀ t : Fin grid0.N, _)

theorem t_lt (t : Fin cfg0.N) : t.val < 48 := lt_of_lt_of_eq t.isLt (by decide +kernel)

/-- The argument arrays of core `c`. -/
def a0 : (⟨3, ![4, 2048, 2048]⟩ : Shape).Idx → EReal := m (c, Proc.tc.devRef main_arg0)
def a1 : (⟨3, ![1, 2048, 2864]⟩ : Shape).Idx → EReal := m (c, Proc.tc.devRef main_arg1)

/-- The batch and the sequence position of a row. -/
def bOf (i : Fin 8192) : Fin 4 := ⟨i.val / 2048, by omega⟩
def rOf (i : Fin 8192) : Fin 2048 := ⟨i.val % 2048, by omega⟩

/-- The product of a row with a column of the weights. -/
def proj (A0 : (⟨3, ![4, 2048, 2048]⟩ : Shape).Idx → EReal) (A1 : (⟨3, ![1, 2048, 2864]⟩ : Shape).Idx → EReal)
    (b : Fin 4) (r : Fin 2048) (n : Fin 2864) : EReal :=
  ∑ k : Fin 2048, A0 (ix3 b r k) * A1 (ix3 0 k n)

/-- The operands that the host code lays out. -/
theorem V0 (r : Fin 8192) (k : Fin 2048) : V m c main_v0 (ix2 r k) = a0 m c (ix3 (bOf r) (rOf r) k) := by
  unfold V
  after_results
  pointwise [a0, bOf, rOf]

theorem V1 (k : Fin 2048) (n : Fin 2864) : V m c main_v1 (ix2 k n) = a1 m c (ix3 0 k n) := by
  unfold V
  after_results
  pointwise [a1]

/-- A row of the arrays, from the grid point and the row in its block. -/
def rowOf (t : Fin cfg0.N) (r : Fin 1024) : Fin 8192 := ⟨t.val / 6 * 1024 + r.val, by have := t_lt t; omega⟩

/-- The row block. -/
theorem blk0 (t : Fin cfg0.N) (r : Fin 1024) (k : Fin 2048) :
    iblk m c 0 t (ix2 r k) = a0 m c (ix3 (bOf (rowOf t r)) (rOf (rowOf t r)) k) := by
  have e : iblk m c 0 t (ix2 r k) = V m c main_v0 (ix2 (rowOf t r) k) := by
    blk_point [iblk, V, idx0 t, rowOf]
  exact e.trans (V0 m c _ _)

/-- The kept row block. -/
theorem kept_read (t : Fin cfg0.N) (r : Fin 1024) (k : Fin 2048) :
    kept m c t (ix2 r k) = a0 m c (ix3 (bOf (rowOf t r)) (rOf (rowOf t r)) k) := by
  have e : rowOf (head t) r = rowOf t r := Fin.ext (by show t.val / 6 * 6 / 6 * 1024 + r.val = t.val / 6 * 1024 + r.val; omega)
  have h : kept m c t (ix2 r k) = iblk m c 0 (head t) (ix2 r k) := by
    unfold kept
    generalize (iblk m c 0 (head t) : Vec Ideal S1024x2048 .f32) = y
    pointwise [k0_pay1]
  rw [h, blk0, e]

/-- The weights' buffer inside the array. -/
theorem wzero_read (t : Fin cfg0.N) (k : Fin 2048) (n : Fin 512) (hn : n.val < win0_1.xsize (grid0.coords t) 1)
    (h : t.val % 6 * 512 + n.val < 2864) : wzero m c t (ix2 k n) = a1 m c (ix3 0 k ⟨t.val % 6 * 512 + n.val, h⟩) := by
  have hm : win0_1.moved (grid0.coords t) (ix2 k n) = true := (win0_1.moved_iff _ _).mpr fun a => by
    fin_cases a
    · exact k.isLt
    · exact hn
  unfold wzero wbuf Window.fill
  rw [dif_pos hm]
  refine Eq.trans ?_ (V1 m c k _)
  blk_point [iblk, V, idx1 t]

/-- The result array. -/
def outArr : S8192x2864.Idx → EReal := fun y => proj (a0 m c) (a1 m c) (bOf (y 0)) (rOf (y 0)) (y 1)

/-- The result array of the run is `outArr`. -/
theorem arr_eq : (dats m 0 c).arrAt 2 cfg0.N = outArr m c := by
  refine (dats m 0 c).arrAt_eq_of_covers 2 _ (by decide +kernel) fun t hf y => ?_
  have h0 : (((cfg0.win 2).blk t).view.emb y 0).val = t.val / 6 * 1024 + (y 0).val := by
    blk_simp [idx2 t]
  have h1 : (((cfg0.win 2).blk t).view.emb y 1).val = t.val % 6 * 512 + (y 1).val := by
    blk_simp [idx2 t]
  rw [after_2]
  have e : win0_2.xinj (grid0.coords t) y = ix2 (win0_2.xinj (grid0.coords t) y 0) (win0_2.xinj (grid0.coords t) y 1) := eq_ix2 _
  have hl : t.val % 6 * 512 + (y 1).val < 2864 := by
    rw [← h1]; exact (((cfg0.win 2).blk t).view.emb y 1).isLt
  show outs m c t (win0_2.xinj (grid0.coords t) y) = outArr m c (((cfg0.win 2).blk t).view.emb y)
  rw [e]
  unfold outs
  refine (pay2_read _ _ _ _).trans ?_
  unfold outArr proj
  have e0 : ((cfg0.win 2).blk t).view.emb y 0 = rowOf t (win0_2.xinj (grid0.coords t) y 0) := Fin.ext h0
  have e1 : ((cfg0.win 2).blk t).view.emb y 1 = (⟨t.val % 6 * 512 + (y 1).val, hl⟩ : Fin 2864) := Fin.ext h1
  rw [e0, e1]
  refine Finset.sum_congr rfl fun k _ => ?_
  exact congrArg₂ (fun a b : EReal => a * b) (kept_read m c t (win0_2.xinj (grid0.coords t) y 0) k)
    (wzero_read m c t k (win0_2.xinj (grid0.coords t) y 1) (y 1).isLt hl)

end Cert.Own.Inp

namespace Cert.Own.InpRef

open Idealize.ShloMosaic Idealize.SL.Sem Cert.ReferenceInIdeal Cert.ReferenceInIdeal.Read

/-- The reference's result at a row and column. -/
theorem ref_out (x0 : (⟨S4x2048x2048, .f32⟩ : BufTy).Contents (Elt Ideal)) (x1 : (⟨S1x2048x2864, .f32⟩ : BufTy).Contents (Elt Ideal))
    (i : Fin 8192) (j : Fin 2864) :
    val_main_v2 (F := Ideal) x0 x1 (ix2 i j) = Cert.Own.Inp.proj x0 x1 (Cert.Own.Inp.bOf i) (Cert.Own.Inp.rOf i) j := by
  pointwise [val_main_v2, val_main_v1, val_main_v0, Cert.Own.Inp.proj, Cert.Own.Inp.bOf, Cert.Own.Inp.rOf]

end Cert.Own.InpRef

end
-- ==== Proof.PrepPay.lean ====
/-
  The norms and the rotary key of the MLA layer's projections: the kernel's four result arrays and the reference's.
-/
module

public import proofs.«01_k».proof.Proof.Gen.KernelPrepIdeal.Value
public import proofs.«01_k».proof.Proof.Gen.ReferencePrepIdeal.Read
public import Idealize.ShloMosaic.Lib.Pipeline.ValueKit
public import Idealize.ShloMosaic.Lib.Pointwise
public import Idealize.ShloMosaic.Lib.KernelVsHost

@[expose] public section

set_option maxRecDepth 16384

noncomputable section

namespace Cert.Own.Prep

open Idealize.ShloMosaic Idealize.SL.Sem Cert.KernelPrepIdeal Cert.KernelPrepIdeal.Gen

/-- A row over the root of its mean square, scaled: `d` is the row's width. -/
def rms {n : ℕ} (d : EReal) (x g : Fin n → EReal) (k : Fin n) : EReal :=
  x k * Ideal.rsqrt (Ideal.div (∑ j, x j * x j) d + Ideal.ofBits .f32 0x358637BD#32) * g k

/-- The two widths, as the programs write them. -/
def w768 : EReal := Ideal.ofBits .f32 0x44400000#32
def w512 : EReal := Ideal.ofBits .f32 0x44000000#32

/-- The columns of the projections: the queries' part, the keys' part, the rotary part's two halves. -/
def colQ (k : Fin 768) : Fin 1344 := ⟨k.val, by omega⟩
def colK (k : Fin 512) : Fin 1344 := ⟨768 + k.val, by omega⟩
def colR (k : Fin 64) : Fin 1344 := ⟨1280 + k.val, by omega⟩

section Payloads
variable (x : Vec Ideal S512x1344 .f32)

theorem cq_read (g : Vec Ideal S1x768 .f32) (a : Fin 512) (k : Fin 768) :
    k0_pay4 x g (ix2 a k) = rms w768 (fun k => x (ix2 a (colQ k))) (fun k => g (ix2 0 k)) k := by
  pointwise [k0_pay4, k0_pay3, rms, w768, colQ]

theorem ckv_read (g : Vec Ideal S1x512 .f32) (a : Fin 512) (k : Fin 512) :
    k0_pay5 x g (ix2 a k) = rms w512 (fun k => x (ix2 a (colK k))) (fun k => g (ix2 0 k)) k := by
  pointwise [k0_pay5, k0_pay3, rms, w512, colK]

theorem ckvb_read (g : Vec Ideal S1x512 .f32) (a : Fin 512) (k : Fin 512) :
    k0_pay6 x g (ix2 a k) = rms w512 (fun k => x (ix2 a (colK k))) (fun k => g (ix2 0 k)) k := by
  have e : k0_pay6 x g (ix2 a k) = k0_pay5 x g (ix2 a k) := by
    unfold k0_pay6
    generalize k0_pay5 x g = y
    pointwise []
  exact e.trans (ckv_read x g a k)

theorem kr_read (a : Fin 512) (k : Fin 64) : k0_pay7 x (ix2 a k) = x (ix2 a (colR k)) := by
  pointwise [k0_pay7, k0_pay3, colR]

/-- The product with the table that writes the rotary part twice. -/
theorem dup_read (y : FVec Ideal S512x64 .f32) (D : FVec Ideal S64x128 .f32) (a : Fin 512) (n : Fin 128) :
    matmul dot_S512x64_S64x128_S512x128_1_0_0_1_n_n (some .fp32) y D (constant (F := Ideal) S512x128 .f32 0x00000000#32) (ix2 a n)
      = ∑ k : Fin 64, y (ix2 a k) * D (ix2 k n) := by
  pointwise []

/-- Whether a lane is in the first half of its 64. -/
def inHalf (n : ℕ) : BitVec 1 :=
  IntOp.cmpi CmpIPredicate.slt
    (Scalar.select
      (IntOp.andi
        (IntOp.xori
          (IntOp.cmpi CmpIPredicate.slt
            (IntOp.remsi ArithUnit.vector (BitVec.ofNat 32 n) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector (BitVec.ofNat 32 n) (Scalar.select (Scalar.cmpi CmpIPredicate.eq 64#32 0#32) 1#32 64#32)) 0#32))
      (IntOp.addi
        (IntOp.remsi ArithUnit.vector (BitVec.ofNat 32 n) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 n) (Scalar.select (Scalar.cmpi CmpIPredicate.eq 64#32 0#32) 1#32 64#32)))
    32#32

theorem inHalf_eq : ∀ n : Fin 128, inHalf n.val = if n.val % 64 < 32 then 1#1 else 0#1 := by decide +kernel

/-- The lanes 32 to the right and 32 to the left. -/
def right (n : Fin 128) : Fin 128 := ⟨(n.val + 128 - 96) % 128, Nat.mod_lt _ (by omega)⟩
def left (n : Fin 128) : Fin 128 := ⟨(n.val + 128 - 32) % 128, Nat.mod_lt _ (by omega)⟩

theorem rot_lane (y : FVec Ideal S512x64 .f32) (D : Vec Ideal S64x128 .f32) (z : FVec Ideal S512x128 .f32) (co si : Vec Ideal S512x128 .f32)
    (Y : FVec Ideal S512x128 .f32) (hY : matmul (φ₂ := .f32) dot_S512x64_S64x128_S512x128_1_0_0_1_n_n (some .fp32) y D z = Y)
    (a : Fin 512) (n : Fin 128) :
    k0_pay1 y D z co si (ix2 a n)
      = Y (ix2 a n) * co (ix2 a n) + Scalar.select (inHalf n.val) (Y (ix2 a (right n))) (Y (ix2 a (left n))) * si (ix2 a n) := by
  unfold k0_pay1
  dsimp only
  rw [hY]
  pointwise [inHalf, right, left]

/-- The rotated pair of halves of a row of 64, at place `d`. -/
def rot (x : Fin 64 → EReal) (cv sv : Fin 32 → EReal) (d : Fin 64) : EReal :=
  if h : d.val < 32 then x d * cv ⟨d.val, h⟩ - x ⟨d.val + 32, by omega⟩ * sv ⟨d.val, h⟩
  else x ⟨d.val - 32, by omega⟩ * sv ⟨d.val - 32, by omega⟩ + x d * cv ⟨d.val - 32, by omega⟩

/-- A lane's place in its 64 and in its 32. -/
def mod64 (n : Fin 128) : Fin 64 := ⟨n.val % 64, Nat.mod_lt _ (by omega)⟩
def mod32 (n : Fin 128) : Fin 32 := ⟨n.val % 32, Nat.mod_lt _ (by omega)⟩

theorem rot_read (D : Vec Ideal S64x128 .f32) (co si : Vec Ideal S512x128 .f32) (a : Fin 512) (cv sv : Fin 32 → EReal)
    (hD : ∀ (k : Fin 64) (n : Fin 128), D (ix2 k n) = if n.val % 64 = k.val then (1 : EReal) else 0)
    (hc : ∀ n : Fin 128, co (ix2 a n) = cv (mod32 n))
    (hs : ∀ n : Fin 128, si (ix2 a n) = if n.val % 64 < 32 then -sv (mod32 n) else sv (mod32 n)) (n : Fin 128) :
    k0_pay1 (k0_pay7 x) D (constant (F := Ideal) S512x128 .f32 0x00000000#32) co si (ix2 a n)
      = rot (fun k => x (ix2 a (colR k))) cv sv (mod64 n) := by
  have hY (n : Fin 128) : matmul (φ₂ := .f32) dot_S512x64_S64x128_S512x128_1_0_0_1_n_n (some .fp32) (k0_pay7 x) D
      (constant (F := Ideal) S512x128 .f32 0x00000000#32) (ix2 a n) = x (ix2 a (colR (mod64 n))) := by
    refine (dup_read _ D a n).trans ?_
    rw [Finset.sum_eq_single (mod64 n)]
    · rw [hD, if_pos (show n.val % 64 = (mod64 n).val from rfl), mul_one, kr_read]
    · intro k _ hk
      rw [hD, if_neg (fun h => hk (Fin.ext h.symm)), mul_zero]
    · exact fun h => absurd (Finset.mem_univ _) h
  refine (rot_lane _ D _ co si _ rfl a n).trans ?_
  rw [hY, hY, hY, hc, hs, inHalf_eq]
  have hn := n.isLt
  unfold rot
  by_cases h : n.val % 64 < 32
  · rw [if_pos h, if_pos h, dif_pos (show (mod64 n).val < 32 from h)]
    have e1 : mod64 (right n) = ⟨(mod64 n).val + 32, by show n.val % 64 + 32 < 64; omega⟩ :=
      Fin.ext (by show (n.val + 128 - 96) % 128 % 64 = n.val % 64 + 32; omega)
    have e2 : mod32 n = ⟨(mod64 n).val, h⟩ := Fin.ext (by show n.val % 32 = n.val % 64; omega)
    rw [e2]
    show _ + x (ix2 a (colR (mod64 (right n)))) * -sv _ = _
    rw [e1, mul_neg]
    rfl
  · rw [if_neg h, if_neg h, dif_neg (show ¬(mod64 n).val < 32 from h)]
    have e1 : mod64 (left n) = ⟨(mod64 n).val - 32, by show n.val % 64 - 32 < 64; omega⟩ :=
      Fin.ext (by show (n.val + 128 - 32) % 128 % 64 = n.val % 64 - 32; omega)
    have e2 : mod32 n = ⟨(mod64 n).val - 32, by show n.val % 64 - 32 < 32; omega⟩ := Fin.ext (by show n.val % 32 = n.val % 64 - 32; omega)
    rw [e2]
    show _ + x (ix2 a (colR (mod64 (left n)))) * sv _ = _
    rw [e1, add_comm]

theorem half_read (y : FVec Ideal S512x64 .f32) (D : Vec Ideal S64x128 .f32) (z : FVec Ideal S512x128 .f32) (co si : Vec Ideal S512x128 .f32)
    (a : Fin 512) (k : Fin 64) : k0_pay2 y D z co si (ix2 a k) = k0_pay1 y D z co si (ix2 a ⟨k.val, by omega⟩) := by
  unfold k0_pay2
  generalize k0_pay1 y D z co si = Y
  pointwise []

end Payloads

/-- The table holds a one where the column is the row modulo 64. -/
theorem lit_eq : ∀ (k : Fin 64) (n : Fin 128), lit0 ⟨k.val * 128 + n.val, by omega⟩ = if n.val % 64 = k.val then 0x3F800000#32 else 0#32 := by
  decide +kernel

/-! ## The tables that the host code computes -/

/-- The cosine and the sine of a position's angle. -/
def cosv (r : Fin 2048) (k : Fin 32) : EReal := Cert.ReferencePrepIdeal.Read.val_main_v50 (F := Ideal) (ix2 r k)
def sinv (r : Fin 2048) (k : Fin 32) : EReal := Cert.ReferencePrepIdeal.Read.val_main_v51 (F := Ideal) (ix2 r k)

/-- Two tables of 32 side by side, twice. -/
def tile (a b : (⟨S2048x32, .f32⟩ : BufTy).Contents (Elt Ideal)) : (⟨S2048x128, .f32⟩ : BufTy).Contents (Elt Ideal) :=
  shapeCast S2048x128 (broadcastInDim S1x2048x2x64 ![0, 1, 2, 3] bcast_S1x2048x1x64_S1x2048x2x64_0_1_2_3
    (shapeCast S1x2048x1x64 (concatenate S2048x64 1 [⟨S2048x32, a⟩, ⟨S2048x32, b⟩] concatenates_S2048x32_S2048x32_S2048x64_d1)
      shapeCasts_S2048x64_S1x2048x1x64)) shapeCasts_S1x2048x2x64_S2048x128

theorem tile_read (a b : (⟨S2048x32, .f32⟩ : BufTy).Contents (Elt Ideal)) (r : Fin 2048) (n : Fin 128) :
    tile a b (ix2 r n) = if n.val % 64 < 32 then a (ix2 r (mod32 n)) else b (ix2 r (mod32 n)) := by
  pointwise [tile, mod32]
  have hn := n.isLt
  by_cases h : n.val % 64 < 32
  · rw [dif_pos h, if_pos h]
    exact congrArg a (congrArg (ix2 r) (Fin.ext (show n.val % 64 = n.val % 32 by omega)))
  · rw [dif_neg h, if_neg h]
    exact congrArg b (congrArg (ix2 r) (Fin.ext (show n.val % 64 - 32 = n.val % 32 by omega)))

section Tables
variable (m : (ℓ : Loc nD τ sig) → Buf (Elt Ideal) ℓ) (c : Dev nD)

theorem Vcos : V m c main_v22 = tile (Cert.ReferencePrepIdeal.Read.val_main_v50 (F := Ideal)) (Cert.ReferencePrepIdeal.Read.val_main_v50 (F := Ideal)) := by
  unfold V
  after_results
  rfl

theorem Vsin : V m c main_v27 = tile (Host.negf (F := Ideal) (s := S2048x32) (φ := .f32) (Cert.ReferencePrepIdeal.Read.val_main_v51 (F := Ideal))) (Cert.ReferencePrepIdeal.Read.val_main_v51 (F := Ideal)) := by
  unfold V
  after_results
  rfl

theorem Vdup (k : Fin 64) (n : Fin 128) : V m c main_cst (ix2 k n) = if n.val % 64 = k.val then (1 : EReal) else 0 := by
  have e : V m c main_cst = fun i => FloatOps.ofBits (F := Ideal) .f32 (lit0 (S64x128.rowMajor i)) := by
    unfold V
    after_results
    rfl
  rw [e]
  have h : S64x128.rowMajor (ix2 k n) = ⟨k.val * 128 + n.val, lt_of_lt_of_eq (show _ < 8192 by omega) (by decide)⟩ := Fin.ext (Shape.rowMajor_val_two ..)
  show FloatOps.ofBits (F := Ideal) .f32 (lit0 (S64x128.rowMajor (ix2 k n))) = _
  rw [h, lit_eq]
  by_cases h : n.val % 64 = k.val
  · rw [if_pos h, if_pos h]; exact Ideal.ofBits_one_f32
  · rw [if_neg h, if_neg h]; exact Ideal.ofBits_zero .f32
end Tables

end Cert.Own.Prep

end
-- ==== Proof.Prep.lean ====
/-
  The norms and the rotary key of the MLA layer's projections: the blocks that each grid point reads and writes, the kernel's four
  result arrays, and the reference's.
-/
module

public import proofs.«01_k».proof.Proof.PrepPay

@[expose] public section

set_option maxRecDepth 16384

noncomputable section

namespace Cert.Own.Prep

open Idealize.ShloMosaic Idealize.SL.Sem Cert.KernelPrepIdeal Cert.KernelPrepIdeal.Gen

/-! ## What the results are -/

/-- The batch and the position of a row. -/
def bOf (i : Fin 8192) : Fin 4 := ⟨i.val / 2048, by omega⟩
def rOf (i : Fin 8192) : Fin 2048 := ⟨i.val % 2048, by omega⟩

/-- The projections' row. -/
def hrow (A0 : (⟨3, ![4, 2048, 1344]⟩ : Shape).Idx → EReal) (i : Fin 8192) (k : Fin 1344) : EReal := A0 (ix3 (bOf i) (rOf i) k)

/-- The queries' latent, the keys' latent and the rotary key at row `i`. -/
def cq (A0 : (⟨3, ![4, 2048, 1344]⟩ : Shape).Idx → EReal) (A1 : (⟨2, ![1, 768]⟩ : Shape).Idx → EReal) (i : Fin 8192) (k : Fin 768) : EReal :=
  rms w768 (fun j => hrow A0 i (colQ j)) (fun j => A1 (ix2 0 j)) k
def ckv (A0 : (⟨3, ![4, 2048, 1344]⟩ : Shape).Idx → EReal) (A2 : (⟨2, ![1, 512]⟩ : Shape).Idx → EReal) (i : Fin 8192) (k : Fin 512) : EReal :=
  rms w512 (fun j => hrow A0 i (colK j)) (fun j => A2 (ix2 0 j)) k
def krope (A0 : (⟨3, ![4, 2048, 1344]⟩ : Shape).Idx → EReal) (i : Fin 8192) (d : Fin 64) : EReal :=
  rot (fun j => hrow A0 i (colR j)) (cosv (rOf i)) (sinv (rOf i)) d
/-- The cache's row: the keys' latent, then the rotary key. -/
def cache (A0 : (⟨3, ![4, 2048, 1344]⟩ : Shape).Idx → EReal) (A2 : (⟨2, ![1, 512]⟩ : Shape).Idx → EReal) (i : Fin 8192) (n : Fin 576) : EReal :=
  if h : n.val < 512 then ckv A0 A2 i ⟨n.val, h⟩ else krope A0 i ⟨n.val - 512, by omega⟩

section Points
variable (m : (ℓ : Loc nD τ sig) → Buf (Elt Ideal) ℓ) (c : Dev nD)

/-! ## What each point stores -/

theorem out6 (t : Fin cfg0.N) : (outsAt0 m c t).1 = k0_pay4 (iblk m c 0 t) (iblk m c 1 t) := by
  unfold outsAt0
  dsimp only
  unfold out0_A_6 kernelRun0_A
  dsimp only
  sl_unfold_words
  simp only [View.readAt_eq_ld, (hs0_0 t).read_unread, (hs0_1 t).read_unread, (hs0_2 t).read_unread]
  rw [View.read_writes_junk_eq_canon, View.canon_cons_unit_lit (h := fun d => by fin_cases d <;> rfl)]
  rw [View.ld_unit_lit (h := fun d => by fin_cases d <;> rfl), View.ld_unit_lit (h := fun d => by fin_cases d <;> rfl)]

theorem out7 (t : Fin cfg0.N) : (outsAt0 m c t).2.1 = k0_pay6 (iblk m c 0 t) (iblk m c 2 t) := by
  unfold outsAt0
  dsimp only
  unfold out0_A_7 kernelRun0_A
  dsimp only
  sl_unfold_words
  simp only [View.readAt_eq_ld, (hs0_0 t).read_unread, (hs0_1 t).read_unread, (hs0_2 t).read_unread]
  rw [View.read_writes_junk_eq_canon, View.canon_cons_unit_lit (h := fun d => by fin_cases d <;> rfl)]
  rw [View.ld_unit_lit (h := fun d => by fin_cases d <;> rfl), View.ld_unit_lit (h := fun d => by fin_cases d <;> rfl)]

/-- The table of zeros that the product with the doubling table starts from. -/
def zero : FVec Ideal S512x128 .f32 := constant (F := Ideal) S512x128 .f32 0x00000000#32

theorem out9 (t : Fin cfg0.N) : (outsAt0 m c t).2.2.2 = k0_pay1 (k0_pay7 (iblk m c 0 t)) (iblk m c 5 t) zero (iblk m c 3 t) (iblk m c 4 t) := by
  unfold outsAt0
  dsimp only
  unfold out0_A_9 kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread]
  rw [View.read_writes_junk_eq_canon, View.canon_cons_unit_lit (h := fun d => by fin_cases d <;> rfl)]
  rw [View.ld_unit_lit (h := fun d => by fin_cases d <;> rfl), View.ld_unit_lit (h := fun d => by fin_cases d <;> rfl),
    View.ld_unit_lit (h := fun d => by fin_cases d <;> rfl), View.ld_unit_lit (h := fun d => by fin_cases d <;> rfl)]
  rfl

/-- The two stores of the cache's rows, side by side. -/
def sideBySide (p : FVec Ideal S512x512 .f32) (q : FVec Ideal S512x64 .f32) : Vec Ideal S512x576 .f32 := fun y =>
  if h : (y 1).val < 512 then p (ix2 (y 0) ⟨(y 1).val, h⟩)
  else q (ix2 (y 0) ⟨(y 1).val - 512, by have := (y 1).isLt; change (y 1).val < 576 at this; omega⟩)

theorem canon_side (p : FVec Ideal S512x512 .f32) (q : FVec Ideal S512x64 .f32) :
    (View.canon (Val := Elt Ideal) (s := S512x576) (e := .f32)
      [⟨Rect.unit ![0, 512] ![512, 64] inb_S512x576_S512x64_0_512, q⟩,
       ⟨Rect.unit ![0, 0] ![512, 512] inb_S512x576_S512x512_0_0, p⟩]) = sideBySide p q := by
  funext y
  have hcover := fun y => View.cover_of_tiledBy (Val := Elt Ideal) (s := S512x576) (e := .f32)
      [⟨Rect.unit ![0, 512] ![512, 64] inb_S512x576_S512x64_0_512, q⟩,
       ⟨Rect.unit ![0, 0] ![512, 512] inb_S512x576_S512x512_0_0, p⟩] ![512, 64] (by sl_kernel_rfl) y
  canon_tiles x' h using (hcover y)
  case piece0 =>
    have hy : ¬(y 1).val < 512 := by omega
    refine Eq.trans ?_ (dif_neg hy).symm
    rw [eq_ix2 x']
    exact congrArg q (congrArg₂ ix2 (Fin.ext (by simpa using h0.symm)) (Fin.ext (by show (x' 1).val = (y 1).val - 512; omega)))
  case piece1 =>
    have hx := (x' 1).isLt
    change (x' 1).val < 512 at hx
    have hy : (y 1).val < 512 := by omega
    refine Eq.trans ?_ (dif_pos hy).symm
    rw [eq_ix2 x']
    exact congrArg p (congrArg₂ ix2 (Fin.ext (by simpa using h0.symm)) (Fin.ext (by show (x' 1).val = (y 1).val; omega)))

theorem out8 (t : Fin cfg0.N) : (outsAt0 m c t).2.2.1
    = sideBySide (k0_pay5 (iblk m c 0 t) (iblk m c 2 t)) (k0_pay2 (k0_pay7 (iblk m c 0 t)) (iblk m c 5 t) zero (iblk m c 3 t) (iblk m c 4 t)) := by
  unfold outsAt0
  dsimp only
  unfold out0_A_8 kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread]
  rw [View.read_writes_junk_eq_canon]
  refine (canon_side _ _).trans ?_
  rw [View.ld_unit_lit (h := fun d => by fin_cases d <;> rfl), View.ld_unit_lit (h := fun d => by fin_cases d <;> rfl),
    View.ld_unit_lit (h := fun d => by fin_cases d <;> rfl), View.ld_unit_lit (h := fun d => by fin_cases d <;> rfl),
    View.ld_unit_lit (h := fun d => by fin_cases d <;> rfl)]
  rfl

/-! ## The blocks that each point reads -/

/-- The block index of each window at a grid point. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val % 4, 0] := (by decide +kernel : ∀ t : Fin grid0.N, _)
theorem idx4 : ∀ t : Fin cfg0.N, win0_4.index t = ![t.val % 4, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)

theorem t_lt (t : Fin cfg0.N) : t.val < 16 := lt_of_lt_of_eq t.isLt (by decide +kernel)

/-- The row of the array at row `a` of a point's block. -/
def rowOf (t : Fin cfg0.N) (a : Fin 512) : Fin 8192 := ⟨t.val * 512 + a.val, by have := t_lt t; omega⟩
/-- Its position in the sequence. -/
def posOf (t : Fin cfg0.N) (a : Fin 512) : Fin 2048 := ⟨t.val % 4 * 512 + a.val, by omega⟩

theorem posOf_eq (t : Fin cfg0.N) (a : Fin 512) : posOf t a = rOf (rowOf t a) :=
  Fin.ext (by show t.val % 4 * 512 + a.val = (t.val * 512 + a.val) % 2048; omega)

/-- The argument arrays of core `c`. -/
def a0 : (⟨3, ![4, 2048, 1344]⟩ : Shape).Idx → EReal := m (c, Proc.tc.devRef main_arg0)
def a1 : (⟨2, ![1, 768]⟩ : Shape).Idx → EReal := m (c, Proc.tc.devRef main_arg1)
def a2 : (⟨2, ![1, 512]⟩ : Shape).Idx → EReal := m (c, Proc.tc.devRef main_arg2)

theorem V0 (i : Fin 8192) (k : Fin 1344) : V m c main_v28 (ix2 i k) = hrow (a0 m c) i k := by
  unfold V
  after_results
  pointwise [a0, hrow, bOf, rOf]

theorem V1 (k : Fin 768) : V m c main_v31 (ix2 0 k) = a1 m c (ix2 0 k) := by
  unfold V
  after_results
  pointwise [a1]

theorem V2 (k : Fin 512) : V m c main_v32 (ix2 0 k) = a2 m c (ix2 0 k) := by
  unfold V
  after_results
  pointwise [a2]

theorem blk0 (t : Fin cfg0.N) (a : Fin 512) (k : Fin 1344) : iblk m c 0 t (ix2 a k) = hrow (a0 m c) (rowOf t a) k := by
  have e : iblk m c 0 t (ix2 a k) = V m c main_v28 (ix2 (rowOf t a) k) := by
    blk_point [iblk, V, idx0 t, rowOf]
  exact e.trans (V0 m c _ _)

theorem blk1 (t : Fin cfg0.N) (k : Fin 768) : iblk m c 1 t (ix2 0 k) = a1 m c (ix2 0 k) := by
  have e : iblk m c 1 t (ix2 0 k) = V m c main_v31 (ix2 0 k) := by
    blk_point [iblk, V, idx1 t]
  exact e.trans (V1 m c _)

theorem blk2 (t : Fin cfg0.N) (k : Fin 512) : iblk m c 2 t (ix2 0 k) = a2 m c (ix2 0 k) := by
  have e : iblk m c 2 t (ix2 0 k) = V m c main_v32 (ix2 0 k) := by
    blk_point [iblk, V, idx2 t]
  exact e.trans (V2 m c _)

theorem blk3 (t : Fin cfg0.N) (a : Fin 512) (n : Fin 128) : iblk m c 3 t (ix2 a n) = cosv (rOf (rowOf t a)) (mod32 n) := by
  have e : iblk m c 3 t (ix2 a n) = V m c main_v22 (ix2 (posOf t a) n) := by
    blk_point [iblk, V, idx3 t, posOf]
  rw [e, Vcos, tile_read, posOf_eq]
  exact ite_self _

theorem blk4 (t : Fin cfg0.N) (a : Fin 512) (n : Fin 128) :
    iblk m c 4 t (ix2 a n) = if n.val % 64 < 32 then -sinv (rOf (rowOf t a)) (mod32 n) else sinv (rOf (rowOf t a)) (mod32 n) := by
  have e : iblk m c 4 t (ix2 a n) = V m c main_v27 (ix2 (posOf t a) n) := by
    blk_point [iblk, V, idx4 t, posOf]
  rw [e, Vsin, tile_read, posOf_eq]
  rfl

theorem blk5 (t : Fin cfg0.N) (k : Fin 64) (n : Fin 128) : iblk m c 5 t (ix2 k n) = if n.val % 64 = k.val then (1 : EReal) else 0 := by
  have e : iblk m c 5 t (ix2 k n) = V m c main_cst (ix2 k n) := by
    blk_point [iblk, V, idx5 t]
  exact e.trans (Vdup m c k n)

/-! ## What each point stores, at a row and column of its blocks -/

theorem st6 (t : Fin cfg0.N) (a : Fin 512) (k : Fin 768) : (outsAt0 m c t).1 (ix2 a k) = cq (a0 m c) (a1 m c) (rowOf t a) k := by
  rw [out6, cq_read]
  simp only [blk0, blk1]
  rfl

theorem pay_kv (t : Fin cfg0.N) (a : Fin 512) (k : Fin 512) :
    k0_pay5 (iblk m c 0 t) (iblk m c 2 t) (ix2 a k) = ckv (a0 m c) (a2 m c) (rowOf t a) k := by
  rw [ckv_read]
  simp only [blk0, blk2]
  rfl

theorem st7 (t : Fin cfg0.N) (a : Fin 512) (k : Fin 512) : (outsAt0 m c t).2.1 (ix2 a k) = ckv (a0 m c) (a2 m c) (rowOf t a) k := by
  rw [out7, ckvb_read]
  simp only [blk0, blk2]
  rfl

theorem pay_rot (t : Fin cfg0.N) (a : Fin 512) (n : Fin 128) :
    k0_pay1 (k0_pay7 (iblk m c 0 t)) (iblk m c 5 t) zero (iblk m c 3 t) (iblk m c 4 t) (ix2 a n) = krope (a0 m c) (rowOf t a) (mod64 n) := by
  refine (rot_read (iblk m c 0 t) (iblk m c 5 t) (iblk m c 3 t) (iblk m c 4 t) a (cosv (rOf (rowOf t a))) (sinv (rOf (rowOf t a)))
    (blk5 m c t) (blk3 m c t a) (blk4 m c t a) n).trans ?_
  simp only [blk0]
  rfl

theorem st9 (t : Fin cfg0.N) (a : Fin 512) (n : Fin 128) : (outsAt0 m c t).2.2.2 (ix2 a n) = krope (a0 m c) (rowOf t a) (mod64 n) := by
  rw [out9]
  exact pay_rot m c t a n

theorem st8 (t : Fin cfg0.N) (a : Fin 512) (n : Fin 576) : (outsAt0 m c t).2.2.1 (ix2 a n) = cache (a0 m c) (a2 m c) (rowOf t a) n := by
  rw [out8]
  unfold sideBySide cache
  by_cases h : n.val < 512
  · rw [dif_pos h]
    exact (dif_pos h).trans (pay_kv m c t a ⟨n.val, h⟩)
  · rw [dif_neg h]
    refine (dif_neg h).trans ?_
    refine (half_read _ _ _ _ _ a ⟨n.val - 512, by omega⟩).trans ((pay_rot m c t a _).trans ?_)
    exact congrArg (krope (a0 m c) (rowOf t a)) (Fin.ext (show (n.val - 512) % 64 = n.val - 512 by omega))

/-! ## The result arrays -/

def outQ : S8192x768.Idx → EReal := fun y => cq (a0 m c) (a1 m c) (y 0) (y 1)
def outK : S8192x512.Idx → EReal := fun y => ckv (a0 m c) (a2 m c) (y 0) (y 1)
def outC : S8192x576.Idx → EReal := fun y => cache (a0 m c) (a2 m c) (y 0) (y 1)
def outR : S8192x128.Idx → EReal := fun y => krope (a0 m c) (y 0) (mod64 (y 1))

theorem arr6 : (dats m 0 c).arrAt 6 cfg0.N = outQ m c := by
  refine (dats m 0 c).arrAt_eq_of_covers 6 _ (by decide +kernel) fun t hf y => ?_
  blk_simp
  rw [after0_6]
  have h0 : (((cfg0.win 6).blk t).view.emb y 0).val = t.val * 512 + (y 0).val := by
    blk_simp [idx6 t]
  have h1 : (((cfg0.win 6).blk t).view.emb y 1).val = (y 1).val := by
    blk_simp [idx6 t]
  obtain ⟨a, n, rfl⟩ : ∃ (a : Fin 512) (n : Fin 768), y = ix2 a n := ⟨y 0, y 1, eq_ix2 y⟩
  have e0 : ((cfg0.win 6).blk t).view.emb (ix2 a n) 0 = rowOf t a := Fin.ext h0
  have e1 : ((cfg0.win 6).blk t).view.emb (ix2 a n) 1 = n := Fin.ext h1
  refine (st6 m c t a n).trans ?_
  unfold outQ
  rw [e0, e1]

theorem arr7 : (dats m 0 c).arrAt 7 cfg0.N = outK m c := by
  refine (dats m 0 c).arrAt_eq_of_covers 7 _ (by decide +kernel) fun t hf y => ?_
  blk_simp
  rw [after0_7]
  have h0 : (((cfg0.win 7).blk t).view.emb y 0).val = t.val * 512 + (y 0).val := by
    blk_simp [idx7 t]
  have h1 : (((cfg0.win 7).blk t).view.emb y 1).val = (y 1).val := by
    blk_simp [idx7 t]
  obtain ⟨a, n, rfl⟩ : ∃ (a : Fin 512) (n : Fin 512), y = ix2 a n := ⟨y 0, y 1, eq_ix2 y⟩
  have e0 : ((cfg0.win 7).blk t).view.emb (ix2 a n) 0 = rowOf t a := Fin.ext h0
  have e1 : ((cfg0.win 7).blk t).view.emb (ix2 a n) 1 = n := Fin.ext h1
  refine (st7 m c t a n).trans ?_
  unfold outK
  rw [e0, e1]

theorem arr8 : (dats m 0 c).arrAt 8 cfg0.N = outC m c := by
  refine (dats m 0 c).arrAt_eq_of_covers 8 _ (by decide +kernel) fun t hf y => ?_
  blk_simp
  rw [after0_8]
  have h0 : (((cfg0.win 8).blk t).view.emb y 0).val = t.val * 512 + (y 0).val := by
    blk_simp [idx8 t]
  have h1 : (((cfg0.win 8).blk t).view.emb y 1).val = (y 1).val := by
    blk_simp [idx8 t]
  obtain ⟨a, n, rfl⟩ : ∃ (a : Fin 512) (n : Fin 576), y = ix2 a n := ⟨y 0, y 1, eq_ix2 y⟩
  have e0 : ((cfg0.win 8).blk t).view.emb (ix2 a n) 0 = rowOf t a := Fin.ext h0
  have e1 : ((cfg0.win 8).blk t).view.emb (ix2 a n) 1 = n := Fin.ext h1
  refine (st8 m c t a n).trans ?_
  unfold outC
  rw [e0, e1]

theorem arr9 : (dats m 0 c).arrAt 9 cfg0.N = outR m c := by
  refine (dats m 0 c).arrAt_eq_of_covers 9 _ (by decide +kernel) fun t hf y => ?_
  blk_simp
  rw [after0_9]
  have h0 : (((cfg0.win 9).blk t).view.emb y 0).val = t.val * 512 + (y 0).val := by
    blk_simp [idx9 t]
  have h1 : (((cfg0.win 9).blk t).view.emb y 1).val = (y 1).val := by
    blk_simp [idx9 t]
  obtain ⟨a, n, rfl⟩ : ∃ (a : Fin 512) (n : Fin 128), y = ix2 a n := ⟨y 0, y 1, eq_ix2 y⟩
  have e0 : ((cfg0.win 9).blk t).view.emb (ix2 a n) 0 = rowOf t a := Fin.ext h0
  have e1 : ((cfg0.win 9).blk t).view.emb (ix2 a n) 1 = n := Fin.ext h1
  refine (st9 m c t a n).trans ?_
  unfold outR
  rw [e0, e1]

end Points

end Cert.Own.Prep

namespace Cert.Own.PrepRef

open Idealize.ShloMosaic Idealize.SL.Sem Cert.ReferencePrepIdeal Cert.ReferencePrepIdeal.Gen Cert.ReferencePrepIdeal.Read Cert.Own.Prep

section Ref
variable (A0 : (⟨3, ![4, 2048, 1344]⟩ : Shape).Idx → EReal) (A1 : (⟨2, ![1, 768]⟩ : Shape).Idx → EReal) (A2 : (⟨2, ![1, 512]⟩ : Shape).Idx → EReal)

/-- The reference's first result at a row and column. -/
theorem ref_q (i : Fin 8192) (k : Fin 768) : val_main_v69 (F := Ideal) A0 A1 (ix2 i k) = cq A0 A1 i k := by
  pointwise [cq, hrow, bOf, rOf, rms, colQ, w768, val_main_v69, val_main_v68, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The reference's normed latent of the keys. -/
theorem ref_kv (i : Fin 8192) (k : Fin 512) : val_main_v29 (F := Ideal) A0 A2 (ix3 (bOf i) (rOf i) k) = ckv A0 A2 i k := by
  pointwise [ckv, hrow, bOf, rOf, rms, colK, w512, val_main_v29, val_main_v28, val_main_v27, val_main_v26, val_main_v25, val_main_v24, val_main_v23, val_main_v22, val_main_v21, val_main_v20, val_main_v19, val_main_v18, val_main_v17, val_main_v16, val_main_v15, val_main_cst_2, val_main_cst_3, val_main_cst_4]

/-- The two halves of the rotated key. -/
theorem ref_lo (i : Fin 8192) (k : Fin 32) : val_main_v58 (F := Ideal) A0 (ix3 (bOf i) (rOf i) k)
    = hrow A0 i (colR ⟨k.val, by omega⟩) * cosv (rOf i) k - hrow A0 i (colR ⟨32 + k.val, by omega⟩) * sinv (rOf i) k := by
  unfold cosv sinv
  pointwise [hrow, bOf, rOf, colR, val_main_v64, val_main_v63, val_main_v62, val_main_v61, val_main_v60, val_main_v59, val_main_v58, val_main_v57, val_main_v56, val_main_v55, val_main_v54, val_main_v53, val_main_v52, val_main_v32, val_main_v31, val_main_v30]

theorem ref_hi (i : Fin 8192) (k : Fin 32) : val_main_v65 (F := Ideal) A0 (ix3 (bOf i) (rOf i) k)
    = hrow A0 i (colR ⟨k.val, by omega⟩) * sinv (rOf i) k + hrow A0 i (colR ⟨32 + k.val, by omega⟩) * cosv (rOf i) k := by
  unfold cosv sinv
  pointwise [hrow, bOf, rOf, colR, val_main_v65, val_main_v64, val_main_v63, val_main_v62, val_main_v61, val_main_v60, val_main_v59, val_main_v58, val_main_v57, val_main_v56, val_main_v55, val_main_v54, val_main_v53, val_main_v52, val_main_v32, val_main_v31, val_main_v30]

/-- The rotated key. -/
theorem ref_rot (i : Fin 8192) (d : Fin 64) : val_main_v66 (F := Ideal) A0 (ix3 (bOf i) (rOf i) d) = krope A0 i d := by
  unfold val_main_v66
  have lo := ref_lo A0 i
  have hi := ref_hi A0 i
  generalize val_main_v58 (F := Ideal) A0 = p at *
  generalize val_main_v65 (F := Ideal) A0 = q at *
  have e : concatenate S4x2048x64 2 [⟨S4x2048x32, p⟩, ⟨S4x2048x32, q⟩] concatenates_S4x2048x32_S4x2048x32_S4x2048x64_d2 (ix3 (bOf i) (rOf i) d)
      = if h : d.val < 32 then p (ix3 (bOf i) (rOf i) ⟨d.val, h⟩) else q (ix3 (bOf i) (rOf i) ⟨d.val - 32, by omega⟩) := by
    pointwise []
  refine e.trans ?_
  unfold krope rot
  by_cases h : d.val < 32
  · rw [dif_pos h, dif_pos h, lo]
    have e : (⟨32 + d.val, by omega⟩ : Fin 64) = ⟨d.val + 32, by omega⟩ := Fin.ext (Nat.add_comm ..)
    rw [e]
  · rw [dif_neg h, dif_neg h, hi]
    have e : (⟨32 + (d.val - 32), by omega⟩ : Fin 64) = d := Fin.ext (by show 32 + (d.val - 32) = d.val; omega)
    rw [e]

/-- The reference's second result at a row and column. -/
theorem ref_k (i : Fin 8192) (k : Fin 512) : val_main_v71 (F := Ideal) A0 A2 (ix2 i k) = ckv A0 A2 i k := by
  rw [← ref_kv]
  unfold val_main_v71 val_main_v70
  generalize val_main_v29 (F := Ideal) A0 A2 = p
  pointwise [bOf, rOf]

/-- The reference's third result: the cache's rows. -/
theorem ref_cache (i : Fin 8192) (n : Fin 576) : val_main_v72 (F := Ideal) A0 A2 (ix2 i n) = cache A0 A2 i n := by
  unfold val_main_v72 val_main_v67 cache
  have e1 := ref_kv A0 A2 i
  have e2 := ref_rot A0 i
  generalize val_main_v29 (F := Ideal) A0 A2 = p at *
  generalize val_main_v66 (F := Ideal) A0 = q at *
  have e : shapeCast S8192x576 (concatenate S4x2048x576 2 [⟨S4x2048x512, p⟩, ⟨S4x2048x64, q⟩] concatenates_S4x2048x512_S4x2048x64_S4x2048x576_d2)
      shapeCasts_S4x2048x576_S8192x576 (ix2 i n)
      = if h : n.val < 512 then p (ix3 (bOf i) (rOf i) ⟨n.val, h⟩) else q (ix3 (bOf i) (rOf i) ⟨n.val - 512, by omega⟩) := by
    pointwise [bOf, rOf]
  refine e.trans ?_
  by_cases h : n.val < 512
  · rw [dif_pos h, dif_pos h, e1]
  · rw [dif_neg h, dif_neg h, e2]

/-- The reference's fourth result: the rotary key, twice. -/
theorem ref_twice (i : Fin 8192) (n : Fin 128) : val_main_v74 (F := Ideal) A0 (ix2 i n) = krope A0 i (mod64 n) := by
  unfold val_main_v74 val_main_v73
  have e2 := ref_rot A0 i
  generalize val_main_v66 (F := Ideal) A0 = q at *
  have e : shapeCast S8192x128 (concatenate S4x2048x128 2 [⟨S4x2048x64, q⟩, ⟨S4x2048x64, q⟩] concatenates_S4x2048x64_S4x2048x64_S4x2048x128_d2)
      shapeCasts_S4x2048x128_S8192x128 (ix2 i n)
      = if h : n.val < 64 then q (ix3 (bOf i) (rOf i) ⟨n.val, h⟩) else q (ix3 (bOf i) (rOf i) ⟨n.val - 64, by omega⟩) := by
    pointwise [bOf, rOf]
  refine e.trans ?_
  by_cases h : n.val < 64
  · rw [dif_pos h, e2]
    exact congrArg (krope A0 i) (Fin.ext (show n.val = n.val % 64 by omega))
  · rw [dif_neg h, e2]
    exact congrArg (krope A0 i) (Fin.ext (show n.val - 64 = n.val % 64 by omega))

end Ref
end Cert.Own.PrepRef

end
-- ==== Proof.Rope.lean ====
/-
  The rotary embedding of the MLA layer's queries: the kernel's result array and the reference's.
-/
module

public import proofs.«01_k».proof.Proof.Gen.KernelRopeIdeal.Value
public import proofs.«01_k».proof.Proof.Gen.ReferenceRopeIdeal.Read
public import proofs.«01_k».proof.Proof.PrepPay

@[expose] public section

set_option maxRecDepth 16384

noncomputable section

namespace Cert.Own.Rope

open Idealize.ShloMosaic Idealize.SL.Sem Cert.KernelRopeIdeal Cert.KernelRopeIdeal.Gen
open Cert.Own.Prep (rot mod32 mod64 right left inHalf inHalf_eq cosv sinv tile tile_read)

/-- What each of the eight stores of a block holds: 128 lanes, two heads, rotated. -/
def turn (x co si : Vec Ideal S512x128 .f32) : FVec Ideal S512x128 .f32 := k0_pay4 co si x

theorem turn_lane (x co si : Vec Ideal S512x128 .f32) (a : Fin 512) (n : Fin 128) :
    turn x co si (ix2 a n)
      = x (ix2 a n) * co (ix2 a n) + Scalar.select (inHalf n.val) (x (ix2 a (right n))) (x (ix2 a (left n))) * si (ix2 a n) := by
  pointwise [turn, k0_pay4, k0_pay3, k0_pay2, inHalf, right, left]

/-- The head of a column, as the place where its 64 start. -/
def at64 (n : Fin 1024) (k : Fin 64) : Fin 1024 := ⟨n.val / 64 * 64 + k.val, by omega⟩
def low (n : Fin 1024) : Fin 64 := ⟨n.val % 64, by omega⟩

/-- A block with each head's 64 columns rotated. -/
def turned (x : Vec Ideal S512x1024 .f32) (cv sv : Fin 512 → Fin 32 → EReal) (a : Fin 512) (n : Fin 1024) : EReal :=
  rot (fun k => x (ix2 a (at64 n k))) (cv a) (sv a) (low n)

section Block
variable (x : Vec Ideal S512x1024 .f32) (co si : Vec Ideal S512x128 .f32) (cv sv : Fin 512 → Fin 32 → EReal)
  (hc : ∀ (a : Fin 512) (n : Fin 128), co (ix2 a n) = cv a (mod32 n))
  (hs : ∀ (a : Fin 512) (n : Fin 128), si (ix2 a n) = if n.val % 64 < 32 then -sv a (mod32 n) else sv a (mod32 n))

include hc hs in
theorem turn_read (L : Vec Ideal S512x128 .f32) (g : Fin 8) (a : Fin 512)
    (hL : ∀ n : Fin 128, L (ix2 a n) = x (ix2 a ⟨128 * g.val + n.val, by omega⟩)) (n : Fin 128) :
    turn L co si (ix2 a n) = turned x cv sv a ⟨128 * g.val + n.val, by omega⟩ := by
  rw [turn_lane, hL, hL, hL, hc, hs, inHalf_eq]
  have hn := n.isLt
  unfold turned rot
  by_cases h : n.val % 64 < 32
  · have h' : (low ⟨128 * g.val + n.val, by omega⟩).val < 32 := by show (128 * g.val + n.val) % 64 < 32; omega
    rw [if_pos h, if_pos h, dif_pos h']
    have e0 : at64 ⟨128 * g.val + n.val, by omega⟩ (low ⟨128 * g.val + n.val, by omega⟩) = ⟨128 * g.val + n.val, by omega⟩ :=
      Fin.ext (by show (128 * g.val + n.val) / 64 * 64 + (128 * g.val + n.val) % 64 = 128 * g.val + n.val; omega)
    have e1 : at64 ⟨128 * g.val + n.val, by omega⟩ ⟨(low ⟨128 * g.val + n.val, by omega⟩).val + 32, by omega⟩
        = ⟨128 * g.val + (right n).val, by have := (right n).isLt; omega⟩ :=
      Fin.ext (by
        show (128 * g.val + n.val) / 64 * 64 + ((128 * g.val + n.val) % 64 + 32) = 128 * g.val + (n.val + 128 - 96) % 128
        omega)
    have e2 : mod32 n = ⟨(low ⟨128 * g.val + n.val, by omega⟩).val, h'⟩ := Fin.ext (by show n.val % 32 = (128 * g.val + n.val) % 64; omega)
    beta_reduce
    rw [e0, e1, ← e2, mul_neg]
    rfl
  · have h' : ¬(low ⟨128 * g.val + n.val, by omega⟩).val < 32 := by show ¬(128 * g.val + n.val) % 64 < 32; omega
    rw [if_neg h, if_neg h, dif_neg h']
    have e0 : at64 ⟨128 * g.val + n.val, by omega⟩ (low ⟨128 * g.val + n.val, by omega⟩) = ⟨128 * g.val + n.val, by omega⟩ :=
      Fin.ext (by show (128 * g.val + n.val) / 64 * 64 + (128 * g.val + n.val) % 64 = 128 * g.val + n.val; omega)
    have e1 : at64 ⟨128 * g.val + n.val, by omega⟩ ⟨(low ⟨128 * g.val + n.val, by omega⟩).val - 32, by omega⟩
        = ⟨128 * g.val + (left n).val, by have := (left n).isLt; omega⟩ :=
      Fin.ext (by
        show (128 * g.val + n.val) / 64 * 64 + ((128 * g.val + n.val) % 64 - 32) = 128 * g.val + (n.val + 128 - 32) % 128
        omega)
    have e2 : mod32 n = ⟨(low ⟨128 * g.val + n.val, by omega⟩).val - 32, by omega⟩ :=
      Fin.ext (by show n.val % 32 = (128 * g.val + n.val) % 64 - 32; omega)
    beta_reduce
    rw [e0, e1, ← e2, add_comm]
    rfl

include hc hs in
/-- One store of the eight, at a place of the block. -/
theorem piece (off : Fin 2 → ℕ) (inb) (g : Fin 8) (h0 : off 0 = 0) (h1 : off 1 = 128 * g.val) (y : S512x1024.Idx) (z : S512x128.Idx)
    (e0 : (y 0).val = (z 0).val) (e1 : (y 1).val = 128 * g.val + (z 1).val) :
    turn (View.ld (Val := Elt Ideal) x (Rect.unit (s := S512x1024) off S512x128.size inb)) co si z = turned x cv sv (y 0) (y 1) := by
  obtain ⟨a, n, rfl⟩ : ∃ (a : Fin 512) (n : Fin 128), z = ix2 a n := ⟨z 0, z 1, eq_ix2 z⟩
  refine (turn_read x co si cv sv hc hs _ g a (fun n => ?_) n).trans ?_
  · refine View.ld_unit_apply_of x _ _ _ _ _ fun k => ?_
    fin_cases k
    · show a.val = off 0 + a.val; omega
    · show 128 * g.val + n.val = off 1 + n.val; omega
  · exact congrArg₂ (turned x cv sv) (Fin.ext e0.symm) (Fin.ext e1.symm)

include hc hs in
theorem out_read : out0_3 x co si = fun y => turned x cv sv (y 0) (y 1) := by
  unfold out0_3 k0_pay20 k0_pay19
  rw [View.ld_unit_lit (h := fun d => by fin_cases d <;> rfl), View.ld_unit_lit (h := fun d => by fin_cases d <;> rfl)]
  funext y
  canon_tiles x' h
  case piece0 => exact piece x co si cv sv hc hs _ _ 7 rfl rfl y x' (by simpa using h0) (by simpa using h1)
  case piece1 => exact piece x co si cv sv hc hs _ _ 6 rfl rfl y x' (by simpa using h0) (by simpa using h1)
  case piece2 => exact piece x co si cv sv hc hs _ _ 5 rfl rfl y x' (by simpa using h0) (by simpa using h1)
  case piece3 => exact piece x co si cv sv hc hs _ _ 4 rfl rfl y x' (by simpa using h0) (by simpa using h1)
  case piece4 => exact piece x co si cv sv hc hs _ _ 3 rfl rfl y x' (by simpa using h0) (by simpa using h1)
  case piece5 => exact piece x co si cv sv hc hs _ _ 2 rfl rfl y x' (by simpa using h0) (by simpa using h1)
  case piece6 => exact piece x co si cv sv hc hs _ _ 1 rfl rfl y x' (by simpa using h0) (by simpa using h1)
  case piece7 => exact piece x co si cv sv hc hs _ _ 0 rfl rfl y x' (by simpa using h0) (by simpa using h1)

end Block

/-! ## What the result is -/

/-- The batch and the position of a row. -/
def bOf (i : Fin 8192) : Fin 4 := ⟨i.val / 2048, by omega⟩
def rOf (i : Fin 8192) : Fin 2048 := ⟨i.val % 2048, by omega⟩

/-- The rotary columns of the queries' row: the last 1024 of 3072. -/
def qrow (A0 : (⟨3, ![4, 2048, 3072]⟩ : Shape).Idx → EReal) (i : Fin 8192) (n : Fin 1024) : EReal :=
  A0 (ix3 (bOf i) (rOf i) ⟨2048 + n.val, by omega⟩)

/-- The rotated queries, at row `i` and column `n`. -/
def qrope (A0 : (⟨3, ![4, 2048, 3072]⟩ : Shape).Idx → EReal) (i : Fin 8192) (n : Fin 1024) : EReal :=
  rot (fun k => qrow A0 i (at64 n k)) (cosv (rOf i)) (sinv (rOf i)) (low n)

section Points
variable (m : (ℓ : Loc nD τ sig) → Buf (Elt Ideal) ℓ) (c : Dev nD)

theorem Vcos : V m c main_v22 = tile (Cert.ReferencePrepIdeal.Read.val_main_v50 (F := Ideal)) (Cert.ReferencePrepIdeal.Read.val_main_v50 (F := Ideal)) := by
  unfold V
  after_results
  rfl

theorem Vsin : V m c main_v27 = tile (Host.negf (F := Ideal) (s := S2048x32) (φ := .f32) (Cert.ReferencePrepIdeal.Read.val_main_v51 (F := Ideal))) (Cert.ReferencePrepIdeal.Read.val_main_v51 (F := Ideal)) := by
  unfold V
  after_results
  rfl

/-- The block index of each window at a grid point. -/
theorem idx0 : ∀ t : Fin cfg0.N, win0_0.index t = ![t.val, 2] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val % 4, 0] := (by decide +kernel : ∀ t : Fin grid0.N, _)
theorem idx3 : ∀ t : Fin cfg0.N, win0_3.index t = ![t.val, 0] := (by decide +kernel : ∀ t : Fin grid0.N, _)

theorem t_lt (t : Fin cfg0.N) : t.val < 16 := lt_of_lt_of_eq t.isLt (by decide +kernel)

/-- The row of the array at row `a` of a point's block. -/
def rowOf (t : Fin cfg0.N) (a : Fin 512) : Fin 8192 := ⟨t.val * 512 + a.val, by have := t_lt t; omega⟩
/-- Its position in the sequence. -/
def posOf (t : Fin cfg0.N) (a : Fin 512) : Fin 2048 := ⟨t.val % 4 * 512 + a.val, by omega⟩
/-- The column of the array at a column of the rotary part. -/
def colOf (n : Fin 1024) : Fin 3072 := ⟨2048 + n.val, by omega⟩

theorem posOf_eq (t : Fin cfg0.N) (a : Fin 512) : posOf t a = rOf (rowOf t a) :=
  Fin.ext (by show t.val % 4 * 512 + a.val = (t.val * 512 + a.val) % 2048; omega)

/-- The argument array of core `c`. -/
def a0 : (⟨3, ![4, 2048, 3072]⟩ : Shape).Idx → EReal := m (c, Proc.tc.devRef main_arg0)

theorem V0 (i : Fin 8192) (n : Fin 1024) : V m c main_v28 (ix2 i (colOf n)) = qrow (a0 m c) i n := by
  unfold V
  after_results
  pointwise [a0, qrow, bOf, rOf, colOf]

theorem blk0 (t : Fin cfg0.N) (a : Fin 512) (n : Fin 1024) : iblk m c 0 t (ix2 a n) = qrow (a0 m c) (rowOf t a) n := by
  have e : iblk m c 0 t (ix2 a n) = V m c main_v28 (ix2 (rowOf t a) (colOf n)) := by
    blk_point [iblk, V, idx0 t, rowOf, colOf]
  exact e.trans (V0 m c _ _)

theorem blk1 (t : Fin cfg0.N) (a : Fin 512) (n : Fin 128) : iblk m c 1 t (ix2 a n) = cosv (rOf (rowOf t a)) (mod32 n) := by
  have e : iblk m c 1 t (ix2 a n) = V m c main_v22 (ix2 (posOf t a) n) := by
    blk_point [iblk, V, idx1 t, posOf]
  rw [e, Vcos, posOf_eq]
  exact (tile_read ..).trans (ite_self _)

theorem blk2 (t : Fin cfg0.N) (a : Fin 512) (n : Fin 128) :
    iblk m c 2 t (ix2 a n) = if n.val % 64 < 32 then -sinv (rOf (rowOf t a)) (mod32 n) else sinv (rOf (rowOf t a)) (mod32 n) := by
  have e : iblk m c 2 t (ix2 a n) = V m c main_v27 (ix2 (posOf t a) n) := by
    blk_point [iblk, V, idx2 t, posOf]
  rw [e, Vsin, posOf_eq]
  exact (tile_read ..).trans rfl

/-- What each point stores, at a row and column of its block. -/
theorem stored (t : Fin cfg0.N) (a : Fin 512) (n : Fin 1024) :
    out0_3 (iblk m c 0 t) (iblk m c 1 t) (iblk m c 2 t) (ix2 a n) = qrope (a0 m c) (rowOf t a) n := by
  refine (congrFun (out_read (iblk m c 0 t) (iblk m c 1 t) (iblk m c 2 t) (fun a => cosv (rOf (rowOf t a))) (fun a => sinv (rOf (rowOf t a)))
    (blk1 m c t) (blk2 m c t)) (ix2 a n)).trans ?_
  show turned _ _ _ a n = _
  unfold turned
  simp only [blk0]
  rfl

/-- The result array. -/
def outArr : S8192x1024.Idx → EReal := fun y => qrope (a0 m c) (y 0) (y 1)

/-- The result array of the run is `outArr`. -/
theorem arr_eq : (dats m 0 c).arrAt 3 cfg0.N = outArr m c := by
  refine (dats m 0 c).arrAt_eq_of_covers 3 _ (by decide +kernel) fun t hf y => ?_
  blk_simp
  rw [after0_3]
  have h0 : (((cfg0.win 3).blk t).view.emb y 0).val = t.val * 512 + (y 0).val := by
    blk_simp [idx3 t]
  have h1 : (((cfg0.win 3).blk t).view.emb y 1).val = (y 1).val := by
    blk_simp [idx3 t]
  obtain ⟨a, n, rfl⟩ : ∃ (a : Fin 512) (n : Fin 1024), y = ix2 a n := ⟨y 0, y 1, eq_ix2 y⟩
  have e0 : ((cfg0.win 3).blk t).view.emb (ix2 a n) 0 = rowOf t a := Fin.ext h0
  have e1 : ((cfg0.win 3).blk t).view.emb (ix2 a n) 1 = n := Fin.ext h1
  refine (stored m c t a n).trans ?_
  unfold outArr
  rw [e0, e1]

end Points

end Cert.Own.Rope

namespace Cert.Own.RopeRef

open Idealize.ShloMosaic Idealize.SL.Sem Cert.ReferenceRopeIdeal Cert.ReferenceRopeIdeal.Gen Cert.ReferenceRopeIdeal.Read Cert.Own.Rope
open Cert.Own.Prep (rot cosv sinv)

section Ref
variable (A0 : (⟨3, ![4, 2048, 3072]⟩ : Shape).Idx → EReal)

theorem ref_cos (r : Fin 2048) (k : Fin 32) : val_main_v21 (F := Ideal) (ix2 r k) = cosv r k := rfl
theorem ref_sin (r : Fin 2048) (k : Fin 32) : val_main_v23 (F := Ideal) (ix2 r k) = sinv r k := rfl

/-- A head's column of the 1024. -/
def colH (h : Fin 16) (k : Fin 64) : Fin 1024 := ⟨h.val * 64 + k.val, by omega⟩

/-- The two halves of a head's rotated columns. -/
theorem ref_lo (i : Fin 8192) (h : Fin 16) (k : Fin 32) : val_main_v31 (F := Ideal) A0 (ix4 (bOf i) (rOf i) h k)
    = qrow A0 i (colH h ⟨k.val, by omega⟩) * cosv (rOf i) k - qrow A0 i (colH h ⟨32 + k.val, by omega⟩) * sinv (rOf i) k := by
  rw [← ref_cos, ← ref_sin]
  pointwise [qrow, bOf, rOf, colH, val_main_v31, val_main_v30, val_main_v29, val_main_v28, val_main_v27, val_main_v26, val_main_v25, val_main_v24, val_main_v22, val_main_v3, val_main_v2, val_main_v1, val_main_v0]

theorem ref_hi (i : Fin 8192) (h : Fin 16) (k : Fin 32) : val_main_v38 (F := Ideal) A0 (ix4 (bOf i) (rOf i) h k)
    = qrow A0 i (colH h ⟨k.val, by omega⟩) * sinv (rOf i) k + qrow A0 i (colH h ⟨32 + k.val, by omega⟩) * cosv (rOf i) k := by
  rw [← ref_cos, ← ref_sin]
  pointwise [qrow, bOf, rOf, colH, val_main_v38, val_main_v37, val_main_v36, val_main_v35, val_main_v34, val_main_v33, val_main_v32, val_main_v24, val_main_v22, val_main_v3, val_main_v2, val_main_v1, val_main_v0]

/-- The reference's result at a row and column. -/
theorem ref_out (i : Fin 8192) (n : Fin 1024) : val_main_v40 (F := Ideal) A0 (ix2 i n) = qrope A0 i n := by
  unfold val_main_v40 val_main_v39
  have lo := ref_lo A0 i
  have hi := ref_hi A0 i
  generalize val_main_v31 (F := Ideal) A0 = p at *
  generalize val_main_v38 (F := Ideal) A0 = q at *
  have e : shapeCast S8192x1024 (concatenate S4x2048x16x64 3 [⟨S4x2048x16x32, p⟩, ⟨S4x2048x16x32, q⟩] concatenates_S4x2048x16x32_S4x2048x16x32_S4x2048x16x64_d3)
      shapeCasts_S4x2048x16x64_S8192x1024 (ix2 i n)
      = if h : n.val % 64 < 32 then p (ix4 (bOf i) (rOf i) ⟨n.val / 64, by omega⟩ ⟨n.val % 64, h⟩)
        else q (ix4 (bOf i) (rOf i) ⟨n.val / 64, by omega⟩ ⟨n.val % 64 - 32, by omega⟩) := by
    pointwise [bOf, rOf]
  refine e.trans ?_
  unfold qrope rot
  by_cases h : n.val % 64 < 32
  · rw [dif_pos h, dif_pos (show (low n).val < 32 from h), lo]
    have e : colH ⟨n.val / 64, by omega⟩ ⟨32 + n.val % 64, by omega⟩ = at64 n ⟨(low n).val + 32, by show n.val % 64 + 32 < 64; omega⟩ :=
      Fin.ext (by show n.val / 64 * 64 + (32 + n.val % 64) = n.val / 64 * 64 + (n.val % 64 + 32); omega)
    rw [e]
    rfl
  · rw [dif_neg h, dif_neg (show ¬(low n).val < 32 from h), hi]
    have e : colH ⟨n.val / 64, by omega⟩ ⟨32 + (n.val % 64 - 32), by omega⟩ = at64 n (low n) :=
      Fin.ext (by show n.val / 64 * 64 + (32 + (n.val % 64 - 32)) = n.val / 64 * 64 + n.val % 64; omega)
    rw [e]
    rfl

end Ref
end Cert.Own.RopeRef

end
-- ==== Proof.MliRun.lean ====
/-
  The projections of the MLA layer: the run. The row block is kept, in the narrow type, in a scratch buffer from the first column of each
  row block on. The last column block of the weights overhangs the array, so part of its buffer holds unknown numbers; the
  frame says nothing of the weights' buffer nor of what is stored, the value run says what is stored inside the array.
-/
module

public import proofs.«01_k».proof.Proof.Gen.KernelMlaInIdeal.Frame
public import proofs.«01_k».proof.Proof.Gen.KernelMlaInIdeal.Skeleton
public import Idealize.ShloMosaic.Lib.Claim
public import Idealize.ShloMosaic.Lib.VecWindow

@[expose] public section

set_option maxRecDepth 16384

noncomputable section

namespace Cert.Own.Mli

open Cert.KernelMlaInIdeal Cert.KernelMlaInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- The body's branch is taken at the first column of a row block. -/
abbrev first (i : grid0.Coords) : Prop := Scalar.cmpi .ne (Scalar.extui (Scalar.cmpi .eq (BitVec.ofNat 32 (i 1).val) 0#32) : BitVec 32) 0#32 = 1#1

theorem first_iff : ∀ t : Fin cfg0.N, first (grid0.coords t) ↔ t.val % 3 = 0 :=
  (fun t => by
    have ht : t.val < 24 := Nat.lt_of_lt_of_eq t.isLt N_0
    have e1 : (grid0.coords t 1).val = t.val / 1 % 3 := Pipeline.Grid.coords_val t 1 (by decide) rfl
    unfold first
    word_cmp
   : ∀ t : Fin grid0.N, first (grid0.coords t) ↔ t.val % 3 = 0)

section Body
variable (c : Dev nD) (i : grid0.Coords)
    (arg2 : Memref sig .tc .vmem S1024x2048 .f32) (harg2 : arg2.IsWhole) (arg3 : Memref sig .tc .vmem S2048x512 .f32) (harg3 : arg3.IsWhole)
    (arg4 : Memref sig .tc .vmem S1024x512 .f32) (harg4 : arg4.IsWhole) (arg5 : Memref sig .tc .vmem S1024x2048 .bf16) (harg5 : arg5.IsWhole)
    (x0 : Vec F S1024x2048 .f32) (x1 : Vec F S2048x512 .f32)

/-- The body at a row block's first column: the row block is stored in the narrow type, then the product. -/
theorem run_first (hc : first i) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 (k0_pay1 x0) x1) ∗ owns (c : Thread nD τ) arg5 fullShare (k0_pay1 x0)) -∗ K ⟨⟩))
      ⊢ wp frame (wpE (defs₀ (F := F)) Variants.none c none) E (cc0_matmul i arg2 harg2 arg3 harg3 arg4 harg4 arg5 harg5) K := by
  simp only [cc0_matmul_eq_skeleton]; unfold cc0_matmul_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (View.read_writes_full _ _ _ _ _).trans ?_
    delta run_first.sl.v3 run_first.sl.H3_1
    rw [View.readCov_full, View.readAt_full, View.readAt_full, hf0, hf1]
  iexists _; isplitr
  swap; · iexact H3
  ipureintro
  refine (View.read_writes_full _ _ _ _ _).trans ?_
  rw [View.readAt_full, hf0]

/-- The body at any later column: the product alone, the kept row block as it was. -/
theorem run_later (hc : ¬first i) (xb : Vec F S1024x2048 .bf16) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xb
        ∗ (iprop(owns (c : Thread nD τ) arg2 fullShare x0 ∗ owns (c : Thread nD τ) arg3 fullShare x1
            ∗ owns (c : Thread nD τ) arg4 fullShare (k0_pay2 xb x1) ∗ owns (c : Thread nD τ) arg5 fullShare xb) -∗ K ⟨⟩))
      ⊢ wp frame (wpE (defs₀ (F := F)) Variants.none c none) E (cc0_matmul i arg2 harg2 arg3 harg3 arg4 harg4 arg5 harg5) K := by
  simp only [cc0_matmul_eq_skeleton]; unfold cc0_matmul_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (View.read_writes_full _ _ _ _ _).trans ?_
    rw [View.readAt_full, View.readAt_full, hf3, hf1]
  iexists _; isplitr; · ipureintro; exact harg5.read_unread _
  iexact H3

end Body

variable (m : (ℓ : Loc nD τ sig) → Buf (Elt F) ℓ) (ρ : Dev nD → PrngReg)

/-- The scratch buffer. -/
abbrev scM : Memref sig .tc .vmem S1024x2048 .bf16 := Memref.whole cc0_scratch0

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

abbrev ms_0 (t : Fin cfg0.N) : Memref sig .tc .vmem S1024x2048 .f32 := win0_0.stage (cfg0.slots t 0)
abbrev ms_1 (t : Fin cfg0.N) : Memref sig .tc .vmem S2048x512 .f32 := win0_1.stage (cfg0.slots t 1)
abbrev ms_2 (t : Fin cfg0.N) : Memref sig .tc .vmem S1024x512 .f32 := win0_2.stage (cfg0.slots t 2)

theorem defs₀_row (t : Fin cfg0.N) : defs₀ (F := F) .tc cfg0.body (cfg0.bodyArgs t (cfg0.slots t)) = bodyAt0 t := by
  unfold defs₀; rw [Defs.onTc_tc]

/-! ## The frame -/

/-- The windows that the frame says nothing of: the weights' and the result's. -/
abbrev unsaid : Fin cfg0.W → Bool := fun | 0 => false | 1 => true | 2 => true | ⟨_ + 3, h⟩ => absurd h (Nat.not_lt.2 (Nat.le_add_left _ _))

/-- The frame's data: the arrays as the call finds them and the rows' buffer at its block. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Dat.unnamed 1 t
    | ⟨2, _⟩ => Dat.unnamed 2 t
  Φ _ := Pipeline.ΦA spec0 c
  q _ := fullShare
  owed _ := 0

theorem fA_eq (c : Dev nD) (w : Fin cfg0.W) : (fdats m 0 c).A w = V m c (Pipeline.arrRef spec0 w) := by dsimp only [fdats]

theorem fafter_0 (c : Dev nD) (t : Fin cfg0.N) : (fdats m 0 c).after 0 t = iblk m c 0 t := by dsimp only [fdats]

theorem fbefore_0 (c : Dev nD) (t : Fin cfg0.N) (d) : (fdats m 0 c).before 0 t d = iblk m c 0 t :=
  before0_0_of m (fdats m 0 c) (fA_eq m c 0) (fafter_0 m c) t d

/-- What the body is given, and gives back, for the frame. -/
def fPre (c : Dev nD) (t : Fin cfg0.N) : sProp 𝕄 :=
  iprop(Pipeline.ΦA spec0 c ∗ (fdats m 0 c).owesAt () t.castSucc
    ∗ (∃ d, owns (c : Thread nD τ) (ms_0 t) fullShare ((fdats m 0 c).before 0 t d))
    ∗ (∃ d, owns (c : Thread nD τ) (ms_1 t) fullShare d)
    ∗ (∃ d, owns (c : Thread nD τ) (ms_2 t) fullShare d))
def fPost (c : Dev nD) (t : Fin cfg0.N) : sProp 𝕄 :=
  iprop(Pipeline.ΦA spec0 c ∗ (fdats m 0 c).owesAt () t.castSucc
    ∗ owns (c : Thread nD τ) (ms_0 t) fullShare ((fdats m 0 c).after 0 t)
    ∗ (∃ d, owns (c : Thread nD τ) (ms_1 t) fullShare d)
    ∗ (∃ d, owns (c : Thread nD τ) (ms_2 t) fullShare d))

theorem fsound (c : Dev nD) (t : Fin cfg0.N) :
    fPre m c t ⊢ wp frame (wpE (defs₀ (F := F)) Variants.none c none) Set.univ (bodyAt0 t) (fun _ => fPost m c t) := by
  unfold fPre fPost
  simp only [fbefore_0, fafter_0]
  rw [PhiA_eq]
  by_cases h0 : t.val % 3 = 0
  · iintro ⟨⟨HS, Hg⟩, Ho, ⟨%d0, H0⟩, ⟨%d1, H1⟩, ⟨%d2, H2⟩⟩
    iapply (run_first c (grid0.coords t) _ _ _ _ _ _ _ _ (iblk m c 0 t) d1 ((first_iff t).mpr h0) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexists _; iexact HS
      iexact Hg
    isplitl [Ho]; · iexact Ho
    isplitl [H0]; · iexact H0
    isplitl [H1]; · iexists _; iexact H1
    iexists _; iexact H2
  · iintro ⟨⟨⟨%ds, HS⟩, Hg⟩, Ho, ⟨%d0, H0⟩, ⟨%d1, H1⟩, ⟨%d2, H2⟩⟩
    iapply (run_later c (grid0.coords t) _ _ _ _ _ _ _ _ (iblk m c 0 t) d1 (fun h => h0 ((first_iff t).mp h)) ds Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexists _; iexact HS
      iexact Hg
    isplitl [Ho]; · iexact Ho
    isplitl [H0]; · iexact H0
    isplitl [H1]; · iexists _; iexact H1
    iexists _; iexact H2

theorem fbody (c : Dev nD) : BodyObligationLoose (fdats (F := F) m 0 c) (defs₀ (F := F)) Variants.none () Set.univ unsaid := fun t => by
  rw [bigSep_W0, bigSep_W0, defs₀_row]
  exact triple_restated (fsound m c t) rfl .rfl fun _ => .rfl

/-- Every run ends, the arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_forget (Q' := _) cfgs (fdats m) (0 : Fin 1) launch0 defs₀ Variants.none unsaid m ρ main
    (hbody := fbody m)
    (hshare := fun c w => by unfold Dat.share; split <;> rfl)
    (howed := fun _ _ => rfl) (V := V m) (hmain := hmain m Variants.none) (hA := fA_eq m) (hΦ := fun _ _ => rfl)
    (hQ' := fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩)

end Cert.Own.Mli

end
-- ==== Proof.MliBits.lean ====
/-
  The projections of the MLA layer at machine floats: the program text is that of the idealized form, so the run is the same.
-/
module

public import proofs.«01_k».proof.Proof.MliRun
public import proofs.«01_k».proof.Proof.Gen.KernelMlaIn
public import Idealize.ShloMosaic.PureOps.BitExact

@[expose] public section

set_option maxRecDepth 16384

noncomputable section

namespace Cert.Own.MliBits

open Idealize.ShloMosaic Idealize.SL.Sem Cert.KernelMlaIn Cert.KernelMlaIn.Gen

/-- The two body tables are one. -/
theorem defs₀_eq : defs₀ (F := Bits) = Cert.KernelMlaInIdeal.defs₀ (F := Bits) := by
  unfold defs₀ Cert.KernelMlaInIdeal.defs₀
  congr 1
  funext l x
  obtain rfl : l = (0 : Fin 1) := Subsingleton.elim _ _
  rfl

/-- Every run ends with the arguments as they were and every counter at zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  have h := Cert.Own.Mli.run_frame (F := Bits) m ρ
  unfold Cert.KernelMlaInIdeal.defs at h
  unfold defs
  rw [defs₀_eq]
  exact h

end Cert.Own.MliBits

end
-- ==== Proof.Mli.lean ====
/-
  The projections of the MLA layer: what the run stores inside the result array, and the reference's result.
-/
module

public import proofs.«01_k».proof.Proof.MliRun
public import proofs.«01_k».proof.Proof.Gen.ReferenceMlaInIdeal.Read
public import Idealize.ShloMosaic.Lib.Pipeline.ValueKit
public import Idealize.ShloMosaic.Lib.Pointwise

@[expose] public section

set_option maxRecDepth 16384

noncomputable section

namespace Cert.Own.Mli

open Cert.KernelMlaInIdeal Cert.KernelMlaInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the buffers hold after each point -/

/-- The first grid point of a point's row block. -/
def head (t : Fin cfg0.N) : Fin cfg0.N := ⟨t.val / 3 * 3, lt_of_le_of_lt (Nat.div_mul_le_self _ _) t.isLt⟩

/-- The row block that the scratch buffer holds from a row block's first point on. -/
def kept (c : Dev nD) (t : Fin cfg0.N) : Vec Ideal S1024x2048 .bf16 := k0_pay1 (F := Ideal) (iblk m c 0 (head t))

/-- The weights' buffer: the block inside the array, `d` past the array's end. -/
def wbuf (c : Dev nD) (t : Fin cfg0.N) (d : Vec Ideal S2048x512 .f32) : Vec Ideal S2048x512 .f32 :=
  win0_1.fill (grid0.coords t) d (iblk m c 1 t)

/-- The weights' buffer with zeros past the array's end. -/
def wzero (c : Dev nD) (t : Fin cfg0.N) : Vec Ideal S2048x512 .f32 := wbuf m c t fun _ => (0 : EReal)

/-- The block of the result that a point stores, with those zeros. -/
def outs (c : Dev nD) (t : Fin cfg0.N) : Vec Ideal S1024x512 .f32 := k0_pay2 (F := Ideal) (kept m c t) (wzero m c t)

/-- A product of the payload, at a row and a column. -/
theorem pay2_read (x : Vec Ideal S1024x2048 .bf16) (w : Vec Ideal S2048x512 .f32) (a : Fin 1024) (n : Fin 512) :
    k0_pay2 (F := Ideal) x w (ix2 a n) = ∑ k : Fin 2048, x (ix2 a k) * w (ix2 k n) := by
  pointwise [k0_pay2]

/-- Inside the array the weights' buffer does not depend on what lies past the array's end. -/
theorem wbuf_inside (c : Dev nD) (t : Fin cfg0.N) (d d' : Vec Ideal S2048x512 .f32) (k : Fin 2048) (n : Fin 512)
    (hn : n.val < win0_1.xsize (grid0.coords t) 1) : wbuf m c t d (ix2 k n) = wbuf m c t d' (ix2 k n) := by
  have h : win0_1.moved (grid0.coords t) (ix2 k n) = true := (win0_1.moved_iff _ _).mpr fun a => by
    fin_cases a
    · exact k.isLt
    · exact hn
  unfold wbuf Window.fill
  rw [dif_pos h, dif_pos h]

/-- The stored block, inside the array, likewise. -/
theorem cut_outs (c : Dev nD) (t : Fin cfg0.N) (d : Vec Ideal S2048x512 .f32) :
    win0_2.cut (grid0.coords t) (k0_pay2 (F := Ideal) (kept m c t) (wbuf m c t d)) = win0_2.cut (grid0.coords t) (outs m c t) := by
  funext j
  have e : win0_2.xinj (grid0.coords t) j = ix2 (win0_2.xinj (grid0.coords t) j 0) (win0_2.xinj (grid0.coords t) j 1) := eq_ix2 _
  show k0_pay2 (F := Ideal) (kept m c t) (wbuf m c t d) (win0_2.xinj (grid0.coords t) j) = outs m c t (win0_2.xinj (grid0.coords t) j)
  rw [e]
  unfold outs
  refine (pay2_read _ _ _ _).trans (Eq.trans ?_ (pay2_read _ _ _ _).symm)
  refine Finset.sum_congr rfl fun k _ => ?_
  exact congrArg (fun z : EReal => kept m c t (ix2 (win0_2.xinj (grid0.coords t) j 0) k) * z)
    (wbuf_inside m c t d (fun _ => (0 : EReal)) k _ (j 1).isLt)

/-- Before the first point the scratch buffer holds anything; after point `n` it holds that point's row block. -/
def PhiS (c : Dev nD) : (n : ℕ) → n ≤ cfg0.N → sProp 𝕄
  | 0, _ => Pipeline.ΦA spec0 c
  | n + 1, hn => iprop(owns (c : Thread nD τ) scM fullShare (kept m c ⟨n, hn⟩) ∗ (∃ r, prngReg c r))

/-- At any point the scratch buffer holds something. -/
theorem PhiS_any (c : Dev nD) : (n : ℕ) → (h : n ≤ cfg0.N) →
    (PhiS m c n h ⊢ iprop((∃ d, owns (c : Thread nD τ) scM fullShare d) ∗ (∃ r, prngReg c r)))
  | 0, _ => by
    unfold PhiS; rw [PhiA_eq]
  | n + 1, hn => by
    unfold PhiS
    iintro ⟨HS, Hg⟩
    isplitl [HS]; · iexists _; iexact HS
    iexact Hg

theorem PhiS_pos (c : Dev nD) (n : ℕ) (h : n ≤ cfg0.N) (hz : n ≠ 0) :
    PhiS m c n h = iprop(owns (c : Thread nD τ) scM fullShare (kept m c ⟨n - 1, by omega⟩) ∗ (∃ r, prngReg c r)) := by
  cases n with
  | zero => exact absurd rfl hz
  | succ n => rfl

/-- The run's data: the arrays as the call finds them, the inputs' buffers at their blocks, the result's at the product. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wzero m c t
    | ⟨2, _⟩ => outs m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = wzero m c t := by dsimp only [dats]
theorem after_2 (c : Dev nD) (t : Fin cfg0.N) : (dats m 0 c).after 2 t = outs m c t := by dsimp only [dats]

theorem before_0 (c : Dev nD) (t : Fin cfg0.N) (d) : (dats m 0 c).before 0 t d = iblk m c 0 t :=
  before0_0_of m (dats m 0 c) (A_eq m c 0) (after_0 m c) t d

/-- The weights' buffer, fetched at every point. -/
theorem before_1 (c : Dev nD) (t : Fin cfg0.N) (d) : (dats m 0 c).before 1 t d = wbuf m c t d := by
  unfold Dat.before
  rw [if_pos (fetch0_1 t)]
  unfold Dat.fetched Dat.blockOf
  rw [A_eq]
  rfl

/-- The point before a later column belongs to the same row block. -/
theorem head_pred (t : Fin cfg0.N) (h0 : ¬t.val % 3 = 0) (hl : t.val - 1 < cfg0.N) : head ⟨t.val - 1, hl⟩ = head t := by
  unfold head; apply Fin.ext; show (t.val - 1) / 3 * 3 = t.val / 3 * 3; omega

theorem head_self (t : Fin cfg0.N) (h0 : t.val % 3 = 0) : head t = t := by
  unfold head; apply Fin.ext; show t.val / 3 * 3 = t.val; omega

/-! ## The body at a grid point -/

/-- What the body is given. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d)))

/-- What the body gives back. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ (∃ d, owns (c : Thread nD τ) (ms_1 t) fullShare (win0_1.fill (grid0.coords t) d (win0_1.cut (grid0.coords t) ((dats m 0 c).after 1 t))))
    ∗ (∃ d, owns (c : Thread nD τ) (ms_2 t) fullShare (win0_2.fill (grid0.coords t) d (win0_2.cut (grid0.coords t) ((dats m 0 c).after 2 t)))))

/-- What was fetched is the weights' block inside the array. -/
theorem fill_wzero (c : Dev nD) (t : Fin cfg0.N) (d : Vec Ideal S2048x512 .f32) :
    win0_1.fill (grid0.coords t) d (win0_1.cut (grid0.coords t) (wzero m c t)) = wbuf m c t d := by
  unfold wzero wbuf
  rw [win0_1.cut_fill]

/-- What was stored is the product's block inside the array. -/
theorem fill_outs (c : Dev nD) (t : Fin cfg0.N) (d : Vec Ideal S2048x512 .f32) :
    win0_2.fill (grid0.coords t) (k0_pay2 (F := Ideal) (kept m c t) (wbuf m c t d)) (win0_2.cut (grid0.coords t) (outs m c t))
      = k0_pay2 (F := Ideal) (kept m c t) (wbuf m c t d) :=
  win0_2.fill_congr_cut _ (cut_outs m c t d)

/-- The body takes the one to the other, at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before_0, before_1]
  rw [show (dats m 0 c).owesAt () t.succ = (dats m 0 c).owesAt () t.castSucc from rfl, after_0, after_1, after_2, PhiS_castSucc m c t]
  rw [show (dats m 0 c).Φ t.succ = iprop(owns (c : Thread nD τ) scM fullShare (kept m c t) ∗ (∃ r, prngReg c r)) from rfl]
  by_cases h0 : t.val % 3 = 0
  · refine (sep_mono (PhiS_any m c _ _) .rfl).trans ?_
    have e : kept m c t = k0_pay1 (F := Ideal) (iblk m c 0 t) := by unfold kept; rw [head_self t h0]
    iintro ⟨⟨HS, Hg⟩, Ho, ⟨%d0, H0⟩, ⟨%d1, H1⟩, ⟨%d2, H2⟩⟩
    iapply (run_first c (grid0.coords t) _ _ _ _ _ _ _ _ (iblk m c 0 t) (wbuf m c t d1) ((first_iff t).mpr h0) Set.univ _)
    isplitl [H0]; · iexact H0
    isplitl [H1]; · iexact H1
    isplitl [H2]; · iexists _; iexact H2
    isplitl [HS]; · iexact HS
    rw [← e]
    iintro ⟨H0, H1, H2, HS⟩
    isplitl [HS Hg]
    · isplitl [HS]; · iexact HS
      iexact Hg
    isplitl [Ho]; · iexact Ho
    isplitl [H0]; · iexact H0
    isplitl [H1]
    · iexists d1; rw [fill_wzero]; iexact H1
    iexists (k0_pay2 (F := Ideal) (kept m c t) (wbuf m c t d1)); rw [fill_outs]; iexact H2
  · have hz : t.val ≠ 0 := by omega
    rw [PhiS_pos m c _ _ hz]
    have e : kept m c ⟨t.val - 1, by have := t.isLt; omega⟩ = kept m c t := by
      unfold kept; rw [head_pred t h0]
    rw [e]
    iintro ⟨⟨HS, Hg⟩, Ho, ⟨%d0, H0⟩, ⟨%d1, H1⟩, ⟨%d2, H2⟩⟩
    iapply (run_later c (grid0.coords t) _ _ _ _ _ _ _ _ (iblk m c 0 t) (wbuf m c t d1) (fun h => h0 ((first_iff t).mp h)) (kept m c t) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]
    · iexists d1; rw [fill_wzero]; iexact H1
    iexists (k0_pay2 (F := Ideal) (kept m c t) (wbuf m c t d1)); rw [fill_outs]; iexact H2

theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [PhiA_eq]
  exact PhiS_any m c _ (Nat.le_of_lt_succ (Fin.last cfg0.N).isLt)

/-- Every run ends with the result array at what the data says, and the arguments as they were. -/
theorem run_arrays : θ_run defs (onTc (τ := τ) (main (F := Ideal))) ⟨m, fun _ => 0, ρ⟩ (fun r => ∀ c : Dev nD,
      r.2.mem ((c.tc : Thread nD τ).loc main_v2) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_frame_track (Q' := _) cfgs (dats m) (0 : Fin 1) launch0 defs₀ Variants.none m ρ main
    (hbody := body_obligation m) (hshare := fun c w => by unfold Dat.share; split <;> rfl)
    (howed := fun _ _ => rfl) (V := V m) (hmain := hmain m Variants.none) (hA := A_eq m) (hin := hin m) (hout := hout m)
    (hQ' := fun r h c => ⟨(h.1 c).1 2,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩)

/-! ## The result array -/

variable (c : Dev nD)

/-- The block index of each window at a grid point. -/
theorem idx0 : ∀ t : Fin cfg0.N, win0_0.index t = ![t.val / 3, 0] := (by decide +kernel : ∀ t : Fin grid0.N, _)
theorem idx1 : ∀ t : Fin cfg0.N, win0_1.index t = ![0, t.val % 3] := (by decide +kernel : ∀ t : Fin grid0.N, _)
theorem idx2 : ∀ t : Fin cfg0.N, win0_2.index t = ![t.val / 3, t.val % 3] := (by decide +kernel : ∀ t : Fin grid0.N, _)

theorem t_lt (t : Fin cfg0.N) : t.val < 24 := lt_of_lt_of_eq t.isLt (by decide +kernel)

/-- The argument arrays of core `c`. -/
def a0 : (⟨3, ![4, 2048, 2048]⟩ : Shape).Idx → EReal := m (c, Proc.tc.devRef main_arg0)
def a1 : (⟨3, ![1, 2048, 1344]⟩ : Shape).Idx → EReal := m (c, Proc.tc.devRef main_arg1)

/-- The batch and the sequence position of a row. -/
def bOf (i : Fin 8192) : Fin 4 := ⟨i.val / 2048, by omega⟩
def rOf (i : Fin 8192) : Fin 2048 := ⟨i.val % 2048, by omega⟩

/-- The product of a row with a column of the weights. -/
def proj (A0 : (⟨3, ![4, 2048, 2048]⟩ : Shape).Idx → EReal) (A1 : (⟨3, ![1, 2048, 1344]⟩ : Shape).Idx → EReal)
    (b : Fin 4) (r : Fin 2048) (n : Fin 1344) : EReal :=
  ∑ k : Fin 2048, A0 (ix3 b r k) * A1 (ix3 0 k n)

/-- The operands that the host code lays out. -/
theorem V0 (r : Fin 8192) (k : Fin 2048) : V m c main_v0 (ix2 r k) = a0 m c (ix3 (bOf r) (rOf r) k) := by
  unfold V
  after_results
  pointwise [a0, bOf, rOf]

theorem V1 (k : Fin 2048) (n : Fin 1344) : V m c main_v1 (ix2 k n) = a1 m c (ix3 0 k n) := by
  unfold V
  after_results
  pointwise [a1]

/-- A row of the arrays, from the grid point and the row in its block. -/
def rowOf (t : Fin cfg0.N) (r : Fin 1024) : Fin 8192 := ⟨t.val / 3 * 1024 + r.val, by have := t_lt t; omega⟩

/-- The row block. -/
theorem blk0 (t : Fin cfg0.N) (r : Fin 1024) (k : Fin 2048) :
    iblk m c 0 t (ix2 r k) = a0 m c (ix3 (bOf (rowOf t r)) (rOf (rowOf t r)) k) := by
  have e : iblk m c 0 t (ix2 r k) = V m c main_v0 (ix2 (rowOf t r) k) := by
    blk_point [iblk, V, idx0 t, rowOf]
  exact e.trans (V0 m c _ _)

/-- The kept row block. -/
theorem kept_read (t : Fin cfg0.N) (r : Fin 1024) (k : Fin 2048) :
    kept m c t (ix2 r k) = a0 m c (ix3 (bOf (rowOf t r)) (rOf (rowOf t r)) k) := by
  have e : rowOf (head t) r = rowOf t r := Fin.ext (by show t.val / 3 * 3 / 3 * 1024 + r.val = t.val / 3 * 1024 + r.val; omega)
  have h : kept m c t (ix2 r k) = iblk m c 0 (head t) (ix2 r k) := by
    unfold kept
    generalize (iblk m c 0 (head t) : Vec Ideal S1024x2048 .f32) = y
    pointwise [k0_pay1]
  rw [h, blk0, e]

/-- The weights' buffer inside the array. -/
theorem wzero_read (t : Fin cfg0.N) (k : Fin 2048) (n : Fin 512) (hn : n.val < win0_1.xsize (grid0.coords t) 1)
    (h : t.val % 3 * 512 + n.val < 1344) : wzero m c t (ix2 k n) = a1 m c (ix3 0 k ⟨t.val % 3 * 512 + n.val, h⟩) := by
  have hm : win0_1.moved (grid0.coords t) (ix2 k n) = true := (win0_1.moved_iff _ _).mpr fun a => by
    fin_cases a
    · exact k.isLt
    · exact hn
  unfold wzero wbuf Window.fill
  rw [dif_pos hm]
  refine Eq.trans ?_ (V1 m c k _)
  blk_point [iblk, V, idx1 t]

/-- The result array. -/
def outArr : S8192x1344.Idx → EReal := fun y => proj (a0 m c) (a1 m c) (bOf (y 0)) (rOf (y 0)) (y 1)

/-- The result array of the run is `outArr`. -/
theorem arr_eq : (dats m 0 c).arrAt 2 cfg0.N = outArr m c := by
  refine (dats m 0 c).arrAt_eq_of_covers 2 _ (by decide +kernel) fun t hf y => ?_
  have h0 : (((cfg0.win 2).blk t).view.emb y 0).val = t.val / 3 * 1024 + (y 0).val := by
    blk_simp [idx2 t]
  have h1 : (((cfg0.win 2).blk t).view.emb y 1).val = t.val % 3 * 512 + (y 1).val := by
    blk_simp [idx2 t]
  rw [after_2]
  have e : win0_2.xinj (grid0.coords t) y = ix2 (win0_2.xinj (grid0.coords t) y 0) (win0_2.xinj (grid0.coords t) y 1) := eq_ix2 _
  have hl : t.val % 3 * 512 + (y 1).val < 1344 := by
    rw [← h1]; exact (((cfg0.win 2).blk t).view.emb y 1).isLt
  show outs m c t (win0_2.xinj (grid0.coords t) y) = outArr m c (((cfg0.win 2).blk t).view.emb y)
  rw [e]
  unfold outs
  refine (pay2_read _ _ _ _).trans ?_
  unfold outArr proj
  have e0 : ((cfg0.win 2).blk t).view.emb y 0 = rowOf t (win0_2.xinj (grid0.coords t) y 0) := Fin.ext h0
  have e1 : ((cfg0.win 2).blk t).view.emb y 1 = (⟨t.val % 3 * 512 + (y 1).val, hl⟩ : Fin 1344) := Fin.ext h1
  rw [e0, e1]
  refine Finset.sum_congr rfl fun k _ => ?_
  exact congrArg₂ (fun a b : EReal => a * b) (kept_read m c t (win0_2.xinj (grid0.coords t) y 0) k)
    (wzero_read m c t k (win0_2.xinj (grid0.coords t) y 1) (y 1).isLt hl)

end Cert.Own.Mli

namespace Cert.Own.MliRef

open Idealize.ShloMosaic Idealize.SL.Sem Cert.ReferenceMlaInIdeal Cert.ReferenceMlaInIdeal.Read

/-- The reference's result at a row and column. -/
theorem ref_out (x0 : (⟨S4x2048x2048, .f32⟩ : BufTy).Contents (Elt Ideal)) (x1 : (⟨S1x2048x1344, .f32⟩ : BufTy).Contents (Elt Ideal))
    (i : Fin 8192) (j : Fin 1344) :
    val_main_v2 (F := Ideal) x0 x1 (ix2 i j) = Cert.Own.Mli.proj x0 x1 (Cert.Own.Mli.bOf i) (Cert.Own.Mli.rOf i) j := by
  pointwise [val_main_v2, val_main_v1, val_main_v0, Cert.Own.Mli.proj, Cert.Own.Mli.bOf, Cert.Own.Mli.rOf]

end Cert.Own.MliRef

end
-- ==== Proof.Qry.lean ====
/-
  The queries: the product at its own shapes, whose column blocks tile the weights.
-/
module

public import proofs.«01_k».proof.Proof.Gen.KernelQueryIdeal.Value
public import proofs.«01_k».proof.Proof.Gen.ReferenceQueryIdeal.Read
public import Idealize.ShloMosaic.Lib.Pipeline.ValueKit
public import Idealize.ShloMosaic.Lib.Pointwise

@[expose] public section

set_option maxRecDepth 16384

noncomputable section

namespace Cert.Own.Qry

open Idealize.ShloMosaic Idealize.SL.Sem Cert.KernelQueryIdeal Cert.KernelQueryIdeal.Gen

/-- The block as it is kept. -/
theorem keep_read (x : Vec Ideal S1024x768 .bf16) : k0_pay1 (F := Ideal) x = x := by
  funext y
  rw [eq_ix2 y]
  generalize y 0 = a
  generalize y 1 = k
  pointwise [k0_pay1]

/-- The product of the kept block with a block of the weights. -/
theorem prod_read (x : Vec Ideal S1024x768 .bf16) (w : Vec Ideal S768x512 .f32) (a : Fin 1024) (n : Fin 512) :
    k0_pay2 (F := Ideal) x w (ix2 a n) = ∑ k : Fin 768, x (ix2 a k) * w (ix2 k n) := by
  pointwise [k0_pay2]

variable (m : (ℓ : Loc nD τ sig) → Buf (Elt Ideal) ℓ) (c : Dev nD)

theorem t_lt (t : Fin cfg0.N) : t.val < 48 := lt_of_lt_of_eq t.isLt (by decide +kernel)

/-- A load over what some stores left. -/
theorem readCov_ld {sp : Space} {s : Shape} {e : EltTy} (v : View sig .tc sp s e) (L : List (View.Piece (Elt Ideal) s e)) (r : Rect s) :
    v.readCov L r.toLoadRect = View.ld (View.canon L) r := View.readCov_eq_canon' v L r.toLoadRect

/-- What the first point of a row block keeps. -/
theorem scratch0 (t : Fin cfg0.N) (h : t.val % 6 = 0) : (outsAt0 m c t.val t.isLt).2 = iblk m c 0 t := by
  rw [outsAt0_A m c t h]
  dsimp only
  unfold sout0_A_0 kernelRun0_A
  dsimp only
  sl_unfold_words
  simp only [View.readAt_eq_ld, (hs0_0 t).read_unread, (hs0_1 t).read_unread]
  rw [View.read_writes_junk_eq_canon, View.canon_cons_unit_lit (h := fun d => by fin_cases d <;> rfl),
    View.ld_unit_lit (h := fun d => by fin_cases d <;> rfl)]
  exact keep_read _

/-- What the first point of a row block stores. -/
theorem out_first (t : Fin cfg0.N) (h : t.val % 6 = 0) :
    (outsAt0 m c t.val t.isLt).1 = k0_pay2 (F := Ideal) (iblk m c 0 t) (iblk m c 1 t) := by
  rw [outsAt0_A m c t h]
  dsimp only
  unfold out0_A_2 kernelRun0_A
  dsimp only
  sl_unfold_words
  simp only [View.readAt_eq_ld, (hs0_0 t).read_unread, (hs0_1 t).read_unread, readCov_ld, View.read_writes_junk_eq_canon]
  rw [View.canon_cons_unit_lit (h := fun d => by fin_cases d <;> rfl), View.canon_cons_unit_lit (h := fun d => by fin_cases d <;> rfl)]
  rw [View.ld_unit_lit (h := fun d => by fin_cases d <;> rfl), View.ld_unit_lit (h := fun d => by fin_cases d <;> rfl),
    View.ld_unit_lit (h := fun d => by fin_cases d <;> rfl), keep_read]

/-- What the other points of a row block store. -/
theorem out_next (t : Fin cfg0.N) (h : ¬t.val % 6 = 0) :
    (outsAt0 m c t.val t.isLt).1
      = k0_pay2 (F := Ideal) (outsAt0 m c (t.val - 1) (Nat.lt_of_le_of_lt (Nat.sub_le _ _) t.isLt)).2 (iblk m c 1 t) := by
  rw [outsAt0_B m c t h]
  dsimp only
  generalize outsAt0 m c (t.val - 1) _ = prev
  unfold out0_B_2 kernelRun0_B
  dsimp only
  sl_unfold_words
  simp only [View.readAt_eq_ld, (hs0_1 t).read_unread, (Memref.isWhole_whole cc0_scratch0).read_unread, View.read_writes_junk_eq_canon]
  rw [View.canon_cons_unit_lit (h := fun d => by fin_cases d <;> rfl)]
  rw [View.ld_unit_lit (h := fun d => by fin_cases d <;> rfl), View.ld_unit_lit (h := fun d => by fin_cases d <;> rfl)]
  try rfl

theorem same (t : Fin cfg0.N) (h : ¬t.val % 6 = 0) : (outsAt0 m c t.val t.isLt).2
    = (outsAt0 m c (t.val - 1) (Nat.lt_of_le_of_lt (Nat.sub_le _ _) t.isLt)).2 := by
  rw [outsAt0_B m c t h]
  rfl

/-- The first point of the row block. -/
def head (t : Fin cfg0.N) : Fin cfg0.N := ⟨t.val / 6 * 6, lt_of_le_of_lt (Nat.div_mul_le_self _ _) t.isLt⟩

/-- From its first point on, a row block is kept as it is. -/
theorem carried : ∀ (k : ℕ) (hk : k < cfg0.N), (outsAt0 m c k hk).2 = iblk m c 0 (head ⟨k, hk⟩) := by
  intro k
  induction k with
  | zero =>
    intro hk
    have e : head ⟨0, hk⟩ = ⟨0, hk⟩ := Fin.ext (by show 0 / 6 * 6 = 0; omega)
    rw [e]
    exact scratch0 m c ⟨0, hk⟩ (Nat.zero_mod 6)
  | succ k ih =>
    intro hk
    by_cases h : (k + 1) % 6 = 0
    · have e : head ⟨k + 1, hk⟩ = ⟨k + 1, hk⟩ := Fin.ext (by show (k + 1) / 6 * 6 = k + 1; omega)
      rw [e]
      exact scratch0 m c ⟨k + 1, hk⟩ h
    · have hk' : k < cfg0.N := Nat.lt_of_succ_lt hk
      have e : head ⟨k + 1, hk⟩ = head ⟨k, hk'⟩ := Fin.ext (by show (k + 1) / 6 * 6 = k / 6 * 6; omega)
      rw [e]
      exact (same m c ⟨k + 1, hk⟩ h).trans (ih hk')

/-- What each point stores. -/
theorem out_eq (t : Fin cfg0.N) :
    (outsAt0 m c t.val t.isLt).1 = k0_pay2 (F := Ideal) (iblk m c 0 (head t)) (iblk m c 1 t) := by
  by_cases h : t.val % 6 = 0
  · have e : head t = t := Fin.ext (by show t.val / 6 * 6 = t.val; omega)
    rw [e]
    exact out_first m c t h
  · have e : head ⟨t.val - 1, Nat.lt_of_le_of_lt (Nat.sub_le _ _) t.isLt⟩ = head t :=
      Fin.ext (by show (t.val - 1) / 6 * 6 = t.val / 6 * 6; omega)
    rw [out_next m c t h, carried, e]

/-- The block index of each window at a grid point. -/
theorem idx0 : ∀ t : Fin cfg0.N, win0_0.index t = ![t.val / 6, 0] := (by decide +kernel : ∀ t : Fin grid0.N, _)
theorem idx1 : ∀ t : Fin cfg0.N, win0_1.index t = ![0, t.val % 6] := (by decide +kernel : ∀ t : Fin grid0.N, _)
theorem idx2 : ∀ t : Fin cfg0.N, win0_2.index t = ![t.val / 6, t.val % 6] := (by decide +kernel : ∀ t : Fin grid0.N, _)

/-- The argument arrays of core `c`. -/
def a0 : (⟨3, ![4, 2048, 768]⟩ : Shape).Idx → EReal := m (c, Proc.tc.devRef main_arg0)
def a1 : (⟨3, ![1, 768, 3072]⟩ : Shape).Idx → EReal := m (c, Proc.tc.devRef main_arg1)

/-- The batch and the sequence position of a row. -/
def bOf (i : Fin 8192) : Fin 4 := ⟨i.val / 2048, by omega⟩
def rOf (i : Fin 8192) : Fin 2048 := ⟨i.val % 2048, by omega⟩

/-- The column of the weights that holds entry `j` of the wide parts, all heads in a row, and of the rotary parts. -/
def wide (j : Fin 2048) : Fin 3072 := ⟨j.val / 128 * 192 + j.val % 128, by omega⟩
def narrow (j : Fin 1024) : Fin 3072 := ⟨j.val / 64 * 192 + (128 + j.val % 64), by omega⟩

/-- The column of the weights behind a column of the queries: the wide parts come first. -/
def src (n : Fin 3072) : Fin 3072 :=
  if h : n.val < 2048 then wide ⟨n.val, h⟩ else narrow ⟨n.val - 2048, by omega⟩

/-- The product of a row with a column of the weights. -/
def proj (A0 : (⟨3, ![4, 2048, 768]⟩ : Shape).Idx → EReal) (A1 : (⟨3, ![1, 768, 3072]⟩ : Shape).Idx → EReal)
    (i : Fin 8192) (n : Fin 3072) : EReal :=
  ∑ k : Fin 768, A0 (ix3 (bOf i) (rOf i) k) * A1 (ix3 0 k (src n))

/-- The operands that the host code lays out. -/
theorem V0 (r : Fin 8192) (k : Fin 768) : V m c main_v7 (ix2 r k) = a0 m c (ix3 (bOf r) (rOf r) k) := by
  unfold V
  after_results
  pointwise [a0, bOf, rOf]

/-- The weights' two parts, and the two side by side. -/
theorem Vw (k : Fin 768) (n : Fin 3072) (h : n.val < 2048) : V m c main_v6 (ix2 k n) = a1 m c (ix3 0 k (wide ⟨n.val, h⟩)) := by
  unfold V
  after_results
  pointwise [a1, wide]
  exact dif_pos h

theorem Vn (k : Fin 768) (n : Fin 3072) (h : ¬n.val < 2048) :
    V m c main_v6 (ix2 k n) = a1 m c (ix3 0 k (narrow ⟨n.val - 2048, by omega⟩)) := by
  unfold V
  after_results
  pointwise [a1, narrow]
  exact dif_neg h

theorem V1 (k : Fin 768) (n : Fin 3072) : V m c main_v6 (ix2 k n) = a1 m c (ix3 0 k (src n)) := by
  unfold src
  split
  · exact Vw m c k n _
  · exact Vn m c k n (by assumption)

/-- A row and a column of the result, from the grid point and the place in its block. -/
def rowOf (t : Fin cfg0.N) (r : Fin 1024) : Fin 8192 := ⟨t.val / 6 * 1024 + r.val, by have := t_lt t; omega⟩
def colOf (t : Fin cfg0.N) (n : Fin 512) : Fin 3072 := ⟨t.val % 6 * 512 + n.val, by omega⟩

theorem rowOf_head (t : Fin cfg0.N) (r : Fin 1024) : rowOf (head t) r = rowOf t r := by
  apply Fin.ext
  show t.val / 6 * 6 / 6 * 1024 + r.val = t.val / 6 * 1024 + r.val
  omega

/-- The blocks of the windows. -/
theorem blk0 (t : Fin cfg0.N) (r : Fin 1024) (k : Fin 768) :
    iblk m c 0 t (ix2 r k) = a0 m c (ix3 (bOf (rowOf t r)) (rOf (rowOf t r)) k) := by
  have e : iblk m c 0 t (ix2 r k) = V m c main_v7 (ix2 (rowOf t r) k) := by
    blk_point [iblk, V, idx0 t, rowOf]
  exact e.trans (V0 m c _ _)

theorem blk1 (t : Fin cfg0.N) (k : Fin 768) (n : Fin 512) : iblk m c 1 t (ix2 k n) = a1 m c (ix3 0 k (src (colOf t n))) := by
  have e : iblk m c 1 t (ix2 k n) = V m c main_v6 (ix2 k (colOf t n)) := by
    blk_point [iblk, V, idx1 t, colOf]
  exact e.trans (V1 m c _ _)

/-- What each point stores, at a row and a column of its block. -/
theorem out_proj (t : Fin cfg0.N) (a : Fin 1024) (n : Fin 512) :
    (outsAt0 m c t.val t.isLt).1 (ix2 a n) = proj (a0 m c) (a1 m c) (rowOf t a) (colOf t n) := by
  rw [out_eq]
  refine (prod_read _ _ a n).trans ?_
  unfold proj
  refine Finset.sum_congr rfl fun k _ => ?_
  refine congrArg₂ (fun a b : EReal => a * b) ((blk0 m c (head t) a k).trans ?_) (blk1 m c t k n)
  rw [rowOf_head]

/-- The result array. -/
def outArr : S8192x3072.Idx → EReal := fun y => proj (a0 m c) (a1 m c) (y 0) (y 1)

/-- The result array of the run is `outArr`. -/
theorem arr_eq : (dats m 0 c).arrAt 2 cfg0.N = outArr m c := by
  refine (dats m 0 c).arrAt_eq_of_covers 2 _ (by decide +kernel) fun t hf y => ?_
  blk_simp
  rw [after0_2]
  have h0 : (((cfg0.win 2).blk t).view.emb y 0).val = t.val / 6 * 1024 + (y 0).val := by
    blk_simp [idx2 t]
  have h1 : (((cfg0.win 2).blk t).view.emb y 1).val = t.val % 6 * 512 + (y 1).val := by
    blk_simp [idx2 t]
  obtain ⟨a, n, rfl⟩ : ∃ (a : Fin 1024) (n : Fin 512), y = ix2 a n := ⟨y 0, y 1, eq_ix2 y⟩
  have e0 : ((cfg0.win 2).blk t).view.emb (ix2 a n) 0 = rowOf t a := Fin.ext h0
  have e1 : ((cfg0.win 2).blk t).view.emb (ix2 a n) 1 = colOf t n := Fin.ext h1
  refine (out_proj m c t a n).trans ?_
  unfold outArr
  rw [e0, e1]

end Cert.Own.Qry

namespace Cert.Own.QryRef

open Idealize.ShloMosaic Idealize.SL.Sem Cert.ReferenceQueryIdeal Cert.ReferenceQueryIdeal.Read Cert.ReferenceQueryIdeal.Gen
open Cert.Own.Qry (bOf rOf proj src wide narrow)

variable (x0 : (⟨S4x2048x768, .bf16⟩ : BufTy).Contents (Elt Ideal)) (x1 : (⟨S1x768x3072, .f32⟩ : BufTy).Contents (Elt Ideal))

/-- The reference's two parts at a row and a column. -/
theorem ref_wide (i : Fin 8192) (j : Fin 2048) : val_main_v5 (F := Ideal) x0 x1 (ix2 i j)
    = ∑ k : Fin 768, x0 (ix3 (bOf i) (rOf i) k) * x1 (ix3 0 k (wide j)) := by
  pointwise [val_main_v5, val_main_v4, val_main_v3, val_main_v2, val_main_v1, val_main_v0, Cert.Own.Qry.bOf, Cert.Own.Qry.rOf, Cert.Own.Qry.wide]

theorem ref_narrow (i : Fin 8192) (j : Fin 1024) : val_main_v7 (F := Ideal) x0 x1 (ix2 i j)
    = ∑ k : Fin 768, x0 (ix3 (bOf i) (rOf i) k) * x1 (ix3 0 k (narrow j)) := by
  pointwise [val_main_v7, val_main_v6, val_main_v3, val_main_v2, val_main_v1, val_main_v0, Cert.Own.Qry.bOf, Cert.Own.Qry.rOf, Cert.Own.Qry.narrow]

theorem ref_out (i : Fin 8192) (j : Fin 3072) : val_main_v8 (F := Ideal) x0 x1 (ix2 i j) = proj x0 x1 i j := by
  unfold proj src
  split
  · rename_i h
    refine Eq.trans ?_ (ref_wide x0 x1 i ⟨j.val, h⟩)
    unfold val_main_v8
    generalize val_main_v5 (F := Ideal) x0 x1 = y
    generalize val_main_v7 (F := Ideal) x0 x1 = z
    pointwise []
    exact dif_pos h
  · rename_i h
    refine Eq.trans ?_ (ref_narrow x0 x1 i ⟨j.val - 2048, by omega⟩)
    unfold val_main_v8
    generalize val_main_v5 (F := Ideal) x0 x1 = y
    generalize val_main_v7 (F := Ideal) x0 x1 = z
    pointwise []
    exact dif_neg h

end Cert.Own.QryRef

end
-- ==== Proof.Kvp.lean ====
/-
  The keys and the values of each head: the product at its own shapes, whose column blocks tile the weights.
-/
module

public import proofs.«01_k».proof.Proof.Gen.KernelKvIdeal.Value
public import proofs.«01_k».proof.Proof.Gen.ReferenceKvIdeal.Read
public import Idealize.ShloMosaic.Lib.Pipeline.ValueKit
public import Idealize.ShloMosaic.Lib.Pointwise

@[expose] public section

set_option maxRecDepth 16384

noncomputable section

namespace Cert.Own.Kvp

open Idealize.ShloMosaic Idealize.SL.Sem Cert.KernelKvIdeal Cert.KernelKvIdeal.Gen

/-- The block as it is kept. -/
theorem keep_read (x : Vec Ideal S1024x512 .bf16) : k0_pay1 (F := Ideal) x = x := by
  funext y
  rw [eq_ix2 y]
  generalize y 0 = a
  generalize y 1 = k
  pointwise [k0_pay1]

/-- The product of the kept block with a block of the weights. -/
theorem prod_read (x : Vec Ideal S1024x512 .bf16) (w : Vec Ideal S512x512 .f32) (a : Fin 1024) (n : Fin 512) :
    k0_pay2 (F := Ideal) x w (ix2 a n) = ∑ k : Fin 512, x (ix2 a k) * w (ix2 k n) := by
  pointwise [k0_pay2]

variable (m : (ℓ : Loc nD τ sig) → Buf (Elt Ideal) ℓ) (c : Dev nD)

theorem t_lt (t : Fin cfg0.N) : t.val < 64 := lt_of_lt_of_eq t.isLt (by decide +kernel)

/-- A load over what some stores left. -/
theorem readCov_ld {sp : Space} {s : Shape} {e : EltTy} (v : View sig .tc sp s e) (L : List (View.Piece (Elt Ideal) s e)) (r : Rect s) :
    v.readCov L r.toLoadRect = View.ld (View.canon L) r := View.readCov_eq_canon' v L r.toLoadRect

/-- What the first point of a row block keeps. -/
theorem scratch0 (t : Fin cfg0.N) (h : t.val % 8 = 0) : (outsAt0 m c t.val t.isLt).2 = iblk m c 0 t := by
  rw [outsAt0_A m c t h]
  dsimp only
  unfold sout0_A_0 kernelRun0_A
  dsimp only
  sl_unfold_words
  simp only [View.readAt_eq_ld, (hs0_0 t).read_unread, (hs0_1 t).read_unread]
  rw [View.read_writes_junk_eq_canon, View.canon_cons_unit_lit (h := fun d => by fin_cases d <;> rfl),
    View.ld_unit_lit (h := fun d => by fin_cases d <;> rfl)]
  exact keep_read _

/-- What the first point of a row block stores. -/
theorem out_first (t : Fin cfg0.N) (h : t.val % 8 = 0) :
    (outsAt0 m c t.val t.isLt).1 = k0_pay2 (F := Ideal) (iblk m c 0 t) (iblk m c 1 t) := by
  rw [outsAt0_A m c t h]
  dsimp only
  unfold out0_A_2 kernelRun0_A
  dsimp only
  sl_unfold_words
  simp only [View.readAt_eq_ld, (hs0_0 t).read_unread, (hs0_1 t).read_unread, readCov_ld, View.read_writes_junk_eq_canon]
  rw [View.canon_cons_unit_lit (h := fun d => by fin_cases d <;> rfl), View.canon_cons_unit_lit (h := fun d => by fin_cases d <;> rfl)]
  rw [View.ld_unit_lit (h := fun d => by fin_cases d <;> rfl), View.ld_unit_lit (h := fun d => by fin_cases d <;> rfl),
    View.ld_unit_lit (h := fun d => by fin_cases d <;> rfl), keep_read]

/-- What the other points of a row block store. -/
theorem out_next (t : Fin cfg0.N) (h : ¬t.val % 8 = 0) :
    (outsAt0 m c t.val t.isLt).1
      = k0_pay2 (F := Ideal) (outsAt0 m c (t.val - 1) (Nat.lt_of_le_of_lt (Nat.sub_le _ _) t.isLt)).2 (iblk m c 1 t) := by
  rw [outsAt0_B m c t h]
  dsimp only
  generalize outsAt0 m c (t.val - 1) _ = prev
  unfold out0_B_2 kernelRun0_B
  dsimp only
  sl_unfold_words
  simp only [View.readAt_eq_ld, (hs0_1 t).read_unread, (Memref.isWhole_whole cc0_scratch0).read_unread, View.read_writes_junk_eq_canon]
  rw [View.canon_cons_unit_lit (h := fun d => by fin_cases d <;> rfl)]
  rw [View.ld_unit_lit (h := fun d => by fin_cases d <;> rfl), View.ld_unit_lit (h := fun d => by fin_cases d <;> rfl)]
  try rfl

theorem same (t : Fin cfg0.N) (h : ¬t.val % 8 = 0) : (outsAt0 m c t.val t.isLt).2
    = (outsAt0 m c (t.val - 1) (Nat.lt_of_le_of_lt (Nat.sub_le _ _) t.isLt)).2 := by
  rw [outsAt0_B m c t h]
  rfl

/-- The first point of the row block. -/
def head (t : Fin cfg0.N) : Fin cfg0.N := ⟨t.val / 8 * 8, lt_of_le_of_lt (Nat.div_mul_le_self _ _) t.isLt⟩

/-- From its first point on, a row block is kept as it is. -/
theorem carried : ∀ (k : ℕ) (hk : k < cfg0.N), (outsAt0 m c k hk).2 = iblk m c 0 (head ⟨k, hk⟩) := by
  intro k
  induction k with
  | zero =>
    intro hk
    have e : head ⟨0, hk⟩ = ⟨0, hk⟩ := Fin.ext (by show 0 / 8 * 8 = 0; omega)
    rw [e]
    exact scratch0 m c ⟨0, hk⟩ (Nat.zero_mod 8)
  | succ k ih =>
    intro hk
    by_cases h : (k + 1) % 8 = 0
    · have e : head ⟨k + 1, hk⟩ = ⟨k + 1, hk⟩ := Fin.ext (by show (k + 1) / 8 * 8 = k + 1; omega)
      rw [e]
      exact scratch0 m c ⟨k + 1, hk⟩ h
    · have hk' : k < cfg0.N := Nat.lt_of_succ_lt hk
      have e : head ⟨k + 1, hk⟩ = head ⟨k, hk'⟩ := Fin.ext (by show (k + 1) / 8 * 8 = k / 8 * 8; omega)
      rw [e]
      exact (same m c ⟨k + 1, hk⟩ h).trans (ih hk')

/-- What each point stores. -/
theorem out_eq (t : Fin cfg0.N) :
    (outsAt0 m c t.val t.isLt).1 = k0_pay2 (F := Ideal) (iblk m c 0 (head t)) (iblk m c 1 t) := by
  by_cases h : t.val % 8 = 0
  · have e : head t = t := Fin.ext (by show t.val / 8 * 8 = t.val; omega)
    rw [e]
    exact out_first m c t h
  · have e : head ⟨t.val - 1, Nat.lt_of_le_of_lt (Nat.sub_le _ _) t.isLt⟩ = head t :=
      Fin.ext (by show (t.val - 1) / 8 * 8 = t.val / 8 * 8; omega)
    rw [out_next m c t h, carried, e]

/-- The block index of each window at a grid point. -/
theorem idx0 : ∀ t : Fin cfg0.N, win0_0.index t = ![t.val / 8, 0] := (by decide +kernel : ∀ t : Fin grid0.N, _)
theorem idx1 : ∀ t : Fin cfg0.N, win0_1.index t = ![0, t.val % 8] := (by decide +kernel : ∀ t : Fin grid0.N, _)
theorem idx2 : ∀ t : Fin cfg0.N, win0_2.index t = ![t.val / 8, t.val % 8] := (by decide +kernel : ∀ t : Fin grid0.N, _)

/-- The argument arrays of core `c`. -/
def a0 : (⟨3, ![4, 2048, 512]⟩ : Shape).Idx → EReal := m (c, Proc.tc.devRef main_arg0)
def a1 : (⟨3, ![1, 512, 4096]⟩ : Shape).Idx → EReal := m (c, Proc.tc.devRef main_arg1)

/-- The batch and the sequence position of a row. -/
def bOf (i : Fin 8192) : Fin 4 := ⟨i.val / 2048, by omega⟩
def rOf (i : Fin 8192) : Fin 2048 := ⟨i.val % 2048, by omega⟩

/-- The product of a row with a column of the weights. -/
def proj (A0 : (⟨3, ![4, 2048, 512]⟩ : Shape).Idx → EReal) (A1 : (⟨3, ![1, 512, 4096]⟩ : Shape).Idx → EReal)
    (i : Fin 8192) (n : Fin 4096) : EReal :=
  ∑ k : Fin 512, A0 (ix3 (bOf i) (rOf i) k) * A1 (ix3 0 k n)

/-- The operands that the host code lays out. -/
theorem V0 (r : Fin 8192) (k : Fin 512) : V m c main_v0 (ix2 r k) = a0 m c (ix3 (bOf r) (rOf r) k) := by
  unfold V
  after_results
  pointwise [a0, bOf, rOf]

theorem V1 (k : Fin 512) (n : Fin 4096) : V m c main_v1 (ix2 k n) = a1 m c (ix3 0 k n) := by
  unfold V
  after_results
  pointwise [a1]

/-- A row and a column of the result, from the grid point and the place in its block. -/
def rowOf (t : Fin cfg0.N) (r : Fin 1024) : Fin 8192 := ⟨t.val / 8 * 1024 + r.val, by have := t_lt t; omega⟩
def colOf (t : Fin cfg0.N) (n : Fin 512) : Fin 4096 := ⟨t.val % 8 * 512 + n.val, by omega⟩

theorem rowOf_head (t : Fin cfg0.N) (r : Fin 1024) : rowOf (head t) r = rowOf t r := by
  apply Fin.ext
  show t.val / 8 * 8 / 8 * 1024 + r.val = t.val / 8 * 1024 + r.val
  omega

/-- The blocks of the windows. -/
theorem blk0 (t : Fin cfg0.N) (r : Fin 1024) (k : Fin 512) :
    iblk m c 0 t (ix2 r k) = a0 m c (ix3 (bOf (rowOf t r)) (rOf (rowOf t r)) k) := by
  have e : iblk m c 0 t (ix2 r k) = V m c main_v0 (ix2 (rowOf t r) k) := by
    blk_point [iblk, V, idx0 t, rowOf]
  exact e.trans (V0 m c _ _)

theorem blk1 (t : Fin cfg0.N) (k : Fin 512) (n : Fin 512) : iblk m c 1 t (ix2 k n) = a1 m c (ix3 0 k (colOf t n)) := by
  have e : iblk m c 1 t (ix2 k n) = V m c main_v1 (ix2 k (colOf t n)) := by
    blk_point [iblk, V, idx1 t, colOf]
  exact e.trans (V1 m c _ _)

/-- What each point stores, at a row and a column of its block. -/
theorem out_proj (t : Fin cfg0.N) (a : Fin 1024) (n : Fin 512) :
    (outsAt0 m c t.val t.isLt).1 (ix2 a n) = proj (a0 m c) (a1 m c) (rowOf t a) (colOf t n) := by
  rw [out_eq]
  refine (prod_read _ _ a n).trans ?_
  unfold proj
  refine Finset.sum_congr rfl fun k _ => ?_
  refine congrArg₂ (fun a b : EReal => a * b) ((blk0 m c (head t) a k).trans ?_) (blk1 m c t k n)
  rw [rowOf_head]

/-- The result array. -/
def outArr : S8192x4096.Idx → EReal := fun y => proj (a0 m c) (a1 m c) (y 0) (y 1)

/-- The result array of the run is `outArr`. -/
theorem arr_eq : (dats m 0 c).arrAt 2 cfg0.N = outArr m c := by
  refine (dats m 0 c).arrAt_eq_of_covers 2 _ (by decide +kernel) fun t hf y => ?_
  blk_simp
  rw [after0_2]
  have h0 : (((cfg0.win 2).blk t).view.emb y 0).val = t.val / 8 * 1024 + (y 0).val := by
    blk_simp [idx2 t]
  have h1 : (((cfg0.win 2).blk t).view.emb y 1).val = t.val % 8 * 512 + (y 1).val := by
    blk_simp [idx2 t]
  obtain ⟨a, n, rfl⟩ : ∃ (a : Fin 1024) (n : Fin 512), y = ix2 a n := ⟨y 0, y 1, eq_ix2 y⟩
  have e0 : ((cfg0.win 2).blk t).view.emb (ix2 a n) 0 = rowOf t a := Fin.ext h0
  have e1 : ((cfg0.win 2).blk t).view.emb (ix2 a n) 1 = colOf t n := Fin.ext h1
  refine (out_proj m c t a n).trans ?_
  unfold outArr
  rw [e0, e1]

end Cert.Own.Kvp

namespace Cert.Own.KvpRef

open Idealize.ShloMosaic Idealize.SL.Sem Cert.ReferenceKvIdeal Cert.ReferenceKvIdeal.Read Cert.ReferenceKvIdeal.Gen
open Cert.Own.Kvp (bOf rOf proj )

variable (x0 : (⟨S4x2048x512, .bf16⟩ : BufTy).Contents (Elt Ideal)) (x1 : (⟨S1x512x4096, .f32⟩ : BufTy).Contents (Elt Ideal))

/-- The reference's result at a row and a column. -/
theorem ref_out (i : Fin 8192) (j : Fin 4096) : val_main_v4 (F := Ideal) x0 x1 (ix2 i j) = proj x0 x1 i j := by
  pointwise [val_main_v4, val_main_v3, val_main_v2, val_main_v1, val_main_v0, Cert.Own.Kvp.proj, Cert.Own.Kvp.bOf, Cert.Own.Kvp.rOf]

end Cert.Own.KvpRef

end
-- ==== Proof.InsRun.lean ====
/-
  The input projections of the sample: the run. The row block is kept, in the narrow type, in a scratch buffer from the first column of each
  row block on. The last column block of the weights overhangs the array, so part of its buffer holds unknown numbers; the
  frame says nothing of the weights' buffer nor of what is stored, the value run says what is stored inside the array.
-/
module

public import proofs.«01_k».proof.Proof.Gen.KernelInSIdeal.Frame
public import proofs.«01_k».proof.Proof.Gen.KernelInSIdeal.Skeleton
public import Idealize.ShloMosaic.Lib.Claim
public import Idealize.ShloMosaic.Lib.VecWindow

@[expose] public section

set_option maxRecDepth 16384

noncomputable section

namespace Cert.Own.Ins

open Cert.KernelInSIdeal Cert.KernelInSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- The body's branch is taken at the first column of a row block. -/
abbrev first (i : grid0.Coords) : Prop := Scalar.cmpi .ne (Scalar.extui (Scalar.cmpi .eq (BitVec.ofNat 32 (i 1).val) 0#32) : BitVec 32) 0#32 = 1#1

theorem first_iff : ∀ t : Fin cfg0.N, first (grid0.coords t) ↔ t.val % 6 = 0 :=
  (fun t => by
    have ht : t.val < 6 := Nat.lt_of_lt_of_eq t.isLt N_0
    have e1 : (grid0.coords t 1).val = t.val / 1 % 6 := Pipeline.Grid.coords_val t 1 (by decide) rfl
    unfold first
    word_cmp
   : ∀ t : Fin grid0.N, first (grid0.coords t) ↔ t.val % 6 = 0)

section Body
variable (c : Dev nD) (i : grid0.Coords)
    (arg2 : Memref sig .tc .vmem S128x2048 .f32) (harg2 : arg2.IsWhole) (arg3 : Memref sig .tc .vmem S2048x512 .f32) (harg3 : arg3.IsWhole)
    (arg4 : Memref sig .tc .vmem S128x512 .f32) (harg4 : arg4.IsWhole) (arg5 : Memref sig .tc .vmem S128x2048 .bf16) (harg5 : arg5.IsWhole)
    (x0 : Vec F S128x2048 .f32) (x1 : Vec F S2048x512 .f32)

/-- The body at a row block's first column: the row block is stored in the narrow type, then the product. -/
theorem run_first (hc : first i) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 (k0_pay1 x0) x1) ∗ owns (c : Thread nD τ) arg5 fullShare (k0_pay1 x0)) -∗ K ⟨⟩))
      ⊢ wp frame (wpE (defs₀ (F := F)) Variants.none c none) E (cc0_matmul i arg2 harg2 arg3 harg3 arg4 harg4 arg5 harg5) K := by
  simp only [cc0_matmul_eq_skeleton]; unfold cc0_matmul_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (View.read_writes_full _ _ _ _ _).trans ?_
    delta run_first.sl.v3 run_first.sl.H3_1
    rw [View.readCov_full, View.readAt_full, View.readAt_full, hf0, hf1]
  iexists _; isplitr
  swap; · iexact H3
  ipureintro
  refine (View.read_writes_full _ _ _ _ _).trans ?_
  rw [View.readAt_full, hf0]

/-- The body at any later column: the product alone, the kept row block as it was. -/
theorem run_later (hc : ¬first i) (xb : Vec F S128x2048 .bf16) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xb
        ∗ (iprop(owns (c : Thread nD τ) arg2 fullShare x0 ∗ owns (c : Thread nD τ) arg3 fullShare x1
            ∗ owns (c : Thread nD τ) arg4 fullShare (k0_pay2 xb x1) ∗ owns (c : Thread nD τ) arg5 fullShare xb) -∗ K ⟨⟩))
      ⊢ wp frame (wpE (defs₀ (F := F)) Variants.none c none) E (cc0_matmul i arg2 harg2 arg3 harg3 arg4 harg4 arg5 harg5) K := by
  simp only [cc0_matmul_eq_skeleton]; unfold cc0_matmul_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (View.read_writes_full _ _ _ _ _).trans ?_
    rw [View.readAt_full, View.readAt_full, hf3, hf1]
  iexists _; isplitr; · ipureintro; exact harg5.read_unread _
  iexact H3

end Body

variable (m : (ℓ : Loc nD τ sig) → Buf (Elt F) ℓ) (ρ : Dev nD → PrngReg)

/-- The scratch buffer. -/
abbrev scM : Memref sig .tc .vmem S128x2048 .bf16 := Memref.whole cc0_scratch0

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

abbrev ms_0 (t : Fin cfg0.N) : Memref sig .tc .vmem S128x2048 .f32 := win0_0.stage (cfg0.slots t 0)
abbrev ms_1 (t : Fin cfg0.N) : Memref sig .tc .vmem S2048x512 .f32 := win0_1.stage (cfg0.slots t 1)
abbrev ms_2 (t : Fin cfg0.N) : Memref sig .tc .vmem S128x512 .f32 := win0_2.stage (cfg0.slots t 2)

theorem defs₀_row (t : Fin cfg0.N) : defs₀ (F := F) .tc cfg0.body (cfg0.bodyArgs t (cfg0.slots t)) = bodyAt0 t := by
  unfold defs₀; rw [Defs.onTc_tc]

/-! ## The frame -/

/-- The windows that the frame says nothing of: the weights' and the result's. -/
abbrev unsaid : Fin cfg0.W → Bool := fun | 0 => false | 1 => true | 2 => true | ⟨_ + 3, h⟩ => absurd h (Nat.not_lt.2 (Nat.le_add_left _ _))

/-- The frame's data: the arrays as the call finds them and the rows' buffer at its block. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Dat.unnamed 1 t
    | ⟨2, _⟩ => Dat.unnamed 2 t
  Φ _ := Pipeline.ΦA spec0 c
  q _ := fullShare
  owed _ := 0

theorem fA_eq (c : Dev nD) (w : Fin cfg0.W) : (fdats m 0 c).A w = V m c (Pipeline.arrRef spec0 w) := by dsimp only [fdats]

theorem fafter_0 (c : Dev nD) (t : Fin cfg0.N) : (fdats m 0 c).after 0 t = iblk m c 0 t := by dsimp only [fdats]

theorem fbefore_0 (c : Dev nD) (t : Fin cfg0.N) (d) : (fdats m 0 c).before 0 t d = iblk m c 0 t :=
  before0_0_of m (fdats m 0 c) (fA_eq m c 0) (fafter_0 m c) t d

/-- What the body is given, and gives back, for the frame. -/
def fPre (c : Dev nD) (t : Fin cfg0.N) : sProp 𝕄 :=
  iprop(Pipeline.ΦA spec0 c ∗ (fdats m 0 c).owesAt () t.castSucc
    ∗ (∃ d, owns (c : Thread nD τ) (ms_0 t) fullShare ((fdats m 0 c).before 0 t d))
    ∗ (∃ d, owns (c : Thread nD τ) (ms_1 t) fullShare d)
    ∗ (∃ d, owns (c : Thread nD τ) (ms_2 t) fullShare d))
def fPost (c : Dev nD) (t : Fin cfg0.N) : sProp 𝕄 :=
  iprop(Pipeline.ΦA spec0 c ∗ (fdats m 0 c).owesAt () t.castSucc
    ∗ owns (c : Thread nD τ) (ms_0 t) fullShare ((fdats m 0 c).after 0 t)
    ∗ (∃ d, owns (c : Thread nD τ) (ms_1 t) fullShare d)
    ∗ (∃ d, owns (c : Thread nD τ) (ms_2 t) fullShare d))

theorem fsound (c : Dev nD) (t : Fin cfg0.N) :
    fPre m c t ⊢ wp frame (wpE (defs₀ (F := F)) Variants.none c none) Set.univ (bodyAt0 t) (fun _ => fPost m c t) := by
  unfold fPre fPost
  simp only [fbefore_0, fafter_0]
  rw [PhiA_eq]
  by_cases h0 : t.val % 6 = 0
  · iintro ⟨⟨HS, Hg⟩, Ho, ⟨%d0, H0⟩, ⟨%d1, H1⟩, ⟨%d2, H2⟩⟩
    iapply (run_first c (grid0.coords t) _ _ _ _ _ _ _ _ (iblk m c 0 t) d1 ((first_iff t).mpr h0) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexists _; iexact HS
      iexact Hg
    isplitl [Ho]; · iexact Ho
    isplitl [H0]; · iexact H0
    isplitl [H1]; · iexists _; iexact H1
    iexists _; iexact H2
  · iintro ⟨⟨⟨%ds, HS⟩, Hg⟩, Ho, ⟨%d0, H0⟩, ⟨%d1, H1⟩, ⟨%d2, H2⟩⟩
    iapply (run_later c (grid0.coords t) _ _ _ _ _ _ _ _ (iblk m c 0 t) d1 (fun h => h0 ((first_iff t).mp h)) ds Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexists _; iexact HS
      iexact Hg
    isplitl [Ho]; · iexact Ho
    isplitl [H0]; · iexact H0
    isplitl [H1]; · iexists _; iexact H1
    iexists _; iexact H2

theorem fbody (c : Dev nD) : BodyObligationLoose (fdats (F := F) m 0 c) (defs₀ (F := F)) Variants.none () Set.univ unsaid := fun t => by
  rw [bigSep_W0, bigSep_W0, defs₀_row]
  exact triple_restated (fsound m c t) rfl .rfl fun _ => .rfl

/-- Every run ends, the arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_forget (Q' := _) cfgs (fdats m) (0 : Fin 1) launch0 defs₀ Variants.none unsaid m ρ main
    (hbody := fbody m)
    (hshare := fun c w => by unfold Dat.share; split <;> rfl)
    (howed := fun _ _ => rfl) (V := V m) (hmain := hmain m Variants.none) (hA := fA_eq m) (hΦ := fun _ _ => rfl)
    (hQ' := fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩)

end Cert.Own.Ins

end
-- ==== Proof.InsBits.lean ====
/-
  The input projections of the sample at machine floats: the program text is that of the idealized form, so the run is the same.
-/
module

public import proofs.«01_k».proof.Proof.InsRun
public import proofs.«01_k».proof.Proof.Gen.KernelInS
public import Idealize.ShloMosaic.PureOps.BitExact

@[expose] public section

set_option maxRecDepth 16384

noncomputable section

namespace Cert.Own.InsBits

open Idealize.ShloMosaic Idealize.SL.Sem Cert.KernelInS Cert.KernelInS.Gen

/-- The two body tables are one. -/
theorem defs₀_eq : defs₀ (F := Bits) = Cert.KernelInSIdeal.defs₀ (F := Bits) := by
  unfold defs₀ Cert.KernelInSIdeal.defs₀
  congr 1
  funext l x
  obtain rfl : l = (0 : Fin 1) := Subsingleton.elim _ _
  rfl

/-- Every run ends with the arguments as they were and every counter at zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  have h := Cert.Own.Ins.run_frame (F := Bits) m ρ
  unfold Cert.KernelInSIdeal.defs at h
  unfold defs
  rw [defs₀_eq]
  exact h

end Cert.Own.InsBits

end
-- ==== Proof.Ins.lean ====
/-
  The input projections of the sample: what the run stores inside the result array, and the reference's result.
-/
module

public import proofs.«01_k».proof.Proof.InsRun
public import proofs.«01_k».proof.Proof.Gen.ReferenceInSIdeal.Read
public import Idealize.ShloMosaic.Lib.Pipeline.ValueKit
public import Idealize.ShloMosaic.Lib.Pointwise

@[expose] public section

set_option maxRecDepth 16384

noncomputable section

namespace Cert.Own.Ins

open Cert.KernelInSIdeal Cert.KernelInSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the buffers hold after each point -/

/-- The first grid point of a point's row block. -/
def head (t : Fin cfg0.N) : Fin cfg0.N := ⟨t.val / 6 * 6, lt_of_le_of_lt (Nat.div_mul_le_self _ _) t.isLt⟩

/-- The row block that the scratch buffer holds from a row block's first point on. -/
def kept (c : Dev nD) (t : Fin cfg0.N) : Vec Ideal S128x2048 .bf16 := k0_pay1 (F := Ideal) (iblk m c 0 (head t))

/-- The weights' buffer: the block inside the array, `d` past the array's end. -/
def wbuf (c : Dev nD) (t : Fin cfg0.N) (d : Vec Ideal S2048x512 .f32) : Vec Ideal S2048x512 .f32 :=
  win0_1.fill (grid0.coords t) d (iblk m c 1 t)

/-- The weights' buffer with zeros past the array's end. -/
def wzero (c : Dev nD) (t : Fin cfg0.N) : Vec Ideal S2048x512 .f32 := wbuf m c t fun _ => (0 : EReal)

/-- The block of the result that a point stores, with those zeros. -/
def outs (c : Dev nD) (t : Fin cfg0.N) : Vec Ideal S128x512 .f32 := k0_pay2 (F := Ideal) (kept m c t) (wzero m c t)

/-- A product of the payload, at a row and a column. -/
theorem pay2_read (x : Vec Ideal S128x2048 .bf16) (w : Vec Ideal S2048x512 .f32) (a : Fin 128) (n : Fin 512) :
    k0_pay2 (F := Ideal) x w (ix2 a n) = ∑ k : Fin 2048, x (ix2 a k) * w (ix2 k n) := by
  pointwise [k0_pay2]

/-- Inside the array the weights' buffer does not depend on what lies past the array's end. -/
theorem wbuf_inside (c : Dev nD) (t : Fin cfg0.N) (d d' : Vec Ideal S2048x512 .f32) (k : Fin 2048) (n : Fin 512)
    (hn : n.val < win0_1.xsize (grid0.coords t) 1) : wbuf m c t d (ix2 k n) = wbuf m c t d' (ix2 k n) := by
  have h : win0_1.moved (grid0.coords t) (ix2 k n) = true := (win0_1.moved_iff _ _).mpr fun a => by
    fin_cases a
    · exact k.isLt
    · exact hn
  unfold wbuf Window.fill
  rw [dif_pos h, dif_pos h]

/-- The stored block, inside the array, likewise. -/
theorem cut_outs (c : Dev nD) (t : Fin cfg0.N) (d : Vec Ideal S2048x512 .f32) :
    win0_2.cut (grid0.coords t) (k0_pay2 (F := Ideal) (kept m c t) (wbuf m c t d)) = win0_2.cut (grid0.coords t) (outs m c t) := by
  funext j
  have e : win0_2.xinj (grid0.coords t) j = ix2 (win0_2.xinj (grid0.coords t) j 0) (win0_2.xinj (grid0.coords t) j 1) := eq_ix2 _
  show k0_pay2 (F := Ideal) (kept m c t) (wbuf m c t d) (win0_2.xinj (grid0.coords t) j) = outs m c t (win0_2.xinj (grid0.coords t) j)
  rw [e]
  unfold outs
  refine (pay2_read _ _ _ _).trans (Eq.trans ?_ (pay2_read _ _ _ _).symm)
  refine Finset.sum_congr rfl fun k _ => ?_
  exact congrArg (fun z : EReal => kept m c t (ix2 (win0_2.xinj (grid0.coords t) j 0) k) * z)
    (wbuf_inside m c t d (fun _ => (0 : EReal)) k _ (j 1).isLt)

/-- Before the first point the scratch buffer holds anything; after point `n` it holds that point's row block. -/
def PhiS (c : Dev nD) : (n : ℕ) → n ≤ cfg0.N → sProp 𝕄
  | 0, _ => Pipeline.ΦA spec0 c
  | n + 1, hn => iprop(owns (c : Thread nD τ) scM fullShare (kept m c ⟨n, hn⟩) ∗ (∃ r, prngReg c r))

/-- At any point the scratch buffer holds something. -/
theorem PhiS_any (c : Dev nD) : (n : ℕ) → (h : n ≤ cfg0.N) →
    (PhiS m c n h ⊢ iprop((∃ d, owns (c : Thread nD τ) scM fullShare d) ∗ (∃ r, prngReg c r)))
  | 0, _ => by
    unfold PhiS; rw [PhiA_eq]
  | n + 1, hn => by
    unfold PhiS
    iintro ⟨HS, Hg⟩
    isplitl [HS]; · iexists _; iexact HS
    iexact Hg

theorem PhiS_pos (c : Dev nD) (n : ℕ) (h : n ≤ cfg0.N) (hz : n ≠ 0) :
    PhiS m c n h = iprop(owns (c : Thread nD τ) scM fullShare (kept m c ⟨n - 1, by omega⟩) ∗ (∃ r, prngReg c r)) := by
  cases n with
  | zero => exact absurd rfl hz
  | succ n => rfl

/-- The run's data: the arrays as the call finds them, the inputs' buffers at their blocks, the result's at the product. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wzero m c t
    | ⟨2, _⟩ => outs m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = wzero m c t := by dsimp only [dats]
theorem after_2 (c : Dev nD) (t : Fin cfg0.N) : (dats m 0 c).after 2 t = outs m c t := by dsimp only [dats]

theorem before_0 (c : Dev nD) (t : Fin cfg0.N) (d) : (dats m 0 c).before 0 t d = iblk m c 0 t :=
  before0_0_of m (dats m 0 c) (A_eq m c 0) (after_0 m c) t d

/-- The weights' buffer, fetched at every point. -/
theorem before_1 (c : Dev nD) (t : Fin cfg0.N) (d) : (dats m 0 c).before 1 t d = wbuf m c t d := by
  unfold Dat.before
  rw [if_pos (fetch0_1 t)]
  unfold Dat.fetched Dat.blockOf
  rw [A_eq]
  rfl

/-- The point before a later column belongs to the same row block. -/
theorem head_pred (t : Fin cfg0.N) (h0 : ¬t.val % 6 = 0) (hl : t.val - 1 < cfg0.N) : head ⟨t.val - 1, hl⟩ = head t := by
  unfold head; apply Fin.ext; show (t.val - 1) / 6 * 6 = t.val / 6 * 6; omega

theorem head_self (t : Fin cfg0.N) (h0 : t.val % 6 = 0) : head t = t := by
  unfold head; apply Fin.ext; show t.val / 6 * 6 = t.val; omega

/-! ## The body at a grid point -/

/-- What the body is given. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d)))

/-- What the body gives back. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ (∃ d, owns (c : Thread nD τ) (ms_1 t) fullShare (win0_1.fill (grid0.coords t) d (win0_1.cut (grid0.coords t) ((dats m 0 c).after 1 t))))
    ∗ (∃ d, owns (c : Thread nD τ) (ms_2 t) fullShare (win0_2.fill (grid0.coords t) d (win0_2.cut (grid0.coords t) ((dats m 0 c).after 2 t)))))

/-- What was fetched is the weights' block inside the array. -/
theorem fill_wzero (c : Dev nD) (t : Fin cfg0.N) (d : Vec Ideal S2048x512 .f32) :
    win0_1.fill (grid0.coords t) d (win0_1.cut (grid0.coords t) (wzero m c t)) = wbuf m c t d := by
  unfold wzero wbuf
  rw [win0_1.cut_fill]

/-- What was stored is the product's block inside the array. -/
theorem fill_outs (c : Dev nD) (t : Fin cfg0.N) (d : Vec Ideal S2048x512 .f32) :
    win0_2.fill (grid0.coords t) (k0_pay2 (F := Ideal) (kept m c t) (wbuf m c t d)) (win0_2.cut (grid0.coords t) (outs m c t))
      = k0_pay2 (F := Ideal) (kept m c t) (wbuf m c t d) :=
  win0_2.fill_congr_cut _ (cut_outs m c t d)

/-- The body takes the one to the other, at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before_0, before_1]
  rw [show (dats m 0 c).owesAt () t.succ = (dats m 0 c).owesAt () t.castSucc from rfl, after_0, after_1, after_2, PhiS_castSucc m c t]
  rw [show (dats m 0 c).Φ t.succ = iprop(owns (c : Thread nD τ) scM fullShare (kept m c t) ∗ (∃ r, prngReg c r)) from rfl]
  by_cases h0 : t.val % 6 = 0
  · refine (sep_mono (PhiS_any m c _ _) .rfl).trans ?_
    have e : kept m c t = k0_pay1 (F := Ideal) (iblk m c 0 t) := by unfold kept; rw [head_self t h0]
    iintro ⟨⟨HS, Hg⟩, Ho, ⟨%d0, H0⟩, ⟨%d1, H1⟩, ⟨%d2, H2⟩⟩
    iapply (run_first c (grid0.coords t) _ _ _ _ _ _ _ _ (iblk m c 0 t) (wbuf m c t d1) ((first_iff t).mpr h0) Set.univ _)
    isplitl [H0]; · iexact H0
    isplitl [H1]; · iexact H1
    isplitl [H2]; · iexists _; iexact H2
    isplitl [HS]; · iexact HS
    rw [← e]
    iintro ⟨H0, H1, H2, HS⟩
    isplitl [HS Hg]
    · isplitl [HS]; · iexact HS
      iexact Hg
    isplitl [Ho]; · iexact Ho
    isplitl [H0]; · iexact H0
    isplitl [H1]
    · iexists d1; rw [fill_wzero]; iexact H1
    iexists (k0_pay2 (F := Ideal) (kept m c t) (wbuf m c t d1)); rw [fill_outs]; iexact H2
  · have hz : t.val ≠ 0 := by omega
    rw [PhiS_pos m c _ _ hz]
    have e : kept m c ⟨t.val - 1, by have := t.isLt; omega⟩ = kept m c t := by
      unfold kept; rw [head_pred t h0]
    rw [e]
    iintro ⟨⟨HS, Hg⟩, Ho, ⟨%d0, H0⟩, ⟨%d1, H1⟩, ⟨%d2, H2⟩⟩
    iapply (run_later c (grid0.coords t) _ _ _ _ _ _ _ _ (iblk m c 0 t) (wbuf m c t d1) (fun h => h0 ((first_iff t).mp h)) (kept m c t) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]
    · iexists d1; rw [fill_wzero]; iexact H1
    iexists (k0_pay2 (F := Ideal) (kept m c t) (wbuf m c t d1)); rw [fill_outs]; iexact H2

theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [PhiA_eq]
  exact PhiS_any m c _ (Nat.le_of_lt_succ (Fin.last cfg0.N).isLt)

/-- Every run ends with the result array at what the data says, and the arguments as they were. -/
theorem run_arrays : θ_run defs (onTc (τ := τ) (main (F := Ideal))) ⟨m, fun _ => 0, ρ⟩ (fun r => ∀ c : Dev nD,
      r.2.mem ((c.tc : Thread nD τ).loc main_v2) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_frame_track (Q' := _) cfgs (dats m) (0 : Fin 1) launch0 defs₀ Variants.none m ρ main
    (hbody := body_obligation m) (hshare := fun c w => by unfold Dat.share; split <;> rfl)
    (howed := fun _ _ => rfl) (V := V m) (hmain := hmain m Variants.none) (hA := A_eq m) (hin := hin m) (hout := hout m)
    (hQ' := fun r h c => ⟨(h.1 c).1 2,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩)

/-! ## The result array -/

variable (c : Dev nD)

/-- The block index of each window at a grid point. -/
theorem idx0 : ∀ t : Fin cfg0.N, win0_0.index t = ![t.val / 6, 0] := (by decide +kernel : ∀ t : Fin grid0.N, _)
theorem idx1 : ∀ t : Fin cfg0.N, win0_1.index t = ![0, t.val % 6] := (by decide +kernel : ∀ t : Fin grid0.N, _)
theorem idx2 : ∀ t : Fin cfg0.N, win0_2.index t = ![t.val / 6, t.val % 6] := (by decide +kernel : ∀ t : Fin grid0.N, _)

theorem t_lt (t : Fin cfg0.N) : t.val < 6 := lt_of_lt_of_eq t.isLt (by decide +kernel)

/-- The argument arrays of core `c`. -/
def a0 : (⟨3, ![128, 1, 2048]⟩ : Shape).Idx → EReal := m (c, Proc.tc.devRef main_arg0)
def a1 : (⟨3, ![1, 2048, 2864]⟩ : Shape).Idx → EReal := m (c, Proc.tc.devRef main_arg1)

/-- The batch and the sequence position of a row. -/
def bOf (i : Fin 128) : Fin 128 := i
def rOf (_ : Fin 128) : Fin 1 := 0

/-- The product of a row with a column of the weights. -/
def proj (A0 : (⟨3, ![128, 1, 2048]⟩ : Shape).Idx → EReal) (A1 : (⟨3, ![1, 2048, 2864]⟩ : Shape).Idx → EReal)
    (b : Fin 128) (r : Fin 1) (n : Fin 2864) : EReal :=
  ∑ k : Fin 2048, A0 (ix3 b r k) * A1 (ix3 0 k n)

/-- The operands that the host code lays out. -/
theorem V0 (r : Fin 128) (k : Fin 2048) : V m c main_v0 (ix2 r k) = a0 m c (ix3 (bOf r) (rOf r) k) := by
  unfold V
  after_results
  pointwise [a0, bOf, rOf]

theorem V1 (k : Fin 2048) (n : Fin 2864) : V m c main_v1 (ix2 k n) = a1 m c (ix3 0 k n) := by
  unfold V
  after_results
  pointwise [a1]

/-- A row of the arrays, from the grid point and the row in its block. -/
def rowOf (t : Fin cfg0.N) (r : Fin 128) : Fin 128 := ⟨t.val / 6 * 128 + r.val, by have := t_lt t; omega⟩

/-- The row block. -/
theorem blk0 (t : Fin cfg0.N) (r : Fin 128) (k : Fin 2048) :
    iblk m c 0 t (ix2 r k) = a0 m c (ix3 (bOf (rowOf t r)) (rOf (rowOf t r)) k) := by
  have e : iblk m c 0 t (ix2 r k) = V m c main_v0 (ix2 (rowOf t r) k) := by
    blk_point [iblk, V, idx0 t, rowOf]
  exact e.trans (V0 m c _ _)

/-- The kept row block. -/
theorem kept_read (t : Fin cfg0.N) (r : Fin 128) (k : Fin 2048) :
    kept m c t (ix2 r k) = a0 m c (ix3 (bOf (rowOf t r)) (rOf (rowOf t r)) k) := by
  have e : rowOf (head t) r = rowOf t r := Fin.ext (by show t.val / 6 * 6 / 6 * 128 + r.val = t.val / 6 * 128 + r.val; omega)
  have h : kept m c t (ix2 r k) = iblk m c 0 (head t) (ix2 r k) := by
    unfold kept
    generalize (iblk m c 0 (head t) : Vec Ideal S128x2048 .f32) = y
    pointwise [k0_pay1]
  rw [h, blk0, e]

/-- The weights' buffer inside the array. -/
theorem wzero_read (t : Fin cfg0.N) (k : Fin 2048) (n : Fin 512) (hn : n.val < win0_1.xsize (grid0.coords t) 1)
    (h : t.val % 6 * 512 + n.val < 2864) : wzero m c t (ix2 k n) = a1 m c (ix3 0 k ⟨t.val % 6 * 512 + n.val, h⟩) := by
  have hm : win0_1.moved (grid0.coords t) (ix2 k n) = true := (win0_1.moved_iff _ _).mpr fun a => by
    fin_cases a
    · exact k.isLt
    · exact hn
  unfold wzero wbuf Window.fill
  rw [dif_pos hm]
  refine Eq.trans ?_ (V1 m c k _)
  blk_point [iblk, V, idx1 t]

/-- The result array. -/
def outArr : S128x2864.Idx → EReal := fun y => proj (a0 m c) (a1 m c) (bOf (y 0)) (rOf (y 0)) (y 1)

/-- The result array of the run is `outArr`. -/
theorem arr_eq : (dats m 0 c).arrAt 2 cfg0.N = outArr m c := by
  refine (dats m 0 c).arrAt_eq_of_covers 2 _ (by decide +kernel) fun t hf y => ?_
  have h0 : (((cfg0.win 2).blk t).view.emb y 0).val = t.val / 6 * 128 + (y 0).val := by
    blk_simp [idx2 t]
  have h1 : (((cfg0.win 2).blk t).view.emb y 1).val = t.val % 6 * 512 + (y 1).val := by
    blk_simp [idx2 t]
  rw [after_2]
  have e : win0_2.xinj (grid0.coords t) y = ix2 (win0_2.xinj (grid0.coords t) y 0) (win0_2.xinj (grid0.coords t) y 1) := eq_ix2 _
  have hl : t.val % 6 * 512 + (y 1).val < 2864 := by
    rw [← h1]; exact (((cfg0.win 2).blk t).view.emb y 1).isLt
  show outs m c t (win0_2.xinj (grid0.coords t) y) = outArr m c (((cfg0.win 2).blk t).view.emb y)
  rw [e]
  unfold outs
  refine (pay2_read _ _ _ _).trans ?_
  unfold outArr proj
  have e0 : ((cfg0.win 2).blk t).view.emb y 0 = rowOf t (win0_2.xinj (grid0.coords t) y 0) := Fin.ext h0
  have e1 : ((cfg0.win 2).blk t).view.emb y 1 = (⟨t.val % 6 * 512 + (y 1).val, hl⟩ : Fin 2864) := Fin.ext h1
  rw [e0, e1]
  refine Finset.sum_congr rfl fun k _ => ?_
  exact congrArg₂ (fun a b : EReal => a * b) (kept_read m c t (win0_2.xinj (grid0.coords t) y 0) k)
    (wzero_read m c t k (win0_2.xinj (grid0.coords t) y 1) (y 1).isLt hl)

end Cert.Own.Ins

namespace Cert.Own.InsRef

open Idealize.ShloMosaic Idealize.SL.Sem Cert.ReferenceInSIdeal Cert.ReferenceInSIdeal.Read

/-- The reference's result at a row and column. -/
theorem ref_out (x0 : (⟨S128x1x2048, .f32⟩ : BufTy).Contents (Elt Ideal)) (x1 : (⟨S1x2048x2864, .f32⟩ : BufTy).Contents (Elt Ideal))
    (i : Fin 128) (j : Fin 2864) :
    val_main_v2 (F := Ideal) x0 x1 (ix2 i j) = Cert.Own.Ins.proj x0 x1 (Cert.Own.Ins.bOf i) (Cert.Own.Ins.rOf i) j := by
  pointwise [val_main_v2, val_main_v1, val_main_v0, Cert.Own.Ins.proj, Cert.Own.Ins.bOf, Cert.Own.Ins.rOf]

end Cert.Own.InsRef

end
-- ==== Proof.Pls.lean ====
/-
  The norm after the feed-forward part and the per-layer embedding on top of it, over the sample: the kernel's result array and the reference's.
-/
module

public import proofs.«01_k».proof.Proof.Ple
public import proofs.«01_k».proof.Proof.Gen.KernelPleSIdeal.Value
public import proofs.«01_k».proof.Proof.Gen.ReferencePleSIdeal.Read
public import Idealize.ShloMosaic.Lib.Pipeline.ValueKit
public import Idealize.ShloMosaic.Lib.Pointwise

@[expose] public section

set_option maxRecDepth 16384

noncomputable section

namespace Cert.Own.Pls

open Idealize.ShloMosaic Idealize.SL.Sem Cert.KernelPleSIdeal Cert.KernelPleSIdeal.Gen
open Cert.Own.SwiVal (mean rstd norm)

/-- The batch and the sequence position of a row: a batch has one row. -/
def bOf (i : Fin 128) : Fin 128 := i
def rOf (_ : Fin 128) : Fin 1 := 0

/-- A row of the input. -/
def row (A0 : (⟨3, ![128, 1, 2048]⟩ : Shape).Idx → EReal) (i : Fin 128) (k : Fin 2048) : EReal := A0 (ix3 (bOf i) (rOf i) k)

/-- One over one plus the exponential of the negated number. -/
def sigm (p : EReal) : EReal :=
  Ideal.div (Ideal.ofBits .f32 0x3F800000#32) (Ideal.ofBits .f32 0x3F800000#32 + Ideal.exp (0 - p))

/-- The column `k` of row block `j`'s 512 columns. -/
def colAt (j : Fin 4) (n : Fin 512) : Fin 2048 := ⟨j.val * 512 + n.val, by omega⟩

section Payloads
variable (x : Vec Ideal S128x2048 .f32) (g b : Vec Ideal S1x2048 .f32)

theorem norm_read (a : Fin 128) (k : Fin 2048) :
    k0_pay5 x g b (ix2 a k) = norm (fun k => x (ix2 a k)) (fun k => g (ix2 0 k)) (fun k => b (ix2 0 k)) k := by
  pointwise [k0_pay5, SwiVal.norm, rstd, mean]

/-- The normed block as it is stored for the product. -/
theorem xb_read (a : Fin 128) (k : Fin 2048) :
    k0_pay6 x g b (ix2 a k) = norm (fun k => x (ix2 a k)) (fun k => g (ix2 0 k)) (fun k => b (ix2 0 k)) k := by
  have e : k0_pay6 x g b (ix2 a k) = k0_pay5 x g b (ix2 a k) := by
    unfold k0_pay6
    generalize k0_pay5 x g b = y
    pointwise []
  exact e.trans (norm_read x g b a k)

/-- The four column blocks of the normed block. -/
theorem xn_read0 (a : Fin 128) (n : Fin 512) : k0_pay7 x g b (ix3 0 a n) = k0_pay5 x g b (ix2 a (colAt 0 n)) := by
  unfold k0_pay7
  generalize k0_pay5 x g b = y
  pointwise [colAt]

theorem xn_read1 (a : Fin 128) (n : Fin 512) :
    k0_pay1 (k0_pay8 x g b) (ix3 0 a n) = k0_pay5 x g b (ix2 a (colAt 1 n)) := by
  unfold k0_pay8
  generalize k0_pay5 x g b = y
  pointwise [k0_pay1, colAt]

theorem xn_read2 (y : FVec Ideal S128x2048 .f32) (a : Fin 128) (n : Fin 512) : k0_pay2 y (ix3 0 a n) = y (ix2 a (colAt 2 n)) := by
  pointwise [k0_pay2, colAt]

theorem xn_read3 (y : FVec Ideal S128x2048 .f32) (a : Fin 128) (n : Fin 512) : k0_pay3 y (ix3 0 a n) = y (ix2 a (colAt 3 n)) := by
  pointwise [k0_pay3, colAt]

theorem out_read (y : Vec Ideal S128x2048 .bf16) (u : Vec Ideal S1x2048x512 .f32) (p : Vec Ideal S1x128x256 .f32)
    (w : Vec Ideal S1x256x512 .f32) (z : Vec Ideal S1x128x512 .f32) (a : Fin 128) (n : Fin 512) :
    k0_pay4 y u p w z (ix2 a n) = z (ix3 0 a n)
      + sigm (∑ k : Fin 2048, y (ix2 a k) * u (ix3 0 k n)) * ∑ k : Fin 256, p (ix3 0 a k) * w (ix3 0 k n) := by
  pointwise [k0_pay4, sigm]
end Payloads

/-- The normed block, column block by column block. -/
def XN (x : Vec Ideal S128x2048 .f32) (g b : Vec Ideal S1x2048 .f32) : Vec Ideal S4x128x512 .f32 := fun y =>
  k0_pay5 x g b (ix2 (y 1) (colAt (y 0) (y 2)))

/-- An entry of a column block of the normed block is the entry of the buffer at the block's place. -/
theorem XN_at (x : Vec Ideal S128x2048 .f32) (g b : Vec Ideal S1x2048 .f32) (y : S4x128x512.Idx) (j : Fin 4) (a : Fin 128) (n : Fin 512)
    (h0 : (y 0).val = j.val) (h1 : (y 1).val = a.val) (h2 : (y 2).val = n.val) : k0_pay5 x g b (ix2 a (colAt j n)) = XN x g b y := by
  obtain rfl : y 0 = j := Fin.ext h0
  obtain rfl : y 1 = a := Fin.ext h1
  obtain rfl : y 2 = n := Fin.ext h2
  rfl

/-- An index into one column block. -/
theorem eq_blk (x : S1x128x512.Idx) : ∃ (a : Fin 128) (n : Fin 512), x = ix3 0 a n := by
  have h : x 0 = (0 : Fin 1) := Subsingleton.elim (α := Fin 1) _ _
  exact ⟨x 1, x 2, (eq_ix3 x).trans (congrArg (fun z => ix3 z (x 1) (x 2)) h)⟩

section Scratch
variable (x : Vec Ideal S128x2048 .f32) (g b : Vec Ideal S1x2048 .f32)

/-- The four stores into the first scratch leave the normed block there. -/
theorem canon_XN :
    (View.canon (Val := Elt Ideal) (s := S4x128x512) (e := .f32)
      [⟨Rect.unit ![3, 0, 0] ![1, 128, 512] inb_S4x128x512_S1x128x512_3_0_0, k0_pay3 (k0_pay5 x g b)⟩,
       ⟨Rect.unit ![2, 0, 0] ![1, 128, 512] inb_S4x128x512_S1x128x512_2_0_0, k0_pay2 (k0_pay5 x g b)⟩,
       ⟨Rect.unit ![1, 0, 0] ![1, 128, 512] inb_S4x128x512_S1x128x512_1_0_0, k0_pay1 (k0_pay8 x g b)⟩,
       ⟨Rect.unit ![0, 0, 0] ![1, 128, 512] inb_S4x128x512_S1x128x512_0_0_0, k0_pay7 x g b⟩]) = XN x g b := by
  funext y
  canon_tiles x' h
  all_goals
    obtain ⟨a, n, rfl⟩ := eq_blk x'
    simp only [ix3_0, ix3_1, ix3_2] at h0 h1 h2
  case piece0 => exact (xn_read3 _ a n).trans (XN_at x g b y 3 a n (by simpa using h0) (by omega) (by omega))
  case piece1 => exact (xn_read2 _ a n).trans (XN_at x g b y 2 a n (by simpa using h0) (by omega) (by omega))
  case piece2 => exact (xn_read1 x g b a n).trans (XN_at x g b y 1 a n (by simpa using h0) (by omega) (by omega))
  case piece3 => exact (xn_read0 x g b a n).trans (XN_at x g b y 0 a n (by simpa using h0) (by omega) (by omega))

end Scratch

section Points
variable (m : (ℓ : Loc nD τ sig) → Buf (Elt Ideal) ℓ) (c : Dev nD)

/-- A load over what some stores left, through a box that they may fill. -/
theorem readCov_ld {sp : Space} {s : Shape} {e : EltTy} (v : View sig .tc sp s e) (L : List (View.Piece (Elt Ideal) s e)) (r : Rect s) :
    v.readCov L r.toLoadRect = View.ld (View.canon L) r := View.readCov_eq_canon' v L r.toLoadRect

theorem t_lt (t : Fin cfg0.N) : t.val < 4 := lt_of_lt_of_eq t.isLt (by decide +kernel)

/-- The column block of a grid point. -/
def colBlk (t : Fin cfg0.N) : Fin 4 := ⟨t.val % 4, by omega⟩

/-- The first coordinate at which a grid point loads the normed block. -/
theorem off_eq : ∀ t : Fin cfg0.N, BitVec.toNat (Scalar.indexCast (BitVec.ofNat 32 (grid0.coords t 1).val)) = t.val % 4 :=
  (by decide +kernel : ∀ t : Fin grid0.N, _)

/-- The column block that a grid point loads. -/
theorem ld_XN (X : Vec Ideal S4x128x512 .f32) (t : Fin cfg0.N) (inb) (a : Fin 128) (n : Fin 512) :
    View.ld (Val := Elt Ideal) X (Rect.unit (s := S4x128x512)
      ![BitVec.toNat (Scalar.indexCast (BitVec.ofNat 32 (grid0.coords t 1).val)), 0, 0] ![1, 128, 512] inb) (ix3 0 a n)
      = X (ix3 (colBlk t) a n) := by
  refine View.ld_unit_apply_of X _ _ _ _ _ fun k => ?_
  fin_cases k
  · exact (off_eq t).symm
  · exact (Nat.zero_add _).symm
  · exact (Nat.zero_add _).symm

/-- What the first point of a row block leaves in the two scratches: the normed block, twice. -/
theorem scratch0 (t : Fin cfg0.N) (h : t.val % 4 = 0) :
    (outsAt0 m c t.val t.isLt).2.1 = XN (iblk m c 0 t) (iblk m c 1 t) (iblk m c 2 t) := by
  rw [outsAt0_A m c t h]
  dsimp only
  unfold sout0_A_0 kernelRun0_A
  dsimp only
  sl_unfold_words
  simp only [View.readAt_eq_ld, (hs0_0 t).read_unread, (hs0_1 t).read_unread, (hs0_2 t).read_unread]
  rw [View.read_writes_junk_eq_canon, canon_XN]
  rw [View.ld_unit_lit (h := fun d => by fin_cases d <;> rfl), View.ld_unit_lit (h := fun d => by fin_cases d <;> rfl),
    View.ld_unit_lit (h := fun d => by fin_cases d <;> rfl)]

theorem scratch1 (t : Fin cfg0.N) (h : t.val % 4 = 0) :
    (outsAt0 m c t.val t.isLt).2.2 = k0_pay6 (iblk m c 0 t) (iblk m c 1 t) (iblk m c 2 t) := by
  rw [outsAt0_A m c t h]
  dsimp only
  unfold sout0_A_1 kernelRun0_A
  dsimp only
  sl_unfold_words
  simp only [View.readAt_eq_ld, (hs0_0 t).read_unread, (hs0_1 t).read_unread, (hs0_2 t).read_unread]
  rw [View.read_writes_junk_eq_canon, View.canon_cons_unit_lit (h := fun d => by fin_cases d <;> rfl)]
  rw [View.ld_unit_lit (h := fun d => by fin_cases d <;> rfl), View.ld_unit_lit (h := fun d => by fin_cases d <;> rfl),
    View.ld_unit_lit (h := fun d => by fin_cases d <;> rfl)]

/-- What a point stores, from a normed block held twice and its own blocks of the weights and of the per-layer inputs. -/
def stored (j : Fin 4) (X : Vec Ideal S4x128x512 .f32) (Y : Vec Ideal S128x2048 .bf16) (U : Vec Ideal S1x2048x512 .f32)
    (P : Vec Ideal S1x128x256 .f32) (W : Vec Ideal S1x256x512 .f32) (a : Fin 128) (n : Fin 512) : EReal :=
  X (ix3 j a n) + sigm (∑ k : Fin 2048, Y (ix2 a k) * U (ix3 0 k n)) * ∑ k : Fin 256, P (ix3 0 a k) * W (ix3 0 k n)

/-- The first point of a row block. -/
theorem out_first (t : Fin cfg0.N) (h : t.val % 4 = 0) (a : Fin 128) (n : Fin 512) :
    (outsAt0 m c t.val t.isLt).1 (ix2 a n) = stored (colBlk t) (XN (iblk m c 0 t) (iblk m c 1 t) (iblk m c 2 t))
      (k0_pay6 (iblk m c 0 t) (iblk m c 1 t) (iblk m c 2 t)) (iblk m c 3 t) (iblk m c 4 t) (iblk m c 5 t) a n := by
  rw [outsAt0_A m c t h]
  dsimp only
  unfold out0_A_6 kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, readCov_ld, View.read_writes_junk_eq_canon]
  rw [View.canon_cons_unit_lit (h := fun d => by fin_cases d <;> rfl), canon_XN, out_read]
  rw [View.canon_cons_unit_lit (h := fun d => by fin_cases d <;> rfl)]
  rw [View.ld_unit_lit (h := fun d => by fin_cases d <;> rfl),
    View.ld_unit_lit (h := fun d => by fin_cases d <;> rfl),
    View.ld_unit_lit (h := fun d => by fin_cases d <;> rfl)]
  refine congrArg₂ (· + ·) (ld_XN _ t _ a n) (congrArg₂ (· * ·) (congrArg sigm (Finset.sum_congr rfl fun k _ => congrArg₂ (· * ·) ?_ ?_))
    (Finset.sum_congr rfl fun k _ => congrArg₂ (· * ·) ?_ ?_))
  all_goals exact congrFun (View.ld_unit_lit (h := fun d => by fin_cases d <;> rfl) ..) _

/-- The other points of a row block. -/
theorem out_next (t : Fin cfg0.N) (h : ¬t.val % 4 = 0) (a : Fin 128) (n : Fin 512) :
    (outsAt0 m c t.val t.isLt).1 (ix2 a n)
      = stored (colBlk t) (outsAt0 m c (t.val - 1) (Nat.lt_of_le_of_lt (Nat.sub_le _ _) t.isLt)).2.1
          (outsAt0 m c (t.val - 1) (Nat.lt_of_le_of_lt (Nat.sub_le _ _) t.isLt)).2.2 (iblk m c 3 t) (iblk m c 4 t) (iblk m c 5 t) a n := by
  rw [outsAt0_B m c t h]
  dsimp only
  generalize outsAt0 m c (t.val - 1) _ = prev
  unfold out0_B_6 kernelRun0_B
  dsimp only
  sl_unfold_words
  simp only [View.readAt_eq_ld, (hs0_3 t).read_unread, (hs0_4 t).read_unread, (hs0_5 t).read_unread, View.read_writes_junk_eq_canon]
  rw [View.canon_cons_unit_lit (h := fun d => by fin_cases d <;> rfl), out_read]
  refine congrArg₂ (· + ·) ((ld_XN _ t _ a n).trans (congrFun ((Memref.isWhole_whole cc0_scratch0).read_unread _) _))
    (congrArg₂ (· * ·) (congrArg sigm (Finset.sum_congr rfl fun k _ => congrArg₂ (· * ·) ?_ ?_))
    (Finset.sum_congr rfl fun k _ => congrArg₂ (· * ·) ?_ ?_))
  · exact (congrFun (View.ld_unit_lit (h := fun d => by fin_cases d <;> rfl) ..) _).trans
      (congrFun ((Memref.isWhole_whole cc0_scratch1).read_unread _) _)
  all_goals exact congrFun (View.ld_unit_lit (h := fun d => by fin_cases d <;> rfl) ..) _

theorem keep0 (t : Fin cfg0.N) (h : ¬t.val % 4 = 0) : (outsAt0 m c t.val t.isLt).2
    = (outsAt0 m c (t.val - 1) (Nat.lt_of_le_of_lt (Nat.sub_le _ _) t.isLt)).2 := by
  rw [outsAt0_B m c t h]
  rfl

/-- The first point of the row block. -/
def head (t : Fin cfg0.N) : Fin cfg0.N := ⟨t.val / 4 * 4, lt_of_le_of_lt (Nat.div_mul_le_self _ _) t.isLt⟩

/-- A row block's scratches hold its normed block from its first point on. -/
theorem carried : ∀ (k : ℕ) (hk : k < cfg0.N), (outsAt0 m c k hk).2
    = (XN (iblk m c 0 (head ⟨k, hk⟩)) (iblk m c 1 (head ⟨k, hk⟩)) (iblk m c 2 (head ⟨k, hk⟩)),
        k0_pay6 (iblk m c 0 (head ⟨k, hk⟩)) (iblk m c 1 (head ⟨k, hk⟩)) (iblk m c 2 (head ⟨k, hk⟩))) := by
  intro k
  induction k with
  | zero =>
    intro hk
    have e : head ⟨0, hk⟩ = ⟨0, hk⟩ := Fin.ext (by show 0 / 4 * 4 = 0; omega)
    rw [e]
    exact Prod.ext (scratch0 m c ⟨0, hk⟩ (Nat.zero_mod 4)) (scratch1 m c ⟨0, hk⟩ (Nat.zero_mod 4))
  | succ k ih =>
    intro hk
    by_cases h : (k + 1) % 4 = 0
    · have e : head ⟨k + 1, hk⟩ = ⟨k + 1, hk⟩ := Fin.ext (by show (k + 1) / 4 * 4 = k + 1; omega)
      rw [e]
      exact Prod.ext (scratch0 m c ⟨k + 1, hk⟩ h) (scratch1 m c ⟨k + 1, hk⟩ h)
    · have hk' : k < cfg0.N := Nat.lt_of_succ_lt hk
      have e : head ⟨k + 1, hk⟩ = head ⟨k, hk'⟩ := Fin.ext (by show (k + 1) / 4 * 4 = k / 4 * 4; omega)
      rw [e]
      exact (keep0 m c ⟨k + 1, hk⟩ h).trans (ih hk')

/-- What each point stores. -/
theorem out_eq (t : Fin cfg0.N) (a : Fin 128) (n : Fin 512) :
    (outsAt0 m c t.val t.isLt).1 (ix2 a n) = stored (colBlk t) (XN (iblk m c 0 (head t)) (iblk m c 1 (head t)) (iblk m c 2 (head t)))
      (k0_pay6 (iblk m c 0 (head t)) (iblk m c 1 (head t)) (iblk m c 2 (head t))) (iblk m c 3 t) (iblk m c 4 t) (iblk m c 5 t) a n := by
  by_cases h : t.val % 4 = 0
  · have e : head t = t := Fin.ext (by show t.val / 4 * 4 = t.val; omega)
    rw [e]
    exact out_first m c t h a n
  · have e : head ⟨t.val - 1, Nat.lt_of_le_of_lt (Nat.sub_le _ _) t.isLt⟩ = head t :=
      Fin.ext (by show (t.val - 1) / 4 * 4 = t.val / 4 * 4; omega)
    rw [out_next m c t h, carried, e]

/-- The block index of each window at a grid point. -/
theorem idx0 : ∀ t : Fin cfg0.N, win0_0.index t = ![t.val / 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![1, 0, t.val % 4] := (by decide +kernel : ∀ t : Fin grid0.N, _)
theorem idx4 : ∀ t : Fin cfg0.N, win0_4.index t = ![1, t.val / 4, 0] := (by decide +kernel : ∀ t : Fin grid0.N, _)
theorem idx5 : ∀ t : Fin cfg0.N, win0_5.index t = ![1, 0, t.val % 4] := (by decide +kernel : ∀ t : Fin grid0.N, _)
theorem idx6 : ∀ t : Fin cfg0.N, win0_6.index t = ![t.val / 4, t.val % 4] := (by decide +kernel : ∀ t : Fin grid0.N, _)

/-- The argument arrays of core `c`. -/
def a0 : (⟨3, ![128, 1, 2048]⟩ : Shape).Idx → EReal := m (c, Proc.tc.devRef main_arg0)
def a1 : (⟨1, ![2048]⟩ : Shape).Idx → EReal := m (c, Proc.tc.devRef main_arg1)
def a2 : (⟨1, ![2048]⟩ : Shape).Idx → EReal := m (c, Proc.tc.devRef main_arg2)
def a3 : (⟨3, ![2, 2048, 2048]⟩ : Shape).Idx → EReal := m (c, Proc.tc.devRef main_arg3)
def a4 : (⟨4, ![2, 128, 1, 256]⟩ : Shape).Idx → EReal := m (c, Proc.tc.devRef main_arg4)
def a5 : (⟨3, ![2, 256, 2048]⟩ : Shape).Idx → EReal := m (c, Proc.tc.devRef main_arg5)

/-- The normed row plus the gated product of the per-layer inputs, at row `i` and column `j`. -/
def ple (A0 : (⟨3, ![128, 1, 2048]⟩ : Shape).Idx → EReal) (A1 A2 : (⟨1, ![2048]⟩ : Shape).Idx → EReal)
    (A3 : (⟨3, ![2, 2048, 2048]⟩ : Shape).Idx → EReal) (A4 : (⟨4, ![2, 128, 1, 256]⟩ : Shape).Idx → EReal)
    (A5 : (⟨3, ![2, 256, 2048]⟩ : Shape).Idx → EReal) (i : Fin 128) (j : Fin 2048) : EReal :=
  norm (row A0 i) (fun k => A1 (ix1 k)) (fun k => A2 (ix1 k)) j
    + sigm (∑ k : Fin 2048, norm (row A0 i) (fun k => A1 (ix1 k)) (fun k => A2 (ix1 k)) k * A3 (ix3 1 k j))
      * ∑ k : Fin 256, A4 (ix4 1 (bOf i) (rOf i) k) * A5 (ix3 1 k j)

/-- The operands that the host code lays out, and the weights as they are. -/
theorem V0 (r : Fin 128) (k : Fin 2048) : V m c main_v0 (ix2 r k) = row (a0 m c) r k := by
  unfold V
  after_results
  pointwise [a0, Pls.row, Pls.bOf, Pls.rOf]

theorem V1 (r : Fin 128) (k : Fin 256) : V m c main_v1 (ix3 1 r k) = a4 m c (ix4 1 (bOf r) (rOf r) k) := by
  unfold V
  after_results
  pointwise [a4, Pls.bOf, Pls.rOf]

theorem V2 (k : Fin 2048) : V m c main_v2 (ix2 0 k) = a1 m c (ix1 k) := by
  unfold V
  after_results
  pointwise [a1]

theorem V3 (k : Fin 2048) : V m c main_v3 (ix2 0 k) = a2 m c (ix1 k) := by
  unfold V
  after_results
  pointwise [a2]

theorem Va3 (i : (⟨3, ![2, 2048, 2048]⟩ : Shape).Idx) : V m c main_arg3 i = a3 m c i := by
  unfold V
  after_results
  rfl

theorem Va5 (i : (⟨3, ![2, 256, 2048]⟩ : Shape).Idx) : V m c main_arg5 i = a5 m c i := by
  unfold V
  after_results
  rfl

/-- A row of the arrays, from the grid point and the row in its block. -/
def rowOf (t : Fin cfg0.N) (r : Fin 128) : Fin 128 := ⟨t.val / 4 * 128 + r.val, by have := t_lt t; omega⟩

/-- A column of the weights and of the result, from the grid point and the column in its block. -/
def colOf (t : Fin cfg0.N) (n : Fin 512) : Fin 2048 := ⟨t.val % 4 * 512 + n.val, by omega⟩

theorem rowOf_head (t : Fin cfg0.N) (r : Fin 128) : rowOf (head t) r = rowOf t r := by
  apply Fin.ext
  show t.val / 4 * 4 / 4 * 128 + r.val = t.val / 4 * 128 + r.val
  omega

/-- The blocks of the windows. -/
theorem blk0 (t : Fin cfg0.N) (r : Fin 128) (k : Fin 2048) : iblk m c 0 t (ix2 r k) = row (a0 m c) (rowOf t r) k := by
  have e : iblk m c 0 t (ix2 r k) = V m c main_v0 (ix2 (rowOf t r) k) := by
    blk_point [iblk, V, idx0 t, rowOf]
  exact e.trans (V0 m c _ _)

theorem blk1 (t : Fin cfg0.N) (k : Fin 2048) : iblk m c 1 t (ix2 0 k) = a1 m c (ix1 k) := by
  have e : iblk m c 1 t (ix2 0 k) = V m c main_v2 (ix2 0 k) := by
    blk_point [iblk, V, idx1 t]
  exact e.trans (V2 m c _)

theorem blk2 (t : Fin cfg0.N) (k : Fin 2048) : iblk m c 2 t (ix2 0 k) = a2 m c (ix1 k) := by
  have e : iblk m c 2 t (ix2 0 k) = V m c main_v3 (ix2 0 k) := by
    blk_point [iblk, V, idx2 t]
  exact e.trans (V3 m c _)

theorem blk3 (t : Fin cfg0.N) (k : Fin 2048) (n : Fin 512) : iblk m c 3 t (ix3 0 k n) = a3 m c (ix3 1 k (colOf t n)) := by
  have e : iblk m c 3 t (ix3 0 k n) = V m c main_arg3 (ix3 1 k (colOf t n)) := by
    blk_point [iblk, V, idx3 t, colOf]
  exact e.trans (Va3 m c _)

theorem blk4 (t : Fin cfg0.N) (r : Fin 128) (k : Fin 256) : iblk m c 4 t (ix3 0 r k) = a4 m c (ix4 1 (bOf (rowOf t r)) (rOf (rowOf t r)) k) := by
  have e : iblk m c 4 t (ix3 0 r k) = V m c main_v1 (ix3 1 (rowOf t r) k) := by
    blk_point [iblk, V, idx4 t, rowOf]
  exact e.trans (V1 m c _ _)

theorem blk5 (t : Fin cfg0.N) (k : Fin 256) (n : Fin 512) : iblk m c 5 t (ix3 0 k n) = a5 m c (ix3 1 k (colOf t n)) := by
  have e : iblk m c 5 t (ix3 0 k n) = V m c main_arg5 (ix3 1 k (colOf t n)) := by
    blk_point [iblk, V, idx5 t, colOf]
  exact e.trans (Va5 m c _)

/-- What each point stores, at a row and column of its block. -/
theorem out_ple (t : Fin cfg0.N) (a : Fin 128) (n : Fin 512) : (outsAt0 m c t.val t.isLt).1 (ix2 a n)
    = ple (a0 m c) (a1 m c) (a2 m c) (a3 m c) (a4 m c) (a5 m c) (rowOf t a) (colOf t n) := by
  rw [out_eq]
  unfold stored XN ple
  simp only [xb_read, norm_read, ix3_0, ix3_1, ix3_2, blk0, blk1, blk2, blk3, blk4, blk5, rowOf_head]
  rfl

/-- The result array. -/
def outArr : S128x2048.Idx → EReal := fun y =>
  ple (a0 m c) (a1 m c) (a2 m c) (a3 m c) (a4 m c) (a5 m c) (y 0) (y 1)

/-- The result array of the run is `outArr`. -/
theorem arr_eq : (dats m 0 c).arrAt 6 cfg0.N = outArr m c := by
  refine (dats m 0 c).arrAt_eq_of_covers 6 _ (by decide +kernel) fun t hf y => ?_
  blk_simp
  rw [after0_6]
  have h0 : (((cfg0.win 6).blk t).view.emb y 0).val = t.val / 4 * 128 + (y 0).val := by
    blk_simp [idx6 t]
  have h1 : (((cfg0.win 6).blk t).view.emb y 1).val = t.val % 4 * 512 + (y 1).val := by
    blk_simp [idx6 t]
  obtain ⟨a, n, rfl⟩ : ∃ (a : Fin 128) (n : Fin 512), y = ix2 a n := ⟨y 0, y 1, eq_ix2 y⟩
  have e0 : ((cfg0.win 6).blk t).view.emb (ix2 a n) 0 = rowOf t a := Fin.ext h0
  have e1 : ((cfg0.win 6).blk t).view.emb (ix2 a n) 1 = colOf t n := Fin.ext h1
  refine (out_ple m c t a n).trans ?_
  unfold outArr
  rw [e0, e1]

end Points

end Cert.Own.Pls

namespace Cert.Own.PlsRef

open Idealize.ShloMosaic Idealize.SL.Sem Cert.ReferencePleSIdeal Cert.ReferencePleSIdeal.Read
open Cert.Own.SwiVal (mean rstd norm)
open Cert.Own.Pls (row bOf rOf)
open Cert.Own.Pls (sigm ple)

variable (x0 : (⟨S128x1x2048, .f32⟩ : BufTy).Contents (Elt Ideal)) (x1 x2 : (⟨S2048, .f32⟩ : BufTy).Contents (Elt Ideal))
  (x3 : (⟨S2x2048x2048, .f32⟩ : BufTy).Contents (Elt Ideal)) (x4 : (⟨S2x128x1x256, .f32⟩ : BufTy).Contents (Elt Ideal))
  (x5 : (⟨S2x256x2048, .f32⟩ : BufTy).Contents (Elt Ideal))

/-- The reference's mean, reciprocal deviation and normed row. -/
theorem ref_mean (b : Fin 128) (r : Fin 1) : val_main_v3 (F := Ideal) x0 (ix3 b r 0) = mean fun k => x0 (ix3 b r k) := by
  obtain rfl : r = 0 := Subsingleton.elim _ _
  pointwise [val_main_v3, val_main_v2, val_main_v1, val_main_v0, val_main_cst, val_main_cst_0, SwiVal.mean]

theorem ref_rstd (b : Fin 128) (r : Fin 1) : val_main_v15 (F := Ideal) x0 (ix3 b r 0) = rstd fun k => x0 (ix3 b r k) := by
  obtain rfl : r = 0 := Subsingleton.elim _ _
  pointwise [val_main_v15, val_main_v14, val_main_v13, val_main_v10, val_main_v9, val_main_v8, val_main_v7, val_main_v6, val_main_v5, val_main_v4,
    val_main_v3, val_main_v2, val_main_v1, val_main_v0, val_main_cst, val_main_cst_0, val_main_cst_1, val_main_cst_2, val_main_cst_3,
    SwiVal.rstd, SwiVal.mean]

theorem ref_norm (b : Fin 128) (r : Fin 1) (k : Fin 2048) : val_main_v23 (F := Ideal) x0 x1 x2 (ix3 b r k)
    = norm (fun k => x0 (ix3 b r k)) (fun k => x1 (ix1 k)) (fun k => x2 (ix1 k)) k := by
  have e : val_main_v23 (F := Ideal) x0 x1 x2 (ix3 b r k)
      = (x0 (ix3 b r k) - val_main_v3 (F := Ideal) x0 (ix3 b 0 0)) * val_main_v15 (F := Ideal) x0 (ix3 b 0 0) * x1 (ix1 k) + x2 (ix1 k) := by
    pointwise [val_main_v23, val_main_v22, val_main_v21, val_main_v20, val_main_v19, val_main_v18, val_main_v17, val_main_v16, val_main_v12, val_main_v11]
  rw [e, ref_mean, ref_rstd]
  obtain rfl : r = 0 := Subsingleton.elim _ _
  rfl

/-- The reference's gate, before the exponential. -/
theorem ref_gate (b : Fin 128) (r : Fin 1) (n : Fin 2048) : val_main_v26 (F := Ideal) x0 x1 x2 x3 (ix3 b r n)
    = ∑ k : Fin 2048, norm (fun k => x0 (ix3 b r k)) (fun k => x1 (ix1 k)) (fun k => x2 (ix1 k)) k * x3 (ix3 1 k n) := by
  have e : val_main_v26 (F := Ideal) x0 x1 x2 x3 (ix3 b r n)
      = ∑ k : Fin 2048, val_main_v23 (F := Ideal) x0 x1 x2 (ix3 b r k) * x3 (ix3 1 k n) := by
    pointwise [val_main_v26, val_main_v25, val_main_v24]
  rw [e]
  simp only [ref_norm]

/-- The reference's result at a row and column. -/
theorem ref_out (i : Fin 128) (j : Fin 2048) : val_main_v40 (F := Ideal) x0 x1 x2 x3 x4 x5 (ix2 i j) = ple x0 x1 x2 x3 x4 x5 i j := by
  have e : val_main_v40 (F := Ideal) x0 x1 x2 x3 x4 x5 (ix2 i j) = val_main_v23 (F := Ideal) x0 x1 x2 (ix3 (bOf i) (rOf i) j)
      + sigm (val_main_v26 (F := Ideal) x0 x1 x2 x3 (ix3 (bOf i) (rOf i) j)) * ∑ k : Fin 256, x4 (ix4 1 (bOf i) (rOf i) k) * x5 (ix3 1 k j) := by
    unfold sigm
    rw [zero_sub]
    pointwise [val_main_v40, val_main_v39, val_main_v38, val_main_v37, val_main_v36, val_main_v35, val_main_v34, val_main_v33, val_main_v32,
      val_main_v31, val_main_v30, val_main_v29, val_main_v28, val_main_v27, val_main_cst_4, val_main_cst_5, Pls.bOf, Pls.rOf]
  rw [e, ref_norm, ref_gate]
  rfl

end Cert.Own.PlsRef

end
-- ==== Proof.PrsPay.lean ====
/-
  The norms and the rotary key of the MLA layer's projections over the sample, whose rows are all at one position: the kernel's four result arrays and the reference's.
-/
module

public import proofs.«01_k».proof.Proof.PrepPay
public import proofs.«01_k».proof.Proof.Gen.KernelPrepSIdeal.Value
public import proofs.«01_k».proof.Proof.Gen.ReferencePrepSIdeal.Read
public import Idealize.ShloMosaic.Lib.Pipeline.ValueKit
public import Idealize.ShloMosaic.Lib.Pointwise
public import Idealize.ShloMosaic.Lib.KernelVsHost

@[expose] public section

set_option maxRecDepth 16384

noncomputable section

namespace Cert.Own.Prs

open Idealize.ShloMosaic Idealize.SL.Sem Cert.KernelPrepSIdeal Cert.KernelPrepSIdeal.Gen
open Cert.Own.Prep (rms w768 w512 colQ colK colR inHalf inHalf_eq right left rot mod64 mod32)

section Payloads
variable (x : Vec Ideal S128x1344 .f32)

theorem cq_read (g : Vec Ideal S1x768 .f32) (a : Fin 128) (k : Fin 768) :
    k0_pay4 x g (ix2 a k) = rms w768 (fun k => x (ix2 a (colQ k))) (fun k => g (ix2 0 k)) k := by
  pointwise [k0_pay4, k0_pay3, rms, w768, colQ]

theorem ckv_read (g : Vec Ideal S1x512 .f32) (a : Fin 128) (k : Fin 512) :
    k0_pay5 x g (ix2 a k) = rms w512 (fun k => x (ix2 a (colK k))) (fun k => g (ix2 0 k)) k := by
  pointwise [k0_pay5, k0_pay3, rms, w512, colK]

theorem ckvb_read (g : Vec Ideal S1x512 .f32) (a : Fin 128) (k : Fin 512) :
    k0_pay6 x g (ix2 a k) = rms w512 (fun k => x (ix2 a (colK k))) (fun k => g (ix2 0 k)) k := by
  have e : k0_pay6 x g (ix2 a k) = k0_pay5 x g (ix2 a k) := by
    unfold k0_pay6
    generalize k0_pay5 x g = y
    pointwise []
  exact e.trans (ckv_read x g a k)

theorem kr_read (a : Fin 128) (k : Fin 64) : k0_pay7 x (ix2 a k) = x (ix2 a (colR k)) := by
  pointwise [k0_pay7, k0_pay3, colR]

/-- The product with the table that writes the rotary part twice. -/
theorem dup_read (y : FVec Ideal S128x64 .f32) (D : FVec Ideal S64x128 .f32) (a : Fin 128) (n : Fin 128) :
    matmul dot_S128x64_S64x128_S128x128_1_0_0_1_n_n (some .fp32) y D (constant (F := Ideal) S128x128 .f32 0x00000000#32) (ix2 a n)
      = ∑ k : Fin 64, y (ix2 a k) * D (ix2 k n) := by
  pointwise []

theorem rot_lane (y : FVec Ideal S128x64 .f32) (D : Vec Ideal S64x128 .f32) (z : FVec Ideal S128x128 .f32) (co si : Vec Ideal S128x128 .f32)
    (Y : FVec Ideal S128x128 .f32) (hY : matmul (φ₂ := .f32) dot_S128x64_S64x128_S128x128_1_0_0_1_n_n (some .fp32) y D z = Y)
    (a : Fin 128) (n : Fin 128) :
    k0_pay1 y D z co si (ix2 a n)
      = Y (ix2 a n) * co (ix2 a n) + Scalar.select (inHalf n.val) (Y (ix2 a (right n))) (Y (ix2 a (left n))) * si (ix2 a n) := by
  unfold k0_pay1
  dsimp only
  rw [hY]
  pointwise [inHalf, right, left]

theorem rot_read (D : Vec Ideal S64x128 .f32) (co si : Vec Ideal S128x128 .f32) (a : Fin 128) (cv sv : Fin 32 → EReal)
    (hD : ∀ (k : Fin 64) (n : Fin 128), D (ix2 k n) = if n.val % 64 = k.val then (1 : EReal) else 0)
    (hc : ∀ n : Fin 128, co (ix2 a n) = cv (mod32 n))
    (hs : ∀ n : Fin 128, si (ix2 a n) = if n.val % 64 < 32 then -sv (mod32 n) else sv (mod32 n)) (n : Fin 128) :
    k0_pay1 (k0_pay7 x) D (constant (F := Ideal) S128x128 .f32 0x00000000#32) co si (ix2 a n)
      = rot (fun k => x (ix2 a (colR k))) cv sv (mod64 n) := by
  have hY (n : Fin 128) : matmul (φ₂ := .f32) dot_S128x64_S64x128_S128x128_1_0_0_1_n_n (some .fp32) (k0_pay7 x) D
      (constant (F := Ideal) S128x128 .f32 0x00000000#32) (ix2 a n) = x (ix2 a (colR (mod64 n))) := by
    refine (dup_read _ D a n).trans ?_
    rw [Finset.sum_eq_single (mod64 n)]
    · rw [hD, if_pos (show n.val % 64 = (mod64 n).val from rfl), mul_one, kr_read]
    · intro k _ hk
      rw [hD, if_neg (fun h => hk (Fin.ext h.symm)), mul_zero]
    · exact fun h => absurd (Finset.mem_univ _) h
  refine (rot_lane _ D _ co si _ rfl a n).trans ?_
  rw [hY, hY, hY, hc, hs, inHalf_eq]
  have hn := n.isLt
  unfold rot
  by_cases h : n.val % 64 < 32
  · rw [if_pos h, if_pos h, dif_pos (show (mod64 n).val < 32 from h)]
    have e1 : mod64 (right n) = ⟨(mod64 n).val + 32, by show n.val % 64 + 32 < 64; omega⟩ :=
      Fin.ext (by show (n.val + 128 - 96) % 128 % 64 = n.val % 64 + 32; omega)
    have e2 : mod32 n = ⟨(mod64 n).val, h⟩ := Fin.ext (by show n.val % 32 = n.val % 64; omega)
    rw [e2]
    show _ + x (ix2 a (colR (mod64 (right n)))) * -sv _ = _
    rw [e1, mul_neg]
    rfl
  · rw [if_neg h, if_neg h, dif_neg (show ¬(mod64 n).val < 32 from h)]
    have e1 : mod64 (left n) = ⟨(mod64 n).val - 32, by show n.val % 64 - 32 < 64; omega⟩ :=
      Fin.ext (by show (n.val + 128 - 32) % 128 % 64 = n.val % 64 - 32; omega)
    have e2 : mod32 n = ⟨(mod64 n).val - 32, by show n.val % 64 - 32 < 32; omega⟩ := Fin.ext (by show n.val % 32 = n.val % 64 - 32; omega)
    rw [e2]
    show _ + x (ix2 a (colR (mod64 (left n)))) * sv _ = _
    rw [e1, add_comm]

theorem half_read (y : FVec Ideal S128x64 .f32) (D : Vec Ideal S64x128 .f32) (z : FVec Ideal S128x128 .f32) (co si : Vec Ideal S128x128 .f32)
    (a : Fin 128) (k : Fin 64) : k0_pay2 y D z co si (ix2 a k) = k0_pay1 y D z co si (ix2 a ⟨k.val, by omega⟩) := by
  unfold k0_pay2
  generalize k0_pay1 y D z co si = Y
  pointwise []

end Payloads

/-- The table holds a one where the column is the row modulo 64. -/
theorem lit_eq : ∀ (k : Fin 64) (n : Fin 128), lit0 ⟨k.val * 128 + n.val, by omega⟩ = if n.val % 64 = k.val then 0x3F800000#32 else 0#32 := by
  decide +kernel

/-! ## The tables that the host code computes -/

/-- The cosine and the sine of the one position's angle. -/
def cosv (r : Fin 1) (k : Fin 32) : EReal := Cert.ReferencePrepSIdeal.Read.val_main_v51 (F := Ideal) (ix2 r k)
def sinv (r : Fin 1) (k : Fin 32) : EReal := Cert.ReferencePrepSIdeal.Read.val_main_v52 (F := Ideal) (ix2 r k)

/-- The kernel's angles: the position in each of the 128 rows, times the inverse frequencies. -/
def angT : (⟨S128x32, .f32⟩ : BufTy).Contents (Elt Ideal) :=
  mulf (broadcastInDim S128x32 ![0, 1] bcast_S128x1_S128x32_0_1 (broadcastInDim S128x1 ![0] bcast_S128_S128x1_0
      (sitofp (F := Ideal) .f32 (broadcastInDim S128 ![] bcast_S_S128 (constantI S_ 32 16384#32)))))
    (broadcastInDim S128x32 ![0, 1] bcast_S1x32_S128x32_0_1 (Cert.ReferencePrepSIdeal.Read.val_main_v48 (F := Ideal)))

/-- Each row's angles are the reference's. -/
theorem angT_read (r : Fin 128) (k : Fin 32) : angT (ix2 r k) = Cert.ReferencePrepSIdeal.Read.val_main_v50 (F := Ideal) (ix2 0 k) := by
  unfold angT Cert.ReferencePrepSIdeal.Read.val_main_v50 Cert.ReferencePrepSIdeal.Read.val_main_v49 Cert.ReferencePrepSIdeal.Read.val_main_v47
    Cert.ReferencePrepSIdeal.Read.val_main_v46 Cert.ReferencePrepSIdeal.Read.val_main_v45 Cert.ReferencePrepSIdeal.Read.val_main_v44
    Cert.ReferencePrepSIdeal.Read.val_main_v43 Cert.ReferencePrepSIdeal.Read.val_main_c
  generalize Cert.ReferencePrepSIdeal.Read.val_main_v48 (F := Ideal) = y
  pointwise []
  rw [show IntOp.addi (16384#32) 0#32 = 16384#32 from by decide]

theorem cosT_read (r : Fin 128) (k : Fin 32) : Host.cos (F := Ideal) (s := S128x32) (φ := .f32) angT (ix2 r k) = cosv 0 k := by
  unfold cosv Cert.ReferencePrepSIdeal.Read.val_main_v51
  have e := angT_read r k
  generalize angT = x at *
  generalize Cert.ReferencePrepSIdeal.Read.val_main_v50 (F := Ideal) = y at *
  exact congrArg (FloatOps.cos (F := Ideal) (φ := .f32)) e

theorem sinT_read (r : Fin 128) (k : Fin 32) : Host.sin (F := Ideal) (s := S128x32) (φ := .f32) angT (ix2 r k) = sinv 0 k := by
  unfold sinv Cert.ReferencePrepSIdeal.Read.val_main_v52
  have e := angT_read r k
  generalize angT = x at *
  generalize Cert.ReferencePrepSIdeal.Read.val_main_v50 (F := Ideal) = y at *
  exact congrArg (FloatOps.sin (F := Ideal) (φ := .f32)) e

/-- Two tables of 32 side by side, twice. -/
def tile (a b : (⟨S128x32, .f32⟩ : BufTy).Contents (Elt Ideal)) : (⟨S128x128, .f32⟩ : BufTy).Contents (Elt Ideal) :=
  shapeCast S128x128 (broadcastInDim S1x128x2x64 ![0, 1, 2, 3] bcast_S1x128x1x64_S1x128x2x64_0_1_2_3
    (shapeCast S1x128x1x64 (concatenate S128x64 1 [⟨S128x32, a⟩, ⟨S128x32, b⟩] concatenates_S128x32_S128x32_S128x64_d1)
      shapeCasts_S128x64_S1x128x1x64)) shapeCasts_S1x128x2x64_S128x128

theorem tile_read (a b : (⟨S128x32, .f32⟩ : BufTy).Contents (Elt Ideal)) (r : Fin 128) (n : Fin 128) :
    tile a b (ix2 r n) = if n.val % 64 < 32 then a (ix2 r (mod32 n)) else b (ix2 r (mod32 n)) := by
  pointwise [tile, mod32]
  have hn := n.isLt
  by_cases h : n.val % 64 < 32
  · rw [dif_pos h, if_pos h]
    exact congrArg a (congrArg (ix2 r) (Fin.ext (show n.val % 64 = n.val % 32 by omega)))
  · rw [dif_neg h, if_neg h]
    exact congrArg b (congrArg (ix2 r) (Fin.ext (show n.val % 64 - 32 = n.val % 32 by omega)))

section Tables
variable (m : (ℓ : Loc nD τ sig) → Buf (Elt Ideal) ℓ) (c : Dev nD)

theorem Vcos : V m c main_v22 = tile (Host.cos (F := Ideal) (s := S128x32) (φ := .f32) angT) (Host.cos (F := Ideal) (s := S128x32) (φ := .f32) angT) := by
  unfold V
  after_results
  rfl

theorem Vsin : V m c main_v27 = tile (Host.negf (F := Ideal) (s := S128x32) (φ := .f32) (Host.sin (F := Ideal) (s := S128x32) (φ := .f32) angT))
    (Host.sin (F := Ideal) (s := S128x32) (φ := .f32) angT) := by
  unfold V
  after_results
  rfl

theorem Vdup (k : Fin 64) (n : Fin 128) : V m c main_cst (ix2 k n) = if n.val % 64 = k.val then (1 : EReal) else 0 := by
  have e : V m c main_cst = fun i => FloatOps.ofBits (F := Ideal) .f32 (lit0 (S64x128.rowMajor i)) := by
    unfold V
    after_results
    rfl
  rw [e]
  have h : S64x128.rowMajor (ix2 k n) = ⟨k.val * 128 + n.val, lt_of_lt_of_eq (show _ < 8192 by omega) (by decide)⟩ := Fin.ext (Shape.rowMajor_val_two ..)
  show FloatOps.ofBits (F := Ideal) .f32 (lit0 (S64x128.rowMajor (ix2 k n))) = _
  rw [h, lit_eq]
  by_cases h : n.val % 64 = k.val
  · rw [if_pos h, if_pos h]; exact Ideal.ofBits_one_f32
  · rw [if_neg h, if_neg h]; exact Ideal.ofBits_zero .f32
end Tables

end Cert.Own.Prs

end
-- ==== Proof.Prs.lean ====
/-
  The norms and the rotary key of the MLA layer's projections over the sample: the blocks that each grid point reads and writes, the kernel's four
  result arrays, and the reference's.
-/
module

public import proofs.«01_k».proof.Proof.PrsPay

@[expose] public section

set_option maxRecDepth 16384

noncomputable section

namespace Cert.Own.Prs

open Idealize.ShloMosaic Idealize.SL.Sem Cert.KernelPrepSIdeal Cert.KernelPrepSIdeal.Gen
open Cert.Own.Prep (rms w768 w512 colQ colK colR inHalf inHalf_eq right left rot mod64 mod32)

/-! ## What the results are -/

/-- The batch and the position of a row. -/
def bOf (i : Fin 128) : Fin 128 := i
def rOf (_ : Fin 128) : Fin 1 := 0

/-- The projections' row. -/
def hrow (A0 : (⟨3, ![128, 1, 1344]⟩ : Shape).Idx → EReal) (i : Fin 128) (k : Fin 1344) : EReal := A0 (ix3 (bOf i) (rOf i) k)

/-- The queries' latent, the keys' latent and the rotary key at row `i`. -/
def cq (A0 : (⟨3, ![128, 1, 1344]⟩ : Shape).Idx → EReal) (A1 : (⟨2, ![1, 768]⟩ : Shape).Idx → EReal) (i : Fin 128) (k : Fin 768) : EReal :=
  rms w768 (fun j => hrow A0 i (colQ j)) (fun j => A1 (ix2 0 j)) k
def ckv (A0 : (⟨3, ![128, 1, 1344]⟩ : Shape).Idx → EReal) (A2 : (⟨2, ![1, 512]⟩ : Shape).Idx → EReal) (i : Fin 128) (k : Fin 512) : EReal :=
  rms w512 (fun j => hrow A0 i (colK j)) (fun j => A2 (ix2 0 j)) k
def krope (A0 : (⟨3, ![128, 1, 1344]⟩ : Shape).Idx → EReal) (i : Fin 128) (d : Fin 64) : EReal :=
  rot (fun j => hrow A0 i (colR j)) (cosv (rOf i)) (sinv (rOf i)) d
/-- The cache's row: the keys' latent, then the rotary key. -/
def cache (A0 : (⟨3, ![128, 1, 1344]⟩ : Shape).Idx → EReal) (A2 : (⟨2, ![1, 512]⟩ : Shape).Idx → EReal) (i : Fin 128) (n : Fin 576) : EReal :=
  if h : n.val < 512 then ckv A0 A2 i ⟨n.val, h⟩ else krope A0 i ⟨n.val - 512, by omega⟩

section Points
variable (m : (ℓ : Loc nD τ sig) → Buf (Elt Ideal) ℓ) (c : Dev nD)

/-! ## What each point stores -/

theorem out6 (t : Fin cfg0.N) : (outsAt0 m c t).1 = k0_pay4 (iblk m c 0 t) (iblk m c 1 t) := by
  unfold outsAt0
  dsimp only
  unfold out0_A_6 kernelRun0_A
  dsimp only
  sl_unfold_words
  simp only [View.readAt_eq_ld, (hs0_0 t).read_unread, (hs0_1 t).read_unread, (hs0_2 t).read_unread]
  rw [View.read_writes_junk_eq_canon, View.canon_cons_unit_lit (h := fun d => by fin_cases d <;> rfl)]
  rw [View.ld_unit_lit (h := fun d => by fin_cases d <;> rfl), View.ld_unit_lit (h := fun d => by fin_cases d <;> rfl)]

theorem out7 (t : Fin cfg0.N) : (outsAt0 m c t).2.1 = k0_pay6 (iblk m c 0 t) (iblk m c 2 t) := by
  unfold outsAt0
  dsimp only
  unfold out0_A_7 kernelRun0_A
  dsimp only
  sl_unfold_words
  simp only [View.readAt_eq_ld, (hs0_0 t).read_unread, (hs0_1 t).read_unread, (hs0_2 t).read_unread]
  rw [View.read_writes_junk_eq_canon, View.canon_cons_unit_lit (h := fun d => by fin_cases d <;> rfl)]
  rw [View.ld_unit_lit (h := fun d => by fin_cases d <;> rfl), View.ld_unit_lit (h := fun d => by fin_cases d <;> rfl)]

/-- The table of zeros that the product with the doubling table starts from. -/
def zero : FVec Ideal S128x128 .f32 := constant (F := Ideal) S128x128 .f32 0x00000000#32

theorem out9 (t : Fin cfg0.N) : (outsAt0 m c t).2.2.2 = k0_pay1 (k0_pay7 (iblk m c 0 t)) (iblk m c 5 t) zero (iblk m c 3 t) (iblk m c 4 t) := by
  unfold outsAt0
  dsimp only
  unfold out0_A_9 kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread]
  rw [View.read_writes_junk_eq_canon, View.canon_cons_unit_lit (h := fun d => by fin_cases d <;> rfl)]
  rw [View.ld_unit_lit (h := fun d => by fin_cases d <;> rfl), View.ld_unit_lit (h := fun d => by fin_cases d <;> rfl),
    View.ld_unit_lit (h := fun d => by fin_cases d <;> rfl), View.ld_unit_lit (h := fun d => by fin_cases d <;> rfl)]
  rfl

/-- The two stores of the cache's rows, side by side. -/
def sideBySide (p : FVec Ideal S128x512 .f32) (q : FVec Ideal S128x64 .f32) : Vec Ideal S128x576 .f32 := fun y =>
  if h : (y 1).val < 512 then p (ix2 (y 0) ⟨(y 1).val, h⟩)
  else q (ix2 (y 0) ⟨(y 1).val - 512, by have := (y 1).isLt; change (y 1).val < 576 at this; omega⟩)

theorem canon_side (p : FVec Ideal S128x512 .f32) (q : FVec Ideal S128x64 .f32) :
    (View.canon (Val := Elt Ideal) (s := S128x576) (e := .f32)
      [⟨Rect.unit ![0, 512] ![128, 64] inb_S128x576_S128x64_0_512, q⟩,
       ⟨Rect.unit ![0, 0] ![128, 512] inb_S128x576_S128x512_0_0, p⟩]) = sideBySide p q := by
  funext y
  have hcover := fun y => View.cover_of_tiledBy (Val := Elt Ideal) (s := S128x576) (e := .f32)
      [⟨Rect.unit ![0, 512] ![128, 64] inb_S128x576_S128x64_0_512, q⟩,
       ⟨Rect.unit ![0, 0] ![128, 512] inb_S128x576_S128x512_0_0, p⟩] ![128, 64] (by sl_kernel_rfl) y
  canon_tiles x' h using (hcover y)
  case piece0 =>
    have hy : ¬(y 1).val < 512 := by omega
    refine Eq.trans ?_ (dif_neg hy).symm
    rw [eq_ix2 x']
    exact congrArg q (congrArg₂ ix2 (Fin.ext (by simpa using h0.symm)) (Fin.ext (by show (x' 1).val = (y 1).val - 512; omega)))
  case piece1 =>
    have hx := (x' 1).isLt
    change (x' 1).val < 512 at hx
    have hy : (y 1).val < 512 := by omega
    refine Eq.trans ?_ (dif_pos hy).symm
    rw [eq_ix2 x']
    exact congrArg p (congrArg₂ ix2 (Fin.ext (by simpa using h0.symm)) (Fin.ext (by show (x' 1).val = (y 1).val; omega)))

theorem out8 (t : Fin cfg0.N) : (outsAt0 m c t).2.2.1
    = sideBySide (k0_pay5 (iblk m c 0 t) (iblk m c 2 t)) (k0_pay2 (k0_pay7 (iblk m c 0 t)) (iblk m c 5 t) zero (iblk m c 3 t) (iblk m c 4 t)) := by
  unfold outsAt0
  dsimp only
  unfold out0_A_8 kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread]
  rw [View.read_writes_junk_eq_canon]
  refine (canon_side _ _).trans ?_
  rw [View.ld_unit_lit (h := fun d => by fin_cases d <;> rfl), View.ld_unit_lit (h := fun d => by fin_cases d <;> rfl),
    View.ld_unit_lit (h := fun d => by fin_cases d <;> rfl), View.ld_unit_lit (h := fun d => by fin_cases d <;> rfl),
    View.ld_unit_lit (h := fun d => by fin_cases d <;> rfl)]
  rfl

/-! ## The blocks that each point reads -/

/-- The block index of each window at a grid point. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)

theorem t_lt (t : Fin cfg0.N) : t.val < 1 := lt_of_lt_of_eq t.isLt (by decide +kernel)

/-- The row of the array at row `a` of a point's block. -/
def rowOf (t : Fin cfg0.N) (a : Fin 128) : Fin 128 := ⟨t.val * 128 + a.val, by have := t_lt t; omega⟩
/-- The argument arrays of core `c`. -/
def a0 : (⟨3, ![128, 1, 1344]⟩ : Shape).Idx → EReal := m (c, Proc.tc.devRef main_arg0)
def a1 : (⟨2, ![1, 768]⟩ : Shape).Idx → EReal := m (c, Proc.tc.devRef main_arg1)
def a2 : (⟨2, ![1, 512]⟩ : Shape).Idx → EReal := m (c, Proc.tc.devRef main_arg2)

theorem V0 (i : Fin 128) (k : Fin 1344) : V m c main_v28 (ix2 i k) = hrow (a0 m c) i k := by
  unfold V
  after_results
  pointwise [a0, hrow, bOf, rOf]

theorem V1 (k : Fin 768) : V m c main_v31 (ix2 0 k) = a1 m c (ix2 0 k) := by
  unfold V
  after_results
  pointwise [a1]

theorem V2 (k : Fin 512) : V m c main_v32 (ix2 0 k) = a2 m c (ix2 0 k) := by
  unfold V
  after_results
  pointwise [a2]

theorem blk0 (t : Fin cfg0.N) (a : Fin 128) (k : Fin 1344) : iblk m c 0 t (ix2 a k) = hrow (a0 m c) (rowOf t a) k := by
  have e : iblk m c 0 t (ix2 a k) = V m c main_v28 (ix2 (rowOf t a) k) := by
    blk_point [iblk, V, idx0 t, rowOf]
  exact e.trans (V0 m c _ _)

theorem blk1 (t : Fin cfg0.N) (k : Fin 768) : iblk m c 1 t (ix2 0 k) = a1 m c (ix2 0 k) := by
  have e : iblk m c 1 t (ix2 0 k) = V m c main_v31 (ix2 0 k) := by
    blk_point [iblk, V, idx1 t]
  exact e.trans (V1 m c _)

theorem blk2 (t : Fin cfg0.N) (k : Fin 512) : iblk m c 2 t (ix2 0 k) = a2 m c (ix2 0 k) := by
  have e : iblk m c 2 t (ix2 0 k) = V m c main_v32 (ix2 0 k) := by
    blk_point [iblk, V, idx2 t]
  exact e.trans (V2 m c _)

theorem blk3 (t : Fin cfg0.N) (a : Fin 128) (n : Fin 128) : iblk m c 3 t (ix2 a n) = cosv (rOf (rowOf t a)) (mod32 n) := by
  have e : iblk m c 3 t (ix2 a n) = V m c main_v22 (ix2 a n) := by
    blk_point [iblk, V, idx3 t]
  rw [e, Vcos, tile_read, cosT_read]
  exact ite_self _

theorem blk4 (t : Fin cfg0.N) (a : Fin 128) (n : Fin 128) :
    iblk m c 4 t (ix2 a n) = if n.val % 64 < 32 then -sinv (rOf (rowOf t a)) (mod32 n) else sinv (rOf (rowOf t a)) (mod32 n) := by
  have e : iblk m c 4 t (ix2 a n) = V m c main_v27 (ix2 a n) := by
    blk_point [iblk, V, idx4 t]
  rw [e, Vsin, tile_read]
  have h := sinT_read a (mod32 n)
  exact congrArg₂ (fun p q : EReal => if n.val % 64 < 32 then p else q) (congrArg (fun z : EReal => -z) h) h

theorem blk5 (t : Fin cfg0.N) (k : Fin 64) (n : Fin 128) : iblk m c 5 t (ix2 k n) = if n.val % 64 = k.val then (1 : EReal) else 0 := by
  have e : iblk m c 5 t (ix2 k n) = V m c main_cst (ix2 k n) := by
    blk_point [iblk, V, idx5 t]
  exact e.trans (Vdup m c k n)

/-! ## What each point stores, at a row and column of its blocks -/

theorem st6 (t : Fin cfg0.N) (a : Fin 128) (k : Fin 768) : (outsAt0 m c t).1 (ix2 a k) = cq (a0 m c) (a1 m c) (rowOf t a) k := by
  rw [out6, cq_read]
  simp only [blk0, blk1]
  rfl

theorem pay_kv (t : Fin cfg0.N) (a : Fin 128) (k : Fin 512) :
    k0_pay5 (iblk m c 0 t) (iblk m c 2 t) (ix2 a k) = ckv (a0 m c) (a2 m c) (rowOf t a) k := by
  rw [ckv_read]
  simp only [blk0, blk2]
  rfl

theorem st7 (t : Fin cfg0.N) (a : Fin 128) (k : Fin 512) : (outsAt0 m c t).2.1 (ix2 a k) = ckv (a0 m c) (a2 m c) (rowOf t a) k := by
  rw [out7, ckvb_read]
  simp only [blk0, blk2]
  rfl

theorem pay_rot (t : Fin cfg0.N) (a : Fin 128) (n : Fin 128) :
    k0_pay1 (k0_pay7 (iblk m c 0 t)) (iblk m c 5 t) zero (iblk m c 3 t) (iblk m c 4 t) (ix2 a n) = krope (a0 m c) (rowOf t a) (mod64 n) := by
  refine (rot_read (iblk m c 0 t) (iblk m c 5 t) (iblk m c 3 t) (iblk m c 4 t) a (cosv (rOf (rowOf t a))) (sinv (rOf (rowOf t a)))
    (blk5 m c t) (blk3 m c t a) (blk4 m c t a) n).trans ?_
  simp only [blk0]
  rfl

theorem st9 (t : Fin cfg0.N) (a : Fin 128) (n : Fin 128) : (outsAt0 m c t).2.2.2 (ix2 a n) = krope (a0 m c) (rowOf t a) (mod64 n) := by
  rw [out9]
  exact pay_rot m c t a n

theorem st8 (t : Fin cfg0.N) (a : Fin 128) (n : Fin 576) : (outsAt0 m c t).2.2.1 (ix2 a n) = cache (a0 m c) (a2 m c) (rowOf t a) n := by
  rw [out8]
  unfold sideBySide cache
  by_cases h : n.val < 512
  · rw [dif_pos h]
    exact (dif_pos h).trans (pay_kv m c t a ⟨n.val, h⟩)
  · rw [dif_neg h]
    refine (dif_neg h).trans ?_
    refine (half_read _ _ _ _ _ a ⟨n.val - 512, by omega⟩).trans ((pay_rot m c t a _).trans ?_)
    exact congrArg (krope (a0 m c) (rowOf t a)) (Fin.ext (show (n.val - 512) % 64 = n.val - 512 by omega))

/-! ## The result arrays -/

def outQ : S128x768.Idx → EReal := fun y => cq (a0 m c) (a1 m c) (y 0) (y 1)
def outK : S128x512.Idx → EReal := fun y => ckv (a0 m c) (a2 m c) (y 0) (y 1)
def outC : S128x576.Idx → EReal := fun y => cache (a0 m c) (a2 m c) (y 0) (y 1)
def outR : S128x128.Idx → EReal := fun y => krope (a0 m c) (y 0) (mod64 (y 1))

theorem arr6 : (dats m 0 c).arrAt 6 cfg0.N = outQ m c := by
  refine (dats m 0 c).arrAt_eq_of_covers 6 _ (by decide +kernel) fun t hf y => ?_
  blk_simp
  rw [after0_6]
  have h0 : (((cfg0.win 6).blk t).view.emb y 0).val = t.val * 128 + (y 0).val := by
    blk_simp [idx6 t]
  have h1 : (((cfg0.win 6).blk t).view.emb y 1).val = (y 1).val := by
    blk_simp [idx6 t]
  obtain ⟨a, n, rfl⟩ : ∃ (a : Fin 128) (n : Fin 768), y = ix2 a n := ⟨y 0, y 1, eq_ix2 y⟩
  have e0 : ((cfg0.win 6).blk t).view.emb (ix2 a n) 0 = rowOf t a := Fin.ext h0
  have e1 : ((cfg0.win 6).blk t).view.emb (ix2 a n) 1 = n := Fin.ext h1
  refine (st6 m c t a n).trans ?_
  unfold outQ
  rw [e0, e1]

theorem arr7 : (dats m 0 c).arrAt 7 cfg0.N = outK m c := by
  refine (dats m 0 c).arrAt_eq_of_covers 7 _ (by decide +kernel) fun t hf y => ?_
  blk_simp
  rw [after0_7]
  have h0 : (((cfg0.win 7).blk t).view.emb y 0).val = t.val * 128 + (y 0).val := by
    blk_simp [idx7 t]
  have h1 : (((cfg0.win 7).blk t).view.emb y 1).val = (y 1).val := by
    blk_simp [idx7 t]
  obtain ⟨a, n, rfl⟩ : ∃ (a : Fin 128) (n : Fin 512), y = ix2 a n := ⟨y 0, y 1, eq_ix2 y⟩
  have e0 : ((cfg0.win 7).blk t).view.emb (ix2 a n) 0 = rowOf t a := Fin.ext h0
  have e1 : ((cfg0.win 7).blk t).view.emb (ix2 a n) 1 = n := Fin.ext h1
  refine (st7 m c t a n).trans ?_
  unfold outK
  rw [e0, e1]

theorem arr8 : (dats m 0 c).arrAt 8 cfg0.N = outC m c := by
  refine (dats m 0 c).arrAt_eq_of_covers 8 _ (by decide +kernel) fun t hf y => ?_
  blk_simp
  rw [after0_8]
  have h0 : (((cfg0.win 8).blk t).view.emb y 0).val = t.val * 128 + (y 0).val := by
    blk_simp [idx8 t]
  have h1 : (((cfg0.win 8).blk t).view.emb y 1).val = (y 1).val := by
    blk_simp [idx8 t]
  obtain ⟨a, n, rfl⟩ : ∃ (a : Fin 128) (n : Fin 576), y = ix2 a n := ⟨y 0, y 1, eq_ix2 y⟩
  have e0 : ((cfg0.win 8).blk t).view.emb (ix2 a n) 0 = rowOf t a := Fin.ext h0
  have e1 : ((cfg0.win 8).blk t).view.emb (ix2 a n) 1 = n := Fin.ext h1
  refine (st8 m c t a n).trans ?_
  unfold outC
  rw [e0, e1]

theorem arr9 : (dats m 0 c).arrAt 9 cfg0.N = outR m c := by
  refine (dats m 0 c).arrAt_eq_of_covers 9 _ (by decide +kernel) fun t hf y => ?_
  blk_simp
  rw [after0_9]
  have h0 : (((cfg0.win 9).blk t).view.emb y 0).val = t.val * 128 + (y 0).val := by
    blk_simp [idx9 t]
  have h1 : (((cfg0.win 9).blk t).view.emb y 1).val = (y 1).val := by
    blk_simp [idx9 t]
  obtain ⟨a, n, rfl⟩ : ∃ (a : Fin 128) (n : Fin 128), y = ix2 a n := ⟨y 0, y 1, eq_ix2 y⟩
  have e0 : ((cfg0.win 9).blk t).view.emb (ix2 a n) 0 = rowOf t a := Fin.ext h0
  have e1 : ((cfg0.win 9).blk t).view.emb (ix2 a n) 1 = n := Fin.ext h1
  refine (st9 m c t a n).trans ?_
  unfold outR
  rw [e0, e1]

end Points

end Cert.Own.Prs

namespace Cert.Own.PrsRef

open Idealize.ShloMosaic Idealize.SL.Sem Cert.ReferencePrepSIdeal Cert.ReferencePrepSIdeal.Gen Cert.ReferencePrepSIdeal.Read Cert.Own.Prs
open Cert.Own.Prep (rms w768 w512 colQ colK colR inHalf inHalf_eq right left rot mod64 mod32)

section Ref
variable (A0 : (⟨3, ![128, 1, 1344]⟩ : Shape).Idx → EReal) (A1 : (⟨2, ![1, 768]⟩ : Shape).Idx → EReal) (A2 : (⟨2, ![1, 512]⟩ : Shape).Idx → EReal)

/-- The reference's first result at a row and column. -/
theorem ref_q (i : Fin 128) (k : Fin 768) : val_main_v70 (F := Ideal) A0 A1 (ix2 i k) = cq A0 A1 i k := by
  pointwise [cq, hrow, bOf, rOf, rms, colQ, w768, val_main_v70, val_main_v69, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The reference's normed latent of the keys. -/
theorem ref_kv (i : Fin 128) (k : Fin 512) : val_main_v29 (F := Ideal) A0 A2 (ix3 (bOf i) (rOf i) k) = ckv A0 A2 i k := by
  pointwise [ckv, hrow, bOf, rOf, rms, colK, w512, val_main_v29, val_main_v28, val_main_v27, val_main_v26, val_main_v25, val_main_v24, val_main_v23, val_main_v22, val_main_v21, val_main_v20, val_main_v19, val_main_v18, val_main_v17, val_main_v16, val_main_v15, val_main_cst_2, val_main_cst_3, val_main_cst_4]

/-- The two halves of the rotated key. -/
theorem ref_lo (i : Fin 128) (k : Fin 32) : val_main_v59 (F := Ideal) A0 (ix3 (bOf i) (rOf i) k)
    = hrow A0 i (colR ⟨k.val, by omega⟩) * cosv (rOf i) k - hrow A0 i (colR ⟨32 + k.val, by omega⟩) * sinv (rOf i) k := by
  unfold cosv sinv
  pointwise [hrow, bOf, rOf, colR, val_main_v65, val_main_v64, val_main_v63, val_main_v62, val_main_v61, val_main_v60, val_main_v59, val_main_v58, val_main_v57, val_main_v56, val_main_v55, val_main_v54, val_main_v53, val_main_v32, val_main_v31, val_main_v30]

theorem ref_hi (i : Fin 128) (k : Fin 32) : val_main_v66 (F := Ideal) A0 (ix3 (bOf i) (rOf i) k)
    = hrow A0 i (colR ⟨k.val, by omega⟩) * sinv (rOf i) k + hrow A0 i (colR ⟨32 + k.val, by omega⟩) * cosv (rOf i) k := by
  unfold cosv sinv
  pointwise [hrow, bOf, rOf, colR, val_main_v66, val_main_v65, val_main_v64, val_main_v63, val_main_v62, val_main_v61, val_main_v60, val_main_v59, val_main_v58, val_main_v57, val_main_v56, val_main_v55, val_main_v54, val_main_v53, val_main_v32, val_main_v31, val_main_v30]

/-- The rotated key. -/
theorem ref_rot (i : Fin 128) (d : Fin 64) : val_main_v67 (F := Ideal) A0 (ix3 (bOf i) (rOf i) d) = krope A0 i d := by
  unfold val_main_v67
  have lo := ref_lo A0 i
  have hi := ref_hi A0 i
  generalize val_main_v59 (F := Ideal) A0 = p at *
  generalize val_main_v66 (F := Ideal) A0 = q at *
  have e : concatenate S128x1x64 2 [⟨S128x1x32, p⟩, ⟨S128x1x32, q⟩] concatenates_S128x1x32_S128x1x32_S128x1x64_d2 (ix3 (bOf i) (rOf i) d)
      = if h : d.val < 32 then p (ix3 (bOf i) (rOf i) ⟨d.val, h⟩) else q (ix3 (bOf i) (rOf i) ⟨d.val - 32, by omega⟩) := by
    pointwise []
    rfl
  refine e.trans ?_
  unfold krope rot
  by_cases h : d.val < 32
  · rw [dif_pos h, dif_pos h, lo]
    have e : (⟨32 + d.val, by omega⟩ : Fin 64) = ⟨d.val + 32, by omega⟩ := Fin.ext (Nat.add_comm ..)
    rw [e]
  · rw [dif_neg h, dif_neg h, hi]
    have e : (⟨32 + (d.val - 32), by omega⟩ : Fin 64) = d := Fin.ext (by show 32 + (d.val - 32) = d.val; omega)
    rw [e]

/-- The reference's second result at a row and column. -/
theorem ref_k (i : Fin 128) (k : Fin 512) : val_main_v72 (F := Ideal) A0 A2 (ix2 i k) = ckv A0 A2 i k := by
  rw [← ref_kv]
  unfold val_main_v72 val_main_v71
  generalize val_main_v29 (F := Ideal) A0 A2 = p
  pointwise [bOf, rOf]

/-- The reference's third result: the cache's rows. -/
theorem ref_cache (i : Fin 128) (n : Fin 576) : val_main_v73 (F := Ideal) A0 A2 (ix2 i n) = cache A0 A2 i n := by
  unfold val_main_v73 val_main_v68 cache
  have e1 := ref_kv A0 A2 i
  have e2 := ref_rot A0 i
  generalize val_main_v29 (F := Ideal) A0 A2 = p at *
  generalize val_main_v67 (F := Ideal) A0 = q at *
  have e : shapeCast S128x576 (concatenate S128x1x576 2 [⟨S128x1x512, p⟩, ⟨S128x1x64, q⟩] concatenates_S128x1x512_S128x1x64_S128x1x576_d2)
      shapeCasts_S128x1x576_S128x576 (ix2 i n)
      = if h : n.val < 512 then p (ix3 (bOf i) (rOf i) ⟨n.val, h⟩) else q (ix3 (bOf i) (rOf i) ⟨n.val - 512, by omega⟩) := by
    pointwise [bOf, rOf]
  refine e.trans ?_
  by_cases h : n.val < 512
  · rw [dif_pos h, dif_pos h, e1]
  · rw [dif_neg h, dif_neg h, e2]

/-- The reference's fourth result: the rotary key, twice. -/
theorem ref_twice (i : Fin 128) (n : Fin 128) : val_main_v75 (F := Ideal) A0 (ix2 i n) = krope A0 i (mod64 n) := by
  unfold val_main_v75 val_main_v74
  have e2 := ref_rot A0 i
  generalize val_main_v67 (F := Ideal) A0 = q at *
  have e : shapeCast S128x128 (concatenate S128x1x128 2 [⟨S128x1x64, q⟩, ⟨S128x1x64, q⟩] concatenates_S128x1x64_S128x1x64_S128x1x128_d2)
      shapeCasts_S128x1x128_S128x128 (ix2 i n)
      = if h : n.val < 64 then q (ix3 (bOf i) (rOf i) ⟨n.val, h⟩) else q (ix3 (bOf i) (rOf i) ⟨n.val - 64, by omega⟩) := by
    pointwise [bOf, rOf]
  refine e.trans ?_
  by_cases h : n.val < 64
  · rw [dif_pos h, e2]
    exact congrArg (krope A0 i) (Fin.ext (show n.val = n.val % 64 by omega))
  · rw [dif_neg h, e2]
    exact congrArg (krope A0 i) (Fin.ext (show n.val - 64 = n.val % 64 by omega))

end Ref
end Cert.Own.PrsRef

end
-- ==== Proof.Cmb.lean ====
/-
  The sum of the three branches' outputs over the sample, each weighted by the sigmoid of its gate.
-/
module

public import proofs.«01_k».proof.Proof.Gen.KernelCombineIdeal.Value
public import proofs.«01_k».proof.Proof.Gen.ReferenceCombineIdeal.Read
public import Idealize.ShloMosaic.Lib.Pipeline.ValueKit
public import Idealize.ShloMosaic.Lib.Pointwise

@[expose] public section

set_option maxRecDepth 16384

noncomputable section

namespace Cert.Own.Cmb

open Idealize.ShloMosaic Idealize.SL.Sem Cert.KernelCombineIdeal Cert.KernelCombineIdeal.Gen

/-- One over one plus the exponential of the negated number. -/
def sigm (p : EReal) : EReal :=
  Ideal.div (Ideal.ofBits .f32 0x3F800000#32) (Ideal.ofBits .f32 0x3F800000#32 + Ideal.exp (0 - p))

/-- The sample's row and the head of a row of the result. -/
def bOf (i : Fin 2048) : Fin 128 := ⟨i.val / 16, by omega⟩
def hOf (i : Fin 2048) : Fin 16 := ⟨i.val % 16, by omega⟩

/-- The column of branch `j`'s gate for head `h`. -/
def gcol (j : Fin 3) (h : Fin 16) : Fin 48 := ⟨j.val * 16 + h.val, by omega⟩

/-- The weighted sum at row `b`, head `h` and entry `d`. -/
def mix (G : (⟨3, ![128, 1, 48]⟩ : Shape).Idx → EReal) (A B C : (⟨4, ![128, 1, 16, 128]⟩ : Shape).Idx → EReal)
    (b : Fin 128) (h : Fin 16) (d : Fin 128) : EReal :=
  sigm (G (ix3 b 0 (gcol 0 h))) * A (ix4 b 0 h d) + sigm (G (ix3 b 0 (gcol 1 h))) * B (ix4 b 0 h d)
    + sigm (G (ix3 b 0 (gcol 2 h))) * C (ix4 b 0 h d)

/-- What the call stores, at a row and column. -/
theorem out_read (x0 : Vec Ideal S3x2048x1 .f32) (x1 x2 x3 : Vec Ideal S2048x128 .f32) (i : Fin 2048) (d : Fin 128) :
    out0_4 x0 x1 x2 x3 (ix2 i d) = sigm (x0 (ix3 0 i 0)) * x1 (ix2 i d) + sigm (x0 (ix3 1 i 0)) * x2 (ix2 i d)
      + sigm (x0 (ix3 2 i 0)) * x3 (ix2 i d) := by
  unfold out0_4
  rw [View.canon_cons_unit_lit (h := fun d => by fin_cases d <;> rfl)]
  pointwise [k0_pay1, sigm]

variable (m : (ℓ : Loc nD τ sig) → Buf (Elt Ideal) ℓ) (c : Dev nD)

/-- The argument arrays of core `c`. -/
def a0 : (⟨3, ![128, 1, 48]⟩ : Shape).Idx → EReal := m (c, Proc.tc.devRef main_arg0)
def a1 : (⟨4, ![128, 1, 16, 128]⟩ : Shape).Idx → EReal := m (c, Proc.tc.devRef main_arg1)
def a2 : (⟨4, ![128, 1, 16, 128]⟩ : Shape).Idx → EReal := m (c, Proc.tc.devRef main_arg2)
def a3 : (⟨4, ![128, 1, 16, 128]⟩ : Shape).Idx → EReal := m (c, Proc.tc.devRef main_arg3)

theorem V0 (j : Fin 3) (i : Fin 2048) : V m c main_v2 (ix3 j i 0) = a0 m c (ix3 (bOf i) 0 (gcol j (hOf i))) := by
  unfold V
  after_results
  pointwise [a0, bOf, hOf, gcol]

theorem V1 (i : Fin 2048) (d : Fin 128) : V m c main_v3 (ix2 i d) = a1 m c (ix4 (bOf i) 0 (hOf i) d) := by
  unfold V
  after_results
  pointwise [a1, bOf, hOf]

theorem V2 (i : Fin 2048) (d : Fin 128) : V m c main_v4 (ix2 i d) = a2 m c (ix4 (bOf i) 0 (hOf i) d) := by
  unfold V
  after_results
  pointwise [a2, bOf, hOf]

theorem V3 (i : Fin 2048) (d : Fin 128) : V m c main_v5 (ix2 i d) = a3 m c (ix4 (bOf i) 0 (hOf i) d) := by
  unfold V
  after_results
  pointwise [a3, bOf, hOf]

/-- The block index of each window at the one grid point. -/
theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

/-- The one block of each operand is the whole operand. -/
theorem blk0 (t : Fin cfg0.N) (j : Fin 3) (i : Fin 2048) : iblk m c 0 t (ix3 j i 0) = a0 m c (ix3 (bOf i) 0 (gcol j (hOf i))) := by
  have e : iblk m c 0 t (ix3 j i 0) = V m c main_v2 (ix3 j i 0) := by
    blk_point [iblk, V, idx0 t]
  exact e.trans (V0 m c _ _)

theorem blk1 (t : Fin cfg0.N) (i : Fin 2048) (d : Fin 128) : iblk m c 1 t (ix2 i d) = a1 m c (ix4 (bOf i) 0 (hOf i) d) := by
  have e : iblk m c 1 t (ix2 i d) = V m c main_v3 (ix2 i d) := by
    blk_point [iblk, V, idx1 t]
  exact e.trans (V1 m c _ _)

theorem blk2 (t : Fin cfg0.N) (i : Fin 2048) (d : Fin 128) : iblk m c 2 t (ix2 i d) = a2 m c (ix4 (bOf i) 0 (hOf i) d) := by
  have e : iblk m c 2 t (ix2 i d) = V m c main_v4 (ix2 i d) := by
    blk_point [iblk, V, idx2 t]
  exact e.trans (V2 m c _ _)

theorem blk3 (t : Fin cfg0.N) (i : Fin 2048) (d : Fin 128) : iblk m c 3 t (ix2 i d) = a3 m c (ix4 (bOf i) 0 (hOf i) d) := by
  have e : iblk m c 3 t (ix2 i d) = V m c main_v5 (ix2 i d) := by
    blk_point [iblk, V, idx3 t]
  exact e.trans (V3 m c _ _)

/-- The result array. -/
def outArr : S2048x128.Idx → EReal := fun y => mix (a0 m c) (a1 m c) (a2 m c) (a3 m c) (bOf (y 0)) (hOf (y 0)) (y 1)

/-- The result array of the run is `outArr`. -/
theorem arr_eq : (dats m 0 c).arrAt 4 cfg0.N = outArr m c := by
  refine (dats m 0 c).arrAt_eq_of_covers 4 _ (by decide +kernel) fun t hf y => ?_
  blk_simp
  rw [after0_4]
  have h0 : (((cfg0.win 4).blk t).view.emb y 0).val = 0 * 2048 + (y 0).val := by
    blk_simp [idx4 t]
  have h1 : (((cfg0.win 4).blk t).view.emb y 1).val = 0 * 128 + (y 1).val := by
    blk_simp [idx4 t]
  obtain ⟨a, n, rfl⟩ : ∃ (a : Fin 2048) (n : Fin 128), y = ix2 a n := ⟨y 0, y 1, eq_ix2 y⟩
  have e0 : ((cfg0.win 4).blk t).view.emb (ix2 a n) 0 = a := Fin.ext (h0.trans (by show 0 * 2048 + a.val = a.val; omega))
  have e1 : ((cfg0.win 4).blk t).view.emb (ix2 a n) 1 = n := Fin.ext (h1.trans (by show 0 * 128 + n.val = n.val; omega))
  refine (out_read _ _ _ _ a n).trans ?_
  unfold outArr mix
  rw [e0, e1]
  simp only [blk0, blk1, blk2, blk3]

end Cert.Own.Cmb

namespace Cert.Own.CmbRef

open Idealize.ShloMosaic Idealize.SL.Sem Cert.ReferenceCombineIdeal Cert.ReferenceCombineIdeal.Read
open Cert.Own.Cmb (bOf hOf gcol sigm)

/-- The reference's result at a row and column. -/
theorem ref_out (x0 : (⟨S128x1x48, .f32⟩ : BufTy).Contents (Elt Ideal)) (x1 x2 x3 : (⟨S128x1x16x128, .f32⟩ : BufTy).Contents (Elt Ideal))
    (i : Fin 2048) (d : Fin 128) : val_main_v25 (F := Ideal) x0 x1 x2 x3 (ix2 i d) = Cert.Own.Cmb.mix x0 x1 x2 x3 (bOf i) (hOf i) d := by
  pointwise [val_main_v25, val_main_v24, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_v6, val_main_v5, val_main_v4, val_main_cst_0, val_main_v3,
    val_main_v2, val_main_cst, val_main_v1, val_main_v0, Cert.Own.Cmb.mix, sigm, bOf, hOf, gcol]
  simp only [zero_sub]

end Cert.Own.CmbRef

end
-- ==== Proof.Abq.lean ====
/-
  The absorbed queries of the sample: each head's queries times the weights of its keys.
-/
module

public import proofs.«01_k».proof.Proof.Gen.KernelAbsorbQIdeal.Value
public import proofs.«01_k».proof.Proof.Gen.ReferenceAbsorbQIdeal.Read
public import Idealize.ShloMosaic.Lib.Pipeline.ValueKit
public import Idealize.ShloMosaic.Lib.Pointwise

@[expose] public section

set_option maxRecDepth 16384

noncomputable section

namespace Cert.Own.Abq

open Idealize.ShloMosaic Idealize.SL.Sem Cert.KernelAbsorbQIdeal Cert.KernelAbsorbQIdeal.Gen

/-- The column of head `h`'s entry `d` in the queries and in the weights, where a head has 128 columns for its keys and 128 for its values. -/
def qcol (h : Fin 16) (d : Fin 128) : Fin 3072 := ⟨h.val * 128 + d.val, by omega⟩
def kcol (h : Fin 16) (d : Fin 128) : Fin 4096 := ⟨h.val * 256 + d.val, by omega⟩

/-- Head `h`'s query at row `r`, times the weights of the latent's entry `l`. -/
def absorb (A0 : (⟨3, ![128, 1, 3072]⟩ : Shape).Idx → EReal) (A1 : (⟨3, ![1, 512, 4096]⟩ : Shape).Idx → EReal)
    (h : Fin 16) (r : Fin 128) (l : Fin 512) : EReal :=
  ∑ d : Fin 128, A0 (ix3 r 0 (qcol h d)) * A1 (ix3 0 l (kcol h d))

/-- What a grid point stores, at a place of its block. -/
theorem out_read (x0 : Vec Ideal S128x128 .f32) (x1 : Vec Ideal S512x128 .f32) (a : Fin 128) (n : Fin 512) :
    out0_2 x0 x1 (ix3 0 a n) = ∑ d : Fin 128, x0 (ix2 a d) * x1 (ix2 n d) := by
  unfold out0_2
  rw [View.canon_cons_unit_lit (h := fun d => by fin_cases d <;> rfl)]
  pointwise [k0_pay1]

variable (m : (ℓ : Loc nD τ sig) → Buf (Elt Ideal) ℓ) (c : Dev nD)

/-- The block index of each window at a grid point. -/
theorem idx0 : ∀ t : Fin cfg0.N, win0_0.index t = ![0, t.val] := (by decide +kernel : ∀ t : Fin grid0.N, _)
theorem idx1 : ∀ t : Fin cfg0.N, win0_1.index t = ![0, 2 * t.val] := (by decide +kernel : ∀ t : Fin grid0.N, _)
theorem idx2 : ∀ t : Fin cfg0.N, win0_2.index t = ![t.val, 0, 0] := (by decide +kernel : ∀ t : Fin grid0.N, _)

theorem t_lt (t : Fin cfg0.N) : t.val < 16 := lt_of_lt_of_eq t.isLt (by decide +kernel)

/-- The argument arrays of core `c`. -/
def a0 : (⟨3, ![128, 1, 3072]⟩ : Shape).Idx → EReal := m (c, Proc.tc.devRef main_arg0)
def a1 : (⟨3, ![1, 512, 4096]⟩ : Shape).Idx → EReal := m (c, Proc.tc.devRef main_arg1)

theorem V0 (r : Fin 128) (k : Fin 3072) : V m c main_v0 (ix2 r k) = a0 m c (ix3 r 0 k) := by
  unfold V
  after_results
  pointwise [a0]

theorem V1 (l : Fin 512) (k : Fin 4096) : V m c main_v1 (ix2 l k) = a1 m c (ix3 0 l k) := by
  unfold V
  after_results
  pointwise [a1]

/-- The head of a grid point. -/
def headOf (t : Fin cfg0.N) : Fin 16 := ⟨t.val, t_lt t⟩

/-- The head's block of the queries. -/
theorem blk0 (t : Fin cfg0.N) (r d : Fin 128) : iblk m c 0 t (ix2 r d) = a0 m c (ix3 r 0 (qcol (headOf t) d)) := by
  have e : iblk m c 0 t (ix2 r d) = V m c main_v0 (ix2 r (qcol (headOf t) d)) := by
    blk_point [iblk, V, idx0 t, headOf, qcol]
  exact e.trans (V0 m c _ _)

/-- The head's block of the weights. -/
theorem blk1 (t : Fin cfg0.N) (l : Fin 512) (d : Fin 128) : iblk m c 1 t (ix2 l d) = a1 m c (ix3 0 l (kcol (headOf t) d)) := by
  have e : iblk m c 1 t (ix2 l d) = V m c main_v1 (ix2 l (kcol (headOf t) d)) := by
    blk_point [iblk, V, idx1 t, headOf, kcol]
  exact e.trans (V1 m c _ _)

/-- The result array. -/
def outArr : S16x128x512.Idx → EReal := fun y => absorb (a0 m c) (a1 m c) (y 0) (y 1) (y 2)

/-- The result array of the run is `outArr`. -/
theorem arr_eq : (dats m 0 c).arrAt 2 cfg0.N = outArr m c := by
  refine (dats m 0 c).arrAt_eq_of_covers 2 _ (by decide +kernel) fun t hf y => ?_
  blk_simp
  rw [after0_2]
  have h0 : (((cfg0.win 2).blk t).view.emb y 0).val = t.val * 1 + (y 0).val := by
    blk_simp [idx2 t]
  have h1 : (((cfg0.win 2).blk t).view.emb y 1).val = 0 * 128 + (y 1).val := by
    blk_simp [idx2 t]
  have h2 : (((cfg0.win 2).blk t).view.emb y 2).val = 0 * 512 + (y 2).val := by
    blk_simp [idx2 t]
  obtain ⟨z, a, n, rfl⟩ : ∃ (z : Fin 1) (a : Fin 128) (n : Fin 512), y = ix3 z a n := ⟨y 0, y 1, y 2, eq_ix3 y⟩
  obtain rfl : z = 0 := Subsingleton.elim _ _
  have e0 : ((cfg0.win 2).blk t).view.emb (ix3 0 a n) 0 = headOf t := Fin.ext (h0.trans (by show t.val * 1 + 0 = t.val; omega))
  have e1 : ((cfg0.win 2).blk t).view.emb (ix3 0 a n) 1 = a := Fin.ext (h1.trans (by show 0 * 128 + a.val = a.val; omega))
  have e2 : ((cfg0.win 2).blk t).view.emb (ix3 0 a n) 2 = n := Fin.ext (h2.trans (by show 0 * 512 + n.val = n.val; omega))
  refine (out_read _ _ a n).trans ?_
  unfold outArr absorb
  rw [e0, e1, e2]
  simp only [blk0, blk1]

end Cert.Own.Abq

namespace Cert.Own.AbqRef

open Idealize.ShloMosaic Idealize.SL.Sem Cert.ReferenceAbsorbQIdeal Cert.ReferenceAbsorbQIdeal.Read

/-- The reference's result at a head, a row and an entry of the latent. -/
theorem ref_out (x0 : (⟨S128x1x3072, .f32⟩ : BufTy).Contents (Elt Ideal)) (x1 : (⟨S1x512x4096, .f32⟩ : BufTy).Contents (Elt Ideal))
    (h : Fin 16) (r : Fin 128) (l : Fin 512) : val_main_v8 (F := Ideal) x0 x1 (ix3 h r l) = Cert.Own.Abq.absorb x0 x1 h r l := by
  have e : val_main_v8 (F := Ideal) x0 x1 (ix3 h r l)
      = ∑ d : Fin 128, x1 (ix3 0 l (Cert.Own.Abq.kcol h d)) * x0 (ix3 r 0 (Cert.Own.Abq.qcol h d)) := by
    pointwise [val_main_v8, val_main_v7, val_main_v6, val_main_v5, val_main_v4, val_main_v3, val_main_v2, val_main_v1, val_main_v0,
      Cert.Own.Abq.kcol, Cert.Own.Abq.qcol]
  exact e.trans (Finset.sum_congr rfl fun d _ => mul_comm _ _)

end Cert.Own.AbqRef

end
-- ==== Proof.Abo.lean ====
/-
  The outputs of the sample's heads from their latent: each head's latent output times the weights of its values.
-/
module

public import proofs.«01_k».proof.Proof.Gen.KernelAbsorbOIdeal.Value
public import proofs.«01_k».proof.Proof.Gen.ReferenceAbsorbOIdeal.Read
public import Idealize.ShloMosaic.Lib.Pipeline.ValueKit
public import Idealize.ShloMosaic.Lib.Pointwise

@[expose] public section

set_option maxRecDepth 16384

noncomputable section

namespace Cert.Own.Abo

open Idealize.ShloMosaic Idealize.SL.Sem Cert.KernelAbsorbOIdeal Cert.KernelAbsorbOIdeal.Gen

/-- The column of head `h`'s entry `d` in the weights, where a head has 128 columns for its keys and then 128 for its values. -/
def vcol (h : Fin 16) (d : Fin 128) : Fin 4096 := ⟨h.val * 256 + (128 + d.val), by omega⟩

/-- The head of a column of the result, and the column within the head. -/
def hOf (n : Fin 2048) : Fin 16 := ⟨n.val / 128, by omega⟩
def dOf (n : Fin 2048) : Fin 128 := ⟨n.val % 128, by omega⟩

/-- The product of a row of a head's latent output with a column of its values' weights. -/
def expand (A0 : (⟨4, ![128, 1, 16, 512]⟩ : Shape).Idx → EReal) (A1 : (⟨3, ![1, 512, 4096]⟩ : Shape).Idx → EReal)
    (r : Fin 128) (h : Fin 16) (d : Fin 128) : EReal :=
  ∑ l : Fin 512, A0 (ix4 r 0 h l) * A1 (ix3 0 l (vcol h d))

/-- What a grid point stores, at a place of its block. -/
theorem out_read (x0 : Vec Ideal S1x128x512 .f32) (x1 : Vec Ideal S512x128 .f32) (a n : Fin 128) :
    out0_2 x0 x1 (ix2 a n) = ∑ l : Fin 512, x0 (ix3 0 a l) * x1 (ix2 l n) := by
  unfold out0_2
  rw [View.canon_cons_unit_lit (h := fun d => by fin_cases d <;> rfl)]
  pointwise [k0_pay1]

variable (m : (ℓ : Loc nD τ sig) → Buf (Elt Ideal) ℓ) (c : Dev nD)

/-- The block index of each window at a grid point. -/
theorem idx0 : ∀ t : Fin cfg0.N, win0_0.index t = ![t.val, 0, 0] := (by decide +kernel : ∀ t : Fin grid0.N, _)
theorem idx1 : ∀ t : Fin cfg0.N, win0_1.index t = ![0, 2 * t.val + 1] := (by decide +kernel : ∀ t : Fin grid0.N, _)
theorem idx2 : ∀ t : Fin cfg0.N, win0_2.index t = ![0, t.val] := (by decide +kernel : ∀ t : Fin grid0.N, _)

theorem t_lt (t : Fin cfg0.N) : t.val < 16 := lt_of_lt_of_eq t.isLt (by decide +kernel)

/-- The argument arrays of core `c`. -/
def a0 : (⟨4, ![128, 1, 16, 512]⟩ : Shape).Idx → EReal := m (c, Proc.tc.devRef main_arg0)
def a1 : (⟨3, ![1, 512, 4096]⟩ : Shape).Idx → EReal := m (c, Proc.tc.devRef main_arg1)

theorem V0 (h : Fin 16) (r : Fin 128) (l : Fin 512) : V m c main_v1 (ix3 h r l) = a0 m c (ix4 r 0 h l) := by
  unfold V
  after_results
  pointwise [a0]

theorem V1 (l : Fin 512) (k : Fin 4096) : V m c main_v2 (ix2 l k) = a1 m c (ix3 0 l k) := by
  unfold V
  after_results
  pointwise [a1]

/-- The head of a grid point. -/
def headOf (t : Fin cfg0.N) : Fin 16 := ⟨t.val, t_lt t⟩

/-- The head's block of the latent outputs. -/
theorem blk0 (t : Fin cfg0.N) (r : Fin 128) (l : Fin 512) : iblk m c 0 t (ix3 0 r l) = a0 m c (ix4 r 0 (headOf t) l) := by
  have e : iblk m c 0 t (ix3 0 r l) = V m c main_v1 (ix3 (headOf t) r l) := by
    blk_point [iblk, V, idx0 t, headOf]
  exact e.trans (V0 m c _ _ _)

/-- The head's block of the weights. -/
theorem blk1 (t : Fin cfg0.N) (l : Fin 512) (d : Fin 128) : iblk m c 1 t (ix2 l d) = a1 m c (ix3 0 l (vcol (headOf t) d)) := by
  have e : iblk m c 1 t (ix2 l d) = V m c main_v2 (ix2 l (vcol (headOf t) d)) := by
    blk_point [iblk, V, idx1 t, headOf, vcol]
  exact e.trans (V1 m c _ _)

/-- The result array. -/
def outArr : S128x2048.Idx → EReal := fun y => expand (a0 m c) (a1 m c) (y 0) (hOf (y 1)) (dOf (y 1))

/-- The result array of the run is `outArr`. -/
theorem arr_eq : (dats m 0 c).arrAt 2 cfg0.N = outArr m c := by
  refine (dats m 0 c).arrAt_eq_of_covers 2 _ (by decide +kernel) fun t hf y => ?_
  blk_simp
  rw [after0_2]
  have h0 : (((cfg0.win 2).blk t).view.emb y 0).val = 0 * 128 + (y 0).val := by
    blk_simp [idx2 t]
  have h1 : (((cfg0.win 2).blk t).view.emb y 1).val = t.val * 128 + (y 1).val := by
    blk_simp [idx2 t]
  obtain ⟨a, n, rfl⟩ : ∃ (a n : Fin 128), y = ix2 a n := ⟨y 0, y 1, eq_ix2 y⟩
  have e0 : ((cfg0.win 2).blk t).view.emb (ix2 a n) 0 = a := Fin.ext (h0.trans (by show 0 * 128 + a.val = a.val; omega))
  have e1 : hOf (((cfg0.win 2).blk t).view.emb (ix2 a n) 1) = headOf t :=
    Fin.ext ((congrArg (· / 128) h1).trans (by show (t.val * 128 + n.val) / 128 = t.val; omega))
  have e2 : dOf (((cfg0.win 2).blk t).view.emb (ix2 a n) 1) = n :=
    Fin.ext ((congrArg (· % 128) h1).trans (by show (t.val * 128 + n.val) % 128 = n.val; omega))
  refine (out_read _ _ a n).trans ?_
  unfold outArr expand
  rw [e0, e1, e2]
  simp only [blk0, blk1]

end Cert.Own.Abo

namespace Cert.Own.AboRef

open Idealize.ShloMosaic Idealize.SL.Sem Cert.ReferenceAbsorbOIdeal Cert.ReferenceAbsorbOIdeal.Read
open Cert.Own.Abo (hOf dOf vcol)

/-- The reference's result at a row and column. -/
theorem ref_out (x0 : (⟨S128x1x16x512, .f32⟩ : BufTy).Contents (Elt Ideal)) (x1 : (⟨S1x512x4096, .f32⟩ : BufTy).Contents (Elt Ideal))
    (r : Fin 128) (n : Fin 2048) : val_main_v6 (F := Ideal) x0 x1 (ix2 r n) = Cert.Own.Abo.expand x0 x1 r (hOf n) (dOf n) := by
  have e : val_main_v6 (F := Ideal) x0 x1 (ix2 r n) = ∑ l : Fin 512, x1 (ix3 0 l (vcol (hOf n) (dOf n))) * x0 (ix4 r 0 (hOf n) l) := by
    pointwise [val_main_v6, val_main_v5, val_main_v4, val_main_v3, val_main_v2, val_main_v1, val_main_v0, vcol, hOf, dOf]
  exact e.trans (Finset.sum_congr rfl fun d _ => mul_comm _ _)

end Cert.Own.AboRef

end
-- ==== Proof.Attn.lean ====
/-
  One row of causal attention over the extended reals: what a row computes (`attnRow`), the same row computed from a
  diagonal block of keys and a block of all earlier keys (`flash_row`), and the row with every weight divided before the
  products (`attnRow_weights`).
-/
module

public import Idealize.ShloMosaic.Lib.Pointwise

@[expose] public section

noncomputable section

namespace Cert.Own

open Idealize.ShloMosaic

/-- The score of key `k` for the query at position `r`: `s k` up to the query's own position and `-∞` after it. -/
def masked (r : ℕ) (s : Fin 2048 → EReal) (k : Fin 2048) : EReal := if k.val ≤ r then s k else ⊥

/-- The row's largest score. -/
def rowMax (r : ℕ) (s : Fin 2048 → EReal) : EReal := Finset.univ.fold max ⊥ (masked r s)

/-- The row's unnormalised weight of key `k`. -/
def weight (r : ℕ) (s : Fin 2048 → EReal) (k : Fin 2048) : EReal := Ideal.exp (masked r s k - rowMax r s)

/-- The row's attention: the weighted sum of the values over the sum of the weights. -/
def attnRow (r : ℕ) (s v : Fin 2048 → EReal) : EReal :=
  Ideal.div (∑ k, weight r s k * v k) (∑ k, weight r s k)

theorem bot_sub (x : EReal) : (⊥ : EReal) - x = ⊥ := by rw [sub_eq_add_neg, EReal.bot_add]

/-- A key after the query's position has weight zero. -/
theorem weight_eq_zero {r : ℕ} (s : Fin 2048 → EReal) {k : Fin 2048} (h : r < k.val) : weight r s k = 0 := by
  rw [weight, masked, if_neg (by omega), bot_sub, Ideal.exp_bot]

/-- A sum over the keys whose terms vanish from `d + 512` on is the sum over the 512 keys from `d` and over the keys below `d`. -/
theorem sum_keys (d : ℕ) (hd : d + 512 ≤ 2048) (f : Fin 2048 → EReal) (h0 : ∀ k : Fin 2048, d + 512 ≤ k.val → f k = 0) :
    ∑ k, f k = (∑ k : Fin 512, f ⟨d + k.val, by omega⟩) + ∑ k : Fin d, f ⟨k.val, by omega⟩ := by
  have hF : ∀ (n : ℕ) (hn : n ≤ 2048), ∑ k : Fin n, f ⟨k.val, by omega⟩
      = ∑ k ∈ Finset.range n, (if h : k < 2048 then f ⟨k, h⟩ else 0) := by
    intro n hn
    rw [← Fin.sum_univ_eq_sum_range (fun k => if h : k < 2048 then f ⟨k, h⟩ else 0) n]
    exact Finset.sum_congr rfl fun k _ => by rw [dif_pos (by omega)]
  have h1 : ∑ k : Fin 512, f ⟨d + k.val, by omega⟩
      = ∑ k ∈ Finset.range 512, (if h : d + k < 2048 then f ⟨d + k, h⟩ else 0) := by
    rw [← Fin.sum_univ_eq_sum_range (fun k => if h : d + k < 2048 then f ⟨d + k, h⟩ else 0) 512]
    exact Finset.sum_congr rfl fun k _ => by rw [dif_pos (by omega)]
  have h2 := hF 2048 le_rfl
  rw [h1, hF d (by omega), add_comm, ← Finset.sum_range_add]
  refine h2.trans (Finset.sum_subset (Finset.range_mono hd) fun k hk hk' => ?_).symm
  rw [Finset.mem_range] at hk hk'
  rw [dif_pos hk]; exact h0 _ (by simpa using hk')

/-- A maximum of scores from `-∞` is at most `b` when every score is. -/
theorem fold_max_le_iff {n : ℕ} (f : Fin n → EReal) (b : EReal) :
    Finset.univ.fold max ⊥ f ≤ b ↔ ∀ k, f k ≤ b := by
  rw [Finset.fold_max_le]; simp

theorem le_fold_max' {n : ℕ} (f : Fin n → EReal) (k : Fin n) : f k ≤ Finset.univ.fold max ⊥ f :=
  (fold_max_le_iff f _).mp le_rfl k

section Flash

variable (d : ℕ) (hd : d + 512 ≤ 2048) (a : Fin 512) (s v : Fin 2048 → EReal)
variable (sd vd : Fin 512 → EReal) (so vo : Fin d → EReal)

include hd in
/-- The two blocks' maxima together are the row's maximum. -/
theorem flash_max (hsd : ∀ k : Fin 512, sd k = masked (d + a.val) s ⟨d + k.val, by omega⟩)
    (hso : ∀ k : Fin d, so k = masked (d + a.val) s ⟨k.val, by omega⟩) :
    max (Finset.univ.fold max ⊥ sd) (Finset.univ.fold max ⊥ so) = rowMax (d + a.val) s := by
  apply le_antisymm
  · rw [max_le_iff, fold_max_le_iff, fold_max_le_iff]
    exact ⟨fun k => hsd k ▸ le_fold_max' _ _, fun k => hso k ▸ le_fold_max' _ _⟩
  · rw [rowMax, fold_max_le_iff]
    intro k
    rcases lt_or_ge k.val d with h | h
    · refine le_trans ?_ (le_max_right _ _)
      have := le_fold_max' so ⟨k.val, h⟩
      rwa [hso] at this
    · rcases lt_or_ge k.val (d + 512) with h' | h'
      · refine le_trans ?_ (le_max_left _ _)
        have := le_fold_max' sd ⟨k.val - d, by omega⟩
        rw [hsd] at this
        have e : (⟨d + (k.val - d), by omega⟩ : Fin 2048) = k := Fin.ext (by simp; omega)
        simpa only [e] using this
      · rw [masked, if_neg (by omega)]; exact bot_le

include hd in
/-- A row computed from the diagonal block of 512 keys and the `d` keys before it is the row's attention. -/
theorem flash_row (hsd : ∀ k : Fin 512, sd k = masked (d + a.val) s ⟨d + k.val, by omega⟩)
    (hso : ∀ k : Fin d, so k = masked (d + a.val) s ⟨k.val, by omega⟩)
    (hvd : ∀ k : Fin 512, vd k = v ⟨d + k.val, by omega⟩) (hvo : ∀ k : Fin d, vo k = v ⟨k.val, by omega⟩) :
    Ideal.div
      ((∑ k, Ideal.exp (sd k - max (Finset.univ.fold max ⊥ sd) (Finset.univ.fold max ⊥ so)) * vd k)
        + ∑ k, Ideal.exp (so k - max (Finset.univ.fold max ⊥ sd) (Finset.univ.fold max ⊥ so)) * vo k)
      ((∑ k, Ideal.exp (sd k - max (Finset.univ.fold max ⊥ sd) (Finset.univ.fold max ⊥ so)))
        + ∑ k, Ideal.exp (so k - max (Finset.univ.fold max ⊥ sd) (Finset.univ.fold max ⊥ so)))
      = attnRow (d + a.val) s v := by
  rw [flash_max d hd a s sd so hsd hso, attnRow,
    sum_keys d hd (fun k => weight (d + a.val) s k * v k) (fun k hk => by rw [weight_eq_zero s (by omega), zero_mul]),
    sum_keys d hd (fun k => weight (d + a.val) s k) (fun k hk => weight_eq_zero s (by omega))]
  simp only [hsd, hso, hvd, hvo, weight]

/-- The first block has no earlier keys: its own 512 keys give the row's attention. -/
theorem flash_row_first (hsd : ∀ k : Fin 512, sd k = masked a.val s ⟨k.val, by omega⟩)
    (hvd : ∀ k : Fin 512, vd k = v ⟨k.val, by omega⟩) :
    Ideal.div (∑ k, Ideal.exp (sd k - Finset.univ.fold max ⊥ sd) * vd k)
      (∑ k, Ideal.exp (sd k - Finset.univ.fold max ⊥ sd)) = attnRow a.val s v := by
  have h := flash_row 0 (by omega) a s v sd vd Fin.elim0 Fin.elim0 (by simpa using hsd) (fun k => k.elim0)
    (by simpa using hvd) (fun k => k.elim0)
  simpa using h

end Flash

/-- Multiplying by a nonnegative real distributes over a finite sum of extended reals. -/
theorem sum_mul_coe {ι : Type*} (t : Finset ι) (f : ι → EReal) {c : ℝ} (hc : 0 ≤ c) :
    (∑ k ∈ t, f k) * (c : EReal) = ∑ k ∈ t, f k * (c : EReal) := by
  classical
  induction t using Finset.induction_on with
  | empty => simp
  | insert a t ha ih =>
    rw [Finset.sum_insert ha, Finset.sum_insert ha, ← ih, mul_comm, mul_comm (f a), mul_comm (∑ k ∈ t, f k)]
    exact EReal.left_distrib_of_nonneg_of_ne_top (EReal.coe_nonneg.mpr hc) (EReal.coe_ne_top c) _ _

/-- A finite sum of reals, read in the extended reals, is the sum of the terms read there. -/
theorem coe_sum {ι : Type*} (t : Finset ι) (f : ι → ℝ) : ∑ k ∈ t, (f k : EReal) = ((∑ k ∈ t, f k : ℝ) : EReal) := by
  classical
  induction t using Finset.induction_on with
  | empty => simp
  | insert a t ha ih => rw [Finset.sum_insert ha, Finset.sum_insert ha, ih, EReal.coe_add]

/-- With real scores the sum of a row's weights is a positive real. -/
theorem weight_sum (r : Fin 2048) (s : Fin 2048 → EReal) (hs : ∀ k, ∃ x : ℝ, s k = (x : EReal)) :
    ∃ z : ℝ, 0 < z ∧ ∑ k, weight r.val s k = (z : EReal) := by
  have hlt : ∀ k, masked r.val s k < ⊤ := by
    intro k; rw [masked]; split
    · obtain ⟨x, hx⟩ := hs k; rw [hx]; exact EReal.coe_lt_top x
    · exact bot_lt_top
  have hMtop : rowMax r.val s ≠ ⊤ := by
    rw [rowMax]; exact ne_of_lt (by rw [Finset.fold_max_lt]; exact ⟨bot_lt_top, fun k _ => hlt k⟩)
  obtain ⟨xr, hxr⟩ := hs r
  have hself : masked r.val s r = (xr : EReal) := by rw [masked, if_pos le_rfl, hxr]
  have hMbot : rowMax r.val s ≠ ⊥ := by
    intro h
    have := le_fold_max' (masked r.val s) r
    rw [hself] at this
    have h2 : ((xr : EReal)) ≤ ⊥ := h ▸ this
    exact (EReal.coe_ne_bot xr) (le_bot_iff.mp h2)
  obtain ⟨μ, hμ⟩ : ∃ μ : ℝ, rowMax r.val s = (μ : EReal) := ⟨_, (EReal.coe_toReal hMtop hMbot).symm⟩
  have hw : ∀ k, ∃ e : ℝ, 0 ≤ e ∧ weight r.val s k = (e : EReal) := by
    intro k; rw [weight, hμ, masked]; split
    · obtain ⟨x, hx⟩ := hs k
      exact ⟨Real.exp (x - μ), (Real.exp_pos _).le, by rw [hx, ← EReal.coe_sub, Ideal.exp_coe]⟩
    · exact ⟨0, le_rfl, by rw [bot_sub, Ideal.exp_bot, EReal.coe_zero]⟩
  choose e he0 he using hw
  have hZ : ∑ k, weight r.val s k = ((∑ k, e k : ℝ) : EReal) := by
    rw [Finset.sum_congr rfl fun k _ => he k, coe_sum]
  have hpos : 0 < ∑ k, e k := by
    refine Finset.sum_pos' (fun k _ => he0 k) ⟨r, Finset.mem_univ _, ?_⟩
    have h1 : weight r.val s r = ((Real.exp (xr - μ) : ℝ) : EReal) := by
      rw [weight, hself, hμ, ← EReal.coe_sub, Ideal.exp_coe]
    rw [he r] at h1
    rw [EReal.coe_eq_coe_iff.mp h1]; exact Real.exp_pos _
  exact ⟨_, hpos, hZ⟩

/-- With real scores the row's attention may divide every weight first. -/
theorem attnRow_weights (r : Fin 2048) (s v : Fin 2048 → EReal) (hs : ∀ k, ∃ x : ℝ, s k = (x : EReal)) :
    attnRow r.val s v = ∑ k, Ideal.div (weight r.val s k) (∑ k, weight r.val s k) * v k := by
  obtain ⟨z, hpos, hZ⟩ := weight_sum r s hs
  rw [attnRow, hZ, Ideal.div_coe hpos.ne', sum_mul_coe _ _ (by positivity)]
  refine Finset.sum_congr rfl fun k _ => ?_
  rw [Ideal.div_coe hpos.ne', mul_assoc, mul_comm (v k), ← mul_assoc]

end Cert.Own

end
-- ==== Proof.Pay.lean ====
/-
  What the values stored by the attention kernel's body are, read at an index: the scaled query, the key and the value
  buffers, the triangular mask, and the four blocks of the result.
-/
module

public import proofs.«01_k».proof.Proof.Attn
public import proofs.«01_k».proof.Proof.Gen.KernelIdeal.Skeleton

@[expose] public section

set_option maxRecDepth 16384

noncomputable section

namespace Cert.Own

open Idealize.ShloMosaic Idealize.SL.Sem Cert.KernelIdeal Cert.KernelIdeal.Gen

/-- The scale of the scores, `1 / √192`. -/
def sc : EReal := (((Real.sqrt 192)⁻¹ : ℝ) : EReal)

theorem scale_eq : (Named.named (F := Ideal) κ "scale" 0x3D93CD3A#32 : Ideal .f32) = sc :=
  IdealRules.named_const.ideal_named_scalar _ _ _ _ rfl

theorem mask_eq : (Named.named (F := Ideal) κ "mask" 0xF149F2CA#32 : Ideal .f32) = (⊥ : EReal) :=
  IdealRules.named_const.ideal_named_scalar _ _ _ _ rfl

/-- The pattern of `-∞` is the least extended real. -/
theorem ofBits_negInf : Ideal.ofBits .f32 0xFF800000#32 = (⊥ : EReal) := by simp [Ideal.ofBits, Ideal.ieee]

/-- The lane test of head `h`'s half: lane `b` of the pair belongs to the head when `b / 64 = h % 2`. -/
theorem lane_bit : ∀ (b : Fin 128) (h : Fin 16),
    IntOp.cmpi CmpIPredicate.eq
        (Scalar.select
          (IntOp.andi
            (IntOp.cmpi CmpIPredicate.ne
              (IntOp.subi (BitVec.setWidth 32 (IntOp.cmpi CmpIPredicate.sgt (BitVec.ofNat 32 b.val) 0#32))
                (BitVec.setWidth 32 (IntOp.cmpi CmpIPredicate.slt (BitVec.ofNat 32 b.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 b.val) 64#32) 0#32))
          (IntOp.subi (IntOp.divsi ArithUnit.vector (BitVec.ofNat 32 b.val) 64#32) 1#32)
          (IntOp.divsi ArithUnit.vector (BitVec.ofNat 32 b.val) 64#32))
        (Scalar.select
          (Scalar.andi
            (Scalar.xori
              (Scalar.cmpi CmpIPredicate.slt
                (Scalar.remsi (BitVec.ofNat 32 h.val)
                  (Scalar.select (Scalar.cmpi CmpIPredicate.eq 2#32 0#32) 1#32 2#32))
                0#32)
              (Scalar.cmpi CmpIPredicate.slt (Scalar.select (Scalar.cmpi CmpIPredicate.eq 2#32 0#32) 1#32 2#32) 0#32))
            (Scalar.cmpi CmpIPredicate.ne
              (Scalar.remsi (BitVec.ofNat 32 h.val) (Scalar.select (Scalar.cmpi CmpIPredicate.eq 2#32 0#32) 1#32 2#32))
              0#32))
          (Scalar.addi
            (Scalar.remsi (BitVec.ofNat 32 h.val) (Scalar.select (Scalar.cmpi CmpIPredicate.eq 2#32 0#32) 1#32 2#32))
            (Scalar.select (Scalar.cmpi CmpIPredicate.eq 2#32 0#32) 1#32 2#32))
          (Scalar.remsi (BitVec.ofNat 32 h.val) (Scalar.select (Scalar.cmpi CmpIPredicate.eq 2#32 0#32) 1#32 2#32)))
      = BitVec.ofBool (decide (b.val / 64 = h.val % 2)) := by decide +kernel

/-- A select by a decided bit is the `if` of what it decides. -/
theorem select_ofBool {α : Type} (p : Prop) [Decidable p] (x y : α) :
    Scalar.select (BitVec.ofBool (decide p)) x y = if p then x else y := by
  by_cases h : p <;> simp [Scalar.select, h]

/-- The query buffer's second half at an entry: head `h`'s lanes of the rotary pair, scaled, the other head's lanes zero. -/
def ropeQ (h : Fin 16) (x : EReal) (b : Fin 128) : EReal := if b.val / 64 = h.val % 2 then x * sc else 0

section Stores

variable (x : Vec Ideal S512x128 .f32) (y : Vec Ideal S512x128 .bf16) (a : Fin 512) (b : Fin 128)

theorem pay_rope0 (i : grid0.Coords) : k0_pay4 (k0_pay2 i x) (ix2 a b) = ropeQ (i 1) (x (ix2 a b)) b := by
  pointwise [k0_pay2, k0_pay4]
  rw [lane_bit b (i 1), select_ofBool, scale_eq]; rfl

theorem pay_rope1 (h : Fin 16) : k0_pay13 (k0_pay10 (BitVec.ofNat 32 h.val) (iota Kind.tc S512x128 32 [1] iota_S512x128_d1_w32) (64#32)
    (k0_pay8 (iota Kind.tc S512x128 32 [1] iota_S512x128_d1_w32)) (k0_pay9 (iota Kind.tc S512x128 32 [1] iota_S512x128_d1_w32)) x)
    (ix2 a b) = ropeQ h (x (ix2 a b)) b := by
  pointwise [k0_pay8, k0_pay9, k0_pay10, k0_pay13]
  rw [lane_bit b h, select_ofBool, scale_eq]; rfl

theorem pay_rope2 (h : Fin 16) : k0_pay21 (k0_pay20 (BitVec.ofNat 32 h.val) (iota Kind.tc S512x128 32 [1] iota_S512x128_d1_w32) (64#32)
    (k0_pay17 (iota Kind.tc S512x128 32 [1] iota_S512x128_d1_w32)) (k0_pay18 (iota Kind.tc S512x128 32 [1] iota_S512x128_d1_w32)) (1#32) x)
    (ix2 a b) = ropeQ h (x (ix2 a b)) b := by
  pointwise [k0_pay17, k0_pay18, k0_pay20, k0_pay21]
  have e := lane_bit b h
  rw [show (Scalar.extui (Scalar.cmpi CmpIPredicate.sgt 64#32 0#32) : BitVec 32) = 1#32 from by decide] at e
  rw [e, select_ofBool, scale_eq]; rfl

theorem pay_rope3 (h : Fin 16) : k0_pay29 (BitVec.ofNat 32 h.val) (k0_pay25 (iota Kind.tc S512x128 32 [1] iota_S512x128_d1_w32))
    (k0_pay26 (iota Kind.tc S512x128 32 [1] iota_S512x128_d1_w32)) (k0_pay27 (iota Kind.tc S512x128 32 [1] iota_S512x128_d1_w32)) (0#32) x
    (ix2 a b) = ropeQ h (x (ix2 a b)) b := by
  pointwise [k0_pay25, k0_pay26, k0_pay27, k0_pay29]
  rw [lane_bit b h, select_ofBool, scale_eq]; rfl

theorem pay_q0 : k0_pay3 x (ix2 a b) = x (ix2 a b) * sc := by pointwise [k0_pay3]; rw [scale_eq]
theorem pay_q1 : k0_pay12 (k0_pay11 x) (ix2 a b) = x (ix2 a b) * sc := by pointwise [k0_pay11, k0_pay12]; rw [scale_eq]
theorem pay_q2 : k0_pay19 x (ix2 a b) = x (ix2 a b) * sc := by pointwise [k0_pay19]; rw [scale_eq]
theorem pay_q3 : k0_pay28 x (ix2 a b) = x (ix2 a b) * sc := by pointwise [k0_pay28]; rw [scale_eq]

theorem pay_k0 : k0_pay5 y (ix2 a b) = y (ix2 a b) := by pointwise [k0_pay5]
theorem pay_k1 : k0_pay14 y (ix2 a b) = y (ix2 a b) := by pointwise [k0_pay14]
theorem pay_k2 : k0_pay22 y (ix2 a b) = y (ix2 a b) := by pointwise [k0_pay22]
theorem pay_k3 : k0_pay31 (k0_pay30 y) (ix2 a b) = y (ix2 a b) := by pointwise [k0_pay30, k0_pay31]
theorem pay_r0 : k0_pay6 x (ix2 a b) = x (ix2 a b) := by pointwise [k0_pay6]
theorem pay_r1 : k0_pay15 x (ix2 a b) = x (ix2 a b) := by pointwise [k0_pay15]
theorem pay_r2 : k0_pay23 x (ix2 a b) = x (ix2 a b) := by pointwise [k0_pay23]
theorem pay_r3 : k0_pay32 x (ix2 a b) = x (ix2 a b) := by pointwise [k0_pay32]
theorem pay_v0 : k0_pay7 y (ix2 a b) = y (ix2 a b) := by pointwise [k0_pay7]
theorem pay_v1 : k0_pay16 y (ix2 a b) = y (ix2 a b) := by pointwise [k0_pay16]
theorem pay_v2 : k0_pay24 y (ix2 a b) = y (ix2 a b) := by pointwise [k0_pay24]
theorem pay_v3 : k0_pay33 y (ix2 a b) = y (ix2 a b) := by pointwise [k0_pay33]

end Stores

/-- The order of two numbers below 512 as words is their order. -/
theorem le_bit : ∀ (a b : Fin 512), IntOp.cmpi CmpIPredicate.sle (BitVec.ofNat 32 b.val) (BitVec.ofNat 32 a.val)
    = BitVec.ofBool (decide (b.val ≤ a.val)) := by
  intro a b
  have ha := a.isLt
  have hb := b.isLt
  have h1 : (BitVec.ofNat 32 a.val).toInt = a.val := by
    rw [BitVec.toInt_eq_toNat_of_lt (by rw [BitVec.toNat_ofNat]; omega), BitVec.toNat_ofNat]; omega
  have h2 : (BitVec.ofNat 32 b.val).toInt = b.val := by
    rw [BitVec.toInt_eq_toNat_of_lt (by rw [BitVec.toNat_ofNat]; omega), BitVec.toNat_ofNat]; omega
  simp [IntOp.cmpi, BitVec.sle, h1, h2]

/-- The triangular mask: zero up to the query's own position, `-∞` after it. -/
theorem pay_tri (a b : Fin 512) : k0_pay34 (F := Ideal) (ix2 a b) = if b.val ≤ a.val then (0 : EReal) else ⊥ := by
  pointwise [k0_pay34]
  rw [le_bit, select_ofBool, mask_eq]

end Cert.Own

end
-- ==== Proof.Bufs.lean ====
/-
  What the kernel's three scratch buffers hold once the body's first half has stored into them: the queries, the keys and
  the values of one batch and head, each row block by row block.
-/
module

public import proofs.«01_k».proof.Proof.Pay
public import Idealize.ShloMosaic.Lib.Pipeline.ValueKit

@[expose] public section

set_option maxRecDepth 16384

noncomputable section

namespace Cert.Own

open Idealize.ShloMosaic Idealize.SL.Sem Cert.KernelIdeal Cert.KernelIdeal.Gen

/-- The query buffer: 128 lanes of the scaled query, then the 128 lanes of the scaled rotary pair with the other head's half zero. -/
def QC (h : Fin 16) (x0 x1 : Vec Ideal S2048x128 .f32) : Vec Ideal S2048x256 .bf16 := fun y =>
  if hl : (y 1).val < 128 then x0 (ix2 (y 0) ⟨(y 1).val, hl⟩) * sc
  else ropeQ h (x1 (ix2 (y 0) ⟨(y 1).val - 128, by have h1 : (y 1).val < 256 := (y 1).isLt; omega⟩))
    ⟨(y 1).val - 128, by have h1 : (y 1).val < 256 := (y 1).isLt; omega⟩

/-- The key buffer: 128 lanes of the key, then the 128 lanes of the rotary key held twice. -/
def KC (x2 : Vec Ideal S2048x256 .bf16) (x3 : Vec Ideal S2048x128 .f32) : Vec Ideal S2048x256 .bf16 := fun y =>
  if hl : (y 1).val < 128 then x2 (ix2 (y 0) ⟨(y 1).val, by omega⟩)
  else x3 (ix2 (y 0) ⟨(y 1).val - 128, by have h1 : (y 1).val < 256 := (y 1).isLt; omega⟩)

/-- The value buffer: the second 128 lanes of the keys and values. -/
def VC (x2 : Vec Ideal S2048x256 .bf16) : Vec Ideal S2048x128 .bf16 := fun y =>
  x2 (ix2 (y 0) ⟨(y 1).val + 128, by have h1 : (y 1).val < 128 := (y 1).isLt; omega⟩)

/-- A load through a box of unit strides reads at `(a, b)` what the buffer holds at the box's corner plus `(a, b)`. -/
theorem ld_at {n0 n1 m0 m1 : ℕ} {e : EltTy} (X : (⟨2, ![n0, n1]⟩ : Shape).Idx → Elt Ideal e) (o0 o1 : ℕ)
    (inb : ∀ a, (![o0, o1] : Fin 2 → ℕ) a + (![m0, m1] : Fin 2 → ℕ) a ≤ (⟨2, ![n0, n1]⟩ : Shape).size a)
    (a : Fin m0) (b : Fin m1) (p : Fin n0) (q : Fin n1) (hp : p.val = o0 + a.val) (hq : q.val = o1 + b.val) :
    View.ld (Val := Elt Ideal) X (Rect.unit (s := ⟨2, ![n0, n1]⟩) ![o0, o1] ![m0, m1] inb) (ix2 a b) = X (ix2 p q) := by
  refine View.ld_unit_apply_of X _ _ _ _ _ fun k => ?_
  fin_cases k
  · exact hp
  · exact hq

section Entries
variable {y : S2048x256.Idx} {a : Fin 512} {b : Fin 128} {o : ℕ}

theorem QC_left (h : Fin 16) (x0 x1 : Vec Ideal S2048x128 .f32) (inb) (h0 : (y 0).val = o + a.val) (h1 : (y 1).val = b.val) :
    View.ld (Val := Elt Ideal) x0 (Rect.unit (s := S2048x128) ![o, 0] ![512, 128] inb) (ix2 a b) * sc = QC h x0 x1 y := by
  have hb := b.isLt
  unfold QC
  rw [dif_pos (by omega)]
  exact congrArg (· * sc) (ld_at x0 o 0 inb a b (y 0) _ h0 (by show (y 1).val = 0 + b.val; omega))

theorem QC_right (h : Fin 16) (x0 x1 : Vec Ideal S2048x128 .f32) (inb) (h0 : (y 0).val = o + a.val) (h1 : (y 1).val = 128 + b.val) :
    ropeQ h (View.ld (Val := Elt Ideal) x1 (Rect.unit (s := S2048x128) ![o, 0] ![512, 128] inb) (ix2 a b)) b = QC h x0 x1 y := by
  have hb := b.isLt
  unfold QC
  rw [dif_neg (by omega)]
  have e : (⟨(y 1).val - 128, by omega⟩ : Fin 128) = b := Fin.ext (by show (y 1).val - 128 = b.val; omega)
  rw [e]
  exact congrArg (fun z => ropeQ h z b) (ld_at x1 o 0 inb a b (y 0) b h0 (by omega))

theorem KC_left (x2 : Vec Ideal S2048x256 .bf16) (x3 : Vec Ideal S2048x128 .f32) (inb) (h0 : (y 0).val = o + a.val) (h1 : (y 1).val = b.val) :
    View.ld (Val := Elt Ideal) x2 (Rect.unit (s := S2048x256) ![o, 0] ![512, 128] inb) (ix2 a b) = KC x2 x3 y := by
  have hb := b.isLt
  unfold KC
  rw [dif_pos (by omega)]
  exact ld_at x2 o 0 inb a b (y 0) _ h0 (by show (y 1).val = 0 + b.val; omega)

theorem KC_right (x2 : Vec Ideal S2048x256 .bf16) (x3 : Vec Ideal S2048x128 .f32) (inb) (h0 : (y 0).val = o + a.val) (h1 : (y 1).val = 128 + b.val) :
    View.ld (Val := Elt Ideal) x3 (Rect.unit (s := S2048x128) ![o, 0] ![512, 128] inb) (ix2 a b) = KC x2 x3 y := by
  have hb := b.isLt
  unfold KC
  rw [dif_neg (by omega)]
  have e : (⟨(y 1).val - 128, by omega⟩ : Fin 128) = b := Fin.ext (by show (y 1).val - 128 = b.val; omega)
  rw [e]
  exact ld_at x3 o 0 inb a b (y 0) b h0 (by omega)

theorem VC_eq (x2 : Vec Ideal S2048x256 .bf16) (inb) (v : S2048x128.Idx) (h0 : (v 0).val = o + a.val) (h1 : (v 1).val = b.val) :
    View.ld (Val := Elt Ideal) x2 (Rect.unit (s := S2048x256) ![o, 128] ![512, 128] inb) (ix2 a b) = VC x2 v := by
  have hb := b.isLt
  unfold VC
  exact ld_at x2 o 128 inb a b (v 0) _ h0 (by show (v 1).val + 128 = 128 + b.val; omega)

end Entries

variable (i : grid0.Coords) (x0 x1 : Vec Ideal S2048x128 .f32) (x2 : Vec Ideal S2048x256 .bf16) (x3 : Vec Ideal S2048x128 .f32)

/-- The eight stores into the query scratch leave the query buffer. -/
theorem canon_Q :
    (View.canon (Val := Elt Ideal) (s := S2048x256) (e := .bf16) [⟨Rect.unit ![1536, 128] ![512, 128] inb_S2048x256_S512x128_1536_128,
        k0_pay29 (BitVec.ofNat 32 (i 1).val) (k0_pay25 (iota Kind.tc S512x128 32 [1] iota_S512x128_d1_w32)) (k0_pay26 (iota Kind.tc S512x128 32 [1] iota_S512x128_d1_w32)) (k0_pay27 (iota Kind.tc S512x128 32 [1] iota_S512x128_d1_w32)) (0#32) (View.ld x1 (Rect.unit ![1536, 0] ![512, 128] inb_S2048x128_S512x128_1536_0))⟩,
      ⟨Rect.unit ![1536, 0] ![512, 128] inb_S2048x256_S512x128_1536_0,
        k0_pay28 (View.ld x0 (Rect.unit ![1536, 0] ![512, 128] inb_S2048x128_S512x128_1536_0))⟩,
      ⟨Rect.unit ![1024, 128] ![512, 128] inb_S2048x256_S512x128_1024_128,
        k0_pay21 (k0_pay20 (BitVec.ofNat 32 (i 1).val) (iota Kind.tc S512x128 32 [1] iota_S512x128_d1_w32) (64#32) (k0_pay17 (iota Kind.tc S512x128 32 [1] iota_S512x128_d1_w32)) (k0_pay18 (iota Kind.tc S512x128 32 [1] iota_S512x128_d1_w32)) (1#32) (View.ld x1 (Rect.unit ![1024, 0] ![512, 128] inb_S2048x128_S512x128_1024_0)))⟩,
      ⟨Rect.unit ![1024, 0] ![512, 128] inb_S2048x256_S512x128_1024_0,
        k0_pay19 (View.ld x0 (Rect.unit ![1024, 0] ![512, 128] inb_S2048x128_S512x128_1024_0))⟩,
      ⟨Rect.unit ![512, 128] ![512, 128] inb_S2048x256_S512x128_512_128,
        k0_pay13 (k0_pay10 (BitVec.ofNat 32 (i 1).val) (iota Kind.tc S512x128 32 [1] iota_S512x128_d1_w32) (64#32) (k0_pay8 (iota Kind.tc S512x128 32 [1] iota_S512x128_d1_w32)) (k0_pay9 (iota Kind.tc S512x128 32 [1] iota_S512x128_d1_w32)) (View.ld x1 (Rect.unit ![512, 0] ![512, 128] inb_S2048x128_S512x128_512_0)))⟩,
      ⟨Rect.unit ![512, 0] ![512, 128] inb_S2048x256_S512x128_512_0,
        k0_pay12 (k0_pay11 (View.ld x0 (Rect.unit ![512, 0] ![512, 128] inb_S2048x128_S512x128_512_0)))⟩,
      ⟨Rect.unit ![0, 128] ![512, 128] inb_S2048x256_S512x128_0_128,
        k0_pay4 (k0_pay2 i (View.ld x1 (Rect.unit ![0, 0] ![512, 128] inb_S2048x128_S512x128_0_0)))⟩,
      ⟨Rect.unit ![0, 0] ![512, 128] inb_S2048x256_S512x128_0_0,
        k0_pay3 (View.ld x0 (Rect.unit ![0, 0] ![512, 128] inb_S2048x128_S512x128_0_0))⟩]) = QC (i 1) x0 x1 := by
  funext y
  canon_tiles x h
  all_goals
    obtain ⟨a, b, rfl⟩ : ∃ (a : Fin 512) (b : Fin 128), x = ix2 a b := ⟨x 0, x 1, eq_ix2 x⟩
    simp only [ix2_0, ix2_1] at h0 h1
  case piece0 => exact (pay_rope3 _ a b (i 1)).trans (QC_right (i 1) x0 x1 _ (by omega) (by omega))
  case piece1 => exact (pay_q3 _ a b).trans (QC_left (i 1) x0 x1 _ (by omega) (by omega))
  case piece2 => exact (pay_rope2 _ a b (i 1)).trans (QC_right (i 1) x0 x1 _ (by omega) (by omega))
  case piece3 => exact (pay_q2 _ a b).trans (QC_left (i 1) x0 x1 _ (by omega) (by omega))
  case piece4 => exact (pay_rope1 _ a b (i 1)).trans (QC_right (i 1) x0 x1 _ (by omega) (by omega))
  case piece5 => exact (pay_q1 _ a b).trans (QC_left (i 1) x0 x1 _ (by omega) (by omega))
  case piece6 => exact (pay_rope0 _ a b i).trans (QC_right (i 1) x0 x1 _ (by omega) (by omega))
  case piece7 => exact (pay_q0 _ a b).trans (QC_left (i 1) x0 x1 _ (by omega) (by omega))

/-- The eight stores into the key scratch leave the key buffer. -/
theorem canon_K :
    (View.canon (Val := Elt Ideal) (s := S2048x256) (e := .bf16) [⟨Rect.unit ![1536, 128] ![512, 128] inb_S2048x256_S512x128_1536_128,
        k0_pay32 (View.ld x3 (Rect.unit ![1536, 0] ![512, 128] inb_S2048x128_S512x128_1536_0))⟩,
      ⟨Rect.unit ![1536, 0] ![512, 128] inb_S2048x256_S512x128_1536_0,
        k0_pay31 (k0_pay30 (View.ld x2 (Rect.unit ![1536, 0] ![512, 128] inb_S2048x256_S512x128_1536_0)))⟩,
      ⟨Rect.unit ![1024, 128] ![512, 128] inb_S2048x256_S512x128_1024_128,
        k0_pay23 (View.ld x3 (Rect.unit ![1024, 0] ![512, 128] inb_S2048x128_S512x128_1024_0))⟩,
      ⟨Rect.unit ![1024, 0] ![512, 128] inb_S2048x256_S512x128_1024_0,
        k0_pay22 (View.ld x2 (Rect.unit ![1024, 0] ![512, 128] inb_S2048x256_S512x128_1024_0))⟩,
      ⟨Rect.unit ![512, 128] ![512, 128] inb_S2048x256_S512x128_512_128,
        k0_pay15 (View.ld x3 (Rect.unit ![512, 0] ![512, 128] inb_S2048x128_S512x128_512_0))⟩,
      ⟨Rect.unit ![512, 0] ![512, 128] inb_S2048x256_S512x128_512_0,
        k0_pay14 (View.ld x2 (Rect.unit ![512, 0] ![512, 128] inb_S2048x256_S512x128_512_0))⟩,
      ⟨Rect.unit ![0, 128] ![512, 128] inb_S2048x256_S512x128_0_128,
        k0_pay6 (View.ld x3 (Rect.unit ![0, 0] ![512, 128] inb_S2048x128_S512x128_0_0))⟩,
      ⟨Rect.unit ![0, 0] ![512, 128] inb_S2048x256_S512x128_0_0,
        k0_pay5 (View.ld x2 (Rect.unit ![0, 0] ![512, 128] inb_S2048x256_S512x128_0_0))⟩]) = KC x2 x3 := by
  funext y
  canon_tiles x h
  all_goals
    obtain ⟨a, b, rfl⟩ : ∃ (a : Fin 512) (b : Fin 128), x = ix2 a b := ⟨x 0, x 1, eq_ix2 x⟩
    simp only [ix2_0, ix2_1] at h0 h1
  case piece0 => exact (pay_r3 _ a b).trans (KC_right x2 x3 _ (by omega) (by omega))
  case piece1 => exact (pay_k3 _ a b).trans (KC_left x2 x3 _ (by omega) (by omega))
  case piece2 => exact (pay_r2 _ a b).trans (KC_right x2 x3 _ (by omega) (by omega))
  case piece3 => exact (pay_k2 _ a b).trans (KC_left x2 x3 _ (by omega) (by omega))
  case piece4 => exact (pay_r1 _ a b).trans (KC_right x2 x3 _ (by omega) (by omega))
  case piece5 => exact (pay_k1 _ a b).trans (KC_left x2 x3 _ (by omega) (by omega))
  case piece6 => exact (pay_r0 _ a b).trans (KC_right x2 x3 _ (by omega) (by omega))
  case piece7 => exact (pay_k0 _ a b).trans (KC_left x2 x3 _ (by omega) (by omega))

/-- The four stores into the value scratch leave the value buffer. -/
theorem canon_V :
    (View.canon (Val := Elt Ideal) (s := S2048x128) (e := .bf16) [⟨Rect.unit ![1536, 0] ![512, 128] inb_S2048x128_S512x128_1536_0,
        k0_pay33 (View.ld x2 (Rect.unit ![1536, 128] ![512, 128] inb_S2048x256_S512x128_1536_128))⟩,
      ⟨Rect.unit ![1024, 0] ![512, 128] inb_S2048x128_S512x128_1024_0,
        k0_pay24 (View.ld x2 (Rect.unit ![1024, 128] ![512, 128] inb_S2048x256_S512x128_1024_128))⟩,
      ⟨Rect.unit ![512, 0] ![512, 128] inb_S2048x128_S512x128_512_0,
        k0_pay16 (View.ld x2 (Rect.unit ![512, 128] ![512, 128] inb_S2048x256_S512x128_512_128))⟩,
      ⟨Rect.unit ![0, 0] ![512, 128] inb_S2048x128_S512x128_0_0,
        k0_pay7 (View.ld x2 (Rect.unit ![0, 128] ![512, 128] inb_S2048x256_S512x128_0_128))⟩]) = VC x2 := by
  funext y
  canon_tiles x h
  all_goals
    obtain ⟨a, b, rfl⟩ : ∃ (a : Fin 512) (b : Fin 128), x = ix2 a b := ⟨x 0, x 1, eq_ix2 x⟩
    simp only [ix2_0, ix2_1] at h0 h1
  case piece0 => exact (pay_v3 _ a b).trans (VC_eq x2 _ y (by omega) (by omega))
  case piece1 => exact (pay_v2 _ a b).trans (VC_eq x2 _ y (by omega) (by omega))
  case piece2 => exact (pay_v1 _ a b).trans (VC_eq x2 _ y (by omega) (by omega))
  case piece3 => exact (pay_v0 _ a b).trans (VC_eq x2 _ y (by omega) (by omega))

end Cert.Own

end
-- ==== Proof.Out.lean ====
/-
  What one grid point stores into its output block: for every query row the attention of the row over the keys up to it.
-/
module

public import proofs.«01_k».proof.Proof.Bufs
public import proofs.«01_k».proof.Proof.Gen.KernelIdeal.Value

@[expose] public section

set_option maxRecDepth 16384

noncomputable section

namespace Cert.Own

open Idealize.ShloMosaic Idealize.SL.Sem Cert.KernelIdeal Cert.KernelIdeal.Gen

/-- The scores of query row `r` of a query buffer against every row of a key buffer. -/
def scores (Q K : Vec Ideal S2048x256 .bf16) (r : Fin 2048) (k : Fin 2048) : EReal := ∑ l : Fin 256, Q (ix2 r l) * K (ix2 k l)

/-- The attention of query row `r` over the keys up to it, at output lane `b`. -/
def attnOut (Q K : Vec Ideal S2048x256 .bf16) (W : Vec Ideal S2048x128 .bf16) (r : Fin 2048) (b : Fin 128) : EReal :=
  attnRow r.val (scores Q K r) fun k => W (ix2 k b)

/-- A score plus the causal mask of a diagonal block is the masked score. -/
theorem add_tri (d : ℕ) (hd : d + 512 ≤ 2048) (s : Fin 2048 → EReal) (a k : Fin 512) :
    s ⟨d + k.val, by omega⟩ + (if k.val ≤ a.val then (0 : EReal) else ⊥) = masked (d + a.val) s ⟨d + k.val, by omega⟩ := by
  unfold masked
  by_cases h : k.val ≤ a.val
  · rw [if_pos h, if_pos (by show d + k.val ≤ d + a.val; omega), add_zero]
  · rw [if_neg h, if_neg (by show ¬ d + k.val ≤ d + a.val; omega), EReal.add_bot]

/-- A key of an earlier row block is never masked. -/
theorem off_tri (d : ℕ) (hd : d + 512 ≤ 2048) (s : Fin 2048 → EReal) (a : Fin 512) (k : Fin d) :
    s ⟨k.val, by omega⟩ = masked (d + a.val) s ⟨k.val, by omega⟩ := by
  unfold masked
  rw [if_pos (by show k.val ≤ d + a.val; omega)]

section Stores
variable (Q K : Vec Ideal S2048x256 .bf16) (W : Vec Ideal S2048x128 .bf16) (q kd : Vec Ideal S512x256 .bf16) (vd : Vec Ideal S512x128 .bf16)
variable (a : Fin 512) (b : Fin 128)

/-- The first row block's store. -/
theorem out_first (hq : ∀ (a : Fin 512) (l : Fin 256), q (ix2 a l) = Q (ix2 ⟨a.val, by omega⟩ l))
    (hk : ∀ (a : Fin 512) (l : Fin 256), kd (ix2 a l) = K (ix2 ⟨a.val, by omega⟩ l))
    (hv : ∀ (a : Fin 512) (b : Fin 128), vd (ix2 a b) = W (ix2 ⟨a.val, by omega⟩ b)) :
    k0_pay38 (k0_pay36 q kd vd) (k0_pay37 q kd) (ix2 a b) = attnOut Q K W ⟨a.val, by omega⟩ b := by
  pointwise [k0_pay35, k0_pay36, k0_pay37, k0_pay38]
  simp only [ofBits_negInf, pay_tri, hq, hk, hv]
  refine flash_row_first 0 a (scores Q K ⟨a.val, by omega⟩) (fun k => W (ix2 k b)) _ _ (fun k => ?_) (fun k => rfl)
  have h := add_tri 0 (by omega) (scores Q K ⟨a.val, by omega⟩) a k
  simp only [Nat.zero_add] at h
  exact h

/-- The second row block's store. -/
theorem out_512 (ko : Vec Ideal S512x256 .bf16) (vo : Vec Ideal S512x128 .bf16)
    (hq : ∀ (a : Fin 512) (l : Fin 256), q (ix2 a l) = Q (ix2 ⟨512 + a.val, by omega⟩ l))
    (hk : ∀ (a : Fin 512) (l : Fin 256), kd (ix2 a l) = K (ix2 ⟨512 + a.val, by omega⟩ l))
    (ho : ∀ (a : Fin 512) (l : Fin 256), ko (ix2 a l) = K (ix2 ⟨a.val, by omega⟩ l))
    (hv : ∀ (a : Fin 512) (b : Fin 128), vd (ix2 a b) = W (ix2 ⟨512 + a.val, by omega⟩ b))
    (hw : ∀ (a : Fin 512) (b : Fin 128), vo (ix2 a b) = W (ix2 ⟨a.val, by omega⟩ b)) :
    k0_pay39 k0_pay34 q kd ko vd vo (ix2 a b) = attnOut Q K W ⟨512 + a.val, by omega⟩ b := by
  pointwise [k0_pay39]
  simp only [ofBits_negInf, pay_tri, hq, hk, hv, ho, hw]
  exact flash_row 512 (by omega) a (scores Q K ⟨512 + a.val, by omega⟩) (fun k => W (ix2 k b)) _ _ _ _
    (fun k => add_tri 512 (by omega) (scores Q K ⟨512 + a.val, by omega⟩) a k) (fun k => off_tri 512 (by omega) (scores Q K ⟨512 + a.val, by omega⟩) a k) (fun k => rfl) (fun k => rfl)

/-- The third row block's store. -/
theorem out_1024 (ko : Vec Ideal S1024x256 .bf16) (vo : Vec Ideal S1024x128 .bf16)
    (hq : ∀ (a : Fin 512) (l : Fin 256), q (ix2 a l) = Q (ix2 ⟨1024 + a.val, by omega⟩ l))
    (hk : ∀ (a : Fin 512) (l : Fin 256), kd (ix2 a l) = K (ix2 ⟨1024 + a.val, by omega⟩ l))
    (ho : ∀ (a : Fin 1024) (l : Fin 256), ko (ix2 a l) = K (ix2 ⟨a.val, by omega⟩ l))
    (hv : ∀ (a : Fin 512) (b : Fin 128), vd (ix2 a b) = W (ix2 ⟨1024 + a.val, by omega⟩ b))
    (hw : ∀ (a : Fin 1024) (b : Fin 128), vo (ix2 a b) = W (ix2 ⟨a.val, by omega⟩ b)) :
    k0_pay40 k0_pay34 q kd ko vd vo (ix2 a b) = attnOut Q K W ⟨1024 + a.val, by omega⟩ b := by
  pointwise [k0_pay40]
  simp only [ofBits_negInf, pay_tri, hq, hk, hv, ho, hw]
  exact flash_row 1024 (by omega) a (scores Q K ⟨1024 + a.val, by omega⟩) (fun k => W (ix2 k b)) _ _ _ _
    (fun k => add_tri 1024 (by omega) (scores Q K ⟨1024 + a.val, by omega⟩) a k) (fun k => off_tri 1024 (by omega) (scores Q K ⟨1024 + a.val, by omega⟩) a k) (fun k => rfl) (fun k => rfl)

/-- The last row block's store. -/
theorem out_1536 (ko : Vec Ideal S1536x256 .bf16) (vo : Vec Ideal S1536x128 .bf16)
    (hq : ∀ (a : Fin 512) (l : Fin 256), q (ix2 a l) = Q (ix2 ⟨1536 + a.val, by omega⟩ l))
    (hk : ∀ (a : Fin 512) (l : Fin 256), kd (ix2 a l) = K (ix2 ⟨1536 + a.val, by omega⟩ l))
    (ho : ∀ (a : Fin 1536) (l : Fin 256), ko (ix2 a l) = K (ix2 ⟨a.val, by omega⟩ l))
    (hv : ∀ (a : Fin 512) (b : Fin 128), vd (ix2 a b) = W (ix2 ⟨1536 + a.val, by omega⟩ b))
    (hw : ∀ (a : Fin 1536) (b : Fin 128), vo (ix2 a b) = W (ix2 ⟨a.val, by omega⟩ b)) :
    k0_pay1 k0_pay34 q kd ko vd vo (ix2 a b) = attnOut Q K W ⟨1536 + a.val, by omega⟩ b := by
  pointwise [k0_pay1]
  simp only [ofBits_negInf, pay_tri, hq, hk, hv, ho, hw]
  exact flash_row 1536 (by omega) a (scores Q K ⟨1536 + a.val, by omega⟩) (fun k => W (ix2 k b)) _ _ _ _
    (fun k => add_tri 1536 (by omega) (scores Q K ⟨1536 + a.val, by omega⟩) a k) (fun k => off_tri 1536 (by omega) (scores Q K ⟨1536 + a.val, by omega⟩) a k) (fun k => rfl) (fun k => rfl)

end Stores

/-- Equal rows and lanes give equal attention. -/
theorem attnOut_congr {Q K : Vec Ideal S2048x256 .bf16} {W : Vec Ideal S2048x128 .bf16} {r r' : Fin 2048} {b b' : Fin 128}
    (hr : r.val = r'.val) (hb : b.val = b'.val) : attnOut Q K W r b = attnOut Q K W r' b' := by
  rw [Fin.ext hr, Fin.ext hb]

/-- What a grid point stores into its output block: at row `r` and lane `b` the attention of the row. -/
theorem outBlock (c : Dev nD) (t : Fin cfg0.N) (x0 x1 : Vec Ideal S2048x128 .f32) (x2 : Vec Ideal S2048x256 .bf16) (x3 : Vec Ideal S2048x128 .f32) :
    out0_A_4 c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) scM0_2 (Memref.isWhole_whole _) x0 x1 x2 x3
    = fun y => attnOut (QC (grid0.coords t 1) x0 x1) (KC x2 x3) (VC x2) (y 0) (y 1) := by
  unfold out0_A_4 kernelRun0_A
  dsimp only
  sl_unfold_words
  simp only [View.readAt_eq_ld, (hs0_0 t).read_unread, (hs0_1 t).read_unread, (hs0_2 t).read_unread, (hs0_3 t).read_unread]
  simp only [View.readCov_eq_canon']
  simp only [canon_Q (grid0.coords t), canon_K, canon_V]
  funext y
  rw [View.read_writes_junk_apply_eq_canon]
  canon_tiles x h
  all_goals
    obtain ⟨a, b, rfl⟩ : ∃ (a : Fin 512) (b : Fin 128), x = ix2 a b := ⟨x 0, x 1, eq_ix2 x⟩
    simp only [ix2_0, ix2_1] at h0 h1
  case piece0 => exact (out_1536 (QC (grid0.coords t 1) x0 x1) (KC x2 x3) (VC x2) _ _ _ a b _ _
      (fun a l => ld_at (QC (grid0.coords t 1) x0 x1) 1536 0 _ a l _ l (by rfl) (by omega))
      (fun a l => ld_at (KC x2 x3) 1536 0 _ a l _ l (by rfl) (by omega))
      (fun a l => ld_at (KC x2 x3) 0 0 _ a l _ l (by show a.val = 0 + a.val; omega) (by omega))
      (fun a l => ld_at (VC x2) 1536 0 _ a l _ l (by rfl) (by omega))
      (fun a l => ld_at (VC x2) 0 0 _ a l _ l (by show a.val = 0 + a.val; omega) (by omega))).trans (attnOut_congr (by show _ = (y 0).val; simp only; omega) (by omega))
  case piece1 => exact (out_1024 (QC (grid0.coords t 1) x0 x1) (KC x2 x3) (VC x2) _ _ _ a b _ _
      (fun a l => ld_at (QC (grid0.coords t 1) x0 x1) 1024 0 _ a l _ l (by rfl) (by omega))
      (fun a l => ld_at (KC x2 x3) 1024 0 _ a l _ l (by rfl) (by omega))
      (fun a l => ld_at (KC x2 x3) 0 0 _ a l _ l (by show a.val = 0 + a.val; omega) (by omega))
      (fun a l => ld_at (VC x2) 1024 0 _ a l _ l (by rfl) (by omega))
      (fun a l => ld_at (VC x2) 0 0 _ a l _ l (by show a.val = 0 + a.val; omega) (by omega))).trans (attnOut_congr (by show _ = (y 0).val; simp only; omega) (by omega))
  case piece2 => exact (out_512 (QC (grid0.coords t 1) x0 x1) (KC x2 x3) (VC x2) _ _ _ a b _ _
      (fun a l => ld_at (QC (grid0.coords t 1) x0 x1) 512 0 _ a l _ l (by rfl) (by omega))
      (fun a l => ld_at (KC x2 x3) 512 0 _ a l _ l (by rfl) (by omega))
      (fun a l => ld_at (KC x2 x3) 0 0 _ a l _ l (by show a.val = 0 + a.val; omega) (by omega))
      (fun a l => ld_at (VC x2) 512 0 _ a l _ l (by rfl) (by omega))
      (fun a l => ld_at (VC x2) 0 0 _ a l _ l (by show a.val = 0 + a.val; omega) (by omega))).trans (attnOut_congr (by show _ = (y 0).val; simp only; omega) (by omega))
  case piece3 => exact (out_first (QC (grid0.coords t 1) x0 x1) (KC x2 x3) (VC x2) _ _ _ a b
      (fun a l => ld_at (QC (grid0.coords t 1) x0 x1) 0 0 _ a l _ l (by show a.val = 0 + a.val; omega) (by omega))
      (fun a l => ld_at (KC x2 x3) 0 0 _ a l _ l (by show a.val = 0 + a.val; omega) (by omega))
      (fun a l => ld_at (VC x2) 0 0 _ a l _ l (by show a.val = 0 + a.val; omega) (by omega))).trans (attnOut_congr (by show _ = (y 0).val; simp only; omega) (by omega))

end Cert.Own

end
-- ==== Proof.Score.lean ====
/-
  The kernel's result array: at row `2048·b + r` and column `128·h + d` the attention of batch `b`, head `h` and query `r` at value lane `d`.
-/
module

public import proofs.«01_k».proof.Proof.Out

@[expose] public section

set_option maxRecDepth 16384

noncomputable section

namespace Cert.Own

open Idealize.ShloMosaic Idealize.SL.Sem Cert.KernelIdeal Cert.KernelIdeal.Gen

section Scores
variable (A0 : (⟨4, ![4, 2048, 16, 192]⟩ : Shape).Idx → EReal) (A1 : (⟨4, ![4, 2048, 16, 64]⟩ : Shape).Idx → EReal)
variable (A2 : (⟨4, ![4, 2048, 16, 256]⟩ : Shape).Idx → EReal) (A3 : (⟨3, ![4, 2048, 64]⟩ : Shape).Idx → EReal)

/-- The score of query `r` against key `k` in batch `b` and head `h`, before the scale: the product over the head's own 128 lanes plus the product over the rotary 64. -/
def rawScore (b : Fin 4) (h : Fin 16) (r k : Fin 2048) : EReal :=
  (∑ l : Fin 128, A0 (ix4 b r h ⟨l.val, by omega⟩) * A2 (ix4 b k h ⟨l.val, by omega⟩))
    + ∑ l : Fin 64, A1 (ix4 b r h l) * A3 (ix3 b k l)

/-- The scaled score. -/
def logit (b : Fin 4) (h : Fin 16) (r k : Fin 2048) : EReal := rawScore A0 A1 A2 A3 b h r k * sc

/-- The attention of one batch, head and query, at one value lane. -/
def attn (b : Fin 4) (h : Fin 16) (r : Fin 2048) (d : Fin 128) : EReal :=
  attnRow r.val (logit A0 A1 A2 A3 b h r) fun k => A2 (ix4 b k h ⟨128 + d.val, by omega⟩)

/-- The scores of the joined 256 lanes are the scaled scores. -/
theorem scores_eq (b : Fin 4) (h : Fin 16) (x0 x1 x3 : Vec Ideal S2048x128 .f32) (x2 : Vec Ideal S2048x256 .bf16)
    (h0 : ∀ (r : Fin 2048) (l : Fin 128), x0 (ix2 r l) = A0 (ix4 b r h ⟨l.val, by omega⟩))
    (h1 : ∀ (r : Fin 2048) (l : Fin 128), x1 (ix2 r l) = A1 (ix4 b r ⟨h.val / 2 * 2 + l.val / 64, by omega⟩ ⟨l.val % 64, by omega⟩))
    (h2 : ∀ (r : Fin 2048) (l : Fin 256), x2 (ix2 r l) = A2 (ix4 b r h l))
    (h3 : ∀ (r : Fin 2048) (l : Fin 128), x3 (ix2 r l) = A3 (ix3 b r ⟨l.val % 64, by omega⟩)) (r k : Fin 2048) :
    scores (QC h x0 x1) (KC x2 x3) r k = logit A0 A1 A2 A3 b h r k := by
  unfold scores
  have e1 : ∀ l : Fin 128, QC h x0 x1 (ix2 r (Fin.castAdd 128 l)) * KC x2 x3 (ix2 k (Fin.castAdd 128 l))
      = A0 (ix4 b r h ⟨l.val, by omega⟩) * A2 (ix4 b k h ⟨l.val, by omega⟩) * sc := by
    intro l
    have hq : QC h x0 x1 (ix2 r (Fin.castAdd 128 l)) = x0 (ix2 r l) * sc := by
      unfold QC; rw [dif_pos (by show l.val < 128; omega)]; rfl
    have hk : KC x2 x3 (ix2 k (Fin.castAdd 128 l)) = x2 (ix2 k ⟨l.val, by omega⟩) := by
      unfold KC; rw [dif_pos (by show l.val < 128; omega)]; rfl
    rw [hq, hk, h0, h2, mul_right_comm]
  have e2 : ∀ l : Fin 128, QC h x0 x1 (ix2 r (Fin.natAdd 128 l)) * KC x2 x3 (ix2 k (Fin.natAdd 128 l))
      = ropeQ h (x1 (ix2 r l)) l * x3 (ix2 k l) := by
    intro l
    have hl : (⟨128 + l.val - 128, by omega⟩ : Fin 128) = l := Fin.ext (by simp only; omega)
    have hq : QC h x0 x1 (ix2 r (Fin.natAdd 128 l)) = ropeQ h (x1 (ix2 r l)) l := by
      unfold QC; rw [dif_neg (by show ¬ 128 + l.val < 128; omega)]
      show ropeQ h (x1 (ix2 r ⟨128 + l.val - 128, _⟩)) ⟨128 + l.val - 128, _⟩ = _
      rw [hl]
    have hk : KC x2 x3 (ix2 k (Fin.natAdd 128 l)) = x3 (ix2 k l) := by
      unfold KC; rw [dif_neg (by show ¬ 128 + l.val < 128; omega)]
      show x3 (ix2 k ⟨128 + l.val - 128, _⟩) = _
      rw [hl]
    rw [hq, hk]
  have e3 : ∑ l : Fin 128, ropeQ h (x1 (ix2 r l)) l * x3 (ix2 k l) = ∑ l : Fin 64, A1 (ix4 b r h l) * A3 (ix3 b k l) * sc := by
    rw [show (∑ l : Fin 128, ropeQ h (x1 (ix2 r l)) l * x3 (ix2 k l))
        = ∑ l : Fin 64, ropeQ h (x1 (ix2 r (Fin.castAdd 64 l))) (Fin.castAdd 64 l) * x3 (ix2 k (Fin.castAdd 64 l))
          + ∑ l : Fin 64, ropeQ h (x1 (ix2 r (Fin.natAdd 64 l))) (Fin.natAdd 64 l) * x3 (ix2 k (Fin.natAdd 64 l)) from
      Fin.sum_univ_add (a := 64) (b := 64) _]
    have hl0 : ∀ l : Fin 64, (Fin.castAdd 64 l).val / 64 = 0 := fun l => by show l.val / 64 = 0; omega
    have hl1 : ∀ l : Fin 64, (Fin.natAdd 64 l).val / 64 = 1 := fun l => by show (64 + l.val) / 64 = 1; omega
    have hm0 : ∀ l : Fin 64, (⟨(Fin.castAdd 64 l).val % 64, by omega⟩ : Fin 64) = l := fun l => Fin.ext (by show l.val % 64 = l.val; omega)
    have hm1 : ∀ l : Fin 64, (⟨(Fin.natAdd 64 l).val % 64, by omega⟩ : Fin 64) = l := fun l => Fin.ext (by show (64 + l.val) % 64 = l.val; omega)
    by_cases hh : h.val % 2 = 0
    · rw [show (∑ l : Fin 64, ropeQ h (x1 (ix2 r (Fin.natAdd 64 l))) (Fin.natAdd 64 l) * x3 (ix2 k (Fin.natAdd 64 l))) = 0 from
        Finset.sum_eq_zero fun l _ => by unfold ropeQ; rw [hl1, if_neg (by omega), zero_mul], add_zero]
      refine Finset.sum_congr rfl fun l _ => ?_
      unfold ropeQ
      rw [hl0, if_pos (by omega), h1, h3, hm0, mul_right_comm]
      congr 4
      exact Fin.ext (by simp only [hl0]; omega)
    · rw [show (∑ l : Fin 64, ropeQ h (x1 (ix2 r (Fin.castAdd 64 l))) (Fin.castAdd 64 l) * x3 (ix2 k (Fin.castAdd 64 l))) = 0 from
        Finset.sum_eq_zero fun l _ => by unfold ropeQ; rw [hl0, if_neg (by omega), zero_mul], zero_add]
      refine Finset.sum_congr rfl fun l _ => ?_
      unfold ropeQ
      rw [hl1, if_pos (by omega), h1, h3, hm1, mul_right_comm]
      congr 4
      exact Fin.ext (by simp only [hl1]; omega)
  rw [show (∑ l : Fin 256, QC h x0 x1 (ix2 r l) * KC x2 x3 (ix2 k l))
      = ∑ l : Fin 128, QC h x0 x1 (ix2 r (Fin.castAdd 128 l)) * KC x2 x3 (ix2 k (Fin.castAdd 128 l))
        + ∑ l : Fin 128, QC h x0 x1 (ix2 r (Fin.natAdd 128 l)) * KC x2 x3 (ix2 k (Fin.natAdd 128 l)) from
    Fin.sum_univ_add (a := 128) (b := 128) _]
  simp only [e1, e2]
  rw [e3]
  unfold logit rawScore sc
  have hs : (0 : ℝ) ≤ (√192)⁻¹ := by positivity
  rw [← sum_mul_coe _ _ hs, ← sum_mul_coe _ _ hs, EReal.right_distrib_of_nonneg_of_ne_top (by exact_mod_cast hs) (EReal.coe_ne_top _)]

end Scores

end Cert.Own

end
-- ==== Proof.Arr.lean ====
/-
  The kernel's result array: at row `2048·b + r` and column `128·h + d` the attention of batch `b`, head `h` and query `r` at value lane `d`.
-/
module

public import proofs.«01_k».proof.Proof.Score

@[expose] public section

set_option maxRecDepth 16384

noncomputable section

namespace Cert.Own

open Idealize.ShloMosaic Idealize.SL.Sem Cert.KernelIdeal Cert.KernelIdeal.Gen

variable (m : (ℓ : Loc nD τ sig) → Buf (Elt Ideal) ℓ) (c : Dev nD)

/-- The block index of each window at a grid point: the batch, and the head or half the head or zero. -/
theorem idx0 : ∀ t : Fin cfg0.N, win0_0.index t = ![t.val / 16, t.val % 16] := (by decide +kernel : ∀ t : Fin grid0.N, _)
theorem idx1 : ∀ t : Fin cfg0.N, win0_1.index t = ![t.val / 16, t.val % 16 / 2] := (by decide +kernel : ∀ t : Fin grid0.N, _)
theorem idx2 : ∀ t : Fin cfg0.N, win0_2.index t = ![t.val / 16, t.val % 16] := (by decide +kernel : ∀ t : Fin grid0.N, _)
theorem idx3 : ∀ t : Fin cfg0.N, win0_3.index t = ![t.val / 16, 0] := (by decide +kernel : ∀ t : Fin grid0.N, _)
theorem idx4 : ∀ t : Fin cfg0.N, win0_4.index t = ![t.val / 16, t.val % 16] := (by decide +kernel : ∀ t : Fin grid0.N, _)

theorem t_lt (t : Fin cfg0.N) : t.val < 64 := lt_of_lt_of_eq t.isLt (by decide +kernel)

/-- A grid point's batch. -/
def bOf (t : Fin cfg0.N) : Fin 4 := ⟨t.val / 16, by have := t_lt t; omega⟩

/-- A grid point's head. -/
def hOf (t : Fin cfg0.N) : Fin 16 := ⟨t.val % 16, by omega⟩

/-- The second grid coordinate is the head. -/
theorem coord1 (t : Fin cfg0.N) : grid0.coords t 1 = hOf t :=
  Fin.ext ((by decide +kernel : ∀ t : Fin grid0.N, (grid0.coords t 1).val = t.val % 16) t)

/-- The four argument arrays of core `c`. -/
def a0 : (⟨4, ![4, 2048, 16, 192]⟩ : Shape).Idx → EReal := m (c, Proc.tc.devRef main_arg0)
def a1 : (⟨4, ![4, 2048, 16, 64]⟩ : Shape).Idx → EReal := m (c, Proc.tc.devRef main_arg1)
def a2 : (⟨4, ![4, 2048, 16, 256]⟩ : Shape).Idx → EReal := m (c, Proc.tc.devRef main_arg2)
def a3 : (⟨3, ![4, 2048, 64]⟩ : Shape).Idx → EReal := m (c, Proc.tc.devRef main_arg3)

/-- The query operand's own part. -/
theorem V4 (r : Fin 8192) (k : Fin 2048) : V m c main_v4 (ix2 r ⟨k.val, by omega⟩)
    = a0 m c (ix4 ⟨r.val / 2048, by omega⟩ ⟨r.val % 2048, by omega⟩ ⟨k.val / 128, by omega⟩ ⟨k.val % 128, by omega⟩) := by
  unfold V
  after_results
  pointwise [a0, a1, a2, a3]

/-- The rotary query operand. -/
theorem V6 (r : Fin 8192) (k : Fin 1024) : V m c main_v6 (ix2 r k)
    = a1 m c (ix4 ⟨r.val / 2048, by omega⟩ ⟨r.val % 2048, by omega⟩ ⟨k.val / 64, by omega⟩ ⟨k.val % 64, by omega⟩) := by
  unfold V
  after_results
  pointwise [a0, a1, a2, a3]

/-- The operand of keys and values. -/
theorem V7 (r : Fin 8192) (k : Fin 4096) : V m c main_v7 (ix2 r k)
    = a2 m c (ix4 ⟨r.val / 2048, by omega⟩ ⟨r.val % 2048, by omega⟩ ⟨k.val / 256, by omega⟩ ⟨k.val % 256, by omega⟩) := by
  unfold V
  after_results
  pointwise [a0, a1, a2, a3]

/-- The rotary key operand, the key held twice. -/
theorem V8 (r : Fin 8192) (k : Fin 128) : V m c main_v8 (ix2 r k)
    = a3 m c (ix3 ⟨r.val / 2048, by omega⟩ ⟨r.val % 2048, by omega⟩ ⟨k.val % 64, by omega⟩) := by
  unfold V
  after_results
  pointwise [a0, a1, a2, a3]
  split
  · congr 2; exact Fin.ext (by simp only; omega)
  · congr 2; exact Fin.ext (by simp only; omega)

/-- The query block of a grid point. -/
theorem blk0 (t : Fin cfg0.N) (r : Fin 2048) (l : Fin 128) :
    iblk m c 0 t (ix2 r l) = a0 m c (ix4 (bOf t) r (hOf t) ⟨l.val, by omega⟩) := by
  have e : iblk m c 0 t (ix2 r l) = V m c main_v4 (ix2 ⟨t.val / 16 * 2048 + r.val, by have := t_lt t; omega⟩
      ⟨(⟨t.val % 16 * 128 + l.val, by omega⟩ : Fin 2048).val, by show t.val % 16 * 128 + l.val < _; omega⟩) := by
    blk_point [iblk, V, idx0 t]
  rw [e, V4]
  congr 2 <;> first | exact Fin.ext (by simp only [bOf, hOf]; omega) | rfl

theorem blk1 (t : Fin cfg0.N) (r : Fin 2048) (l : Fin 128) :
    iblk m c 1 t (ix2 r l) = a1 m c (ix4 (bOf t) r ⟨(hOf t).val / 2 * 2 + l.val / 64, by omega⟩ ⟨l.val % 64, by omega⟩) := by
  have e : iblk m c 1 t (ix2 r l) = V m c main_v6 (ix2 ⟨t.val / 16 * 2048 + r.val, by have := t_lt t; omega⟩
      ⟨t.val % 16 / 2 * 128 + l.val, by omega⟩) := by
    blk_point [iblk, V, idx1 t]
  rw [e, V6]
  congr 2 <;> first | exact Fin.ext (by simp only [bOf, hOf]; omega) | rfl

theorem blk2 (t : Fin cfg0.N) (r : Fin 2048) (l : Fin 256) :
    iblk m c 2 t (ix2 r l) = a2 m c (ix4 (bOf t) r (hOf t) l) := by
  have e : iblk m c 2 t (ix2 r l) = V m c main_v7 (ix2 ⟨t.val / 16 * 2048 + r.val, by have := t_lt t; omega⟩
      ⟨t.val % 16 * 256 + l.val, by omega⟩) := by
    blk_point [iblk, V, idx2 t]
  rw [e, V7]
  congr 2 <;> first | exact Fin.ext (by simp only [bOf, hOf]; omega) | rfl

theorem blk3 (t : Fin cfg0.N) (r : Fin 2048) (l : Fin 128) :
    iblk m c 3 t (ix2 r l) = a3 m c (ix3 (bOf t) r ⟨l.val % 64, by omega⟩) := by
  have e : iblk m c 3 t (ix2 r l) = V m c main_v8 (ix2 ⟨t.val / 16 * 2048 + r.val, by have := t_lt t; omega⟩ l) := by
    blk_point [iblk, V, idx3 t]
  rw [e, V8]
  congr 2 <;> first | exact Fin.ext (by simp only [bOf, hOf]; omega) | rfl

/-- The result array. -/
def outArr : S8192x2048.Idx → EReal := fun y =>
  attn (a0 m c) (a1 m c) (a2 m c) (a3 m c) ⟨(y 0).val / 2048, by have h : (y 0).val < 8192 := (y 0).isLt; omega⟩
    ⟨(y 1).val / 128, by have h : (y 1).val < 2048 := (y 1).isLt; omega⟩ ⟨(y 0).val % 2048, by omega⟩ ⟨(y 1).val % 128, by omega⟩

/-- What a grid point stores is the attention of its batch and head. -/
theorem outBlock_eq (t : Fin cfg0.N) (r : Fin 2048) (d : Fin 128) :
    attnOut (QC (grid0.coords t 1) (iblk m c 0 t) (iblk m c 1 t)) (KC (iblk m c 2 t) (iblk m c 3 t)) (VC (iblk m c 2 t)) r d
      = attn (a0 m c) (a1 m c) (a2 m c) (a3 m c) (bOf t) (hOf t) r d := by
  unfold attnOut attn
  congr 1
  · funext k
    rw [coord1 t]
    exact scores_eq _ _ _ _ (bOf t) (hOf t) _ _ _ _ (blk0 m c t) (blk1 m c t) (blk2 m c t) (blk3 m c t) r k
  · funext k
    have e : VC (iblk m c 2 t) (ix2 k d) = iblk m c 2 t (ix2 k ⟨d.val + 128, by omega⟩) := rfl
    rw [e, blk2]
    congr 2
    exact Fin.ext (by simp only; omega)

/-- Equal batches, heads, queries and lanes give equal attention. -/
theorem attn_congr (A0 : (⟨4, ![4, 2048, 16, 192]⟩ : Shape).Idx → EReal) (A1 : (⟨4, ![4, 2048, 16, 64]⟩ : Shape).Idx → EReal)
    (A2 : (⟨4, ![4, 2048, 16, 256]⟩ : Shape).Idx → EReal) (A3 : (⟨3, ![4, 2048, 64]⟩ : Shape).Idx → EReal)
    {b b' : Fin 4} {h h' : Fin 16} {r r' : Fin 2048} {d d' : Fin 128} (eb : b = b') (eh : h = h') (er : r = r') (ed : d = d') :
    attn A0 A1 A2 A3 b h r d = attn A0 A1 A2 A3 b' h' r' d' := by
  rw [eb, eh, er, ed]

/-- The result array of the run is `outArr`. -/
theorem arr_eq : (dats m 0 c).arrAt 4 cfg0.N = outArr m c := by
  refine (dats m 0 c).arrAt_eq_of_covers 4 _ (by decide +kernel) fun t hf y => ?_
  blk_simp
  rw [after0_4]
  unfold outsAt0
  rw [outBlock]
  refine (outBlock_eq m c t _ _).trans ?_
  unfold outArr
  have h0 : (((cfg0.win 4).blk t).view.emb y 0).val = t.val / 16 * 2048 + (y 0).val := by
    blk_simp [idx4 t]
  have h1 : (((cfg0.win 4).blk t).view.emb y 1).val = t.val % 16 * 128 + (y 1).val := by
    blk_simp [idx4 t]
  have ht : t.val < 64 := t_lt t
  have y0 : (y 0).val < 2048 := (y 0).isLt
  have y1 : (y 1).val < 128 := (y 1).isLt
  have e0 : (⟨(((cfg0.win 4).blk t).view.emb y 0).val / 2048, by omega⟩ : Fin 4) = bOf t := Fin.ext (by show _ / 2048 = t.val / 16; omega)
  have e1 : (⟨(((cfg0.win 4).blk t).view.emb y 1).val / 128, by omega⟩ : Fin 16) = hOf t := Fin.ext (by show _ / 128 = t.val % 16; omega)
  have e2 : (⟨(((cfg0.win 4).blk t).view.emb y 0).val % 2048, by omega⟩ : Fin 2048) = y 0 := Fin.ext (by show _ % 2048 = (y 0).val; omega)
  have e3 : (⟨(((cfg0.win 4).blk t).view.emb y 1).val % 128, by omega⟩ : Fin 128) = y 1 := Fin.ext (by show _ % 128 = (y 1).val; omega)
  exact attn_congr _ _ _ _ e0.symm e1.symm e2.symm e3.symm

end Cert.Own

end
-- ==== Proof.Ref.lean ====
/-
  The reference's result at an index: the attention of one batch, head and query at one value lane.
-/
module

public import proofs.«01_k».proof.Proof.Score
public import proofs.«01_k».proof.Proof.Gen.ReferenceIdeal.Read

@[expose] public section

set_option maxRecDepth 16384

noncomputable section

namespace Cert.Own.Ref

open Idealize.ShloMosaic Idealize.SL.Sem Cert.ReferenceIdeal Cert.ReferenceIdeal.Read

variable (x0 : Vec Ideal S4x2048x16x192 .f32) (x1 : Vec Ideal S4x2048x16x64 .f32) (x2 : Vec Ideal S4x2048x16x256 .bf16)
variable (x3 : Vec Ideal S4x2048x64 .f32)
variable (b : Fin 4) (h : Fin 16) (r k : Fin 2048) (d : Fin 128)

/-- The reference's score before the division. -/
theorem ref_raw : val_main_v8 (F := Ideal) x0 x1 x2 x3 (ix4 b h r k) = rawScore x0 x1 x2 x3 b h r k := by
  pointwise [val_main_v8, val_main_v7, val_main_v6, val_main_v5, val_main_v4, val_main_v1, val_main_v0]
  unfold rawScore
  exact congrArg _ (Finset.sum_congr rfl fun l _ => mul_comm _ _)

/-- The square root of the scale's constant. -/
theorem sqrt_const : Ideal.sqrt (Ideal.ofBits FTy.f32 1128267776#32) = ((√192 : ℝ) : EReal) := by
  have e : Ideal.ofBits FTy.f32 1128267776#32 = ((192 : ℝ) : EReal) := by
    simp [Ideal.ofBits, Ideal.ieee]; rw [← EReal.coe_mul]; norm_num
  rw [e, Ideal.sqrt_coe, if_neg (by norm_num)]

/-- The reference's scaled score. -/
theorem ref_logit : val_main_v11 (F := Ideal) x0 x1 x2 x3 (ix4 b h r k) = logit x0 x1 x2 x3 b h r k := by
  pointwise [val_main_v11, val_main_v10, val_main_v9, val_main_cst]
  rw [ref_raw, sqrt_const, Ideal.div_coe (by positivity), logit, sc, one_div]

/-- The order of two positions below 2048 as words is their order. -/
theorem sge_bit : IntOp.cmpi CmpIPredicate.sge (BitVec.ofNat 32 r.val) (BitVec.ofNat 32 k.val) = BitVec.ofBool (decide (k.val ≤ r.val)) := by
  have hi : ∀ n : ℕ, n < 2048 → (BitVec.ofNat 32 n).toInt = (n : ℤ) := fun n hn => by
    rw [BitVec.toInt_eq_toNat_of_lt (by rw [BitVec.toNat_ofNat]; omega), BitVec.toNat_ofNat]; omega
  show BitVec.ofBool (decide ((BitVec.ofNat 32 k.val).toInt ≤ (BitVec.ofNat 32 r.val).toInt)) = _
  rw [hi _ k.isLt, hi _ r.isLt]
  congr 1
  exact decide_eq_decide.mpr (by omega)

/-- The reference's causal mask. -/
theorem ref_valid : val_main_v18 (F := Ideal) (ix4 0 0 r k) = BitVec.ofBool (decide (k.val ≤ r.val)) := by
  pointwise [val_main_v18, val_main_v17, val_main_v16, val_main_v15, val_main_v14, val_main_v13, val_main_v12]
  exact sge_bit r k

/-- The reference's masked score. -/
theorem ref_masked : val_main_v19 (F := Ideal) x0 x1 x2 x3 (ix4 b h r k) = masked r.val (logit x0 x1 x2 x3 b h r) k := by
  have e : val_main_call0_v2 (F := Ideal) (ix4 b h r k) = (⊥ : EReal) := by
    pointwise [val_main_call0_v2]
    exact ofBits_negInf
  pointwise [val_main_v19, val_main_call0_v1]
  rw [ref_valid, ref_logit, e, select_ofBool]
  rfl

/-- The reference's largest score of a row. -/
theorem ref_fold : val_main_v20 (F := Ideal) x0 x1 x2 x3 (ix3 b h r) = rowMax r.val (logit x0 x1 x2 x3 b h r) := by
  unfold val_main_v20
  rw [Host.reduce_eq_fold_single FloatOps.maximumf _ _ _ (by decide)]
  have e : (val_main_v19 (F := Ideal) x0 x1 x2 x3 ∘ Shape.Reduces.lift (s := S4x16x2048x2048) (a := 3) (t := S4x16x2048) (by decide) (ix3 b h r))
      = masked r.val (logit x0 x1 x2 x3 b h r) := by
    funext k
    refine Eq.trans ?_ (ref_masked x0 x1 x2 x3 b h r k)
    refine congrArg (val_main_v19 (F := Ideal) x0 x1 x2 x3) ?_
    funext a
    fin_cases a <;> rfl
  unfold rowMax
  rw [← e]
  refine congrArg (fun z => Finset.univ.fold max z _) ?_
  exact ofBits_negInf

/-- … which joining with `−∞` does not change. -/
theorem ref_max : val_main_v24 (F := Ideal) x0 x1 x2 x3 (ix4 b h r k) = rowMax r.val (logit x0 x1 x2 x3 b h r) := by
  have e : val_main_v21 (F := Ideal) (ix3 b h r) = (⊥ : EReal) := by
    rw [val_main_v21_apply]
    exact ofBits_negInf
  have ei : idx_main_v23 (idx_main_v24 (ix4 b h r k)) = ix3 b h r := by
    funext a
    fin_cases a <;> rfl
  rw [val_main_v24_apply, val_main_v23_apply, val_main_v22_apply, ei, ref_fold, e]
  exact max_bot_left _

/-- The reference's unnormalised weight. -/
theorem ref_weight : val_main_v26 (F := Ideal) x0 x1 x2 x3 (ix4 b h r k) = weight r.val (logit x0 x1 x2 x3 b h r) k := by
  pointwise [val_main_v26, val_main_v25]
  rw [ref_masked, ref_max]
  rfl

/-- The reference's sum of the weights. -/
theorem ref_sum : val_main_v29 (F := Ideal) x0 x1 x2 x3 (ix4 b h r k) = ∑ k, weight r.val (logit x0 x1 x2 x3 b h r) k := by
  pointwise [val_main_v29, val_main_v28, val_main_v27]
  simp only [ref_weight]
  rw [show val_main_cst_3 (F := Ideal) (Shape.Idx.first Gen.h_S_) = (0 : EReal) from Ideal.ofBits_zero_f32, zero_add]

/-- The reference's weight, set to zero again after the division where the key is masked, which it is already. -/
theorem ref_prob (hZ : ∃ z : ℝ, z ≠ 0 ∧ ∑ k, weight r.val (logit x0 x1 x2 x3 b h r) k = (z : EReal)) :
    val_main_v31 (F := Ideal) x0 x1 x2 x3 (ix4 b h r k)
      = Ideal.div (weight r.val (logit x0 x1 x2 x3 b h r) k) (∑ k, weight r.val (logit x0 x1 x2 x3 b h r) k) := by
  have e : val_main_call1_v2 (F := Ideal) (ix4 b h r k) = (0 : EReal) := by
    pointwise [val_main_call1_v2]
    exact Ideal.ofBits_zero_f32
  have e' : val_main_call1_v1 (F := Ideal) (ix4 b h r k) = val_main_v18 (F := Ideal) (ix4 0 0 r k) := by
    pointwise [val_main_call1_v1]
  pointwise [val_main_v31, val_main_v30]
  rw [e, e', ref_valid, ref_weight, ref_sum, select_ofBool]
  by_cases hk : k.val ≤ r.val
  · rw [if_pos hk]
  · obtain ⟨z, hz, hz'⟩ := hZ
    rw [if_neg hk, weight_eq_zero _ (by omega), hz', Ideal.div_coe hz, zero_mul]

/-- The reference's result at row `i` and column `j`. -/
theorem ref_out (hs : ∀ (b : Fin 4) (h : Fin 16) (r k : Fin 2048), ∃ x : ℝ, logit x0 x1 x2 x3 b h r k = (x : EReal)) (i : Fin 8192) (j : Fin 2048) :
    val_main_v35 (F := Ideal) x0 x1 x2 x3 (ix2 i j)
      = attn x0 x1 x2 x3 ⟨i.val / 2048, by omega⟩ ⟨j.val / 128, by omega⟩ ⟨i.val % 2048, by omega⟩ ⟨j.val % 128, by omega⟩ := by
  pointwise [val_main_v35, val_main_v34, val_main_v33, val_main_v32, val_main_v3, val_main_v2]
  unfold attn
  rw [attnRow_weights _ _ _ (hs _ _ _)]
  refine Finset.sum_congr rfl fun k _ => ?_
  rw [ref_prob, mul_comm]
  obtain ⟨z, hz, hz'⟩ := weight_sum ⟨i.val % 2048, by omega⟩ _ (hs ⟨i.val / 2048, by omega⟩ ⟨j.val / 128, by omega⟩ ⟨i.val % 2048, by omega⟩)
  exact ⟨z, hz.ne', hz'⟩

end Cert.Own.Ref

end
-- ==== Proof.Fin.lean ====
/-
  The precondition `finite`: the query, key and rotary entries are real numbers, so every scaled score is a real number.
-/
module

public import proofs.«01_k».proof.Proof.Score
public import proofs.«01_k».proof.Proof.Gen.Pre_finite
public import Idealize.ShloMosaic.Lib.ReduceAll

@[expose] public section

set_option maxRecDepth 16384

noncomputable section

namespace Cert.Own.Real4

open Idealize.ShloMosaic Idealize.SL.Sem Cert.Pre_finite Cert.Own

instance : Subsingleton S_.Idx := ⟨fun a b => funext fun d => d.elim0⟩

/-- An extended real whose absolute value is below infinity is a real number. -/
theorem real_of_cmp (x : EReal) (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  have hlt : max x (-x) < ⊤ := by
    by_contra hn
    simp [Ideal.cmp, hn] at h
  obtain ⟨h1, h2⟩ := max_lt_iff.mp hlt
  refine ⟨x.toReal, (EReal.coe_toReal h1.ne fun hb => ?_).symm⟩
  rw [hb] at h2
  simp at h2

variable (x0 : FVec Ideal S4x2048x16x192 .f32) (x1 : FVec Ideal S4x2048x16x64 .f32) (x2 : FVec Ideal S4x2048x16x256 .bf16) (x3 : FVec Ideal S4x2048x64 .f32)

/-- Under the precondition the queries, the rotary queries, the keys and the rotary keys are real numbers. -/
theorem reals (h : Cert.Pre_finite.fn (F := Ideal) x0 x1 x2 x3 = fun _ => 1#1) :
    (∀ i, ∃ r : ℝ, x0 i = (r : EReal)) ∧ (∀ i, ∃ r : ℝ, x1 i = (r : EReal))
      ∧ (∀ (b : Fin 4) (k : Fin 2048) (g : Fin 16) (l : Fin 128), ∃ r : ℝ, x2 (ix4 b k g ⟨l.val, by omega⟩) = (r : EReal))
      ∧ ∀ i, ∃ r : ℝ, x3 i = (r : EReal) := by
  have h' := congrFun h (Shape.Idx.first Gen.h_S_)
  unfold Cert.Pre_finite.fn Cert.Pre_finite.fn_part1 at h'
  obtain ⟨h012, h3⟩ := IntOp.andi_eq_one.1 h'
  obtain ⟨h01, h2⟩ := IntOp.andi_eq_one.1 h012
  obtain ⟨h0, h1⟩ := IntOp.andi_eq_one.1 h01
  refine ⟨fun i => real_of_cmp _ (Host.reduce_andi_all _ _ _ _ _ h0 i), fun i => real_of_cmp _ (Host.reduce_andi_all _ _ _ _ _ h1 i), fun b k g l => ?_,
    fun i => real_of_cmp _ (Host.reduce_andi_all _ _ _ _ _ h3 i)⟩
  obtain ⟨r, hr⟩ := real_of_cmp _ (Host.reduce_andi_all _ _ _ _ _ h2 (ix4 b k g l))
  refine ⟨r, Eq.trans ?_ hr⟩
  refine congrArg x2 (funext fun a => ?_)
  fin_cases a <;> exact Fin.ext (Nat.zero_add _).symm

/-- Under the precondition every scaled score is a real number. -/
theorem logit_real (h : Cert.Pre_finite.fn (F := Ideal) x0 x1 x2 x3 = fun _ => 1#1) (b : Fin 4) (g : Fin 16) (r k : Fin 2048) :
    ∃ x : ℝ, logit x0 x1 x2 x3 b g r k = (x : EReal) := by
  obtain ⟨h0, h1, h2, h3⟩ := reals x0 x1 x2 x3 h
  choose f0 h0 using h0
  choose f1 h1 using h1
  choose f2 h2 using h2
  choose f3 h3 using h3
  refine ⟨((∑ l : Fin 128, f0 (ix4 b r g ⟨l.val, by omega⟩) * f2 b k g l) + ∑ l : Fin 64, f1 (ix4 b r g l) * f3 (ix3 b k l)) * (Real.sqrt 192)⁻¹, ?_⟩
  unfold logit rawScore sc
  simp only [h0, h1, h2, h3, ← EReal.coe_mul, coe_sum, ← EReal.coe_add]

end Cert.Own.Real4

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelSwiglu
public import proofs.«01_k».proof.Proof.Gen.KernelSwiglu.Skeleton
public import proofs.«01_k».proof.Proof.Gen.KernelSwiglu.Launch
public import proofs.«01_k».proof.Proof.Gen.KernelSwigluIdeal
public import proofs.«01_k».proof.Proof.Gen.KernelSwigluIdeal.Skeleton
public import proofs.«01_k».proof.Proof.Gen.KernelSwigluIdeal.Launch
public import proofs.«01_k».proof.Proof.Gen.ReferenceSwigluIdeal
public import proofs.«01_k».proof.Proof.Gen.ReferenceSwigluIdeal.Run
public import proofs.«01_k».proof.Proof.Gen.ReferenceSwigluIdeal.Read
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelPle
public import proofs.«01_k».proof.Proof.Gen.KernelPle.Skeleton
public import proofs.«01_k».proof.Proof.Gen.KernelPle.Launch
public import proofs.«01_k».proof.Proof.Gen.KernelPle.Points
public import proofs.«01_k».proof.Proof.Gen.KernelPle.Frame
public import proofs.«01_k».proof.Proof.Gen.KernelPleIdeal
public import proofs.«01_k».proof.Proof.Gen.KernelPleIdeal.Skeleton
public import proofs.«01_k».proof.Proof.Gen.KernelPleIdeal.Launch
public import proofs.«01_k».proof.Proof.Gen.KernelPleIdeal.Points
public import proofs.«01_k».proof.Proof.Gen.KernelPleIdeal.Frame
public import proofs.«01_k».proof.Proof.Gen.KernelPleIdeal.Value
public import proofs.«01_k».proof.Proof.Gen.ReferencePleIdeal
public import proofs.«01_k».proof.Proof.Gen.ReferencePleIdeal.Run
public import proofs.«01_k».proof.Proof.Gen.ReferencePleIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelPrep
public import proofs.«01_k».proof.Proof.Gen.KernelPrep.Skeleton
public import proofs.«01_k».proof.Proof.Gen.KernelPrep.Launch
public import proofs.«01_k».proof.Proof.Gen.KernelPrep.Points
public import proofs.«01_k».proof.Proof.Gen.KernelPrep.Frame
public import proofs.«01_k».proof.Proof.Gen.KernelPrepIdeal
public import proofs.«01_k».proof.Proof.Gen.KernelPrepIdeal.Skeleton
public import proofs.«01_k».proof.Proof.Gen.KernelPrepIdeal.Launch
public import proofs.«01_k».proof.Proof.Gen.KernelPrepIdeal.Points
public import proofs.«01_k».proof.Proof.Gen.KernelPrepIdeal.Frame
public import proofs.«01_k».proof.Proof.Gen.KernelPrepIdeal.Value
public import proofs.«01_k».proof.Proof.Gen.ReferencePrepIdeal
public import proofs.«01_k».proof.Proof.Gen.ReferencePrepIdeal.Run
public import proofs.«01_k».proof.Proof.Gen.ReferencePrepIdeal.Read
public import proofs.«01_k».proof.Proof.Gen.KernelRope
public import proofs.«01_k».proof.Proof.Gen.KernelRope.Skeleton
public import proofs.«01_k».proof.Proof.Gen.KernelRope.Launch
public import proofs.«01_k».proof.Proof.Gen.KernelRope.Points
public import proofs.«01_k».proof.Proof.Gen.KernelRope.Frame
public import proofs.«01_k».proof.Proof.Gen.KernelRopeIdeal
public import proofs.«01_k».proof.Proof.Gen.KernelRopeIdeal.Skeleton
public import proofs.«01_k».proof.Proof.Gen.KernelRopeIdeal.Launch
public import proofs.«01_k».proof.Proof.Gen.KernelRopeIdeal.Points
public import proofs.«01_k».proof.Proof.Gen.KernelRopeIdeal.Frame
public import proofs.«01_k».proof.Proof.Gen.KernelRopeIdeal.Value
public import proofs.«01_k».proof.Proof.Gen.ReferenceRopeIdeal
public import proofs.«01_k».proof.Proof.Gen.ReferenceRopeIdeal.Run
public import proofs.«01_k».proof.Proof.Gen.ReferenceRopeIdeal.Read
public import proofs.«01_k».proof.Proof.Gen.KernelMlaIn
public import proofs.«01_k».proof.Proof.Gen.KernelMlaIn.Skeleton
public import proofs.«01_k».proof.Proof.Gen.KernelMlaIn.Launch
public import proofs.«01_k».proof.Proof.Gen.KernelMlaIn.Points
public import proofs.«01_k».proof.Proof.Gen.KernelMlaIn.Frame
public import proofs.«01_k».proof.Proof.Gen.KernelMlaInIdeal
public import proofs.«01_k».proof.Proof.Gen.KernelMlaInIdeal.Skeleton
public import proofs.«01_k».proof.Proof.Gen.KernelMlaInIdeal.Launch
public import proofs.«01_k».proof.Proof.Gen.KernelMlaInIdeal.Points
public import proofs.«01_k».proof.Proof.Gen.KernelMlaInIdeal.Frame
public import proofs.«01_k».proof.Proof.Gen.ReferenceMlaInIdeal
public import proofs.«01_k».proof.Proof.Gen.ReferenceMlaInIdeal.Run
public import proofs.«01_k».proof.Proof.Gen.ReferenceMlaInIdeal.Read
public import proofs.«01_k».proof.Proof.Gen.KernelQuery
public import proofs.«01_k».proof.Proof.Gen.KernelQuery.Skeleton
public import proofs.«01_k».proof.Proof.Gen.KernelQuery.Launch
public import proofs.«01_k».proof.Proof.Gen.KernelQuery.Points
public import proofs.«01_k».proof.Proof.Gen.KernelQuery.Frame
public import proofs.«01_k».proof.Proof.Gen.KernelQueryIdeal
public import proofs.«01_k».proof.Proof.Gen.KernelQueryIdeal.Skeleton
public import proofs.«01_k».proof.Proof.Gen.KernelQueryIdeal.Launch
public import proofs.«01_k».proof.Proof.Gen.KernelQueryIdeal.Points
public import proofs.«01_k».proof.Proof.Gen.KernelQueryIdeal.Frame
public import proofs.«01_k».proof.Proof.Gen.KernelQueryIdeal.Value
public import proofs.«01_k».proof.Proof.Gen.ReferenceQueryIdeal
public import proofs.«01_k».proof.Proof.Gen.ReferenceQueryIdeal.Run
public import proofs.«01_k».proof.Proof.Gen.ReferenceQueryIdeal.Read
public import proofs.«01_k».proof.Proof.Gen.KernelKv
public import proofs.«01_k».proof.Proof.Gen.KernelKv.Skeleton
public import proofs.«01_k».proof.Proof.Gen.KernelKv.Launch
public import proofs.«01_k».proof.Proof.Gen.KernelKv.Points
public import proofs.«01_k».proof.Proof.Gen.KernelKv.Frame
public import proofs.«01_k».proof.Proof.Gen.KernelKvIdeal
public import proofs.«01_k».proof.Proof.Gen.KernelKvIdeal.Skeleton
public import proofs.«01_k».proof.Proof.Gen.KernelKvIdeal.Launch
public import proofs.«01_k».proof.Proof.Gen.KernelKvIdeal.Points
public import proofs.«01_k».proof.Proof.Gen.KernelKvIdeal.Frame
public import proofs.«01_k».proof.Proof.Gen.KernelKvIdeal.Value
public import proofs.«01_k».proof.Proof.Gen.ReferenceKvIdeal
public import proofs.«01_k».proof.Proof.Gen.ReferenceKvIdeal.Run
public import proofs.«01_k».proof.Proof.Gen.ReferenceKvIdeal.Read
public import proofs.«01_k».proof.Proof.Gen.KernelInS
public import proofs.«01_k».proof.Proof.Gen.KernelInS.Skeleton
public import proofs.«01_k».proof.Proof.Gen.KernelInS.Launch
public import proofs.«01_k».proof.Proof.Gen.KernelInS.Points
public import proofs.«01_k».proof.Proof.Gen.KernelInS.Frame
public import proofs.«01_k».proof.Proof.Gen.KernelInSIdeal
public import proofs.«01_k».proof.Proof.Gen.KernelInSIdeal.Skeleton
public import proofs.«01_k».proof.Proof.Gen.KernelInSIdeal.Launch
public import proofs.«01_k».proof.Proof.Gen.KernelInSIdeal.Points
public import proofs.«01_k».proof.Proof.Gen.KernelInSIdeal.Frame
public import proofs.«01_k».proof.Proof.Gen.ReferenceInSIdeal
public import proofs.«01_k».proof.Proof.Gen.ReferenceInSIdeal.Run
public import proofs.«01_k».proof.Proof.Gen.ReferenceInSIdeal.Read
public import proofs.«01_k».proof.Proof.Gen.KernelPleS
public import proofs.«01_k».proof.Proof.Gen.KernelPleS.Skeleton
public import proofs.«01_k».proof.Proof.Gen.KernelPleS.Launch
public import proofs.«01_k».proof.Proof.Gen.KernelPleS.Points
public import proofs.«01_k».proof.Proof.Gen.KernelPleS.Frame
public import proofs.«01_k».proof.Proof.Gen.KernelPleSIdeal
public import proofs.«01_k».proof.Proof.Gen.KernelPleSIdeal.Skeleton
public import proofs.«01_k».proof.Proof.Gen.KernelPleSIdeal.Launch
public import proofs.«01_k».proof.Proof.Gen.KernelPleSIdeal.Points
public import proofs.«01_k».proof.Proof.Gen.KernelPleSIdeal.Frame
public import proofs.«01_k».proof.Proof.Gen.KernelPleSIdeal.Value
public import proofs.«01_k».proof.Proof.Gen.ReferencePleSIdeal
public import proofs.«01_k».proof.Proof.Gen.ReferencePleSIdeal.Run
public import proofs.«01_k».proof.Proof.Gen.ReferencePleSIdeal.Read
public import proofs.«01_k».proof.Proof.Gen.KernelPrepS
public import proofs.«01_k».proof.Proof.Gen.KernelPrepS.Skeleton
public import proofs.«01_k».proof.Proof.Gen.KernelPrepS.Launch
public import proofs.«01_k».proof.Proof.Gen.KernelPrepS.Points
public import proofs.«01_k».proof.Proof.Gen.KernelPrepS.Frame
public import proofs.«01_k».proof.Proof.Gen.KernelPrepSIdeal
public import proofs.«01_k».proof.Proof.Gen.KernelPrepSIdeal.Skeleton
public import proofs.«01_k».proof.Proof.Gen.KernelPrepSIdeal.Launch
public import proofs.«01_k».proof.Proof.Gen.KernelPrepSIdeal.Points
public import proofs.«01_k».proof.Proof.Gen.KernelPrepSIdeal.Frame
public import proofs.«01_k».proof.Proof.Gen.KernelPrepSIdeal.Value
public import proofs.«01_k».proof.Proof.Gen.ReferencePrepSIdeal
public import proofs.«01_k».proof.Proof.Gen.ReferencePrepSIdeal.Run
public import proofs.«01_k».proof.Proof.Gen.ReferencePrepSIdeal.Read
public import proofs.«01_k».proof.Proof.Gen.KernelCombine
public import proofs.«01_k».proof.Proof.Gen.KernelCombine.Skeleton
public import proofs.«01_k».proof.Proof.Gen.KernelCombine.Launch
public import proofs.«01_k».proof.Proof.Gen.KernelCombine.Points
public import proofs.«01_k».proof.Proof.Gen.KernelCombine.Frame
public import proofs.«01_k».proof.Proof.Gen.KernelCombineIdeal
public import proofs.«01_k».proof.Proof.Gen.KernelCombineIdeal.Skeleton
public import proofs.«01_k».proof.Proof.Gen.KernelCombineIdeal.Launch
public import proofs.«01_k».proof.Proof.Gen.KernelCombineIdeal.Points
public import proofs.«01_k».proof.Proof.Gen.KernelCombineIdeal.Frame
public import proofs.«01_k».proof.Proof.Gen.KernelCombineIdeal.Value
public import proofs.«01_k».proof.Proof.Gen.ReferenceCombineIdeal
public import proofs.«01_k».proof.Proof.Gen.ReferenceCombineIdeal.Run
public import proofs.«01_k».proof.Proof.Gen.ReferenceCombineIdeal.Read
public import proofs.«01_k».proof.Proof.Gen.KernelAbsorbQ
public import proofs.«01_k».proof.Proof.Gen.KernelAbsorbQ.Skeleton
public import proofs.«01_k».proof.Proof.Gen.KernelAbsorbQ.Launch
public import proofs.«01_k».proof.Proof.Gen.KernelAbsorbQ.Points
public import proofs.«01_k».proof.Proof.Gen.KernelAbsorbQ.Frame
public import proofs.«01_k».proof.Proof.Gen.KernelAbsorbQIdeal
public import proofs.«01_k».proof.Proof.Gen.KernelAbsorbQIdeal.Skeleton
public import proofs.«01_k».proof.Proof.Gen.KernelAbsorbQIdeal.Launch
public import proofs.«01_k».proof.Proof.Gen.KernelAbsorbQIdeal.Points
public import proofs.«01_k».proof.Proof.Gen.KernelAbsorbQIdeal.Frame
public import proofs.«01_k».proof.Proof.Gen.KernelAbsorbQIdeal.Value
public import proofs.«01_k».proof.Proof.Gen.ReferenceAbsorbQIdeal
public import proofs.«01_k».proof.Proof.Gen.ReferenceAbsorbQIdeal.Run
public import proofs.«01_k».proof.Proof.Gen.ReferenceAbsorbQIdeal.Read
public import proofs.«01_k».proof.Proof.Gen.KernelAbsorbO
public import proofs.«01_k».proof.Proof.Gen.KernelAbsorbO.Skeleton
public import proofs.«01_k».proof.Proof.Gen.KernelAbsorbO.Launch
public import proofs.«01_k».proof.Proof.Gen.KernelAbsorbO.Points
public import proofs.«01_k».proof.Proof.Gen.KernelAbsorbO.Frame
public import proofs.«01_k».proof.Proof.Gen.KernelAbsorbOIdeal
public import proofs.«01_k».proof.Proof.Gen.KernelAbsorbOIdeal.Skeleton
public import proofs.«01_k».proof.Proof.Gen.KernelAbsorbOIdeal.Launch
public import proofs.«01_k».proof.Proof.Gen.KernelAbsorbOIdeal.Points
public import proofs.«01_k».proof.Proof.Gen.KernelAbsorbOIdeal.Frame
public import proofs.«01_k».proof.Proof.Gen.KernelAbsorbOIdeal.Value
public import proofs.«01_k».proof.Proof.Gen.ReferenceAbsorbOIdeal
public import proofs.«01_k».proof.Proof.Gen.ReferenceAbsorbOIdeal.Run
public import proofs.«01_k».proof.Proof.Gen.ReferenceAbsorbOIdeal.Read
public import proofs.«01_k».proof.Proof.SwiRun
public import proofs.«01_k».proof.Proof.SwiBits
public import proofs.«01_k».proof.Proof.SwiVal
public import proofs.«01_k».proof.Proof.Down
public import proofs.«01_k».proof.Proof.Ple
public import proofs.«01_k».proof.Proof.Res
public import proofs.«01_k».proof.Proof.InpRun
public import proofs.«01_k».proof.Proof.InpBits
public import proofs.«01_k».proof.Proof.Inp
public import proofs.«01_k».proof.Proof.PrepPay
public import proofs.«01_k».proof.Proof.Prep
public import proofs.«01_k».proof.Proof.Rope
public import proofs.«01_k».proof.Proof.MliRun
public import proofs.«01_k».proof.Proof.MliBits
public import proofs.«01_k».proof.Proof.Mli
public import proofs.«01_k».proof.Proof.Qry
public import proofs.«01_k».proof.Proof.Kvp
public import proofs.«01_k».proof.Proof.InsRun
public import proofs.«01_k».proof.Proof.InsBits
public import proofs.«01_k».proof.Proof.Ins
public import proofs.«01_k».proof.Proof.Pls
public import proofs.«01_k».proof.Proof.PrsPay
public import proofs.«01_k».proof.Proof.Prs
public import proofs.«01_k».proof.Proof.Cmb
public import proofs.«01_k».proof.Proof.Abq
public import proofs.«01_k».proof.Proof.Abo
public import proofs.«01_k».proof.Proof.Arr
public import proofs.«01_k».proof.Proof.Ref
public import proofs.«01_k».proof.Proof.Fin
public import Idealize.ShloMosaic.Adequacy
public import Idealize.ShloMosaic.Init

@[expose] public section

noncomputable section

namespace Cert.Proof

open Idealize.ShloMosaic Idealize.SL.Sem Cert.Kernel

/-- The reference runs, leaves its arguments unchanged and every counter at zero. -/
theorem frame_reference : Cert.quiescent_ReferenceIdeal := by
  intro m g _
  exact (θ_run _ _ _).mono (fun r h => ⟨fun c => (h c).2, Idealize.ShloMosaic.sem_eq_zero_of_no_sems (by decide) r.2⟩) (Cert.ReferenceIdeal.Value.run m g)

/-- The kernel's and the reference's result arrays are the same extended reals, from the same arguments, whenever the precondition holds. -/
theorem algebraic : Cert.algebraic_KernelIdeal_ReferenceIdeal_pre_finite := by
  intro m g m' g' hpre hargs
  refine ⟨fun c => Cert.Own.outArr m c, (θ_run _ _ _).mono (fun r h c => ⟨(h c).1.trans (Cert.Own.arr_eq m c), (h c).2⟩) (Cert.KernelIdeal.Value.run_blocks m g),
    (θ_run _ _ _).mono (fun r h c => ⟨(h c).1.trans ?_, (h c).2⟩) (Cert.ReferenceIdeal.Value.run m' g')⟩
  obtain ⟨e0, e1, e2, e3⟩ := hargs c
  refine (Cert.ReferenceIdeal.Read.val_main_v35_eq m' c).trans ?_
  rw [e0, e1, e2, e3]
  funext y
  rw [eq_ix2 y]
  exact Cert.Own.Ref.ref_out _ _ _ _ (Cert.Own.Real4.logit_real _ _ _ _ (hpre c)) (y 0) (y 1)

/-- The first feed-forward product: the reference runs, leaves its arguments unchanged and every counter at zero. -/
theorem frame_reference_swiglu : Cert.quiescent_ReferenceSwigluIdeal := by
  intro m g _
  exact (θ_run _ _ _).mono (fun r h => ⟨fun c => (h c).2.2.2, Idealize.ShloMosaic.sem_eq_zero_of_no_sems (by decide) r.2⟩) (Cert.ReferenceSwigluIdeal.Value.run m g)

/-- The first feed-forward product, with the row means and reciprocal deviations: the kernel's and the reference's three result
    arrays are the same extended reals, from the same arguments. -/
theorem algebraic_swiglu : Cert.algebraic_KernelSwigluIdeal_ReferenceSwigluIdeal := by
  intro m g m' g' _ hargs
  refine ⟨fun c => Cert.Own.SwiVal.outArr m c, fun c => Cert.Own.SwiVal.meanArr m c, fun c => Cert.Own.SwiVal.rstdArr m c,
    (θ_run _ _ _).mono (fun r h c => ⟨(h.1 c).1.trans (Cert.Own.SwiVal.arr5 m c), (h.1 c).2.1.trans (Cert.Own.SwiVal.arr6 m c),
      (h.1 c).2.2.1.trans (Cert.Own.SwiVal.arr7 m c), (h.1 c).2.2.2⟩) (Cert.Own.Swi.run_arrays m g),
    (θ_run _ _ _).mono (fun r h c => ⟨(h c).1.trans ?_, (h c).2.1.trans ?_, (h c).2.2.1.trans ?_, (h c).2.2.2⟩) (Cert.ReferenceSwigluIdeal.Value.run m' g')⟩
  · obtain ⟨e0, e1, e2, e3⟩ := hargs c
    refine (Cert.ReferenceSwigluIdeal.Read.val_main_v46_eq _ _).trans ?_
    rw [e0, e1, e2, e3]
    funext y
    rw [eq_ix2 y]
    exact Cert.Own.SwiRef.ref_out _ _ _ _ (y 0) (y 1)
  · obtain ⟨e0, e1, e2, e3⟩ := hargs c
    refine (Cert.ReferenceSwigluIdeal.Read.val_main_v47_eq _).trans ?_
    rw [e0]
    funext y
    rw [Cert.Own.SwiVal.eq_row y]
    exact Cert.Own.SwiRef.ref_mean _ (y 0)
  · obtain ⟨e0, e1, e2, e3⟩ := hargs c
    refine (Cert.ReferenceSwigluIdeal.Read.val_main_v48_eq _).trans ?_
    rw [e0]
    funext y
    rw [Cert.Own.SwiVal.eq_row y]
    exact Cert.Own.SwiRef.ref_rstd _ (y 0)

/-- The second feed-forward product: the reference runs, leaves its arguments unchanged and every counter at zero. -/
theorem frame_reference_down : Cert.quiescent_ReferenceDownIdeal := by
  intro m g _
  exact (θ_run _ _ _).mono (fun r h => ⟨fun c => (h c).2, Idealize.ShloMosaic.sem_eq_zero_of_no_sems (by decide) r.2⟩) (Cert.ReferenceDownIdeal.Value.run m g)

/-- The second feed-forward product: the kernel's and the reference's result arrays are the same extended reals, from the same arguments. -/
theorem algebraic_down : Cert.algebraic_KernelDownIdeal_ReferenceDownIdeal := by
  intro m g m' g' _ hargs
  refine ⟨fun c => Cert.Own.Down.outArr m c, (θ_run _ _ _).mono (fun r h c => ⟨(h c).1.trans (Cert.Own.Down.arr_eq m c), (h c).2⟩) (Cert.KernelDownIdeal.Value.run_blocks m g),
    (θ_run _ _ _).mono (fun r h c => ⟨(h c).1.trans ?_, (h c).2⟩) (Cert.ReferenceDownIdeal.Value.run m' g')⟩
  obtain ⟨e0, e1, e2, e3, e4, e5, e6⟩ := hargs c
  refine (Cert.ReferenceDownIdeal.Read.val_main_v17_eq _ _ _ _ _ _ _).trans ?_
  rw [e0, e1, e2, e3, e4, e5, e6]
  funext y
  rw [eq_ix2 y]
  exact Cert.Own.DownRef.ref_out _ _ _ _ _ _ _ (y 0) (y 1)

/-- The norm and the per-layer embedding: the reference runs, leaves its arguments unchanged and every counter at zero. -/
theorem frame_reference_ple : Cert.quiescent_ReferencePleIdeal := by
  intro m g _
  exact (θ_run _ _ _).mono (fun r h => ⟨fun c => (h c).2, Idealize.ShloMosaic.sem_eq_zero_of_no_sems (by decide) r.2⟩) (Cert.ReferencePleIdeal.Value.run m g)

/-- The norm and the per-layer embedding: the kernel's and the reference's result arrays are the same extended reals, from the same arguments. -/
theorem algebraic_ple : Cert.algebraic_KernelPleIdeal_ReferencePleIdeal := by
  intro m g m' g' _ hargs
  refine ⟨fun c => Cert.Own.Ple.outArr m c, (θ_run _ _ _).mono (fun r h c => ⟨(h c).1.trans (Cert.Own.Ple.arr_eq m c), (h c).2⟩) (Cert.KernelPleIdeal.Value.run_blocks m g),
    (θ_run _ _ _).mono (fun r h c => ⟨(h c).1.trans ?_, (h c).2⟩) (Cert.ReferencePleIdeal.Value.run m' g')⟩
  obtain ⟨e0, e1, e2, e3, e4, e5⟩ := hargs c
  refine (Cert.ReferencePleIdeal.Read.val_main_v40_eq _ _).trans ?_
  rw [e0, e1, e2, e3, e4, e5]
  funext y
  rw [eq_ix2 y]
  exact Cert.Own.PleRef.ref_out _ _ _ _ _ _ (y 0) (y 1)

/-- The output product: the reference runs, leaves its arguments unchanged and every counter at zero. -/
theorem frame_reference_out : Cert.quiescent_ReferenceOutIdeal := by
  intro m g _
  exact (θ_run _ _ _).mono (fun r h => ⟨fun c => (h c).2, Idealize.ShloMosaic.sem_eq_zero_of_no_sems (by decide) r.2⟩) (Cert.ReferenceOutIdeal.Value.run m g)

/-- The output product: the kernel's and the reference's result arrays are the same extended reals, from the same arguments. -/
theorem algebraic_out : Cert.algebraic_KernelOutIdeal_ReferenceOutIdeal := by
  intro m g m' g' _ hargs
  refine ⟨fun c => Cert.Own.Res.outArr m c, (θ_run _ _ _).mono (fun r h c => ⟨(h c).1.trans (Cert.Own.Res.arr_eq m c), (h c).2⟩) (Cert.KernelOutIdeal.Value.run_blocks m g),
    (θ_run _ _ _).mono (fun r h c => ⟨(h c).1.trans ?_, (h c).2⟩) (Cert.ReferenceOutIdeal.Value.run m' g')⟩
  obtain ⟨e0, e1, e2⟩ := hargs c
  refine (Cert.ReferenceOutIdeal.Read.val_main_v6_eq _ _ _).trans ?_
  rw [e0, e1, e2]
  funext y
  rw [eq_ix2 y]
  exact Cert.Own.ResRef.ref_out _ _ _ (y 0) (y 1)

/-- The input projections: the reference runs, leaves its arguments unchanged and every counter at zero. -/
theorem frame_reference_in : Cert.quiescent_ReferenceInIdeal := by
  intro m g _
  exact (θ_run _ _ _).mono (fun r h => ⟨fun c => (h c).2, Idealize.ShloMosaic.sem_eq_zero_of_no_sems (by decide) r.2⟩) (Cert.ReferenceInIdeal.Value.run m g)

/-- The input projections: the kernel's and the reference's result arrays are the same extended reals, from the same arguments. -/
theorem algebraic_in : Cert.algebraic_KernelInIdeal_ReferenceInIdeal := by
  intro m g m' g' _ hargs
  refine ⟨fun c => Cert.Own.Inp.outArr m c, (θ_run _ _ _).mono (fun r h c => ⟨(h c).1.trans (Cert.Own.Inp.arr_eq m c), (h c).2⟩) (Cert.Own.Inp.run_arrays m g),
    (θ_run _ _ _).mono (fun r h c => ⟨(h c).1.trans ?_, (h c).2⟩) (Cert.ReferenceInIdeal.Value.run m' g')⟩
  obtain ⟨e0, e1⟩ := hargs c
  refine (Cert.ReferenceInIdeal.Read.val_main_v2_eq _ _).trans ?_
  rw [e0, e1]
  funext y
  rw [eq_ix2 y]
  exact Cert.Own.InpRef.ref_out _ _ (y 0) (y 1)

/-- The norms and the rotary key: the reference runs, leaves its arguments unchanged and every counter at zero. -/
theorem frame_reference_prep : Cert.quiescent_ReferencePrepIdeal := by
  intro m g _
  exact (θ_run _ _ _).mono (fun r h => ⟨fun c => (h c).2.2.2.2, Idealize.ShloMosaic.sem_eq_zero_of_no_sems (by decide) r.2⟩) (Cert.ReferencePrepIdeal.Value.run m g)

/-- The norms and the rotary key: the kernel's and the reference's four result arrays are the same extended reals, from the same arguments. -/
theorem algebraic_prep : Cert.algebraic_KernelPrepIdeal_ReferencePrepIdeal := by
  intro m g m' g' _ hargs
  refine ⟨fun c => Cert.Own.Prep.outQ m c, fun c => Cert.Own.Prep.outK m c, fun c => Cert.Own.Prep.outC m c, fun c => Cert.Own.Prep.outR m c,
    (θ_run _ _ _).mono (fun r h c => ⟨(h c).1.trans (Cert.Own.Prep.arr6 m c), (h c).2.1.trans (Cert.Own.Prep.arr7 m c),
      (h c).2.2.1.trans (Cert.Own.Prep.arr8 m c), (h c).2.2.2.1.trans (Cert.Own.Prep.arr9 m c), (h c).2.2.2.2⟩) (Cert.KernelPrepIdeal.Value.run_blocks m g),
    (θ_run _ _ _).mono (fun r h c => ⟨(h c).1.trans ?_, (h c).2.1.trans ?_, (h c).2.2.1.trans ?_, (h c).2.2.2.1.trans ?_, (h c).2.2.2.2⟩) (Cert.ReferencePrepIdeal.Value.run m' g')⟩
  · obtain ⟨e0, e1, e2⟩ := hargs c
    refine (Cert.ReferencePrepIdeal.Read.val_main_v69_eq _ _).trans ?_
    rw [e0, e1]
    funext y
    rw [eq_ix2 y]
    exact Cert.Own.PrepRef.ref_q _ _ (y 0) (y 1)
  · obtain ⟨e0, e1, e2⟩ := hargs c
    refine (Cert.ReferencePrepIdeal.Read.val_main_v71_eq _ _).trans ?_
    rw [e0, e2]
    funext y
    rw [eq_ix2 y]
    exact Cert.Own.PrepRef.ref_k _ _ (y 0) (y 1)
  · obtain ⟨e0, e1, e2⟩ := hargs c
    refine (Cert.ReferencePrepIdeal.Read.val_main_v72_eq m' c).trans ?_
    rw [e0, e2]
    funext y
    rw [eq_ix2 y]
    exact Cert.Own.PrepRef.ref_cache _ _ (y 0) (y 1)
  · obtain ⟨e0, e1, e2⟩ := hargs c
    refine (Cert.ReferencePrepIdeal.Read.val_main_v74_eq m' c).trans ?_
    rw [e0]
    funext y
    rw [eq_ix2 y]
    exact Cert.Own.PrepRef.ref_twice _ (y 0) (y 1)

/-- The rotary embedding of the queries: the reference runs, leaves its argument unchanged and every counter at zero. -/
theorem frame_reference_rope : Cert.quiescent_ReferenceRopeIdeal := by
  intro m g _
  exact (θ_run _ _ _).mono (fun r h => ⟨fun c => (h c).2, Idealize.ShloMosaic.sem_eq_zero_of_no_sems (by decide) r.2⟩) (Cert.ReferenceRopeIdeal.Value.run m g)

/-- The rotary embedding of the queries: the kernel's and the reference's result arrays are the same extended reals, from the same argument. -/
theorem algebraic_rope : Cert.algebraic_KernelRopeIdeal_ReferenceRopeIdeal := by
  intro m g m' g' _ hargs
  refine ⟨fun c => Cert.Own.Rope.outArr m c, (θ_run _ _ _).mono (fun r h c => ⟨(h c).1.trans (Cert.Own.Rope.arr_eq m c), (h c).2⟩) (Cert.KernelRopeIdeal.Value.run_blocks m g),
    (θ_run _ _ _).mono (fun r h c => ⟨(h c).1.trans ?_, (h c).2⟩) (Cert.ReferenceRopeIdeal.Value.run m' g')⟩
  have e0 := hargs c
  refine (Cert.ReferenceRopeIdeal.Read.val_main_v40_eq m' c).trans ?_
  rw [e0]
  funext y
  rw [eq_ix2 y]
  exact Cert.Own.RopeRef.ref_out _ (y 0) (y 1)

/-- The projections of the MLA layer: the reference runs, leaves its arguments unchanged and every counter at zero. -/
theorem frame_reference_mlain : Cert.quiescent_ReferenceMlaInIdeal := by
  intro m g _
  exact (θ_run _ _ _).mono (fun r h => ⟨fun c => (h c).2, Idealize.ShloMosaic.sem_eq_zero_of_no_sems (by decide) r.2⟩) (Cert.ReferenceMlaInIdeal.Value.run m g)

/-- The projections of the MLA layer: the kernel's and the reference's result arrays are the same extended reals, from the same arguments. -/
theorem algebraic_mlain : Cert.algebraic_KernelMlaInIdeal_ReferenceMlaInIdeal := by
  intro m g m' g' _ hargs
  refine ⟨fun c => Cert.Own.Mli.outArr m c, (θ_run _ _ _).mono (fun r h c => ⟨(h c).1.trans (Cert.Own.Mli.arr_eq m c), (h c).2⟩) (Cert.Own.Mli.run_arrays m g),
    (θ_run _ _ _).mono (fun r h c => ⟨(h c).1.trans ?_, (h c).2⟩) (Cert.ReferenceMlaInIdeal.Value.run m' g')⟩
  obtain ⟨e0, e1⟩ := hargs c
  refine (Cert.ReferenceMlaInIdeal.Read.val_main_v2_eq _ _).trans ?_
  rw [e0, e1]
  funext y
  rw [eq_ix2 y]
  exact Cert.Own.MliRef.ref_out _ _ (y 0) (y 1)

/-- The queries: the reference runs, leaves its arguments unchanged and every counter at zero. -/
theorem frame_reference_query : Cert.quiescent_ReferenceQueryIdeal := by
  intro m g _
  exact (θ_run _ _ _).mono (fun r h => ⟨fun c => (h c).2, Idealize.ShloMosaic.sem_eq_zero_of_no_sems (by decide) r.2⟩) (Cert.ReferenceQueryIdeal.Value.run m g)

/-- The queries: the kernel's and the reference's result arrays are the same extended reals, from the same arguments. -/
theorem algebraic_query : Cert.algebraic_KernelQueryIdeal_ReferenceQueryIdeal := by
  intro m g m' g' _ hargs
  refine ⟨fun c => Cert.Own.Qry.outArr m c, (θ_run _ _ _).mono (fun r h c => ⟨(h c).1.trans (Cert.Own.Qry.arr_eq m c), (h c).2⟩) (Cert.KernelQueryIdeal.Value.run_blocks m g),
    (θ_run _ _ _).mono (fun r h c => ⟨(h c).1.trans ?_, (h c).2⟩) (Cert.ReferenceQueryIdeal.Value.run m' g')⟩
  obtain ⟨e0, e1⟩ := hargs c
  refine (Cert.ReferenceQueryIdeal.Read.val_main_v8_eq _ _).trans ?_
  rw [e0, e1]
  funext y
  rw [eq_ix2 y]
  exact Cert.Own.QryRef.ref_out _ _ (y 0) (y 1)

/-- The keys and the values: the reference runs, leaves its arguments unchanged and every counter at zero. -/
theorem frame_reference_kv : Cert.quiescent_ReferenceKvIdeal := by
  intro m g _
  exact (θ_run _ _ _).mono (fun r h => ⟨fun c => (h c).2, Idealize.ShloMosaic.sem_eq_zero_of_no_sems (by decide) r.2⟩) (Cert.ReferenceKvIdeal.Value.run m g)

/-- The keys and the values: the kernel's and the reference's result arrays are the same extended reals, from the same arguments. -/
theorem algebraic_kv : Cert.algebraic_KernelKvIdeal_ReferenceKvIdeal := by
  intro m g m' g' _ hargs
  refine ⟨fun c => Cert.Own.Kvp.outArr m c, (θ_run _ _ _).mono (fun r h c => ⟨(h c).1.trans (Cert.Own.Kvp.arr_eq m c), (h c).2⟩) (Cert.KernelKvIdeal.Value.run_blocks m g),
    (θ_run _ _ _).mono (fun r h c => ⟨(h c).1.trans ?_, (h c).2⟩) (Cert.ReferenceKvIdeal.Value.run m' g')⟩
  obtain ⟨e0, e1⟩ := hargs c
  refine (Cert.ReferenceKvIdeal.Read.val_main_v4_eq _ _).trans ?_
  rw [e0, e1]
  funext y
  rw [eq_ix2 y]
  exact Cert.Own.KvpRef.ref_out _ _ (y 0) (y 1)

/-- The input projections of the sample: the reference runs, leaves its arguments unchanged and every counter at zero. -/
theorem frame_reference_ins : Cert.quiescent_ReferenceInSIdeal := by
  intro m g _
  exact (θ_run _ _ _).mono (fun r h => ⟨fun c => (h c).2, Idealize.ShloMosaic.sem_eq_zero_of_no_sems (by decide) r.2⟩) (Cert.ReferenceInSIdeal.Value.run m g)

/-- The input projections of the sample: the kernel's and the reference's result arrays are the same extended reals, from the same arguments. -/
theorem algebraic_ins : Cert.algebraic_KernelInSIdeal_ReferenceInSIdeal := by
  intro m g m' g' _ hargs
  refine ⟨fun c => Cert.Own.Ins.outArr m c, (θ_run _ _ _).mono (fun r h c => ⟨(h c).1.trans (Cert.Own.Ins.arr_eq m c), (h c).2⟩) (Cert.Own.Ins.run_arrays m g),
    (θ_run _ _ _).mono (fun r h c => ⟨(h c).1.trans ?_, (h c).2⟩) (Cert.ReferenceInSIdeal.Value.run m' g')⟩
  obtain ⟨e0, e1⟩ := hargs c
  refine (Cert.ReferenceInSIdeal.Read.val_main_v2_eq _ _).trans ?_
  rw [e0, e1]
  funext y
  rw [eq_ix2 y]
  exact Cert.Own.InsRef.ref_out _ _ (y 0) (y 1)

/-- The per-layer embedding over the sample: the reference runs, leaves its arguments unchanged and every counter at zero. -/
theorem frame_reference_ples : Cert.quiescent_ReferencePleSIdeal := by
  intro m g _
  exact (θ_run _ _ _).mono (fun r h => ⟨fun c => (h c).2, Idealize.ShloMosaic.sem_eq_zero_of_no_sems (by decide) r.2⟩) (Cert.ReferencePleSIdeal.Value.run m g)

/-- The per-layer embedding over the sample: the kernel's and the reference's result arrays are the same extended reals, from the same arguments. -/
theorem algebraic_ples : Cert.algebraic_KernelPleSIdeal_ReferencePleSIdeal := by
  intro m g m' g' _ hargs
  refine ⟨fun c => Cert.Own.Pls.outArr m c, (θ_run _ _ _).mono (fun r h c => ⟨(h c).1.trans (Cert.Own.Pls.arr_eq m c), (h c).2⟩) (Cert.KernelPleSIdeal.Value.run_blocks m g),
    (θ_run _ _ _).mono (fun r h c => ⟨(h c).1.trans ?_, (h c).2⟩) (Cert.ReferencePleSIdeal.Value.run m' g')⟩
  obtain ⟨e0, e1, e2, e3, e4, e5⟩ := hargs c
  refine (Cert.ReferencePleSIdeal.Read.val_main_v40_eq _ _).trans ?_
  rw [e0, e1, e2, e3, e4, e5]
  funext y
  rw [eq_ix2 y]
  exact Cert.Own.PlsRef.ref_out _ _ _ _ _ _ (y 0) (y 1)

/-- The norms and the rotary key of the sample: the reference runs, leaves its arguments unchanged and every counter at zero. -/
theorem frame_reference_preps : Cert.quiescent_ReferencePrepSIdeal := by
  intro m g _
  exact (θ_run _ _ _).mono (fun r h => ⟨fun c => (h c).2.2.2.2, Idealize.ShloMosaic.sem_eq_zero_of_no_sems (by decide) r.2⟩) (Cert.ReferencePrepSIdeal.Value.run m g)

/-- The norms and the rotary key of the sample: the kernel's and the reference's four result arrays are the same extended reals, from the same arguments. -/
theorem algebraic_preps : Cert.algebraic_KernelPrepSIdeal_ReferencePrepSIdeal := by
  intro m g m' g' _ hargs
  refine ⟨fun c => Cert.Own.Prs.outQ m c, fun c => Cert.Own.Prs.outK m c, fun c => Cert.Own.Prs.outC m c, fun c => Cert.Own.Prs.outR m c,
    (θ_run _ _ _).mono (fun r h c => ⟨(h c).1.trans (Cert.Own.Prs.arr6 m c), (h c).2.1.trans (Cert.Own.Prs.arr7 m c),
      (h c).2.2.1.trans (Cert.Own.Prs.arr8 m c), (h c).2.2.2.1.trans (Cert.Own.Prs.arr9 m c), (h c).2.2.2.2⟩) (Cert.KernelPrepSIdeal.Value.run_blocks m g),
    (θ_run _ _ _).mono (fun r h c => ⟨(h c).1.trans ?_, (h c).2.1.trans ?_, (h c).2.2.1.trans ?_, (h c).2.2.2.1.trans ?_, (h c).2.2.2.2⟩) (Cert.ReferencePrepSIdeal.Value.run m' g')⟩
  · obtain ⟨e0, e1, e2⟩ := hargs c
    refine (Cert.ReferencePrepSIdeal.Read.val_main_v70_eq _ _).trans ?_
    rw [e0, e1]
    funext y
    rw [eq_ix2 y]
    exact Cert.Own.PrsRef.ref_q _ _ (y 0) (y 1)
  · obtain ⟨e0, e1, e2⟩ := hargs c
    refine (Cert.ReferencePrepSIdeal.Read.val_main_v72_eq _ _).trans ?_
    rw [e0, e2]
    funext y
    rw [eq_ix2 y]
    exact Cert.Own.PrsRef.ref_k _ _ (y 0) (y 1)
  · obtain ⟨e0, e1, e2⟩ := hargs c
    refine (Cert.ReferencePrepSIdeal.Read.val_main_v73_eq m' c).trans ?_
    rw [e0, e2]
    funext y
    rw [eq_ix2 y]
    exact Cert.Own.PrsRef.ref_cache _ _ (y 0) (y 1)
  · obtain ⟨e0, e1, e2⟩ := hargs c
    refine (Cert.ReferencePrepSIdeal.Read.val_main_v75_eq m' c).trans ?_
    rw [e0]
    funext y
    rw [eq_ix2 y]
    exact Cert.Own.PrsRef.ref_twice _ (y 0) (y 1)

/-- The three branches' sum: the reference runs, leaves its arguments unchanged and every counter at zero. -/
theorem frame_reference_combine : Cert.quiescent_ReferenceCombineIdeal := by
  intro m g _
  exact (θ_run _ _ _).mono (fun r h => ⟨fun c => (h c).2, Idealize.ShloMosaic.sem_eq_zero_of_no_sems (by decide) r.2⟩) (Cert.ReferenceCombineIdeal.Value.run m g)

/-- The three branches' sum: the kernel's and the reference's result arrays are the same extended reals, from the same arguments. -/
theorem algebraic_combine : Cert.algebraic_KernelCombineIdeal_ReferenceCombineIdeal := by
  intro m g m' g' _ hargs
  refine ⟨fun c => Cert.Own.Cmb.outArr m c, (θ_run _ _ _).mono (fun r h c => ⟨(h c).1.trans (Cert.Own.Cmb.arr_eq m c), (h c).2⟩) (Cert.KernelCombineIdeal.Value.run_blocks m g),
    (θ_run _ _ _).mono (fun r h c => ⟨(h c).1.trans ?_, (h c).2⟩) (Cert.ReferenceCombineIdeal.Value.run m' g')⟩
  obtain ⟨e0, e1, e2, e3⟩ := hargs c
  refine (Cert.ReferenceCombineIdeal.Read.val_main_v25_eq _ _ _ _).trans ?_
  rw [e0, e1, e2, e3]
  funext y
  rw [eq_ix2 y]
  exact Cert.Own.CmbRef.ref_out _ _ _ _ (y 0) (y 1)

/-- The absorbed queries: the reference runs, leaves its arguments unchanged and every counter at zero. -/
theorem frame_reference_absorbq : Cert.quiescent_ReferenceAbsorbQIdeal := by
  intro m g _
  exact (θ_run _ _ _).mono (fun r h => ⟨fun c => (h c).2, Idealize.ShloMosaic.sem_eq_zero_of_no_sems (by decide) r.2⟩) (Cert.ReferenceAbsorbQIdeal.Value.run m g)

/-- The absorbed queries: the kernel's and the reference's result arrays are the same extended reals, from the same arguments. -/
theorem algebraic_absorbq : Cert.algebraic_KernelAbsorbQIdeal_ReferenceAbsorbQIdeal := by
  intro m g m' g' _ hargs
  refine ⟨fun c => Cert.Own.Abq.outArr m c, (θ_run _ _ _).mono (fun r h c => ⟨(h c).1.trans (Cert.Own.Abq.arr_eq m c), (h c).2⟩) (Cert.KernelAbsorbQIdeal.Value.run_blocks m g),
    (θ_run _ _ _).mono (fun r h c => ⟨(h c).1.trans ?_, (h c).2⟩) (Cert.ReferenceAbsorbQIdeal.Value.run m' g')⟩
  obtain ⟨e0, e1⟩ := hargs c
  refine (Cert.ReferenceAbsorbQIdeal.Read.val_main_v8_eq _ _).trans ?_
  rw [e0, e1]
  funext y
  rw [eq_ix3 y]
  exact Cert.Own.AbqRef.ref_out _ _ (y 0) (y 1) (y 2)

/-- The outputs from their latent: the reference runs, leaves its arguments unchanged and every counter at zero. -/
theorem frame_reference_absorbo : Cert.quiescent_ReferenceAbsorbOIdeal := by
  intro m g _
  exact (θ_run _ _ _).mono (fun r h => ⟨fun c => (h c).2, Idealize.ShloMosaic.sem_eq_zero_of_no_sems (by decide) r.2⟩) (Cert.ReferenceAbsorbOIdeal.Value.run m g)

/-- The outputs from their latent: the kernel's and the reference's result arrays are the same extended reals, from the same arguments. -/
theorem algebraic_absorbo : Cert.algebraic_KernelAbsorbOIdeal_ReferenceAbsorbOIdeal := by
  intro m g m' g' _ hargs
  refine ⟨fun c => Cert.Own.Abo.outArr m c, (θ_run _ _ _).mono (fun r h c => ⟨(h c).1.trans (Cert.Own.Abo.arr_eq m c), (h c).2⟩) (Cert.KernelAbsorbOIdeal.Value.run_blocks m g),
    (θ_run _ _ _).mono (fun r h c => ⟨(h c).1.trans ?_, (h c).2⟩) (Cert.ReferenceAbsorbOIdeal.Value.run m' g')⟩
  obtain ⟨e0, e1⟩ := hargs c
  refine (Cert.ReferenceAbsorbOIdeal.Read.val_main_v6_eq _ _).trans ?_
  rw [e0, e1]
  funext y
  rw [eq_ix2 y]
  exact Cert.Own.AboRef.ref_out _ _ (y 0) (y 1)

theorem claim : Cert.Claim := ⟨Cert.Kernel.Gen.facts, Cert.KernelIdeal.Gen.facts, Cert.ReferenceIdeal.Gen.facts,
  Cert.KernelSwiglu.Gen.facts, Cert.KernelSwigluIdeal.Gen.facts, Cert.ReferenceSwigluIdeal.Gen.facts, Cert.KernelDown.Gen.facts, Cert.KernelDownIdeal.Gen.facts, Cert.ReferenceDownIdeal.Gen.facts, Cert.KernelPle.Gen.facts, Cert.KernelPleIdeal.Gen.facts, Cert.ReferencePleIdeal.Gen.facts, Cert.KernelOut.Gen.facts, Cert.KernelOutIdeal.Gen.facts, Cert.ReferenceOutIdeal.Gen.facts, Cert.KernelIn.Gen.facts, Cert.KernelInIdeal.Gen.facts, Cert.ReferenceInIdeal.Gen.facts, Cert.KernelPrep.Gen.facts, Cert.KernelPrepIdeal.Gen.facts, Cert.ReferencePrepIdeal.Gen.facts, Cert.KernelRope.Gen.facts, Cert.KernelRopeIdeal.Gen.facts, Cert.ReferenceRopeIdeal.Gen.facts, Cert.KernelMlaIn.Gen.facts, Cert.KernelMlaInIdeal.Gen.facts, Cert.ReferenceMlaInIdeal.Gen.facts, Cert.KernelQuery.Gen.facts, Cert.KernelQueryIdeal.Gen.facts, Cert.ReferenceQueryIdeal.Gen.facts, Cert.KernelKv.Gen.facts, Cert.KernelKvIdeal.Gen.facts, Cert.ReferenceKvIdeal.Gen.facts, Cert.KernelInS.Gen.facts, Cert.KernelInSIdeal.Gen.facts, Cert.ReferenceInSIdeal.Gen.facts, Cert.KernelPleS.Gen.facts, Cert.KernelPleSIdeal.Gen.facts, Cert.ReferencePleSIdeal.Gen.facts, Cert.KernelPrepS.Gen.facts, Cert.KernelPrepSIdeal.Gen.facts, Cert.ReferencePrepSIdeal.Gen.facts, Cert.KernelCombine.Gen.facts, Cert.KernelCombineIdeal.Gen.facts, Cert.ReferenceCombineIdeal.Gen.facts, Cert.KernelAbsorbQ.Gen.facts, Cert.KernelAbsorbQIdeal.Gen.facts, Cert.ReferenceAbsorbQIdeal.Gen.facts, Cert.KernelAbsorbO.Gen.facts, Cert.KernelAbsorbOIdeal.Gen.facts, Cert.ReferenceAbsorbOIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ trivial,
  fun m ρ _ => frame_reference m ρ trivial,
  fun m ρ _ => Cert.Own.SwiBits.frame m ρ,
  fun m ρ _ => Cert.Own.Swi.frame m ρ,
  fun m ρ _ => frame_reference_swiglu m ρ trivial,
  fun m ρ _ => Cert.KernelDown.Gen.frame m ρ,
  fun m ρ _ => Cert.KernelDownIdeal.Gen.frame m ρ,
  fun m ρ _ => frame_reference_down m ρ trivial,
  fun m ρ _ => Cert.KernelPle.Gen.frame m ρ,
  fun m ρ _ => Cert.KernelPleIdeal.Gen.frame m ρ,
  fun m ρ _ => frame_reference_ple m ρ trivial,
  fun m ρ _ => Cert.KernelOut.Gen.frame m ρ,
  fun m ρ _ => Cert.KernelOutIdeal.Gen.frame m ρ,
  fun m ρ _ => frame_reference_out m ρ trivial,
  fun m ρ _ => Cert.Own.InpBits.frame m ρ,
  fun m ρ _ => Cert.Own.Inp.run_frame m ρ,
  fun m ρ _ => frame_reference_in m ρ trivial,
  fun m ρ _ => Cert.KernelPrep.Gen.frame m ρ,
  fun m ρ _ => Cert.KernelPrepIdeal.Gen.frame m ρ,
  fun m ρ _ => frame_reference_prep m ρ trivial,
  fun m ρ _ => Cert.KernelRope.Gen.frame m ρ,
  fun m ρ _ => Cert.KernelRopeIdeal.Gen.frame m ρ,
  fun m ρ _ => frame_reference_rope m ρ trivial,
  fun m ρ _ => Cert.Own.MliBits.frame m ρ,
  fun m ρ _ => Cert.Own.Mli.run_frame m ρ,
  fun m ρ _ => frame_reference_mlain m ρ trivial,
  fun m ρ _ => Cert.KernelQuery.Gen.frame m ρ,
  fun m ρ _ => Cert.KernelQueryIdeal.Gen.frame m ρ,
  fun m ρ _ => frame_reference_query m ρ trivial,
  fun m ρ _ => Cert.KernelKv.Gen.frame m ρ,
  fun m ρ _ => Cert.KernelKvIdeal.Gen.frame m ρ,
  fun m ρ _ => frame_reference_kv m ρ trivial,
  fun m ρ _ => Cert.Own.InsBits.frame m ρ,
  fun m ρ _ => Cert.Own.Ins.run_frame m ρ,
  fun m ρ _ => frame_reference_ins m ρ trivial,
  fun m ρ _ => Cert.KernelPleS.Gen.frame m ρ,
  fun m ρ _ => Cert.KernelPleSIdeal.Gen.frame m ρ,
  fun m ρ _ => frame_reference_ples m ρ trivial,
  fun m ρ _ => Cert.KernelPrepS.Gen.frame m ρ,
  fun m ρ _ => Cert.KernelPrepSIdeal.Gen.frame m ρ,
  fun m ρ _ => frame_reference_preps m ρ trivial,
  fun m ρ _ => Cert.KernelCombine.Gen.frame m ρ,
  fun m ρ _ => Cert.KernelCombineIdeal.Gen.frame m ρ,
  fun m ρ _ => frame_reference_combine m ρ trivial,
  fun m ρ _ => Cert.KernelAbsorbQ.Gen.frame m ρ,
  fun m ρ _ => Cert.KernelAbsorbQIdeal.Gen.frame m ρ,
  fun m ρ _ => frame_reference_absorbq m ρ trivial,
  fun m ρ _ => Cert.KernelAbsorbO.Gen.frame m ρ,
  fun m ρ _ => Cert.KernelAbsorbOIdeal.Gen.frame m ρ,
  fun m ρ _ => frame_reference_absorbo m ρ trivial,
  ⟨IdealRules.named_const.statement Cert.KernelIdeal.κ "scale" .f32 0x3D93CD3A#32 _ rfl,
    IdealRules.named_const.statement Cert.KernelIdeal.κ "mask" .f32 0xF149F2CA#32 _ rfl⟩,
  algebraic,
  trivial,
  algebraic_swiglu,
  trivial,
  algebraic_down,
  trivial,
  algebraic_ple,
  trivial,
  algebraic_out,
  trivial,
  algebraic_in,
  trivial,
  algebraic_prep,
  trivial,
  algebraic_rope,
  trivial,
  algebraic_mlain,
  trivial,
  algebraic_query,
  trivial,
  algebraic_kv,
  trivial,
  algebraic_ins,
  trivial,
  algebraic_ples,
  trivial,
  algebraic_preps,
  trivial,
  algebraic_combine,
  trivial,
  algebraic_absorbq,
  trivial,
  algebraic_absorbo⟩

end Cert.Proof

end
